-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite_forward [hPre_finite_forward : Cert.Pre_finite_forward.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite_forward.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))).1 = (fun _ => 1#1)
    ∧ (Cert.Pre_finite_forward.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))).2.1 = (fun _ => 1#1)
    ∧ (Cert.Pre_finite_forward.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))).2.2.1 = (fun _ => 1#1)
    ∧ (Cert.Pre_finite_forward.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))).2.2.2.1 = (fun _ => 1#1)
    ∧ (Cert.Pre_finite_forward.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))).2.2.2.2.1 = (fun _ => 1#1)
    ∧ (Cert.Pre_finite_forward.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))).2.2.2.2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite_forward [hPre_finite_forward : Cert.Pre_finite_forward.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite_forward.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))).1 = (fun _ => 1#1)
    ∧ (Cert.Pre_finite_forward.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))).2.1 = (fun _ => 1#1)
    ∧ (Cert.Pre_finite_forward.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))).2.2.1 = (fun _ => 1#1)
    ∧ (Cert.Pre_finite_forward.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))).2.2.2.1 = (fun _ => 1#1)
    ∧ (Cert.Pre_finite_forward.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))).2.2.2.2.1 = (fun _ => 1#1)
    ∧ (Cert.Pre_finite_forward.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))).2.2.2.2.2 = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Kernel14Ideal_pre_finite_forward [hKernel14Ideal : Cert.Kernel14Ideal.Facts] [hPre_finite_forward : Cert.Pre_finite_forward.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite_forward m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Reference14Ideal_pre_finite_forward [hReference14Ideal : Cert.Reference14Ideal.Facts] [hPre_finite_forward : Cert.Pre_finite_forward.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite_forward m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def preserves_Kernel_KernelIdeal : Prop :=
  IdealRules.named_const.Statement Cert.KernelIdeal.κ "gelu_c" .f32 0x3D372713#32 ((8943 / 200000 : ℝ) : EReal)
  ∧ IdealRules.named_const.Statement Cert.KernelIdeal.κ "gelu_3c" .f32 0x3E095D4F#32 ((26829 / 200000 : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)) (v5 : (c : Dev Cert.KernelIdeal.nD) → Buf (Elt Ideal) ((c.tc : Thread Cert.KernelIdeal.nD Cert.KernelIdeal.τ).loc Cert.KernelIdeal.main_v9_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_v9_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v334) = v0 c
          ∧ r.2.mem ((c.tc : Thread Cert.ReferenceIdeal.nD Cert.ReferenceIdeal.τ).loc Cert.ReferenceIdeal.main_v276) = v1 c
          ∧ r.2.mem ((c.tc : Thread Cert.ReferenceIdeal.nD Cert.ReferenceIdeal.τ).loc Cert.ReferenceIdeal.main_v335) = v2 c
          ∧ r.2.mem ((c.tc : Thread Cert.ReferenceIdeal.nD Cert.ReferenceIdeal.τ).loc Cert.ReferenceIdeal.main_v300) = v3 c
          ∧ r.2.mem ((c.tc : Thread Cert.ReferenceIdeal.nD Cert.ReferenceIdeal.τ).loc Cert.ReferenceIdeal.main_v192) = v4 c
          ∧ r.2.mem ((c.tc : Thread Cert.ReferenceIdeal.nD Cert.ReferenceIdeal.τ).loc Cert.ReferenceIdeal.main_v264) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v18) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v45) = v0 c
          ∧ r.2.mem ((c.tc : Thread Cert.Reference11Ideal.nD Cert.Reference11Ideal.τ).loc Cert.Reference11Ideal.main_v46) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v44) = v0 c
          ∧ r.2.mem ((c.tc : Thread Cert.Reference12Ideal.nD Cert.Reference12Ideal.τ).loc Cert.Reference12Ideal.main_v45) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v71) = v0 c
          ∧ r.2.mem ((c.tc : Thread Cert.Reference13Ideal.nD Cert.Reference13Ideal.τ).loc Cert.Reference13Ideal.main_v72) = v1 c
          ∧ r.2.mem ((c.tc : Thread Cert.Reference13Ideal.nD Cert.Reference13Ideal.τ).loc Cert.Reference13Ideal.main_v74) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  IdealRules.named_const.Statement Cert.Kernel14Ideal.κ "gelu_c" .f32 0x3D372713#32 ((8943 / 200000 : ℝ) : EReal)

def algebraic_Kernel14Ideal_Reference14Ideal_pre_finite_forward [hKernel14Ideal : Cert.Kernel14Ideal.Facts] [hReference14Ideal : Cert.Reference14Ideal.Facts] [hPre_finite_forward : Cert.Pre_finite_forward.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite_forward m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v8)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v8) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v154) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v14) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite_inputs : Cert.Pre_finite_inputs.Facts) (hPre_finite_forward : Cert.Pre_finite_forward.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite_forward (hKernel14Ideal := hKernel14Ideal) (hPre_finite_forward := hPre_finite_forward)
    ∧ quiescent_Reference14Ideal (hReference14Ideal := hReference14Ideal)
    ∧ quiescent_Reference14Ideal_pre_finite_forward (hReference14Ideal := hReference14Ideal) (hPre_finite_forward := hPre_finite_forward)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite_forward (hKernel14Ideal := hKernel14Ideal) (hReference14Ideal := hReference14Ideal) (hPre_finite_forward := hPre_finite_forward)
    ∧ preserves_Kernel15_Kernel15Ideal
    ∧ algebraic_Kernel15Ideal_Reference15Ideal (hKernel15Ideal := hKernel15Ideal) (hReference15Ideal := hReference15Ideal)
-- ==== Pre_finite_forward.lean ====
abbrev S4096x3072 : Shape := ⟨2, ![4096, 3072]⟩
abbrev S8x128x128 : Shape := ⟨3, ![8, 128, 128]⟩
abbrev S8x128 : Shape := ⟨2, ![8, 128]⟩
abbrev S1x1024 : Shape := ⟨2, ![1, 1024]⟩
abbrev S4x256x256 : Shape := ⟨3, ![4, 256, 256]⟩
abbrev S_ : Shape := ⟨0, ![]⟩

class Facts : Prop where
  bcast_S_S4096x3072 : S_.BroadcastsInDim S4096x3072 (![] : Fin 0 → Fin S4096x3072.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S1x1024 : S_.BroadcastsInDim S1x1024 (![] : Fin 0 → Fin S1x1024.rank)
  bcast_S_S4x256x256 : S_.BroadcastsInDim S4x256x256 (![] : Fin 0 → Fin S4x256x256.rank)

variable [Facts]

def fn {F : FTy → Type} [FloatOps F] (main_arg0 : FVec F S4096x3072 .f32) (main_arg1 : FVec F S8x128x128 .f32) (main_arg2 : FVec F S8x128 .f32) (main_arg3 : FVec F S1x1024 .f32) (main_arg4 : FVec F S4x256x256 .f32) (main_arg5 : FVec F S1x1024 .f32) : IVec S4096x3072 1 × IVec S8x128x128 1 × IVec S8x128 1 × IVec S1x1024 1 × IVec S4x256x256 1 × IVec S1x1024 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_v3 : FVec F S8x128x128 .f32 := Host.absf main_arg1
  let main_cst_0 : FVec F S_ .f32 := constant S_ .f32 0x7F800000#32
  let main_v4 : FVec F S8x128x128 .f32 := broadcastInDim S8x128x128 ![] bcast_S_S8x128x128 main_cst_0
  let main_v5 : IVec S8x128x128 1 := cmpf .olt main_v3 main_v4
  let main_v6 : FVec F S8x128 .f32 := Host.absf main_arg2
  let main_cst_1 : FVec F S_ .f32 := constant S_ .f32 0x7F800000#32
  let main_v7 : FVec F S8x128 .f32 := broadcastInDim S8x128 ![] bcast_S_S8x128 main_cst_1
  let main_v8 : IVec S8x128 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S4x256x256 .f32 := Host.absf main_arg4
  let main_cst_3 : FVec F S_ .f32 := constant S_ .f32 0x7F800000#32
  let main_v13 : FVec F S4x256x256 .f32 := broadcastInDim S4x256x256 ![] bcast_S_S4x256x256 main_cst_3
  let main_v14 : IVec S4x256x256 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Pre_finite_inputs.lean ====
abbrev S4096x3072 : Shape := ⟨2, ![4096, 3072]⟩
abbrev S4096x2048 : Shape := ⟨2, ![4096, 2048]⟩
abbrev S8x128x128 : Shape := ⟨3, ![8, 128, 128]⟩
abbrev S8x128 : Shape := ⟨2, ![8, 128]⟩
abbrev S1x1024 : Shape := ⟨2, ![1, 1024]⟩
abbrev S4x256x256 : Shape := ⟨3, ![4, 256, 256]⟩
abbrev S_ : Shape := ⟨0, ![]⟩

class Facts : Prop where
  bcast_S_S4096x3072 : S_.BroadcastsInDim S4096x3072 (![] : Fin 0 → Fin S4096x3072.rank)
  bitsLt_bf16_f32 : FTy.bits .bf16 < FTy.bits .f32
  bcast_S_S4096x2048 : S_.BroadcastsInDim S4096x2048 (![] : Fin 0 → Fin S4096x2048.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S1x1024 : S_.BroadcastsInDim S1x1024 (![] : Fin 0 → Fin S1x1024.rank)
  bcast_S_S4x256x256 : S_.BroadcastsInDim S4x256x256 (![] : Fin 0 → Fin S4x256x256.rank)

variable [Facts]

def fn_part1 {F : FTy → Type} [FloatOps F] (main_arg6 : FVec F S1x1024 .f32) (main_v2 : IVec S4096x3072 1) (main_v6 : IVec S4096x2048 1) (main_v9 : IVec S8x128x128 1) (main_v12 : IVec S8x128 1) (main_v15 : IVec S1x1024 1) (main_v16 : FVec F S4x256x256 .f32) (main_v17 : FVec F S4x256x256 .f32) : IVec S4096x3072 1 × IVec S4096x2048 1 × IVec S8x128x128 1 × IVec S8x128 1 × IVec S1x1024 1 × IVec S4x256x256 1 × IVec S1x1024 1 :=
  let main_v18 : IVec S4x256x256 1 := cmpf .olt main_v16 main_v17
  let main_v19 : FVec F S1x1024 .f32 := Host.absf main_arg6
  let main_cst_5 : FVec F S_ .f32 := constant S_ .f32 0x7F800000#32
  let main_v20 : FVec F S1x1024 .f32 := broadcastInDim S1x1024 ![] bcast_S_S1x1024 main_cst_5
  let main_v21 : IVec S1x1024 1 := cmpf .olt main_v19 main_v20
  (main_v2, main_v6, main_v9, main_v12, main_v15, main_v18, main_v21)

def fn {F : FTy → Type} [FloatOps F] (main_arg0 : FVec F S4096x3072 .f32) (main_arg1 : FVec F S4096x2048 .bf16) (main_arg2 : FVec F S8x128x128 .f32) (main_arg3 : FVec F S8x128 .f32) (main_arg4 : FVec F S1x1024 .f32) (main_arg5 : FVec F S4x256x256 .f32) (main_arg6 : FVec F S1x1024 .f32) : IVec S4096x3072 1 × IVec S4096x2048 1 × IVec S8x128x128 1 × IVec S8x128 1 × IVec S1x1024 1 × IVec S4x256x256 1 × IVec S1x1024 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_v3 : FVec F S4096x2048 .f32 := (extf .f32 · bitsLt_bf16_f32) main_arg1
  let main_v4 : FVec F S4096x2048 .f32 := Host.absf main_v3
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_v7 : FVec F S8x128x128 .f32 := Host.absf main_arg2
  let main_cst_1 : FVec F S_ .f32 := constant S_ .f32 0x7F800000#32
  let main_v8 : FVec F S8x128x128 .f32 := broadcastInDim S8x128x128 ![] bcast_S_S8x128x128 main_cst_1
  let main_v9 : IVec S8x128x128 1 := cmpf .olt main_v7 main_v8
  let main_v10 : FVec F S8x128 .f32 := Host.absf main_arg3
  let main_cst_2 : FVec F S_ .f32 := constant S_ .f32 0x7F800000#32
  let main_v11 : FVec F S8x128 .f32 := broadcastInDim S8x128 ![] bcast_S_S8x128 main_cst_2
  let main_v12 : IVec S8x128 1 := cmpf .olt main_v10 main_v11
  let main_v13 : FVec F S1x1024 .f32 := Host.absf main_arg4
  let main_cst_3 : FVec F S_ .f32 := constant S_ .f32 0x7F800000#32
  let main_v14 : FVec F S1x1024 .f32 := broadcastInDim S1x1024 ![] bcast_S_S1x1024 main_cst_3
  let main_v15 : IVec S1x1024 1 := cmpf .olt main_v13 main_v14
  let main_v16 : FVec F S4x256x256 .f32 := Host.absf main_arg5
  let main_cst_4 : FVec F S_ .f32 := constant S_ .f32 0x7F800000#32
  let main_v17 : FVec F S4x256x256 .f32 := broadcastInDim S4x256x256 ![] bcast_S_S4x256x256 main_cst_4
  fn_part1 (F := F) main_arg6 main_v2 main_v6 main_v9 main_v12 main_v15 main_v16 main_v17
-- ==== Kernel.lean ====
abbrev S4096x3072 : Shape := ⟨2, ![4096, 3072]⟩
abbrev S4096x2048 : Shape := ⟨2, ![4096, 2048]⟩
abbrev S8x128x128 : Shape := ⟨3, ![8, 128, 128]⟩
abbrev S8x128 : Shape := ⟨2, ![8, 128]⟩
abbrev S1x1024 : Shape := ⟨2, ![1, 1024]⟩
abbrev S4x256x256 : Shape := ⟨3, ![4, 256, 256]⟩
abbrev S_ : Shape := ⟨0, ![]⟩
abbrev S128x128 : Shape := ⟨2, ![128, 128]⟩
abbrev S1x128x128 : Shape := ⟨3, ![1, 128, 128]⟩
abbrev S8x128x1 : Shape := ⟨3, ![8, 128, 1]⟩
abbrev S512x1024 : Shape := ⟨2, ![512, 1024]⟩
abbrev S16x1024 : Shape := ⟨2, ![16, 1024]⟩
abbrev S512x3072 : Shape := ⟨2, ![512, 3072]⟩
abbrev S1x128 : Shape := ⟨2, ![1, 128]⟩
abbrev S128 : Shape := ⟨1, ![128]⟩
abbrev S128x1 : Shape := ⟨2, ![128, 1]⟩
abbrev S512x1 : Shape := ⟨2, ![512, 1]⟩
abbrev S16x1 : Shape := ⟨2, ![16, 1]⟩
abbrev S1x256x256 : Shape := ⟨3, ![1, 256, 256]⟩
abbrev S256x256 : Shape := ⟨2, ![256, 256]⟩
abbrev S1x256 : Shape := ⟨2, ![1, 256]⟩
abbrev S512x256 : Shape := ⟨2, ![512, 256]⟩
abbrev S16x256 : Shape := ⟨2, ![16, 256]⟩
abbrev S528x256 : Shape := ⟨2, ![528, 256]⟩
abbrev S256 : Shape := ⟨1, ![256]⟩
abbrev S1x128x1 : Shape := ⟨3, ![1, 128, 1]⟩

abbrev nBuf : Space → Nat
  | .hbm => 35
  | .vmem => 28
  | .smem => 0
  | _ => 0

abbrev bufTy : (tb : Table) → Fin (tcTables nBuf tb) → BufTy
  | .hbm, ⟨0, _⟩ => ⟨S4096x3072, .f32⟩
  | .hbm, ⟨1, _⟩ => ⟨S4096x2048, .bf16⟩
  | .hbm, ⟨2, _⟩ => ⟨S8x128x128, .f32⟩
  | .hbm, ⟨3, _⟩ => ⟨S8x128, .f32⟩
  | .hbm, ⟨4, _⟩ => ⟨S1x1024, .f32⟩
  | .hbm, ⟨5, _⟩ => ⟨S4x256x256, .f32⟩
  | .hbm, ⟨6, _⟩ => ⟨S1x1024, .f32⟩
  | .hbm, ⟨7, _⟩ => ⟨S_, .i1⟩
  | .hbm, ⟨8, _⟩ => ⟨S128x128, .i1⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S_, .i1⟩
  | .hbm, ⟨16, _⟩ => ⟨S128x128, .i1⟩
  | .hbm, ⟨17, _⟩ => ⟨S128x128, .i1⟩
  | .hbm, ⟨18, _⟩ => ⟨S1x128x128, .i1⟩
  | .hbm, ⟨19, _⟩ => ⟨S_, .f32⟩
  | .hbm, ⟨20, _⟩ => ⟨S_, .f32⟩
  | .hbm, ⟨21, _⟩ => ⟨S8x128x128, .i1⟩
  | .hbm, ⟨22, _⟩ => ⟨S8x128x128, .f32⟩
  | .hbm, ⟨23, _⟩ => ⟨S8x128x128, .f32⟩
  | .hbm, ⟨24, _⟩ => ⟨S8x128x128, .bf16⟩
  | .hbm, ⟨25, _⟩ => ⟨S8x128x128, .bf16⟩
  | .hbm, ⟨26, _⟩ => ⟨S8x128x1, .f32⟩
  | .hbm, ⟨27, _⟩ => ⟨S8x128x128, .f32⟩
  | .hbm, ⟨28, _⟩ => ⟨S4x256x256, .bf16⟩
  | .hbm, ⟨29, _⟩ => ⟨S4096x3072, .bf16⟩
  | .hbm, ⟨30, _⟩ => ⟨S8x128x128, .f32⟩
  | .hbm, ⟨31, _⟩ => ⟨S8x128x1, .f32⟩
  | .hbm, ⟨32, _⟩ => ⟨S1x1024, .f32⟩
  | .hbm, ⟨33, _⟩ => ⟨S4x256x256, .f32⟩
  | .hbm, ⟨34, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S16x1024, .f32⟩
  | .local _ .vmem, ⟨7, _⟩ => ⟨S16x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S16x1024, .bf16⟩
  | .local _ .vmem, ⟨13, _⟩ => ⟨S16x1024, .bf16⟩
  | .local _ .vmem, ⟨14, _⟩ => ⟨S8x128x128, .bf16⟩
  | .local _ .vmem, ⟨15, _⟩ => ⟨S8x128x128, .bf16⟩
  | .local _ .vmem, ⟨16, _⟩ => ⟨S8x128x128, .f32⟩
  | .local _ .vmem, ⟨17, _⟩ => ⟨S1x1024, .f32⟩
  | .local _ .vmem, ⟨18, _⟩ => ⟨S4x256x256, .bf16⟩
  | .local _ .vmem, ⟨19, _⟩ => ⟨S1x1024, .f32⟩
  | .local _ .vmem, ⟨20, _⟩ => ⟨S512x3072, .bf16⟩
  | .local _ .vmem, ⟨21, _⟩ => ⟨S512x3072, .bf16⟩
  | .local _ .vmem, ⟨22, _⟩ => ⟨S8x128x128, .f32⟩
  | .local _ .vmem, ⟨23, _⟩ => ⟨S8x128x1, .f32⟩
  | .local _ .vmem, ⟨24, _⟩ => ⟨S1x1024, .f32⟩
  | .local _ .vmem, ⟨25, _⟩ => ⟨S4x256x256, .f32⟩
  | .local _ .vmem, ⟨26, _⟩ => ⟨S1x1024, .f32⟩
  | .local _ .vmem, ⟨27, _⟩ => ⟨S8x128x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9_0 : Ref sig .tc := ⟨.hbm, 29, rfl⟩
abbrev main_v9_1 : Ref sig .tc := ⟨.hbm, 30, rfl⟩
abbrev main_v9_2 : Ref sig .tc := ⟨.hbm, 31, rfl⟩
abbrev main_v9_3 : Ref sig .tc := ⟨.hbm, 32, rfl⟩
abbrev main_v9_4 : Ref sig .tc := ⟨.hbm, 33, rfl⟩
abbrev main_v9_5 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26

abbrev nD : Nat := 1
abbrev τ : Topo := Topo.v7x

variable {F : FTy → Type} [FloatOps F]

abbrev grid0 : Pipeline.Grid := ⟨1, ![8], ![false]⟩

def k0_mult1 : BitVec 32 :=
  let c0_i32_11 : BitVec 32 := 0#32
  let c128_i32 : BitVec 32 := 128#32
  let v11 : BitVec 32 := Scalar.muli c0_i32_11 c128_i32
  v11
def k0_off1 (c0_i32_11 : BitVec 32) : Fin 2 → Nat :=
  let c128_i32 : BitVec 32 := 128#32
  let v11 : BitVec 32 := Scalar.muli c0_i32_11 c128_i32
  let v12 : BitVec 32 := v11
  let v13 : Index := Scalar.indexCast v12
  let c0_12 : Index := 0#32
  ![v13.toNat, 0]
def k0_off2 (c0_i32_11 : BitVec 32) : Fin 2 → Nat :=
  let c128_i32 : BitVec 32 := 128#32
  let v11 : BitVec 32 := Scalar.muli c0_i32_11 c128_i32
  let v12 : BitVec 32 := v11
  let v136 : Index := Scalar.indexCast v12
  let c0_61 : Index := 0#32
  ![v136.toNat, 0]
def k0_off3 (c0_i32_11 : BitVec 32) : Fin 2 → Nat :=
  let c128_i32 : BitVec 32 := 128#32
  let v11 : BitVec 32 := Scalar.muli c0_i32_11 c128_i32
  let v12 : BitVec 32 := v11
  let v142 : Index := Scalar.indexCast v12
  let c1024 : Index := 1024#32
  ![v142.toNat, 1024]
def k0_mult2 : BitVec 32 :=
  let c1_i32 : BitVec 32 := 1#32
  let c128_i32_62 : BitVec 32 := 128#32
  let v146 : BitVec 32 := Scalar.muli c1_i32 c128_i32_62
  v146
def k0_mult3 : BitVec 32 :=
  let c2_i32 : BitVec 32 := 2#32
  let c128_i32_115 : BitVec 32 := 128#32
  let v281 : BitVec 32 := Scalar.muli c2_i32 c128_i32_115
  v281
def k0_mult4 : BitVec 32 :=
  let c3_i32 : BitVec 32 := 3#32
  let c128_i32_168 : BitVec 32 := 128#32
  let v416 : BitVec 32 := Scalar.muli c3_i32 c128_i32_168
  v416
def k0_mult5 : BitVec 32 :=
  let c0_i32_230 : BitVec 32 := 0#32
  let c128_i32_231 : BitVec 32 := 128#32
  let v558 : BitVec 32 := Scalar.muli c0_i32_230 c128_i32_231
  v558
def k0_off4 (c0_i32_230 : BitVec 32) : Fin 2 → Nat :=
  let c128_i32_231 : BitVec 32 := 128#32
  let v558 : BitVec 32 := Scalar.muli c0_i32_230 c128_i32_231
  let v559 : BitVec 32 := v558
  let v560 : Index := Scalar.indexCast v559
  let c128_232 : Index := 128#32
  ![v560.toNat, 128]
def k0_off5 (c0_i32_230 : BitVec 32) : Fin 2 → Nat :=
  let c128_i32_231 : BitVec 32 := 128#32
  let v558 : BitVec 32 := Scalar.muli c0_i32_230 c128_i32_231
  let v559 : BitVec 32 := v558
  let v683 : Index := Scalar.indexCast v559
  let c128_282 : Index := 128#32
  ![v683.toNat, 128]
def k0_off6 (c0_i32_230 : BitVec 32) : Fin 2 → Nat :=
  let c128_i32_231 : BitVec 32 := 128#32
  let v558 : BitVec 32 := Scalar.muli c0_i32_230 c128_i32_231
  let v559 : BitVec 32 := v558
  let v689 : Index := Scalar.indexCast v559
  let c1152 : Index := 1152#32
  ![v689.toNat, 1152]
def k0_mult6 : BitVec 32 :=
  let c1_i32_283 : BitVec 32 := 1#32
  let c128_i32_284 : BitVec 32 := 128#32
  let v693 : BitVec 32 := Scalar.muli c1_i32_283 c128_i32_284
  v693
def k0_mult7 : BitVec 32 :=
  let c2_i32_337 : BitVec 32 := 2#32
  let c128_i32_338 : BitVec 32 := 128#32
  let v828 : BitVec 32 := Scalar.muli c2_i32_337 c128_i32_338
  v828
def k0_mult8 : BitVec 32 :=
  let c3_i32_391 : BitVec 32 := 3#32
  let c128_i32_392 : BitVec 32 := 128#32
  let v963 : BitVec 32 := Scalar.muli c3_i32_391 c128_i32_392
  v963
def k0_mult9 : BitVec 32 :=
  let c0_i32_455 : BitVec 32 := 0#32
  let c128_i32_456 : BitVec 32 := 128#32
  let v1105 : BitVec 32 := Scalar.muli c0_i32_455 c128_i32_456
  v1105
def k0_off7 (c0_i32_455 : BitVec 32) : Fin 2 → Nat :=
  let c128_i32_456 : BitVec 32 := 128#32
  let v1105 : BitVec 32 := Scalar.muli c0_i32_455 c128_i32_456
  let v1106 : BitVec 32 := v1105
  let v1107 : Index := Scalar.indexCast v1106
  let c256_457 : Index := 256#32
  ![v1107.toNat, 256]
def k0_off8 (c0_i32_455 : BitVec 32) : Fin 2 → Nat :=
  let c128_i32_456 : BitVec 32 := 128#32
  let v1105 : BitVec 32 := Scalar.muli c0_i32_455 c128_i32_456
  let v1106 : BitVec 32 := v1105
  let v1230 : Index := Scalar.indexCast v1106
  let c256_507 : Index := 256#32
  ![v1230.toNat, 256]
def k0_off9 (c0_i32_455 : BitVec 32) : Fin 2 → Nat :=
  let c128_i32_456 : BitVec 32 := 128#32
  let v1105 : BitVec 32 := Scalar.muli c0_i32_455 c128_i32_456
  let v1106 : BitVec 32 := v1105
  let v1236 : Index := Scalar.indexCast v1106
  let c1280 : Index := 1280#32
  ![v1236.toNat, 1280]
def k0_mult10 : BitVec 32 :=
  let c1_i32_508 : BitVec 32 := 1#32
  let c128_i32_509 : BitVec 32 := 128#32
  let v1240 : BitVec 32 := Scalar.muli c1_i32_508 c128_i32_509
  v1240
def k0_mult11 : BitVec 32 :=
  let c2_i32_562 : BitVec 32 := 2#32
  let c128_i32_563 : BitVec 32 := 128#32
  let v1375 : BitVec 32 := Scalar.muli c2_i32_562 c128_i32_563
  v1375
def k0_mult12 : BitVec 32 :=
  let c3_i32_616 : BitVec 32 := 3#32
  let c128_i32_617 : BitVec 32 := 128#32
  let v1510 : BitVec 32 := Scalar.muli c3_i32_616 c128_i32_617
  v1510
def k0_mult13 : BitVec 32 :=
  let c0_i32_680 : BitVec 32 := 0#32
  let c128_i32_681 : BitVec 32 := 128#32
  let v1652 : BitVec 32 := Scalar.muli c0_i32_680 c128_i32_681
  v1652
def k0_off10 (c0_i32_680 : BitVec 32) : Fin 2 → Nat :=
  let c128_i32_681 : BitVec 32 := 128#32
  let v1652 : BitVec 32 := Scalar.muli c0_i32_680 c128_i32_681
  let v1653 : BitVec 32 := v1652
  let v1654 : Index := Scalar.indexCast v1653
  let c384_682 : Index := 384#32
  ![v1654.toNat, 384]
def k0_off11 (c0_i32_680 : BitVec 32) : Fin 2 → Nat :=
  let c128_i32_681 : BitVec 32 := 128#32
  let v1652 : BitVec 32 := Scalar.muli c0_i32_680 c128_i32_681
  let v1653 : BitVec 32 := v1652
  let v1777 : Index := Scalar.indexCast v1653
  let c384_732 : Index := 384#32
  ![v1777.toNat, 384]
def k0_off12 (c0_i32_680 : BitVec 32) : Fin 2 → Nat :=
  let c128_i32_681 : BitVec 32 := 128#32
  let v1652 : BitVec 32 := Scalar.muli c0_i32_680 c128_i32_681
  let v1653 : BitVec 32 := v1652
  let v1783 : Index := Scalar.indexCast v1653
  let c1408 : Index := 1408#32
  ![v1783.toNat, 1408]
def k0_mult14 : BitVec 32 :=
  let c1_i32_733 : BitVec 32 := 1#32
  let c128_i32_734 : BitVec 32 := 128#32
  let v1787 : BitVec 32 := Scalar.muli c1_i32_733 c128_i32_734
  v1787
def k0_mult15 : BitVec 32 :=
  let c2_i32_787 : BitVec 32 := 2#32
  let c128_i32_788 : BitVec 32 := 128#32
  let v1922 : BitVec 32 := Scalar.muli c2_i32_787 c128_i32_788
  v1922
def k0_mult16 : BitVec 32 :=
  let c3_i32_841 : BitVec 32 := 3#32
  let c128_i32_842 : BitVec 32 := 128#32
  let v2057 : BitVec 32 := Scalar.muli c3_i32_841 c128_i32_842
  v2057
def k0_mult17 : BitVec 32 :=
  let c0_i32_905 : BitVec 32 := 0#32
  let c128_i32_906 : BitVec 32 := 128#32
  let v2199 : BitVec 32 := Scalar.muli c0_i32_905 c128_i32_906
  v2199
def k0_off13 (c0_i32_905 : BitVec 32) : Fin 2 → Nat :=
  let c128_i32_906 : BitVec 32 := 128#32
  let v2199 : BitVec 32 := Scalar.muli c0_i32_905 c128_i32_906
  let v2200 : BitVec 32 := v2199
  let v2201 : Index := Scalar.indexCast v2200
  let c512_907 : Index := 512#32
  ![v2201.toNat, 512]
def k0_off14 (c0_i32_905 : BitVec 32) : Fin 2 → Nat :=
  let c128_i32_906 : BitVec 32 := 128#32
  let v2199 : BitVec 32 := Scalar.muli c0_i32_905 c128_i32_906
  let v2200 : BitVec 32 := v2199
  let v2324 : Index := Scalar.indexCast v2200
  let c512_957 : Index := 512#32
  ![v2324.toNat, 512]
def k0_off15 (c0_i32_905 : BitVec 32) : Fin 2 → Nat :=
  let c128_i32_906 : BitVec 32 := 128#32
  let v2199 : BitVec 32 := Scalar.muli c0_i32_905 c128_i32_906
  let v2200 : BitVec 32 := v2199
  let v2330 : Index := Scalar.indexCast v2200
  let c1536 : Index := 1536#32
  ![v2330.toNat, 1536]
def k0_mult18 : BitVec 32 :=
  let c1_i32_958 : BitVec 32 := 1#32
  let c128_i32_959 : BitVec 32 := 128#32
  let v2334 : BitVec 32 := Scalar.muli c1_i32_958 c128_i32_959
  v2334
def k0_mult19 : BitVec 32 :=
  let c2_i32_1012 : BitVec 32 := 2#32
  let c128_i32_1013 : BitVec 32 := 128#32
  let v2469 : BitVec 32 := Scalar.muli c2_i32_1012 c128_i32_1013
  v2469
def k0_mult20 : BitVec 32 :=
  let c3_i32_1066 : BitVec 32 := 3#32
  let c128_i32_1067 : BitVec 32 := 128#32
  let v2604 : BitVec 32 := Scalar.muli c3_i32_1066 c128_i32_1067
  v2604
def k0_mult21 : BitVec 32 :=
  let c0_i32_1130 : BitVec 32 := 0#32
  let c128_i32_1131 : BitVec 32 := 128#32
  let v2746 : BitVec 32 := Scalar.muli c0_i32_1130 c128_i32_1131
  v2746
def k0_off16 (c0_i32_1130 : BitVec 32) : Fin 2 → Nat :=
  let c128_i32_1131 : BitVec 32 := 128#32
  let v2746 : BitVec 32 := Scalar.muli c0_i32_1130 c128_i32_1131
  let v2747 : BitVec 32 := v2746
  let v2748 : Index := Scalar.indexCast v2747
  let c640_1132 : Index := 640#32
  ![v2748.toNat, 640]
def k0_off17 (c0_i32_1130 : BitVec 32) : Fin 2 → Nat :=
  let c128_i32_1131 : BitVec 32 := 128#32
  let v2746 : BitVec 32 := Scalar.muli c0_i32_1130 c128_i32_1131
  let v2747 : BitVec 32 := v2746
  let v2871 : Index := Scalar.indexCast v2747
  let c640_1182 : Index := 640#32
  ![v2871.toNat, 640]
def k0_off18 (c0_i32_1130 : BitVec 32) : Fin 2 → Nat :=
  let c128_i32_1131 : BitVec 32 := 128#32
  let v2746 : BitVec 32 := Scalar.muli c0_i32_1130 c128_i32_1131
  let v2747 : BitVec 32 := v2746
  let v2877 : Index := Scalar.indexCast v2747
  let c1664 : Index := 1664#32
  ![v2877.toNat, 1664]
def k0_mult22 : BitVec 32 :=
  let c1_i32_1183 : BitVec 32 := 1#32
  let c128_i32_1184 : BitVec 32 := 128#32
  let v2881 : BitVec 32 := Scalar.muli c1_i32_1183 c128_i32_1184
  v2881
def k0_mult23 : BitVec 32 :=
  let c2_i32_1237 : BitVec 32 := 2#32
  let c128_i32_1238 : BitVec 32 := 128#32
  let v3016 : BitVec 32 := Scalar.muli c2_i32_1237 c128_i32_1238
  v3016
def k0_mult24 : BitVec 32 :=
  let c3_i32_1291 : BitVec 32 := 3#32
  let c128_i32_1292 : BitVec 32 := 128#32
  let v3151 : BitVec 32 := Scalar.muli c3_i32_1291 c128_i32_1292
  v3151
def k0_mult25 : BitVec 32 :=
  let c0_i32_1355 : BitVec 32 := 0#32
  let c128_i32_1356 : BitVec 32 := 128#32
  let v3293 : BitVec 32 := Scalar.muli c0_i32_1355 c128_i32_1356
  v3293
def k0_off19 (c0_i32_1355 : BitVec 32) : Fin 2 → Nat :=
  let c128_i32_1356 : BitVec 32 := 128#32
  let v3293 : BitVec 32 := Scalar.muli c0_i32_1355 c128_i32_1356
  let v3294 : BitVec 32 := v3293
  let v3295 : Index := Scalar.indexCast v3294
  let c768_1357 : Index := 768#32
  ![v3295.toNat, 768]
def k0_off20 (c0_i32_1355 : BitVec 32) : Fin 2 → Nat :=
  let c128_i32_1356 : BitVec 32 := 128#32
  let v3293 : BitVec 32 := Scalar.muli c0_i32_1355 c128_i32_1356
  let v3294 : BitVec 32 := v3293
  let v3418 : Index := Scalar.indexCast v3294
  let c768_1407 : Index := 768#32
  ![v3418.toNat, 768]
def k0_off21 (c0_i32_1355 : BitVec 32) : Fin 2 → Nat :=
  let c128_i32_1356 : BitVec 32 := 128#32
  let v3293 : BitVec 32 := Scalar.muli c0_i32_1355 c128_i32_1356
  let v3294 : BitVec 32 := v3293
  let v3424 : Index := Scalar.indexCast v3294
  let c1792 : Index := 1792#32
  ![v3424.toNat, 1792]
def k0_mult26 : BitVec 32 :=
  let c1_i32_1408 : BitVec 32 := 1#32
  let c128_i32_1409 : BitVec 32 := 128#32
  let v3428 : BitVec 32 := Scalar.muli c1_i32_1408 c128_i32_1409
  v3428
def k0_mult27 : BitVec 32 :=
  let c2_i32_1462 : BitVec 32 := 2#32
  let c128_i32_1463 : BitVec 32 := 128#32
  let v3563 : BitVec 32 := Scalar.muli c2_i32_1462 c128_i32_1463
  v3563
def k0_mult28 : BitVec 32 :=
  let c3_i32_1516 : BitVec 32 := 3#32
  let c128_i32_1517 : BitVec 32 := 128#32
  let v3698 : BitVec 32 := Scalar.muli c3_i32_1516 c128_i32_1517
  v3698
def k0_mult29 : BitVec 32 :=
  let c0_i32_1580 : BitVec 32 := 0#32
  let c128_i32_1581 : BitVec 32 := 128#32
  let v3840 : BitVec 32 := Scalar.muli c0_i32_1580 c128_i32_1581
  v3840
def k0_off22 (c0_i32_1580 : BitVec 32) : Fin 2 → Nat :=
  let c128_i32_1581 : BitVec 32 := 128#32
  let v3840 : BitVec 32 := Scalar.muli c0_i32_1580 c128_i32_1581
  let v3841 : BitVec 32 := v3840
  let v3842 : Index := Scalar.indexCast v3841
  let c896_1582 : Index := 896#32
  ![v3842.toNat, 896]
def k0_off23 (c0_i32_1580 : BitVec 32) : Fin 2 → Nat :=
  let c128_i32_1581 : BitVec 32 := 128#32
  let v3840 : BitVec 32 := Scalar.muli c0_i32_1580 c128_i32_1581
  let v3841 : BitVec 32 := v3840
  let v3965 : Index := Scalar.indexCast v3841
  let c896_1632 : Index := 896#32
  ![v3965.toNat, 896]
def k0_off24 (c0_i32_1580 : BitVec 32) : Fin 2 → Nat :=
  let c128_i32_1581 : BitVec 32 := 128#32
  let v3840 : BitVec 32 := Scalar.muli c0_i32_1580 c128_i32_1581
  let v3841 : BitVec 32 := v3840
  let v3971 : Index := Scalar.indexCast v3841
  let c1920 : Index := 1920#32
  ![v3971.toNat, 1920]
def k0_mult30 : BitVec 32 :=
  let c1_i32_1633 : BitVec 32 := 1#32
  let c128_i32_1634 : BitVec 32 := 128#32
  let v3975 : BitVec 32 := Scalar.muli c1_i32_1633 c128_i32_1634
  v3975
def k0_mult31 : BitVec 32 :=
  let c2_i32_1687 : BitVec 32 := 2#32
  let c128_i32_1688 : BitVec 32 := 128#32
  let v4110 : BitVec 32 := Scalar.muli c2_i32_1687 c128_i32_1688
  v4110
def k0_mult32 : BitVec 32 :=
  let c3_i32_1741 : BitVec 32 := 3#32
  let c128_i32_1742 : BitVec 32 := 128#32
  let v4245 : BitVec 32 := Scalar.muli c3_i32_1741 c128_i32_1742
  v4245
def k0_cond2 (i : grid0.Coords) : BitVec 1 :=
  let arg0 : BitVec 32 := BitVec.ofNat 32 (i 0).val
  let c7_i32 : BitVec 32 := 7#32
  let v0 : BitVec 1 := Scalar.cmpi .eq arg0 c7_i32
  let v4749 : BitVec 32 := Scalar.extui v0
  let c0_i32_1980 : BitVec 32 := 0#32
  let v4750 : BitVec 1 := Scalar.cmpi .ne v4749 c0_i32_1980
  v4750

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c1_i32_0 : BitVec 32 := 1#32
  let c0_i32 : BitVec 32 := 0#32
  ![v2.toNat, c1_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x256x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== KernelIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== ReferenceIdeal.lean ====
abbrev S4096x3072 : Shape := ⟨2, ![4096, 3072]⟩
abbrev S4096x2048 : Shape := ⟨2, ![4096, 2048]⟩
abbrev S8x128x128 : Shape := ⟨3, ![8, 128, 128]⟩
abbrev S8x128 : Shape := ⟨2, ![8, 128]⟩
abbrev S1x1024 : Shape := ⟨2, ![1, 1024]⟩
abbrev S4x256x256 : Shape := ⟨3, ![4, 256, 256]⟩
abbrev S4096x1024 : Shape := ⟨2, ![4096, 1024]⟩
abbrev S_ : Shape := ⟨0, ![]⟩
abbrev S1024 : Shape := ⟨1, ![1024]⟩
abbrev S4096x8x128 : Shape := ⟨3, ![4096, 8, 128]⟩
abbrev S4096x8 : Shape := ⟨2, ![4096, 8]⟩
abbrev S4096x8x1 : Shape := ⟨3, ![4096, 8, 1]⟩
abbrev S1x8x128 : Shape := ⟨3, ![1, 8, 128]⟩
abbrev S32x128x8x128 : Shape := ⟨4, ![32, 128, 8, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S4096x4x256 : Shape := ⟨3, ![4096, 4, 256]⟩
abbrev S1x4x256 : Shape := ⟨3, ![1, 4, 256]⟩
abbrev S4097x4x256 : Shape := ⟨3, ![4097, 4, 256]⟩
abbrev S4096 : Shape := ⟨1, ![4096]⟩
abbrev S4097x1x256 : Shape := ⟨3, ![4097, 1, 256]⟩
abbrev S4097x256 : Shape := ⟨2, ![4097, 256]⟩
abbrev S1x256 : Shape := ⟨2, ![1, 256]⟩
abbrev S4095x256 : Shape := ⟨2, ![4095, 256]⟩
abbrev S4096x256 : Shape := ⟨2, ![4096, 256]⟩
abbrev S4096x1 : Shape := ⟨2, ![4096, 1]⟩
abbrev S4096x1x256 : Shape := ⟨3, ![4096, 1, 256]⟩
abbrev S3x256 : Shape := ⟨2, ![3, 256]⟩
abbrev S4093x256 : Shape := ⟨2, ![4093, 256]⟩
abbrev S7x256 : Shape := ⟨2, ![7, 256]⟩
abbrev S4089x256 : Shape := ⟨2, ![4089, 256]⟩
abbrev S15x256 : Shape := ⟨2, ![15, 256]⟩
abbrev S4081x256 : Shape := ⟨2, ![4081, 256]⟩
abbrev S4x256x4096 : Shape := ⟨3, ![4, 256, 4096]⟩
abbrev S4x4096x256 : Shape := ⟨3, ![4, 4096, 256]⟩
abbrev S8x128x1 : Shape := ⟨3, ![8, 128, 1]⟩

abbrev nBuf : Space → Nat
  | .hbm => 436
  | .vmem => 0
  | .smem => 0
  | _ => 0

abbrev hbmTy0_0 (i : Nat) : BufTy := match i % 128 with
  | 0 => ⟨S4096x3072, .f32⟩
  | 1 => ⟨S4096x2048, .bf16⟩
  | 2 => ⟨S8x128x128, .f32⟩
  | 3 => ⟨S8x128, .f32⟩
  | 4 => ⟨S1x1024, .f32⟩
  | 5 => ⟨S4x256x256, .f32⟩
  | 6 => ⟨S1x1024, .f32⟩
  | 7 => ⟨S4096x2048, .f32⟩
  | 8 => ⟨S4096x1024, .f32⟩
  | 9 => ⟨S4096x1024, .f32⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S4096x1024, .f32⟩
  | 26 => ⟨S_, .f32⟩
  | 27 => ⟨S4096x1024, .f32⟩
  | 28 => ⟨S4096x1024, .f32⟩
  | 29 => ⟨S_, .f32⟩
  | 30 => ⟨S4096x1024, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S_, .f32⟩
  | 45 => ⟨S4096x1024, .f32⟩
  | 46 => ⟨S4096x1024, .f32⟩
  | 47 => ⟨S_, .f32⟩
  | 48 => ⟨S4096x1024, .f32⟩
  | 49 => ⟨S4096x1024, .f32⟩
  | 50 => ⟨S_, .f32⟩
  | 51 => ⟨S4096x1024, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S4096x1024, .f32⟩
  | 72 => ⟨S4096x1024, .f32⟩
  | 73 => ⟨S1024, .f32⟩
  | 74 => ⟨S4096x8x128, .f32⟩
  | 75 => ⟨S8x128, .f32⟩
  | 76 => ⟨S4096x8x128, .f32⟩
  | 77 => ⟨S_, .f32⟩
  | 78 => ⟨S4096x8, .f32⟩
  | 79 => ⟨S4096x8x1, .f32⟩
  | 80 => ⟨S_, .f32⟩
  | 81 => ⟨S4096x8x1, .f32⟩
  | 82 => ⟨S4096x8x1, .f32⟩
  | 83 => ⟨S_, .f32⟩
  | 84 => ⟨S4096x8x1, .f32⟩
  | 85 => ⟨S4096x8x1, .f32⟩
  | 86 => ⟨S4096x8x1, .f32⟩
  | 87 => ⟨S4096x8x1, .f32⟩
  | 88 => ⟨S_, .f32⟩
  | 89 => ⟨S4096x8x1, .f32⟩
  | 90 => ⟨S4096x8x1, .f32⟩
  | 91 => ⟨S4096x8x128, .f32⟩
  | 92 => ⟨S4096x8x128, .f32⟩
  | 93 => ⟨S1x8x128, .f32⟩
  | 94 => ⟨S4096x8x128, .f32⟩
  | 95 => ⟨S4096x8x128, .f32⟩
  | 96 => ⟨S32x128x8x128, .f32⟩
  | 97 => ⟨S_, .i1⟩
  | 98 => ⟨S128x128, .i1⟩
  | 99 => ⟨S128x128, .i32⟩
  | 100 => ⟨S_, .i32⟩
  | 101 => ⟨S128x128, .i32⟩
  | 102 => ⟨S128x128, .i32⟩
  | 103 => ⟨S128x128, .i32⟩
  | 104 => ⟨S128x128, .i1⟩
  | 105 => ⟨S_, .i1⟩
  | 106 => ⟨S128x128, .i1⟩
  | 107 => ⟨S128x128, .i1⟩
  | 108 => ⟨S1x128x128, .i1⟩
  | 109 => ⟨S_, .f32⟩
  | 110 => ⟨S8x128x128, .f32⟩
  | 111 => ⟨S8x128x128, .i1⟩
  | 112 => ⟨S8x128x128, .f32⟩
  | 113 => ⟨S_, .f32⟩
  | 114 => ⟨S8x128x128, .f32⟩
  | 115 => ⟨S8x32x128x128, .f32⟩
  | 116 => ⟨S32x128x8x128, .f32⟩
  | 117 => ⟨S128x8, .f32⟩
  | 118 => ⟨S1x128x8x1, .f32⟩
  | 119 => ⟨S32x128x8x128, .f32⟩
  | 120 => ⟨S32x128x8x128, .f32⟩
  | 121 => ⟨S4096x1024, .f32⟩
  | 122 => ⟨S4096x1024, .f32⟩
  | 123 => ⟨S1024, .f32⟩
  | 124 => ⟨S4096x4x256, .f32⟩
  | 125 => ⟨S_, .f32⟩
  | 126 => ⟨S_, .f32⟩
  | 127 => ⟨S4096x4x256, .f32⟩
  | _ => ⟨S4096x3072, .f32⟩

abbrev hbmTy0_1 (i : Nat) : BufTy := match i % 128 with
  | 0 => ⟨S1x4x256, .f32⟩
  | 1 => ⟨S_, .f32⟩
  | 2 => ⟨S1x4x256, .f32⟩
  | 3 => ⟨S4097x4x256, .f32⟩
  | 4 => ⟨S_, .f32⟩
  | 5 => ⟨S1x4x256, .f32⟩
  | 6 => ⟨S4096, .i32⟩
  | 7 => ⟨S4097x1x256, .f32⟩
  | 8 => ⟨S4097x256, .f32⟩
  | 9 => ⟨S_, .f32⟩
  | 10 => ⟨S1x256, .f32⟩
  | 11 => ⟨S4095x256, .f32⟩
  | 12 => ⟨S4096x256, .f32⟩
  | 13 => ⟨S_, .f32⟩
  | 14 => ⟨S1x256, .f32⟩
  | 15 => ⟨S_, .i32⟩
  | 16 => ⟨S4096, .i32⟩
  | 17 => ⟨S4096, .i32⟩
  | 18 => ⟨S_, .i32⟩
  | 19 => ⟨S4096, .i32⟩
  | 20 => ⟨S4096, .i32⟩
  | 21 => ⟨S4096, .f32⟩
  | 22 => ⟨S4096x1, .f32⟩
  | 23 => ⟨S4096x256, .f32⟩
  | 24 => ⟨S4096x256, .f32⟩
  | 25 => ⟨S4096x256, .f32⟩
  | 26 => ⟨S4096x256, .f32⟩
  | 27 => ⟨S4096x1x256, .f32⟩
  | 28 => ⟨S4096x256, .f32⟩
  | 29 => ⟨S4096x256, .f32⟩
  | 30 => ⟨S4097x1x256, .f32⟩
  | 31 => ⟨S4097x256, .f32⟩
  | 32 => ⟨S_, .f32⟩
  | 33 => ⟨S3x256, .f32⟩
  | 34 => ⟨S4093x256, .f32⟩
  | 35 => ⟨S4096x256, .f32⟩
  | 36 => ⟨S_, .f32⟩
  | 37 => ⟨S3x256, .f32⟩
  | 38 => ⟨S_, .i32⟩
  | 39 => ⟨S4096, .i32⟩
  | 40 => ⟨S4096, .i32⟩
  | 41 => ⟨S_, .i32⟩
  | 42 => ⟨S4096, .i32⟩
  | 43 => ⟨S4096, .i32⟩
  | 44 => ⟨S4096, .f32⟩
  | 45 => ⟨S4096x1, .f32⟩
  | 46 => ⟨S4096x256, .f32⟩
  | 47 => ⟨S4096x256, .f32⟩
  | 48 => ⟨S4096x256, .f32⟩
  | 49 => ⟨S4096x256, .f32⟩
  | 50 => ⟨S4096x1x256, .f32⟩
  | 51 => ⟨S4096x256, .f32⟩
  | 52 => ⟨S4096x256, .f32⟩
  | 53 => ⟨S4097x1x256, .f32⟩
  | 54 => ⟨S4097x256, .f32⟩
  | 55 => ⟨S_, .f32⟩
  | 56 => ⟨S7x256, .f32⟩
  | 57 => ⟨S4089x256, .f32⟩
  | 58 => ⟨S4096x256, .f32⟩
  | 59 => ⟨S_, .f32⟩
  | 60 => ⟨S7x256, .f32⟩
  | 61 => ⟨S_, .i32⟩
  | 62 => ⟨S4096, .i32⟩
  | 63 => ⟨S4096, .i32⟩
  | 64 => ⟨S_, .i32⟩
  | 65 => ⟨S4096, .i32⟩
  | 66 => ⟨S4096, .i32⟩
  | 67 => ⟨S4096, .f32⟩
  | 68 => ⟨S4096x1, .f32⟩
  | 69 => ⟨S4096x256, .f32⟩
  | 70 => ⟨S4096x256, .f32⟩
  | 71 => ⟨S4096x256, .f32⟩
  | 72 => ⟨S4096x256, .f32⟩
  | 73 => ⟨S4096x1x256, .f32⟩
  | 74 => ⟨S4096x256, .f32⟩
  | 75 => ⟨S4096x256, .f32⟩
  | 76 => ⟨S4097x1x256, .f32⟩
  | 77 => ⟨S4097x256, .f32⟩
  | 78 => ⟨S_, .f32⟩
  | 79 => ⟨S15x256, .f32⟩
  | 80 => ⟨S4081x256, .f32⟩
  | 81 => ⟨S4096x256, .f32⟩
  | 82 => ⟨S_, .f32⟩
  | 83 => ⟨S15x256, .f32⟩
  | 84 => ⟨S_, .i32⟩
  | 85 => ⟨S4096, .i32⟩
  | 86 => ⟨S4096, .i32⟩
  | 87 => ⟨S_, .i32⟩
  | 88 => ⟨S4096, .i32⟩
  | 89 => ⟨S4096, .i32⟩
  | 90 => ⟨S4096, .f32⟩
  | 91 => ⟨S4096x1, .f32⟩
  | 92 => ⟨S4096x256, .f32⟩
  | 93 => ⟨S4096x256, .f32⟩
  | 94 => ⟨S4096x256, .f32⟩
  | 95 => ⟨S4096x256, .f32⟩
  | 96 => ⟨S4096x1x256, .f32⟩
  | 97 => ⟨S4096x256, .f32⟩
  | 98 => ⟨S4096x256, .f32⟩
  | 99 => ⟨S4096x1x256, .f32⟩
  | 100 => ⟨S4096x1x256, .f32⟩
  | 101 => ⟨S4096x1x256, .f32⟩
  | 102 => ⟨S4096x1x256, .f32⟩
  | 103 => ⟨S4096x4x256, .f32⟩
  | 104 => ⟨S4x256x4096, .f32⟩
  | 105 => ⟨S4096x4x256, .f32⟩
  | 106 => ⟨S4096x1024, .f32⟩
  | 107 => ⟨S1x1024, .f32⟩
  | 108 => ⟨S4096x1024, .f32⟩
  | 109 => ⟨S4096x1024, .f32⟩
  | 110 => ⟨S4096x2048, .f32⟩
  | 111 => ⟨S4096x1024, .f32⟩
  | 112 => ⟨S4096x1024, .f32⟩
  | 113 => ⟨S4096x1024, .f32⟩
  | 114 => ⟨S_, .f32⟩
  | 115 => ⟨S1024, .f32⟩
  | 116 => ⟨S1x1024, .f32⟩
  | 117 => ⟨S4096x1024, .f32⟩
  | 118 => ⟨S4096x1024, .f32⟩
  | 119 => ⟨S_, .f32⟩
  | 120 => ⟨S1024, .f32⟩
  | 121 => ⟨S4096x4x256, .f32⟩
  | 122 => ⟨S4x256x4096, .f32⟩
  | 123 => ⟨S4x4096x256, .f32⟩
  | 124 => ⟨S4096x4x256, .f32⟩
  | 125 => ⟨S4x256x256, .f32⟩
  | 126 => ⟨S4x256x256, .f32⟩
  | 127 => ⟨S4096x1x256, .f32⟩
  | _ => ⟨S4096x3072, .f32⟩

abbrev hbmTy0_2 (i : Nat) : BufTy := match i % 128 with
  | 0 => ⟨S4096x256, .f32⟩
  | 1 => ⟨S4096x1x256, .f32⟩
  | 2 => ⟨S4096x256, .f32⟩
  | 3 => ⟨S4096x1x256, .f32⟩
  | 4 => ⟨S4096x256, .f32⟩
  | 5 => ⟨S4096x1x256, .f32⟩
  | 6 => ⟨S4096x256, .f32⟩
  | 7 => ⟨S4096x256, .f32⟩
  | 8 => ⟨S4096x1x256, .f32⟩
  | 9 => ⟨S_, .f32⟩
  | 10 => ⟨S4096x4x256, .f32⟩
  | 11 => ⟨S4096x256, .f32⟩
  | 12 => ⟨S4096x256, .f32⟩
  | 13 => ⟨S4096x256, .f32⟩
  | 14 => ⟨S_, .f32⟩
  | 15 => ⟨S4097x256, .f32⟩
  | 16 => ⟨S15x256, .f32⟩
  | 17 => ⟨S4081x256, .f32⟩
  | 18 => ⟨S_, .f32⟩
  | 19 => ⟨S4097x256, .f32⟩
  | 20 => ⟨S4097x256, .f32⟩
  | 21 => ⟨S4097x1x256, .f32⟩
  | 22 => ⟨S_, .f32⟩
  | 23 => ⟨S4097x4x256, .f32⟩
  | 24 => ⟨S4096x256, .f32⟩
  | 25 => ⟨S4096x1x256, .f32⟩
  | 26 => ⟨S_, .f32⟩
  | 27 => ⟨S4096x4x256, .f32⟩
  | 28 => ⟨S4096x4x256, .f32⟩
  | 29 => ⟨S4096x256, .f32⟩
  | 30 => ⟨S4096x256, .f32⟩
  | 31 => ⟨S4096x256, .f32⟩
  | 32 => ⟨S_, .f32⟩
  | 33 => ⟨S4097x256, .f32⟩
  | 34 => ⟨S7x256, .f32⟩
  | 35 => ⟨S4089x256, .f32⟩
  | 36 => ⟨S_, .f32⟩
  | 37 => ⟨S4097x256, .f32⟩
  | 38 => ⟨S4097x256, .f32⟩
  | 39 => ⟨S4097x1x256, .f32⟩
  | 40 => ⟨S_, .f32⟩
  | 41 => ⟨S4097x4x256, .f32⟩
  | 42 => ⟨S4097x4x256, .f32⟩
  | 43 => ⟨S4096x256, .f32⟩
  | 44 => ⟨S4096x1x256, .f32⟩
  | 45 => ⟨S_, .f32⟩
  | 46 => ⟨S4096x4x256, .f32⟩
  | 47 => ⟨S4096x4x256, .f32⟩
  | 48 => ⟨S4096x256, .f32⟩
  | 49 => ⟨S4096x256, .f32⟩
  | 50 => ⟨S4096x256, .f32⟩
  | 51 => ⟨S_, .f32⟩
  | 52 => ⟨S4097x256, .f32⟩
  | 53 => ⟨S3x256, .f32⟩
  | 54 => ⟨S4093x256, .f32⟩
  | 55 => ⟨S_, .f32⟩
  | 56 => ⟨S4097x256, .f32⟩
  | 57 => ⟨S4097x256, .f32⟩
  | 58 => ⟨S4097x1x256, .f32⟩
  | 59 => ⟨S_, .f32⟩
  | 60 => ⟨S4097x4x256, .f32⟩
  | 61 => ⟨S4097x4x256, .f32⟩
  | 62 => ⟨S4096x256, .f32⟩
  | 63 => ⟨S4096x1x256, .f32⟩
  | 64 => ⟨S_, .f32⟩
  | 65 => ⟨S4096x4x256, .f32⟩
  | 66 => ⟨S4096x4x256, .f32⟩
  | 67 => ⟨S4096x256, .f32⟩
  | 68 => ⟨S4096x256, .f32⟩
  | 69 => ⟨S4096x256, .f32⟩
  | 70 => ⟨S_, .f32⟩
  | 71 => ⟨S4097x256, .f32⟩
  | 72 => ⟨S1x256, .f32⟩
  | 73 => ⟨S4095x256, .f32⟩
  | 74 => ⟨S_, .f32⟩
  | 75 => ⟨S4097x256, .f32⟩
  | 76 => ⟨S4097x256, .f32⟩
  | 77 => ⟨S4097x1x256, .f32⟩
  | 78 => ⟨S_, .f32⟩
  | 79 => ⟨S4097x4x256, .f32⟩
  | 80 => ⟨S4097x4x256, .f32⟩
  | 81 => ⟨S1x4x256, .f32⟩
  | 82 => ⟨S4096x4x256, .f32⟩
  | 83 => ⟨S_, .f32⟩
  | 84 => ⟨S_, .f32⟩
  | 85 => ⟨S4096x4x256, .f32⟩
  | 86 => ⟨S4096x4x256, .f32⟩
  | 87 => ⟨S4096x1024, .f32⟩
  | 88 => ⟨S1x1024, .f32⟩
  | 89 => ⟨S4096x1024, .f32⟩
  | 90 => ⟨S4096x1024, .f32⟩
  | 91 => ⟨S32x128x8x128, .f32⟩
  | 92 => ⟨S_, .f32⟩
  | 93 => ⟨S128x8, .f32⟩
  | 94 => ⟨S1x128x8x1, .f32⟩
  | 95 => ⟨S_, .f32⟩
  | 96 => ⟨S128x8, .f32⟩
  | 97 => ⟨S8x128, .f32⟩
  | 98 => ⟨S8x32x128x128, .f32⟩
  | 99 => ⟨S8x128x128, .f32⟩
  | 100 => ⟨S8x32x128x128, .f32⟩
  | 101 => ⟨S32x128x8x128, .f32⟩
  | 102 => ⟨S_, .f32⟩
  | 103 => ⟨S8x128x128, .f32⟩
  | 104 => ⟨S8x128x128, .f32⟩
  | 105 => ⟨S4096x8x128, .f32⟩
  | 106 => ⟨S4096x8x128, .f32⟩
  | 107 => ⟨S_, .f32⟩
  | 108 => ⟨S8x128, .f32⟩
  | 109 => ⟨S1x8x128, .f32⟩
  | 110 => ⟨S4096x8x128, .f32⟩
  | 111 => ⟨S4096x8x128, .f32⟩
  | 112 => ⟨S_, .f32⟩
  | 113 => ⟨S8x128, .f32⟩
  | 114 => ⟨S4096x8x128, .f32⟩
  | 115 => ⟨S_, .f32⟩
  | 116 => ⟨S4096x8, .f32⟩
  | 117 => ⟨S4096x8x1, .f32⟩
  | 118 => ⟨S4096x8x128, .f32⟩
  | 119 => ⟨S4096x8x128, .f32⟩
  | 120 => ⟨S4096x8x1, .f32⟩
  | 121 => ⟨S_, .f32⟩
  | 122 => ⟨S4096x8x1, .f32⟩
  | 123 => ⟨S4096x8x1, .f32⟩
  | 124 => ⟨S_, .f32⟩
  | 125 => ⟨S4096x8, .f32⟩
  | 126 => ⟨S4096x8x128, .f32⟩
  | 127 => ⟨S4096x8x128, .f32⟩
  | _ => ⟨S4096x3072, .f32⟩

abbrev hbmTy0_3 (i : Nat) : BufTy := match i % 128 with
  | 0 => ⟨S4096x8x128, .f32⟩
  | 1 => ⟨S4096x8x128, .f32⟩
  | 2 => ⟨S4096x8x128, .f32⟩
  | 3 => ⟨S1024, .f32⟩
  | 4 => ⟨S4096x1024, .f32⟩
  | 5 => ⟨S1x1024, .f32⟩
  | 6 => ⟨S_, .f32⟩
  | 7 => ⟨S4096x3072, .f32⟩
  | 8 => ⟨S4096x1024, .f32⟩
  | 9 => ⟨S4096x1024, .f32⟩
  | 10 => ⟨S_, .f32⟩
  | 11 => ⟨S4096x1024, .f32⟩
  | 12 => ⟨S4096x1024, .f32⟩
  | 13 => ⟨S4096x1024, .f32⟩
  | 14 => ⟨S_, .f32⟩
  | 15 => ⟨S4096x1024, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S4096x1024, .f32⟩
  | 25 => ⟨S4096x1024, .f32⟩
  | 26 => ⟨S_, .f32⟩
  | 27 => ⟨S4096x3072, .f32⟩
  | 28 => ⟨S4096x3072, .f32⟩
  | 29 => ⟨S4096x1024, .f32⟩
  | 30 => ⟨S4096x1024, .f32⟩
  | 31 => ⟨S_, .f32⟩
  | 32 => ⟨S4096x1024, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S_, .f32⟩
  | 43 => ⟨S4096x1024, .f32⟩
  | 44 => ⟨S4096x1024, .f32⟩
  | 45 => ⟨S4096x1024, .f32⟩
  | 46 => ⟨S4096x1024, .f32⟩
  | 47 => ⟨S_, .f32⟩
  | 48 => ⟨S4096x3072, .f32⟩
  | 49 => ⟨S4096x3072, .f32⟩
  | 50 => ⟨S4096x3072, .bf16⟩
  | 51 => ⟨S8x128x1, .f32⟩
  | _ => ⟨S4096x3072, .f32⟩

abbrev hbmTy (i : Nat) : BufTy := match i / 128 with
  | 0 => hbmTy0_0 i
  | 1 => hbmTy0_1 i
  | 2 => hbmTy0_2 i
  | 3 => hbmTy0_3 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩
abbrev main_cst_12 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_13 : Ref sig .tc := ⟨.hbm, 65, rfl⟩
abbrev main_v44 : Ref sig .tc := ⟨.hbm, 66, rfl⟩
abbrev main_v45 : Ref sig .tc := ⟨.hbm, 67, rfl⟩
abbrev main_cst_14 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_15 : Ref sig .tc := ⟨.hbm, 77, rfl⟩
abbrev main_v54 : Ref sig .tc := ⟨.hbm, 78, rfl⟩
abbrev main_v55 : Ref sig .tc := ⟨.hbm, 79, rfl⟩
abbrev main_cst_16 : Ref sig .tc := ⟨.hbm, 80, rfl⟩
abbrev main_v56 : Ref sig .tc := ⟨.hbm, 81, rfl⟩
abbrev main_v57 : Ref sig .tc := ⟨.hbm, 82, rfl⟩
abbrev main_cst_17 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_18 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c : Ref sig .tc := ⟨.hbm, 97, rfl⟩
abbrev main_v70 : Ref sig .tc := ⟨.hbm, 98, rfl⟩
abbrev main_call0_v0 : Ref sig .tc := ⟨.hbm, 99, rfl⟩
abbrev main_call0_c : Ref sig .tc := ⟨.hbm, 100, rfl⟩
abbrev main_call0_v1 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_call0_c_0 : Ref sig .tc := ⟨.hbm, 105, rfl⟩
abbrev main_call0_v5 : Ref sig .tc := ⟨.hbm, 106, rfl⟩
abbrev main_v71 : Ref sig .tc := ⟨.hbm, 107, rfl⟩
abbrev main_v72 : Ref sig .tc := ⟨.hbm, 108, rfl⟩
abbrev main_cst_19 : Ref sig .tc := ⟨.hbm, 109, rfl⟩
abbrev main_v73 : Ref sig .tc := ⟨.hbm, 110, rfl⟩
abbrev main_v74_1 : Ref sig .tc := ⟨.hbm, 111, rfl⟩
abbrev main_v74_0 : Ref sig .tc := ⟨.hbm, 112, rfl⟩
abbrev main_call1_cst : Ref sig .tc := ⟨.hbm, 113, rfl⟩
abbrev main_v74_2 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_call2_call0_cst : Ref sig .tc := ⟨.hbm, 125, rfl⟩
abbrev main_call2_call0_v0 : Ref sig .tc := ⟨.hbm, 126, rfl⟩
abbrev main_v85 : Ref sig .tc := ⟨.hbm, 127, rfl⟩
abbrev main_v86 : Ref sig .tc := ⟨.hbm, 128, rfl⟩
abbrev main_cst_20 : Ref sig .tc := ⟨.hbm, 129, rfl⟩
abbrev main_v87 : Ref sig .tc := ⟨.hbm, 130, rfl⟩
abbrev main_v88 : Ref sig .tc := ⟨.hbm, 131, rfl⟩
abbrev main_cst_21 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_22 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_23 : Ref sig .tc := ⟨.hbm, 141, rfl⟩
abbrev main_v96 : Ref sig .tc := ⟨.hbm, 142, rfl⟩
abbrev main_c_24 : Ref sig .tc := ⟨.hbm, 143, rfl⟩
abbrev main_v97 : Ref sig .tc := ⟨.hbm, 144, rfl⟩
abbrev main_v98 : Ref sig .tc := ⟨.hbm, 145, rfl⟩
abbrev main_c_25 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_cst_26 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_cst_27 : Ref sig .tc := ⟨.hbm, 164, rfl⟩
abbrev main_v115 : Ref sig .tc := ⟨.hbm, 165, rfl⟩
abbrev main_c_28 : Ref sig .tc := ⟨.hbm, 166, rfl⟩
abbrev main_v116 : Ref sig .tc := ⟨.hbm, 167, rfl⟩
abbrev main_v117 : Ref sig .tc := ⟨.hbm, 168, rfl⟩
abbrev main_c_29 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_30 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_cst_31 : Ref sig .tc := ⟨.hbm, 187, rfl⟩
abbrev main_v134 : Ref sig .tc := ⟨.hbm, 188, rfl⟩
abbrev main_c_32 : Ref sig .tc := ⟨.hbm, 189, rfl⟩
abbrev main_v135 : Ref sig .tc := ⟨.hbm, 190, rfl⟩
abbrev main_v136 : Ref sig .tc := ⟨.hbm, 191, rfl⟩
abbrev main_c_33 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_cst_34 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_cst_35 : Ref sig .tc := ⟨.hbm, 210, rfl⟩
abbrev main_v153 : Ref sig .tc := ⟨.hbm, 211, rfl⟩
abbrev main_c_36 : Ref sig .tc := ⟨.hbm, 212, rfl⟩
abbrev main_v154 : Ref sig .tc := ⟨.hbm, 213, rfl⟩
abbrev main_v155 : Ref sig .tc := ⟨.hbm, 214, rfl⟩
abbrev main_c_37 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_cst_38 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_cst_39 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_cst_40 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_cst_41 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_cst_42 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_cst_43 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_cst_44 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_cst_45 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_cst_46 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_cst_47 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_cst_48 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_cst_49 : Ref sig .tc := ⟨.hbm, 307, rfl⟩
abbrev main_v236 : Ref sig .tc := ⟨.hbm, 308, rfl⟩
abbrev main_v237 : Ref sig .tc := ⟨.hbm, 309, rfl⟩
abbrev main_v238 : Ref sig .tc := ⟨.hbm, 310, rfl⟩
abbrev main_cst_50 : Ref sig .tc := ⟨.hbm, 311, rfl⟩
abbrev main_v239 : Ref sig .tc := ⟨.hbm, 312, rfl⟩
abbrev main_v240 : Ref sig .tc := ⟨.hbm, 313, rfl⟩
abbrev main_v241 : Ref sig .tc := ⟨.hbm, 314, rfl⟩
abbrev main_cst_51 : Ref sig .tc := ⟨.hbm, 315, rfl⟩
abbrev main_v242 : Ref sig .tc := ⟨.hbm, 316, rfl⟩
abbrev main_v243 : Ref sig .tc := ⟨.hbm, 317, rfl⟩
abbrev main_v244 : Ref sig .tc := ⟨.hbm, 318, rfl⟩
abbrev main_v245 : Ref sig .tc := ⟨.hbm, 319, rfl⟩
abbrev main_cst_52 : Ref sig .tc := ⟨.hbm, 320, rfl⟩
abbrev main_v246 : Ref sig .tc := ⟨.hbm, 321, rfl⟩
abbrev main_v247 : Ref sig .tc := ⟨.hbm, 322, rfl⟩
abbrev main_v248 : Ref sig .tc := ⟨.hbm, 323, rfl⟩
abbrev main_v249 : Ref sig .tc := ⟨.hbm, 324, rfl⟩
abbrev main_v250 : Ref sig .tc := ⟨.hbm, 325, rfl⟩
abbrev main_cst_53 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_cst_54 : Ref sig .tc := ⟨.hbm, 330, rfl⟩
abbrev main_v254 : Ref sig .tc := ⟨.hbm, 331, rfl⟩
abbrev main_v255 : Ref sig .tc := ⟨.hbm, 332, rfl⟩
abbrev main_v256 : Ref sig .tc := ⟨.hbm, 333, rfl⟩
abbrev main_cst_55 : Ref sig .tc := ⟨.hbm, 334, rfl⟩
abbrev main_v257 : Ref sig .tc := ⟨.hbm, 335, rfl⟩
abbrev main_v258 : Ref sig .tc := ⟨.hbm, 336, rfl⟩
abbrev main_v259 : Ref sig .tc := ⟨.hbm, 337, rfl⟩
abbrev main_v260 : Ref sig .tc := ⟨.hbm, 338, rfl⟩
abbrev main_call3_call0_cst : Ref sig .tc := ⟨.hbm, 339, rfl⟩
abbrev main_call3_call0_v0 : Ref sig .tc := ⟨.hbm, 340, rfl⟩
abbrev main_v261 : Ref sig .tc := ⟨.hbm, 341, rfl⟩
abbrev main_v262 : Ref sig .tc := ⟨.hbm, 342, rfl⟩
abbrev main_v263 : Ref sig .tc := ⟨.hbm, 343, rfl⟩
abbrev main_v264 : Ref sig .tc := ⟨.hbm, 344, rfl⟩
abbrev main_v265 : Ref sig .tc := ⟨.hbm, 345, rfl⟩
abbrev main_v266 : Ref sig .tc := ⟨.hbm, 346, rfl⟩
abbrev main_v267 : Ref sig .tc := ⟨.hbm, 347, rfl⟩
abbrev main_cst_56 : Ref sig .tc := ⟨.hbm, 348, rfl⟩
abbrev main_v268 : Ref sig .tc := ⟨.hbm, 349, rfl⟩
abbrev main_v269 : Ref sig .tc := ⟨.hbm, 350, rfl⟩
abbrev main_cst_57 : Ref sig .tc := ⟨.hbm, 351, rfl⟩
abbrev main_v270 : Ref sig .tc := ⟨.hbm, 352, rfl⟩
abbrev main_v271 : Ref sig .tc := ⟨.hbm, 353, rfl⟩
abbrev main_v272 : Ref sig .tc := ⟨.hbm, 354, rfl⟩
abbrev main_v273 : Ref sig .tc := ⟨.hbm, 355, rfl⟩
abbrev main_v274 : Ref sig .tc := ⟨.hbm, 356, rfl⟩
abbrev main_v275 : Ref sig .tc := ⟨.hbm, 357, rfl⟩
abbrev main_call4_cst : Ref sig .tc := ⟨.hbm, 358, rfl⟩
abbrev main_call4_v0 : Ref sig .tc := ⟨.hbm, 359, rfl⟩
abbrev main_v276 : Ref sig .tc := ⟨.hbm, 360, rfl⟩
abbrev main_v277 : Ref sig .tc := ⟨.hbm, 361, rfl⟩
abbrev main_v278 : Ref sig .tc := ⟨.hbm, 362, rfl⟩
abbrev main_cst_58 : Ref sig .tc := ⟨.hbm, 363, rfl⟩
abbrev main_v279 : Ref sig .tc := ⟨.hbm, 364, rfl⟩
abbrev main_v280 : Ref sig .tc := ⟨.hbm, 365, rfl⟩
abbrev main_v281 : Ref sig .tc := ⟨.hbm, 366, rfl⟩
abbrev main_v282 : Ref sig .tc := ⟨.hbm, 367, rfl⟩
abbrev main_cst_59 : Ref sig .tc := ⟨.hbm, 368, rfl⟩
abbrev main_v283 : Ref sig .tc := ⟨.hbm, 369, rfl⟩
abbrev main_v284 : Ref sig .tc := ⟨.hbm, 370, rfl⟩
abbrev main_cst_60 : Ref sig .tc := ⟨.hbm, 371, rfl⟩
abbrev main_v285 : Ref sig .tc := ⟨.hbm, 372, rfl⟩
abbrev main_v286 : Ref sig .tc := ⟨.hbm, 373, rfl⟩
abbrev main_v287 : Ref sig .tc := ⟨.hbm, 374, rfl⟩
abbrev main_v288 : Ref sig .tc := ⟨.hbm, 375, rfl⟩
abbrev main_v289 : Ref sig .tc := ⟨.hbm, 376, rfl⟩
abbrev main_cst_61 : Ref sig .tc := ⟨.hbm, 377, rfl⟩
abbrev main_v290 : Ref sig .tc := ⟨.hbm, 378, rfl⟩
abbrev main_v291 : Ref sig .tc := ⟨.hbm, 379, rfl⟩
abbrev main_cst_62 : Ref sig .tc := ⟨.hbm, 380, rfl⟩
abbrev main_v292 : Ref sig .tc := ⟨.hbm, 381, rfl⟩
abbrev main_v293 : Ref sig .tc := ⟨.hbm, 382, rfl⟩
abbrev main_v294 : Ref sig .tc := ⟨.hbm, 383, rfl⟩
abbrev main_v295 : Ref sig .tc := ⟨.hbm, 384, rfl⟩
abbrev main_v296 : Ref sig .tc := ⟨.hbm, 385, rfl⟩
abbrev main_v297 : Ref sig .tc := ⟨.hbm, 386, rfl⟩
abbrev main_v298 : Ref sig .tc := ⟨.hbm, 387, rfl⟩
abbrev main_v299 : Ref sig .tc := ⟨.hbm, 388, rfl⟩
abbrev main_v300 : Ref sig .tc := ⟨.hbm, 389, rfl⟩
abbrev main_cst_63 : Ref sig .tc := ⟨.hbm, 390, rfl⟩
abbrev main_v301 : Ref sig .tc := ⟨.hbm, 391, rfl⟩
abbrev main_v302 : Ref sig .tc := ⟨.hbm, 392, rfl⟩
abbrev main_v303 : Ref sig .tc := ⟨.hbm, 393, rfl⟩
abbrev main_cst_64 : Ref sig .tc := ⟨.hbm, 394, rfl⟩
abbrev main_v304 : Ref sig .tc := ⟨.hbm, 395, rfl⟩
abbrev main_v305 : Ref sig .tc := ⟨.hbm, 396, rfl⟩
abbrev main_v306 : Ref sig .tc := ⟨.hbm, 397, rfl⟩
abbrev main_cst_65 : Ref sig .tc := ⟨.hbm, 398, rfl⟩
abbrev main_v307 : Ref sig .tc := ⟨.hbm, 399, rfl⟩
abbrev main_v308 : Ref sig .tc := ⟨.hbm, 400, rfl⟩
abbrev main_v309 : Ref sig .tc := ⟨.hbm, 401, rfl⟩
abbrev main_cst_66 : Ref sig .tc := ⟨.hbm, 402, rfl⟩
abbrev main_v310 : Ref sig .tc := ⟨.hbm, 403, rfl⟩
abbrev main_v311 : Ref sig .tc := ⟨.hbm, 404, rfl⟩
abbrev main_cst_67 : Ref sig .tc := ⟨.hbm, 405, rfl⟩
abbrev main_v312 : Ref sig .tc := ⟨.hbm, 406, rfl⟩
abbrev main_v313 : Ref sig .tc := ⟨.hbm, 407, rfl⟩
abbrev main_v314 : Ref sig .tc := ⟨.hbm, 408, rfl⟩
abbrev main_v315 : Ref sig .tc := ⟨.hbm, 409, rfl⟩
abbrev main_cst_68 : Ref sig .tc := ⟨.hbm, 410, rfl⟩
abbrev main_v316 : Ref sig .tc := ⟨.hbm, 411, rfl⟩
abbrev main_v317 : Ref sig .tc := ⟨.hbm, 412, rfl⟩
abbrev main_v318 : Ref sig .tc := ⟨.hbm, 413, rfl⟩
abbrev main_v319 : Ref sig .tc := ⟨.hbm, 414, rfl⟩
abbrev main_cst_69 : Ref sig .tc := ⟨.hbm, 415, rfl⟩
abbrev main_v320 : Ref sig .tc := ⟨.hbm, 416, rfl⟩
abbrev main_v321 : Ref sig .tc := ⟨.hbm, 417, rfl⟩
abbrev main_v322 : Ref sig .tc := ⟨.hbm, 418, rfl⟩
abbrev main_cst_70 : Ref sig .tc := ⟨.hbm, 419, rfl⟩
abbrev main_v323 : Ref sig .tc := ⟨.hbm, 420, rfl⟩
abbrev main_v324 : Ref sig .tc := ⟨.hbm, 421, rfl⟩
abbrev main_v325 : Ref sig .tc := ⟨.hbm, 422, rfl⟩
abbrev main_cst_71 : Ref sig .tc := ⟨.hbm, 423, rfl⟩
abbrev main_v326 : Ref sig .tc := ⟨.hbm, 424, rfl⟩
abbrev main_v327 : Ref sig .tc := ⟨.hbm, 425, rfl⟩
abbrev main_cst_72 : Ref sig .tc := ⟨.hbm, 426, rfl⟩
abbrev main_v328 : Ref sig .tc := ⟨.hbm, 427, rfl⟩
abbrev main_v329 : Ref sig .tc := ⟨.hbm, 428, rfl⟩
abbrev main_v330 : Ref sig .tc := ⟨.hbm, 429, rfl⟩
abbrev main_v331 : Ref sig .tc := ⟨.hbm, 430, rfl⟩
abbrev main_cst_73 : Ref sig .tc := ⟨.hbm, 431, rfl⟩
abbrev main_v332 : Ref sig .tc := ⟨.hbm, 432, rfl⟩
abbrev main_v333 : Ref sig .tc := ⟨.hbm, 433, rfl⟩
abbrev main_v334 : Ref sig .tc := ⟨.hbm, 434, rfl⟩
abbrev main_v335 : Ref sig .tc := ⟨.hbm, 435, rfl⟩

abbrev nD : Nat := 1
abbrev τ : Topo := Topo.v7x

variable {F : FTy → Type} [FloatOps F]
-- ==== Kernel2.lean ====
abbrev S4096x8192 : Shape := ⟨2, ![4096, 8192]⟩
abbrev S4096x2048 : Shape := ⟨2, ![4096, 2048]⟩
abbrev S1x8192x2048 : Shape := ⟨3, ![1, 8192, 2048]⟩
abbrev S4096x512 : Shape := ⟨2, ![4096, 512]⟩
abbrev S1x512x2048 : Shape := ⟨3, ![1, 512, 2048]⟩
abbrev S512x512 : Shape := ⟨2, ![512, 512]⟩
abbrev S1x512x512 : Shape := ⟨3, ![1, 512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S1x8192x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x2048, .bf16⟩
  | .local _ .vmem, ⟨3, _⟩ => ⟨S1x512x2048, .bf16⟩
  | .local _ .vmem, ⟨4, _⟩ => ⟨S1x512x2048, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩
abbrev S1x8192x2048 : Shape := ⟨3, ![1, 8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4096x8192, .f32⟩
  | .hbm, ⟨3, _⟩ => ⟨S_, .f32⟩
  | .hbm, ⟨4, _⟩ => ⟨S8192x2048, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | .hbm, ⟨10, _⟩ => ⟨S1x8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S4096x2048 : Shape := ⟨2, ![4096, 2048]⟩
abbrev S4096x8192 : Shape := ⟨2, ![4096, 8192]⟩
abbrev S4x2048x2048 : Shape := ⟨3, ![4, 2048, 2048]⟩
abbrev S4096x512 : Shape := ⟨2, ![4096, 512]⟩
abbrev S1x512x2048 : Shape := ⟨3, ![1, 512, 2048]⟩
abbrev S512x512 : Shape := ⟨2, ![512, 512]⟩
abbrev S1x512x512 : Shape := ⟨3, ![1, 512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x2048, .bf16⟩
  | .local _ .vmem, ⟨3, _⟩ => ⟨S4096x2048, .bf16⟩
  | .local _ .vmem, ⟨4, _⟩ => ⟨S1x512x2048, .bf16⟩
  | .local _ .vmem, ⟨5, _⟩ => ⟨S1x512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4096x2048, .f32⟩
  | .hbm, ⟨3, _⟩ => ⟨S_, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x4x2048, .f32⟩
  | .hbm, ⟨10, _⟩ => ⟨S4x2048x2048, .f32⟩
  | .hbm, ⟨11, _⟩ => ⟨S4x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x2048 : Shape := ⟨2, ![4096, 2048]⟩
abbrev S1x2048x2048 : Shape := ⟨3, ![1, 2048, 2048]⟩
abbrev S4096x512 : Shape := ⟨2, ![4096, 512]⟩
abbrev S1x512x2048 : Shape := ⟨3, ![1, 512, 2048]⟩
abbrev S512x512 : Shape := ⟨2, ![512, 512]⟩
abbrev S1x512x512 : Shape := ⟨3, ![1, 512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S1x2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x2048, .bf16⟩
  | .local _ .vmem, ⟨3, _⟩ => ⟨S1x512x2048, .bf16⟩
  | .local _ .vmem, ⟨4, _⟩ => ⟨S1x512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x2048 : Shape := ⟨2, ![4096, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S1x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4096x2048 : Shape := ⟨2, ![4096, 2048]⟩
abbrev S4096x3072 : Shape := ⟨2, ![4096, 3072]⟩
abbrev S4x2048x768 : Shape := ⟨3, ![4, 2048, 768]⟩
abbrev S4096x512 : Shape := ⟨2, ![4096, 512]⟩
abbrev S4096x768 : Shape := ⟨2, ![4096, 768]⟩
abbrev S1x512x768 : Shape := ⟨3, ![1, 512, 768]⟩
abbrev S4096x256 : Shape := ⟨2, ![4096, 256]⟩
abbrev S512x256 : Shape := ⟨2, ![512, 256]⟩
abbrev S1x512x256 : Shape := ⟨3, ![1, 512, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S4x2048x768, .bf16⟩
  | .local _ .vmem, ⟨0, _⟩ => ⟨S4096x512, .bf16⟩
  | .local _ .vmem, ⟨1, _⟩ => ⟨S4096x512, .bf16⟩
  | .local _ .vmem, ⟨2, _⟩ => ⟨S4096x768, .bf16⟩
  | .local _ .vmem, ⟨3, _⟩ => ⟨S4096x768, .bf16⟩
  | .local _ .vmem, ⟨4, _⟩ => ⟨S1x512x768, .bf16⟩
  | .local _ .vmem, ⟨5, _⟩ => ⟨S1x512x768, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x2048 : Shape := ⟨2, ![4096, 2048]⟩
abbrev S4096x3072 : Shape := ⟨2, ![4096, 3072]⟩
abbrev S_ : Shape := ⟨0, ![]⟩
abbrev S2048x3072 : Shape := ⟨2, ![2048, 3072]⟩
abbrev S3072x2048 : Shape := ⟨2, ![3072, 2048]⟩
abbrev S2048x4x768 : Shape := ⟨3, ![2048, 4, 768]⟩
abbrev S4x2048x768 : Shape := ⟨3, ![4, 2048, 768]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S4096x2048, .f32⟩
  | .hbm, ⟨3, _⟩ => ⟨S_, .f32⟩
  | .hbm, ⟨4, _⟩ => ⟨S2048x3072, .f32⟩
  | .hbm, ⟨5, _⟩ => ⟨S4096x3072, .f32⟩
  | .hbm, ⟨6, _⟩ => ⟨S4096x3072, .f32⟩
  | .hbm, ⟨7, _⟩ => ⟨S3072x2048, .f32⟩
  | .hbm, ⟨8, _⟩ => ⟨S2048x3072, .f32⟩
  | .hbm, ⟨9, _⟩ => ⟨S2048x4x768, .f32⟩
  | .hbm, ⟨10, _⟩ => ⟨S4x2048x768, .f32⟩
  | .hbm, ⟨11, _⟩ => ⟨S4x2048x768, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩
abbrev S1024x2048 : Shape := ⟨2, ![1024, 2048]⟩
abbrev S2048x2048 : Shape := ⟨2, ![2048, 2048]⟩
abbrev S512x2048 : Shape := ⟨2, ![512, 2048]⟩
abbrev S1024x512 : Shape := ⟨2, ![1024, 512]⟩

abbrev nBuf : Space → Nat
  | .hbm => 9
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .bf16⟩
  | .hbm, ⟨8, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S8192x2048, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x2048, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel7.lean ====
abbrev S4096x2048 : Shape := ⟨2, ![4096, 2048]⟩
abbrev S4x2048x2048 : Shape := ⟨3, ![4, 2048, 2048]⟩
abbrev S4096x8192 : Shape := ⟨2, ![4096, 8192]⟩
abbrev S1024x2048 : Shape := ⟨2, ![1024, 2048]⟩
abbrev S1x2048x2048 : Shape := ⟨3, ![1, 2048, 2048]⟩
abbrev S1x2048x512 : Shape := ⟨3, ![1, 2048, 512]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1024x2048, .bf16⟩
  | .local _ .vmem, ⟨5, _⟩ => ⟨S1024x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x2048 : Shape := ⟨2, ![4096, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x2048, .f32⟩
  | .hbm, ⟨3, _⟩ => ⟨S4x2048x2048, .f32⟩
  | .hbm, ⟨4, _⟩ => ⟨S2048x4x2048, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel8.lean ====
abbrev S4096x2048 : Shape := ⟨2, ![4096, 2048]⟩
abbrev S4x2048x768 : Shape := ⟨3, ![4, 2048, 768]⟩
abbrev S4096x3072 : Shape := ⟨2, ![4096, 3072]⟩
abbrev S512x2048 : Shape := ⟨2, ![512, 2048]⟩
abbrev S1x2048x768 : Shape := ⟨3, ![1, 2048, 768]⟩
abbrev S512x768 : Shape := ⟨2, ![512, 768]⟩
abbrev S1x2048x256 : Shape := ⟨3, ![1, 2048, 256]⟩
abbrev S2048x256 : Shape := ⟨2, ![2048, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x768, .bf16⟩
  | .hbm, ⟨2, _⟩ => ⟨S4096x3072, .f32⟩
  | .local _ .vmem, ⟨0, _⟩ => ⟨S512x2048, .bf16⟩
  | .local _ .vmem, ⟨1, _⟩ => ⟨S512x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S512x768, .f32⟩
  | .local _ .vmem, ⟨5, _⟩ => ⟨S512x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x2048 : Shape := ⟨2, ![4096, 2048]⟩
abbrev S4x2048x768 : Shape := ⟨3, ![4, 2048, 768]⟩
abbrev S2048x4x768 : Shape := ⟨3, ![2048, 4, 768]⟩
abbrev S2048x3072 : Shape := ⟨2, ![2048, 3072]⟩
abbrev S4096x3072 : Shape := ⟨2, ![4096, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x768, .bf16⟩
  | .hbm, ⟨2, _⟩ => ⟨S4096x2048, .f32⟩
  | .hbm, ⟨3, _⟩ => ⟨S4x2048x768, .f32⟩
  | .hbm, ⟨4, _⟩ => ⟨S2048x4x768, .f32⟩
  | .hbm, ⟨5, _⟩ => ⟨S2048x3072, .f32⟩
  | .hbm, ⟨6, _⟩ => ⟨S4096x3072, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S256x2048 : Shape := ⟨2, ![256, 2048]⟩
abbrev S512x2048 : Shape := ⟨2, ![512, 2048]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .bf16⟩
  | .local _ .vmem, ⟨4, _⟩ => ⟨S256x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S1x2048 : Shape := ⟨2, ![1, 2048]⟩
abbrev S256x2048 : Shape := ⟨2, ![256, 2048]⟩
abbrev S2048x512 : Shape := ⟨2, ![2048, 512]⟩
abbrev S256x512 : Shape := ⟨2, ![256, 512]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S4096x2048 : Shape := ⟨2, ![4096, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel11.lean ====
abbrev S4096x8192 : Shape := ⟨2, ![4096, 8192]⟩
abbrev S4x2048x2048 : Shape := ⟨3, ![4, 2048, 2048]⟩
abbrev S4096x2048 : Shape := ⟨2, ![4096, 2048]⟩
abbrev S1x2048 : Shape := ⟨2, ![1, 2048]⟩
abbrev S512x2048 : Shape := ⟨2, ![512, 2048]⟩
abbrev S1x2048x2048 : Shape := ⟨3, ![1, 2048, 2048]⟩
abbrev S512x512 : Shape := ⟨2, ![512, 512]⟩
abbrev S1x512x2048 : Shape := ⟨3, ![1, 512, 2048]⟩
abbrev S256x2048 : Shape := ⟨2, ![256, 2048]⟩
abbrev S256x512 : Shape := ⟨2, ![256, 512]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 7
  | .vmem => 13
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x2048, .f32⟩
  | .hbm, ⟨3, _⟩ => ⟨S4096x2048, .bf16⟩
  | .hbm, ⟨4, _⟩ => ⟨S1x2048, .f32⟩
  | .hbm, ⟨5, _⟩ => ⟨S4096x2048, .bf16⟩
  | .hbm, ⟨6, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S512x2048, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v0 : BitVec 1 := Scalar.cmpi .eq arg1 c3_i32
  let v7 : BitVec 32 := Scalar.extui v0
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c0_i32_4 : BitVec 32 := 0#32
  let v10 : BitVec 1 := Scalar.cmpi .eq arg0 c0_i32_4
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference11Ideal.lean ====
abbrev S4096x8192 : Shape := ⟨2, ![4096, 8192]⟩
abbrev S4x2048x2048 : Shape := ⟨3, ![4, 2048, 2048]⟩
abbrev S4096x2048 : Shape := ⟨2, ![4096, 2048]⟩
abbrev S1x2048 : Shape := ⟨2, ![1, 2048]⟩
abbrev S2048x4x2048 : Shape := ⟨3, ![2048, 4, 2048]⟩
abbrev S2048x8192 : Shape := ⟨2, ![2048, 8192]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 61
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x2048, .f32⟩
  | .hbm, ⟨3, _⟩ => ⟨S4096x2048, .bf16⟩
  | .hbm, ⟨4, _⟩ => ⟨S1x2048, .f32⟩
  | .hbm, ⟨5, _⟩ => ⟨S4x2048x2048, .f32⟩
  | .hbm, ⟨6, _⟩ => ⟨S2048x4x2048, .f32⟩
  | .hbm, ⟨7, _⟩ => ⟨S2048x8192, .f32⟩
  | .hbm, ⟨8, _⟩ => ⟨S2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x8192, .f32⟩
  | .hbm, ⟨30, _⟩ => ⟨S4096x2048, .f32⟩
  | .hbm, ⟨31, _⟩ => ⟨S4096x8192, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S2048, .f32⟩
  | .hbm, ⟨41, _⟩ => ⟨S4096x2048, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .bf16⟩
  | .hbm, ⟨60, _⟩ => ⟨S1x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Kernel12.lean ====
abbrev S4096x3072 : Shape := ⟨2, ![4096, 3072]⟩
abbrev S4x2048x768 : Shape := ⟨3, ![4, 2048, 768]⟩
abbrev S4096x2048 : Shape := ⟨2, ![4096, 2048]⟩
abbrev S1x2048 : Shape := ⟨2, ![1, 2048]⟩
abbrev S512x768 : Shape := ⟨2, ![512, 768]⟩
abbrev S1x2048x768 : Shape := ⟨3, ![1, 2048, 768]⟩
abbrev S512x2048 : Shape := ⟨2, ![512, 2048]⟩
abbrev S512x512 : Shape := ⟨2, ![512, 512]⟩
abbrev S1x512x768 : Shape := ⟨3, ![1, 512, 768]⟩
abbrev S256x768 : Shape := ⟨2, ![256, 768]⟩
abbrev S256x512 : Shape := ⟨2, ![256, 512]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 7
  | .vmem => 13
  | .smem => 0
  | _ => 0

abbrev bufTy : (tb : Table) → Fin (tcTables nBuf tb) → BufTy
  | .hbm, ⟨0, _⟩ => ⟨S4096x3072, .bf16⟩
  | .hbm, ⟨1, _⟩ => ⟨S4x2048x768, .bf16⟩
  | .hbm, ⟨2, _⟩ => ⟨S4096x2048, .f32⟩
  | .hbm, ⟨3, _⟩ => ⟨S4096x2048, .bf16⟩
  | .hbm, ⟨4, _⟩ => ⟨S1x2048, .f32⟩
  | .hbm, ⟨5, _⟩ => ⟨S4096x2048, .f32⟩
  | .hbm, ⟨6, _⟩ => ⟨S1x2048, .f32⟩
  | .local _ .vmem, ⟨0, _⟩ => ⟨S512x768, .bf16⟩
  | .local _ .vmem, ⟨1, _⟩ => ⟨S512x768, .bf16⟩
  | .local _ .vmem, ⟨2, _⟩ => ⟨S1x2048x768, .bf16⟩
  | .local _ .vmem, ⟨3, _⟩ => ⟨S1x2048x768, .bf16⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S512x2048, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v0 : BitVec 1 := Scalar.cmpi .eq arg1 c3_i32
  let v7 : BitVec 32 := Scalar.extui v0
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c0_i32_4 : BitVec 32 := 0#32
  let v10 : BitVec 1 := Scalar.cmpi .eq arg0 c0_i32_4
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference12Ideal.lean ====
abbrev S4096x3072 : Shape := ⟨2, ![4096, 3072]⟩
abbrev S4x2048x768 : Shape := ⟨3, ![4, 2048, 768]⟩
abbrev S4096x2048 : Shape := ⟨2, ![4096, 2048]⟩
abbrev S1x2048 : Shape := ⟨2, ![1, 2048]⟩
abbrev S2048x4x768 : Shape := ⟨3, ![2048, 4, 768]⟩
abbrev S2048x3072 : Shape := ⟨2, ![2048, 3072]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 60
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4x2048x768, .bf16⟩
  | .hbm, ⟨2, _⟩ => ⟨S4096x2048, .f32⟩
  | .hbm, ⟨3, _⟩ => ⟨S4096x2048, .bf16⟩
  | .hbm, ⟨4, _⟩ => ⟨S1x2048, .f32⟩
  | .hbm, ⟨5, _⟩ => ⟨S4x2048x768, .f32⟩
  | .hbm, ⟨6, _⟩ => ⟨S2048x4x768, .f32⟩
  | .hbm, ⟨7, _⟩ => ⟨S2048x3072, .f32⟩
  | .hbm, ⟨8, _⟩ => ⟨S2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x3072, .f32⟩
  | .hbm, ⟨30, _⟩ => ⟨S4096x2048, .f32⟩
  | .hbm, ⟨31, _⟩ => ⟨S4096x3072, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S2048, .f32⟩
  | .hbm, ⟨41, _⟩ => ⟨S4096x2048, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S1x2048, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel13.lean ====
abbrev S4096x8192 : Shape := ⟨2, ![4096, 8192]⟩
abbrev S8192x2048 : Shape := ⟨2, ![8192, 2048]⟩
abbrev S4096x2048 : Shape := ⟨2, ![4096, 2048]⟩
abbrev S1x2048 : Shape := ⟨2, ![1, 2048]⟩
abbrev S512x2048 : Shape := ⟨2, ![512, 2048]⟩
abbrev S2048x2048 : Shape := ⟨2, ![2048, 2048]⟩
abbrev S512x512 : Shape := ⟨2, ![512, 512]⟩
abbrev S2048x512 : Shape := ⟨2, ![2048, 512]⟩
abbrev S256x2048 : Shape := ⟨2, ![256, 2048]⟩
abbrev S256x512 : Shape := ⟨2, ![256, 512]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 8
  | .vmem => 14
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .bf16⟩
  | .hbm, ⟨6, _⟩ => ⟨S1x2048, .f32⟩
  | .hbm, ⟨7, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S1x2048, .f32⟩
  | .local _ .vmem, ⟨13, _⟩ => ⟨S512x2048, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v0 : BitVec 1 := Scalar.cmpi .eq arg1 c3_i32
  let v7 : BitVec 32 := Scalar.extui v0
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c0_i32_4 : BitVec 32 := 0#32
  let v10 : BitVec 1 := Scalar.cmpi .eq arg0 c0_i32_4
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference13Ideal.lean ====
abbrev S4096x8192 : Shape := ⟨2, ![4096, 8192]⟩
abbrev S8192x2048 : Shape := ⟨2, ![8192, 2048]⟩
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 101
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x8192, .f32⟩
  | .hbm, ⟨6, _⟩ => ⟨S8192x2048, .f32⟩
  | .hbm, ⟨7, _⟩ => ⟨S4096x2048, .f32⟩
  | .hbm, ⟨8, _⟩ => ⟨S4096x2048, .f32⟩
  | .hbm, ⟨9, _⟩ => ⟨S2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S4096x2048, .f32⟩
  | .hbm, ⟨58, _⟩ => ⟨S4096x2048, .f32⟩
  | .hbm, ⟨59, _⟩ => ⟨S_, .f32⟩
  | .hbm, ⟨60, _⟩ => ⟨S2048, .f32⟩
  | .hbm, ⟨61, _⟩ => ⟨S4096x2048, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x2048, .f32⟩
  | .hbm, ⟨66, _⟩ => ⟨S4096x2048, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S4096x2048, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S4096x1, .f32⟩
  | .hbm, ⟨89, _⟩ => ⟨S4096x2048, .f32⟩
  | .hbm, ⟨90, _⟩ => ⟨S4096x2048, .f32⟩
  | .hbm, ⟨91, _⟩ => ⟨S1x2048, .f32⟩
  | .hbm, ⟨92, _⟩ => ⟨S4096x2048, .f32⟩
  | .hbm, ⟨93, _⟩ => ⟨S4096x2048, .f32⟩
  | .hbm, ⟨94, _⟩ => ⟨S4096x2048, .f32⟩
  | .hbm, ⟨95, _⟩ => ⟨S4096x2048, .f32⟩
  | .hbm, ⟨96, _⟩ => ⟨S4096x2048, .bf16⟩
  | .hbm, ⟨97, _⟩ => ⟨S1x2048, .f32⟩
  | .hbm, ⟨98, _⟩ => ⟨S_, .f32⟩
  | .hbm, ⟨99, _⟩ => ⟨S2048, .f32⟩
  | .hbm, ⟨100, _⟩ => ⟨S1x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_16 : Ref sig .tc := ⟨.hbm, 79, rfl⟩
abbrev main_v57 : Ref sig .tc := ⟨.hbm, 80, rfl⟩
abbrev main_v58 : Ref sig .tc := ⟨.hbm, 81, rfl⟩
abbrev main_cst_17 : Ref sig .tc := ⟨.hbm, 82, rfl⟩
abbrev main_v59 : Ref sig .tc := ⟨.hbm, 83, rfl⟩
abbrev main_v60 : Ref sig .tc := ⟨.hbm, 84, rfl⟩
abbrev main_cst_18 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_19 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== Kernel14.lean ====
abbrev S4096x3072 : Shape := ⟨2, ![4096, 3072]⟩
abbrev S8x128x128 : Shape := ⟨3, ![8, 128, 128]⟩
abbrev S8x128 : Shape := ⟨2, ![8, 128]⟩
abbrev S1x1024 : Shape := ⟨2, ![1, 1024]⟩
abbrev S4x256x256 : Shape := ⟨3, ![4, 256, 256]⟩
abbrev S_ : Shape := ⟨0, ![]⟩
abbrev S128x128 : Shape := ⟨2, ![128, 128]⟩
abbrev S1x128x128 : Shape := ⟨3, ![1, 128, 128]⟩
abbrev S8x128x1 : Shape := ⟨3, ![8, 128, 1]⟩
abbrev S4096x2048 : Shape := ⟨2, ![4096, 2048]⟩
abbrev S512x1024 : Shape := ⟨2, ![512, 1024]⟩
abbrev S16x1024 : Shape := ⟨2, ![16, 1024]⟩
abbrev S512x2048 : Shape := ⟨2, ![512, 2048]⟩
abbrev S1x128 : Shape := ⟨2, ![1, 128]⟩
abbrev S128 : Shape := ⟨1, ![128]⟩
abbrev S128x1 : Shape := ⟨2, ![128, 1]⟩
abbrev S512x256 : Shape := ⟨2, ![512, 256]⟩
abbrev S16x256 : Shape := ⟨2, ![16, 256]⟩
abbrev S528x256 : Shape := ⟨2, ![528, 256]⟩
abbrev S512x1 : Shape := ⟨2, ![512, 1]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 28
  | .vmem => 15
  | .smem => 0
  | _ => 0

abbrev bufTy : (tb : Table) → Fin (tcTables nBuf tb) → BufTy
  | .hbm, ⟨0, _⟩ => ⟨S4096x3072, .f32⟩
  | .hbm, ⟨1, _⟩ => ⟨S8x128x128, .f32⟩
  | .hbm, ⟨2, _⟩ => ⟨S8x128, .f32⟩
  | .hbm, ⟨3, _⟩ => ⟨S1x1024, .f32⟩
  | .hbm, ⟨4, _⟩ => ⟨S4x256x256, .f32⟩
  | .hbm, ⟨5, _⟩ => ⟨S1x1024, .f32⟩
  | .hbm, ⟨6, _⟩ => ⟨S_, .i1⟩
  | .hbm, ⟨7, _⟩ => ⟨S128x128, .i1⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S_, .i1⟩
  | .hbm, ⟨15, _⟩ => ⟨S128x128, .i1⟩
  | .hbm, ⟨16, _⟩ => ⟨S128x128, .i1⟩
  | .hbm, ⟨17, _⟩ => ⟨S1x128x128, .i1⟩
  | .hbm, ⟨18, _⟩ => ⟨S_, .f32⟩
  | .hbm, ⟨19, _⟩ => ⟨S_, .f32⟩
  | .hbm, ⟨20, _⟩ => ⟨S8x128x128, .i1⟩
  | .hbm, ⟨21, _⟩ => ⟨S8x128x128, .f32⟩
  | .hbm, ⟨22, _⟩ => ⟨S8x128x128, .f32⟩
  | .hbm, ⟨23, _⟩ => ⟨S8x128x128, .bf16⟩
  | .hbm, ⟨24, _⟩ => ⟨S8x128x1, .f32⟩
  | .hbm, ⟨25, _⟩ => ⟨S8x128x128, .f32⟩
  | .hbm, ⟨26, _⟩ => ⟨S4x256x256, .bf16⟩
  | .hbm, ⟨27, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S16x1024, .f32⟩
  | .local _ .vmem, ⟨7, _⟩ => ⟨S16x1024, .f32⟩
  | .local _ .vmem, ⟨8, _⟩ => ⟨S8x128x128, .bf16⟩
  | .local _ .vmem, ⟨9, _⟩ => ⟨S8x128x128, .f32⟩
  | .local _ .vmem, ⟨10, _⟩ => ⟨S1x1024, .f32⟩
  | .local _ .vmem, ⟨11, _⟩ => ⟨S4x256x256, .bf16⟩
  | .local _ .vmem, ⟨12, _⟩ => ⟨S1x1024, .f32⟩
  | .local _ .vmem, ⟨13, _⟩ => ⟨S512x2048, .bf16⟩
  | .local _ .vmem, ⟨14, _⟩ => ⟨S512x2048, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_0 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c128_i32 : BitVec 32 := 128#32
  let v5 : BitVec 32 := Scalar.muli c0_i32 c128_i32
  v5
def k0_off1 (c0_i32 : BitVec 32) : Fin 2 → Nat :=
  let c128_i32 : BitVec 32 := 128#32
  let v5 : BitVec 32 := Scalar.muli c0_i32 c128_i32
  let v6 : BitVec 32 := v5
  let v7 : Index := Scalar.indexCast v6
  let c0_7 : Index := 0#32
  ![v7.toNat, 0]
def k0_off2 (c0_i32 : BitVec 32) : Fin 2 → Nat :=
  let c128_i32 : BitVec 32 := 128#32
  let v5 : BitVec 32 := Scalar.muli c0_i32 c128_i32
  let v6 : BitVec 32 := v5
  let v54 : Index := Scalar.indexCast v6
  let c0_20 : Index := 0#32
  ![v54.toNat, 0]
def k0_mult2 : BitVec 32 :=
  let c1_i32 : BitVec 32 := 1#32
  let c128_i32_21 : BitVec 32 := 128#32
  let v58 : BitVec 32 := Scalar.muli c1_i32 c128_i32_21
  v58
def k0_mult3 : BitVec 32 :=
  let c2_i32 : BitVec 32 := 2#32
  let c128_i32_37 : BitVec 32 := 128#32
  let v111 : BitVec 32 := Scalar.muli c2_i32 c128_i32_37
  v111
def k0_mult4 : BitVec 32 :=
  let c3_i32 : BitVec 32 := 3#32
  let c128_i32_53 : BitVec 32 := 128#32
  let v164 : BitVec 32 := Scalar.muli c3_i32 c128_i32_53
  v164
def k0_mult5 : BitVec 32 :=
  let c0_i32_75 : BitVec 32 := 0#32
  let c128_i32_76 : BitVec 32 := 128#32
  let v222 : BitVec 32 := Scalar.muli c0_i32_75 c128_i32_76
  v222
def k0_off3 (c0_i32_75 : BitVec 32) : Fin 2 → Nat :=
  let c128_i32_76 : BitVec 32 := 128#32
  let v222 : BitVec 32 := Scalar.muli c0_i32_75 c128_i32_76
  let v223 : BitVec 32 := v222
  let v224 : Index := Scalar.indexCast v223
  let c128_77 : Index := 128#32
  ![v224.toNat, 128]
def k0_off4 (c0_i32_75 : BitVec 32) : Fin 2 → Nat :=
  let c128_i32_76 : BitVec 32 := 128#32
  let v222 : BitVec 32 := Scalar.muli c0_i32_75 c128_i32_76
  let v223 : BitVec 32 := v222
  let v271 : Index := Scalar.indexCast v223
  let c128_91 : Index := 128#32
  ![v271.toNat, 128]
def k0_mult6 : BitVec 32 :=
  let c1_i32_92 : BitVec 32 := 1#32
  let c128_i32_93 : BitVec 32 := 128#32
  let v275 : BitVec 32 := Scalar.muli c1_i32_92 c128_i32_93
  v275
def k0_mult7 : BitVec 32 :=
  let c2_i32_109 : BitVec 32 := 2#32
  let c128_i32_110 : BitVec 32 := 128#32
  let v328 : BitVec 32 := Scalar.muli c2_i32_109 c128_i32_110
  v328
def k0_mult8 : BitVec 32 :=
  let c3_i32_126 : BitVec 32 := 3#32
  let c128_i32_127 : BitVec 32 := 128#32
  let v381 : BitVec 32 := Scalar.muli c3_i32_126 c128_i32_127
  v381
def k0_mult9 : BitVec 32 :=
  let c0_i32_150 : BitVec 32 := 0#32
  let c128_i32_151 : BitVec 32 := 128#32
  let v439 : BitVec 32 := Scalar.muli c0_i32_150 c128_i32_151
  v439
def k0_off5 (c0_i32_150 : BitVec 32) : Fin 2 → Nat :=
  let c128_i32_151 : BitVec 32 := 128#32
  let v439 : BitVec 32 := Scalar.muli c0_i32_150 c128_i32_151
  let v440 : BitVec 32 := v439
  let v441 : Index := Scalar.indexCast v440
  let c256_152 : Index := 256#32
  ![v441.toNat, 256]
def k0_off6 (c0_i32_150 : BitVec 32) : Fin 2 → Nat :=
  let c128_i32_151 : BitVec 32 := 128#32
  let v439 : BitVec 32 := Scalar.muli c0_i32_150 c128_i32_151
  let v440 : BitVec 32 := v439
  let v488 : Index := Scalar.indexCast v440
  let c256_166 : Index := 256#32
  ![v488.toNat, 256]
def k0_mult10 : BitVec 32 :=
  let c1_i32_167 : BitVec 32 := 1#32
  let c128_i32_168 : BitVec 32 := 128#32
  let v492 : BitVec 32 := Scalar.muli c1_i32_167 c128_i32_168
  v492
def k0_mult11 : BitVec 32 :=
  let c2_i32_184 : BitVec 32 := 2#32
  let c128_i32_185 : BitVec 32 := 128#32
  let v545 : BitVec 32 := Scalar.muli c2_i32_184 c128_i32_185
  v545
def k0_mult12 : BitVec 32 :=
  let c3_i32_201 : BitVec 32 := 3#32
  let c128_i32_202 : BitVec 32 := 128#32
  let v598 : BitVec 32 := Scalar.muli c3_i32_201 c128_i32_202
  v598
def k0_mult13 : BitVec 32 :=
  let c0_i32_225 : BitVec 32 := 0#32
  let c128_i32_226 : BitVec 32 := 128#32
  let v656 : BitVec 32 := Scalar.muli c0_i32_225 c128_i32_226
  v656
def k0_off7 (c0_i32_225 : BitVec 32) : Fin 2 → Nat :=
  let c128_i32_226 : BitVec 32 := 128#32
  let v656 : BitVec 32 := Scalar.muli c0_i32_225 c128_i32_226
  let v657 : BitVec 32 := v656
  let v658 : Index := Scalar.indexCast v657
  let c384_227 : Index := 384#32
  ![v658.toNat, 384]
def k0_off8 (c0_i32_225 : BitVec 32) : Fin 2 → Nat :=
  let c128_i32_226 : BitVec 32 := 128#32
  let v656 : BitVec 32 := Scalar.muli c0_i32_225 c128_i32_226
  let v657 : BitVec 32 := v656
  let v705 : Index := Scalar.indexCast v657
  let c384_241 : Index := 384#32
  ![v705.toNat, 384]
def k0_mult14 : BitVec 32 :=
  let c1_i32_242 : BitVec 32 := 1#32
  let c128_i32_243 : BitVec 32 := 128#32
  let v709 : BitVec 32 := Scalar.muli c1_i32_242 c128_i32_243
  v709
def k0_mult15 : BitVec 32 :=
  let c2_i32_259 : BitVec 32 := 2#32
  let c128_i32_260 : BitVec 32 := 128#32
  let v762 : BitVec 32 := Scalar.muli c2_i32_259 c128_i32_260
  v762
def k0_mult16 : BitVec 32 :=
  let c3_i32_276 : BitVec 32 := 3#32
  let c128_i32_277 : BitVec 32 := 128#32
  let v815 : BitVec 32 := Scalar.muli c3_i32_276 c128_i32_277
  v815
def k0_mult17 : BitVec 32 :=
  let c0_i32_300 : BitVec 32 := 0#32
  let c128_i32_301 : BitVec 32 := 128#32
  let v873 : BitVec 32 := Scalar.muli c0_i32_300 c128_i32_301
  v873
def k0_off9 (c0_i32_300 : BitVec 32) : Fin 2 → Nat :=
  let c128_i32_301 : BitVec 32 := 128#32
  let v873 : BitVec 32 := Scalar.muli c0_i32_300 c128_i32_301
  let v874 : BitVec 32 := v873
  let v875 : Index := Scalar.indexCast v874
  let c512_302 : Index := 512#32
  ![v875.toNat, 512]
def k0_off10 (c0_i32_300 : BitVec 32) : Fin 2 → Nat :=
  let c128_i32_301 : BitVec 32 := 128#32
  let v873 : BitVec 32 := Scalar.muli c0_i32_300 c128_i32_301
  let v874 : BitVec 32 := v873
  let v922 : Index := Scalar.indexCast v874
  let c512_316 : Index := 512#32
  ![v922.toNat, 512]
def k0_mult18 : BitVec 32 :=
  let c1_i32_317 : BitVec 32 := 1#32
  let c128_i32_318 : BitVec 32 := 128#32
  let v926 : BitVec 32 := Scalar.muli c1_i32_317 c128_i32_318
  v926
def k0_mult19 : BitVec 32 :=
  let c2_i32_334 : BitVec 32 := 2#32
  let c128_i32_335 : BitVec 32 := 128#32
  let v979 : BitVec 32 := Scalar.muli c2_i32_334 c128_i32_335
  v979
def k0_mult20 : BitVec 32 :=
  let c3_i32_351 : BitVec 32 := 3#32
  let c128_i32_352 : BitVec 32 := 128#32
  let v1032 : BitVec 32 := Scalar.muli c3_i32_351 c128_i32_352
  v1032
def k0_mult21 : BitVec 32 :=
  let c0_i32_375 : BitVec 32 := 0#32
  let c128_i32_376 : BitVec 32 := 128#32
  let v1090 : BitVec 32 := Scalar.muli c0_i32_375 c128_i32_376
  v1090
def k0_off11 (c0_i32_375 : BitVec 32) : Fin 2 → Nat :=
  let c128_i32_376 : BitVec 32 := 128#32
  let v1090 : BitVec 32 := Scalar.muli c0_i32_375 c128_i32_376
  let v1091 : BitVec 32 := v1090
  let v1092 : Index := Scalar.indexCast v1091
  let c640_377 : Index := 640#32
  ![v1092.toNat, 640]
def k0_off12 (c0_i32_375 : BitVec 32) : Fin 2 → Nat :=
  let c128_i32_376 : BitVec 32 := 128#32
  let v1090 : BitVec 32 := Scalar.muli c0_i32_375 c128_i32_376
  let v1091 : BitVec 32 := v1090
  let v1139 : Index := Scalar.indexCast v1091
  let c640_391 : Index := 640#32
  ![v1139.toNat, 640]
def k0_mult22 : BitVec 32 :=
  let c1_i32_392 : BitVec 32 := 1#32
  let c128_i32_393 : BitVec 32 := 128#32
  let v1143 : BitVec 32 := Scalar.muli c1_i32_392 c128_i32_393
  v1143
def k0_mult23 : BitVec 32 :=
  let c2_i32_409 : BitVec 32 := 2#32
  let c128_i32_410 : BitVec 32 := 128#32
  let v1196 : BitVec 32 := Scalar.muli c2_i32_409 c128_i32_410
  v1196
def k0_mult24 : BitVec 32 :=
  let c3_i32_426 : BitVec 32 := 3#32
  let c128_i32_427 : BitVec 32 := 128#32
  let v1249 : BitVec 32 := Scalar.muli c3_i32_426 c128_i32_427
  v1249
def k0_mult25 : BitVec 32 :=
  let c0_i32_450 : BitVec 32 := 0#32
  let c128_i32_451 : BitVec 32 := 128#32
  let v1307 : BitVec 32 := Scalar.muli c0_i32_450 c128_i32_451
  v1307
def k0_off13 (c0_i32_450 : BitVec 32) : Fin 2 → Nat :=
  let c128_i32_451 : BitVec 32 := 128#32
  let v1307 : BitVec 32 := Scalar.muli c0_i32_450 c128_i32_451
  let v1308 : BitVec 32 := v1307
  let v1309 : Index := Scalar.indexCast v1308
  let c768_452 : Index := 768#32
  ![v1309.toNat, 768]
def k0_off14 (c0_i32_450 : BitVec 32) : Fin 2 → Nat :=
  let c128_i32_451 : BitVec 32 := 128#32
  let v1307 : BitVec 32 := Scalar.muli c0_i32_450 c128_i32_451
  let v1308 : BitVec 32 := v1307
  let v1356 : Index := Scalar.indexCast v1308
  let c768_466 : Index := 768#32
  ![v1356.toNat, 768]
def k0_mult26 : BitVec 32 :=
  let c1_i32_467 : BitVec 32 := 1#32
  let c128_i32_468 : BitVec 32 := 128#32
  let v1360 : BitVec 32 := Scalar.muli c1_i32_467 c128_i32_468
  v1360
def k0_mult27 : BitVec 32 :=
  let c2_i32_484 : BitVec 32 := 2#32
  let c128_i32_485 : BitVec 32 := 128#32
  let v1413 : BitVec 32 := Scalar.muli c2_i32_484 c128_i32_485
  v1413
def k0_mult28 : BitVec 32 :=
  let c3_i32_501 : BitVec 32 := 3#32
  let c128_i32_502 : BitVec 32 := 128#32
  let v1466 : BitVec 32 := Scalar.muli c3_i32_501 c128_i32_502
  v1466
def k0_mult29 : BitVec 32 :=
  let c0_i32_525 : BitVec 32 := 0#32
  let c128_i32_526 : BitVec 32 := 128#32
  let v1524 : BitVec 32 := Scalar.muli c0_i32_525 c128_i32_526
  v1524
def k0_off15 (c0_i32_525 : BitVec 32) : Fin 2 → Nat :=
  let c128_i32_526 : BitVec 32 := 128#32
  let v1524 : BitVec 32 := Scalar.muli c0_i32_525 c128_i32_526
  let v1525 : BitVec 32 := v1524
  let v1526 : Index := Scalar.indexCast v1525
  let c896_527 : Index := 896#32
  ![v1526.toNat, 896]
def k0_off16 (c0_i32_525 : BitVec 32) : Fin 2 → Nat :=
  let c128_i32_526 : BitVec 32 := 128#32
  let v1524 : BitVec 32 := Scalar.muli c0_i32_525 c128_i32_526
  let v1525 : BitVec 32 := v1524
  let v1573 : Index := Scalar.indexCast v1525
  let c896_541 : Index := 896#32
  ![v1573.toNat, 896]
def k0_mult30 : BitVec 32 :=
  let c1_i32_542 : BitVec 32 := 1#32
  let c128_i32_543 : BitVec 32 := 128#32
  let v1577 : BitVec 32 := Scalar.muli c1_i32_542 c128_i32_543
  v1577
def k0_mult31 : BitVec 32 :=
  let c2_i32_559 : BitVec 32 := 2#32
  let c128_i32_560 : BitVec 32 := 128#32
  let v1630 : BitVec 32 := Scalar.muli c2_i32_559 c128_i32_560
  v1630
def k0_mult32 : BitVec 32 :=
  let c3_i32_576 : BitVec 32 := 3#32
  let c128_i32_577 : BitVec 32 := 128#32
  let v1683 : BitVec 32 := Scalar.muli c3_i32_576 c128_i32_577
  v1683
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel14Ideal.lean ====
variable {F : FTy → Type} [FloatOps F] [Named F]
def κ : String → Option EReal := fun
  | "gelu_c" => some ((8943 / 200000 : ℝ) : EReal)
  | _ => none
-- ==== Reference14Ideal.lean ====
abbrev S4096x3072 : Shape := ⟨2, ![4096, 3072]⟩
abbrev S8x128x128 : Shape := ⟨3, ![8, 128, 128]⟩
abbrev S8x128 : Shape := ⟨2, ![8, 128]⟩
abbrev S1x1024 : Shape := ⟨2, ![1, 1024]⟩
abbrev S4x256x256 : Shape := ⟨3, ![4, 256, 256]⟩
abbrev S4096x1024 : Shape := ⟨2, ![4096, 1024]⟩
abbrev S_ : Shape := ⟨0, ![]⟩
abbrev S1024 : Shape := ⟨1, ![1024]⟩
abbrev S4096x8x128 : Shape := ⟨3, ![4096, 8, 128]⟩
abbrev S4096x8 : Shape := ⟨2, ![4096, 8]⟩
abbrev S4096x8x1 : Shape := ⟨3, ![4096, 8, 1]⟩
abbrev S1x8x128 : Shape := ⟨3, ![1, 8, 128]⟩
abbrev S32x128x8x128 : Shape := ⟨4, ![32, 128, 8, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S4096x4x256 : Shape := ⟨3, ![4096, 4, 256]⟩
abbrev S1x4x256 : Shape := ⟨3, ![1, 4, 256]⟩
abbrev S4097x4x256 : Shape := ⟨3, ![4097, 4, 256]⟩
abbrev S4096 : Shape := ⟨1, ![4096]⟩
abbrev S4097x1x256 : Shape := ⟨3, ![4097, 1, 256]⟩
abbrev S4097x256 : Shape := ⟨2, ![4097, 256]⟩
abbrev S1x256 : Shape := ⟨2, ![1, 256]⟩
abbrev S4095x256 : Shape := ⟨2, ![4095, 256]⟩
abbrev S4096x256 : Shape := ⟨2, ![4096, 256]⟩
abbrev S4096x1 : Shape := ⟨2, ![4096, 1]⟩
abbrev S4096x1x256 : Shape := ⟨3, ![4096, 1, 256]⟩
abbrev S3x256 : Shape := ⟨2, ![3, 256]⟩
abbrev S4093x256 : Shape := ⟨2, ![4093, 256]⟩
abbrev S7x256 : Shape := ⟨2, ![7, 256]⟩
abbrev S4089x256 : Shape := ⟨2, ![4089, 256]⟩
abbrev S15x256 : Shape := ⟨2, ![15, 256]⟩
abbrev S4081x256 : Shape := ⟨2, ![4081, 256]⟩
abbrev S4x256x4096 : Shape := ⟨3, ![4, 256, 4096]⟩
abbrev S4096x2048 : Shape := ⟨2, ![4096, 2048]⟩

abbrev nBuf : Space → Nat
  | .hbm => 200
  | .vmem => 0
  | .smem => 0
  | _ => 0

abbrev hbmTy0_0 (i : Nat) : BufTy := match i % 128 with
  | 0 => ⟨S4096x3072, .f32⟩
  | 1 => ⟨S8x128x128, .f32⟩
  | 2 => ⟨S8x128, .f32⟩
  | 3 => ⟨S1x1024, .f32⟩
  | 4 => ⟨S4x256x256, .f32⟩
  | 5 => ⟨S1x1024, .f32⟩
  | 6 => ⟨S4096x1024, .f32⟩
  | 7 => ⟨S4096x1024, .f32⟩
  | 8 => ⟨S4096x1024, .f32⟩
  | 9 => ⟨S_, .f32⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S4096x1024, .f32⟩
  | 16 => ⟨S_, .f32⟩
  | 17 => ⟨S4096x1024, .f32⟩
  | 18 => ⟨S4096x1024, .f32⟩
  | 19 => ⟨S4096x1024, .f32⟩
  | 20 => ⟨S_, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S4096x1024, .f32⟩
  | 37 => ⟨S_, .f32⟩
  | 38 => ⟨S4096x1024, .f32⟩
  | 39 => ⟨S4096x1024, .f32⟩
  | 40 => ⟨S4096x1024, .f32⟩
  | 41 => ⟨S_, .f32⟩
  | 42 => ⟨S4096x1024, .f32⟩
  | 43 => ⟨S4096x1024, .f32⟩
  | 44 => ⟨S_, .f32⟩
  | 45 => ⟨S4096x1024, .f32⟩
  | 46 => ⟨S4096x1024, .f32⟩
  | 47 => ⟨S4096x1024, .f32⟩
  | 48 => ⟨S4096x1024, .f32⟩
  | 49 => ⟨S1024, .f32⟩
  | 50 => ⟨S4096x8x128, .f32⟩
  | 51 => ⟨S8x128, .f32⟩
  | 52 => ⟨S4096x8x128, .f32⟩
  | 53 => ⟨S_, .f32⟩
  | 54 => ⟨S4096x8, .f32⟩
  | 55 => ⟨S4096x8x1, .f32⟩
  | 56 => ⟨S_, .f32⟩
  | 57 => ⟨S4096x8x1, .f32⟩
  | 58 => ⟨S4096x8x1, .f32⟩
  | 59 => ⟨S_, .f32⟩
  | 60 => ⟨S4096x8x1, .f32⟩
  | 61 => ⟨S4096x8x1, .f32⟩
  | 62 => ⟨S4096x8x1, .f32⟩
  | 63 => ⟨S4096x8x128, .f32⟩
  | 64 => ⟨S4096x8x128, .f32⟩
  | 65 => ⟨S1x8x128, .f32⟩
  | 66 => ⟨S4096x8x128, .f32⟩
  | 67 => ⟨S4096x8x128, .f32⟩
  | 68 => ⟨S32x128x8x128, .f32⟩
  | 69 => ⟨S_, .i1⟩
  | 70 => ⟨S128x128, .i1⟩
  | 71 => ⟨S128x128, .i32⟩
  | 72 => ⟨S_, .i32⟩
  | 73 => ⟨S128x128, .i32⟩
  | 74 => ⟨S128x128, .i32⟩
  | 75 => ⟨S128x128, .i32⟩
  | 76 => ⟨S128x128, .i1⟩
  | 77 => ⟨S_, .i1⟩
  | 78 => ⟨S128x128, .i1⟩
  | 79 => ⟨S128x128, .i1⟩
  | 80 => ⟨S1x128x128, .i1⟩
  | 81 => ⟨S_, .f32⟩
  | 82 => ⟨S8x128x128, .f32⟩
  | 83 => ⟨S8x128x128, .i1⟩
  | 84 => ⟨S8x128x128, .f32⟩
  | 85 => ⟨S8x32x128x128, .f32⟩
  | 86 => ⟨S32x128x8x128, .f32⟩
  | 87 => ⟨S128x8, .f32⟩
  | 88 => ⟨S1x128x8x1, .f32⟩
  | 89 => ⟨S32x128x8x128, .f32⟩
  | 90 => ⟨S32x128x8x128, .f32⟩
  | 91 => ⟨S4096x1024, .f32⟩
  | 92 => ⟨S4096x1024, .f32⟩
  | 93 => ⟨S1024, .f32⟩
  | 94 => ⟨S4096x4x256, .f32⟩
  | 95 => ⟨S_, .f32⟩
  | 96 => ⟨S_, .f32⟩
  | 97 => ⟨S4096x4x256, .f32⟩
  | 98 => ⟨S1x4x256, .f32⟩
  | 99 => ⟨S_, .f32⟩
  | 100 => ⟨S1x4x256, .f32⟩
  | 101 => ⟨S4097x4x256, .f32⟩
  | 102 => ⟨S4096, .i32⟩
  | 103 => ⟨S4097x1x256, .f32⟩
  | 104 => ⟨S4097x256, .f32⟩
  | 105 => ⟨S_, .f32⟩
  | 106 => ⟨S1x256, .f32⟩
  | 107 => ⟨S4095x256, .f32⟩
  | 108 => ⟨S4096x256, .f32⟩
  | 109 => ⟨S_, .i32⟩
  | 110 => ⟨S4096, .i32⟩
  | 111 => ⟨S4096, .i32⟩
  | 112 => ⟨S_, .i32⟩
  | 113 => ⟨S4096, .i32⟩
  | 114 => ⟨S4096, .i32⟩
  | 115 => ⟨S4096, .f32⟩
  | 116 => ⟨S4096x1, .f32⟩
  | 117 => ⟨S4096x256, .f32⟩
  | 118 => ⟨S4096x256, .f32⟩
  | 119 => ⟨S4096x256, .f32⟩
  | 120 => ⟨S4096x256, .f32⟩
  | 121 => ⟨S4096x1x256, .f32⟩
  | 122 => ⟨S4096x256, .f32⟩
  | 123 => ⟨S4096x256, .f32⟩
  | 124 => ⟨S4097x1x256, .f32⟩
  | 125 => ⟨S4097x256, .f32⟩
  | 126 => ⟨S_, .f32⟩
  | 127 => ⟨S3x256, .f32⟩
  | _ => ⟨S4096x3072, .f32⟩

abbrev hbmTy0_1 (i : Nat) : BufTy := match i % 128 with
  | 0 => ⟨S4093x256, .f32⟩
  | 1 => ⟨S4096x256, .f32⟩
  | 2 => ⟨S_, .i32⟩
  | 3 => ⟨S4096, .i32⟩
  | 4 => ⟨S4096, .i32⟩
  | 5 => ⟨S_, .i32⟩
  | 6 => ⟨S4096, .i32⟩
  | 7 => ⟨S4096, .i32⟩
  | 8 => ⟨S4096, .f32⟩
  | 9 => ⟨S4096x1, .f32⟩
  | 10 => ⟨S4096x256, .f32⟩
  | 11 => ⟨S4096x256, .f32⟩
  | 12 => ⟨S4096x256, .f32⟩
  | 13 => ⟨S4096x256, .f32⟩
  | 14 => ⟨S4096x1x256, .f32⟩
  | 15 => ⟨S4096x256, .f32⟩
  | 16 => ⟨S4096x256, .f32⟩
  | 17 => ⟨S4097x1x256, .f32⟩
  | 18 => ⟨S4097x256, .f32⟩
  | 19 => ⟨S_, .f32⟩
  | 20 => ⟨S7x256, .f32⟩
  | 21 => ⟨S4089x256, .f32⟩
  | 22 => ⟨S4096x256, .f32⟩
  | 23 => ⟨S_, .i32⟩
  | 24 => ⟨S4096, .i32⟩
  | 25 => ⟨S4096, .i32⟩
  | 26 => ⟨S_, .i32⟩
  | 27 => ⟨S4096, .i32⟩
  | 28 => ⟨S4096, .i32⟩
  | 29 => ⟨S4096, .f32⟩
  | 30 => ⟨S4096x1, .f32⟩
  | 31 => ⟨S4096x256, .f32⟩
  | 32 => ⟨S4096x256, .f32⟩
  | 33 => ⟨S4096x256, .f32⟩
  | 34 => ⟨S4096x256, .f32⟩
  | 35 => ⟨S4096x1x256, .f32⟩
  | 36 => ⟨S4096x256, .f32⟩
  | 37 => ⟨S4096x256, .f32⟩
  | 38 => ⟨S4097x1x256, .f32⟩
  | 39 => ⟨S4097x256, .f32⟩
  | 40 => ⟨S_, .f32⟩
  | 41 => ⟨S15x256, .f32⟩
  | 42 => ⟨S4081x256, .f32⟩
  | 43 => ⟨S4096x256, .f32⟩
  | 44 => ⟨S_, .i32⟩
  | 45 => ⟨S4096, .i32⟩
  | 46 => ⟨S4096, .i32⟩
  | 47 => ⟨S_, .i32⟩
  | 48 => ⟨S4096, .i32⟩
  | 49 => ⟨S4096, .i32⟩
  | 50 => ⟨S4096, .f32⟩
  | 51 => ⟨S4096x1, .f32⟩
  | 52 => ⟨S4096x256, .f32⟩
  | 53 => ⟨S4096x256, .f32⟩
  | 54 => ⟨S4096x256, .f32⟩
  | 55 => ⟨S4096x256, .f32⟩
  | 56 => ⟨S4096x1x256, .f32⟩
  | 57 => ⟨S4096x256, .f32⟩
  | 58 => ⟨S4096x256, .f32⟩
  | 59 => ⟨S4096x1x256, .f32⟩
  | 60 => ⟨S4096x1x256, .f32⟩
  | 61 => ⟨S4096x1x256, .f32⟩
  | 62 => ⟨S4096x1x256, .f32⟩
  | 63 => ⟨S4096x4x256, .f32⟩
  | 64 => ⟨S4x256x4096, .f32⟩
  | 65 => ⟨S4096x4x256, .f32⟩
  | 66 => ⟨S4096x1024, .f32⟩
  | 67 => ⟨S1x1024, .f32⟩
  | 68 => ⟨S4096x1024, .f32⟩
  | 69 => ⟨S4096x1024, .f32⟩
  | 70 => ⟨S4096x2048, .f32⟩
  | 71 => ⟨S4096x2048, .bf16⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c : Ref sig .tc := ⟨.hbm, 69, rfl⟩
abbrev main_v50 : Ref sig .tc := ⟨.hbm, 70, rfl⟩
abbrev main_call0_v0 : Ref sig .tc := ⟨.hbm, 71, rfl⟩
abbrev main_call0_c : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_c_0 : Ref sig .tc := ⟨.hbm, 77, rfl⟩
abbrev main_call0_v5 : Ref sig .tc := ⟨.hbm, 78, rfl⟩
abbrev main_v51 : Ref sig .tc := ⟨.hbm, 79, rfl⟩
abbrev main_v52 : Ref sig .tc := ⟨.hbm, 80, rfl⟩
abbrev main_cst_12 : Ref sig .tc := ⟨.hbm, 81, rfl⟩
abbrev main_v53 : Ref sig .tc := ⟨.hbm, 82, rfl⟩
abbrev main_call1_v0 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_call2_call0_cst : Ref sig .tc := ⟨.hbm, 95, rfl⟩
abbrev main_call2_call0_v0 : Ref sig .tc := ⟨.hbm, 96, rfl⟩
abbrev main_v65 : Ref sig .tc := ⟨.hbm, 97, rfl⟩
abbrev main_v66 : Ref sig .tc := ⟨.hbm, 98, rfl⟩
abbrev main_cst_13 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_14 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_15 : Ref sig .tc := ⟨.hbm, 109, rfl⟩
abbrev main_v75 : Ref sig .tc := ⟨.hbm, 110, rfl⟩
abbrev main_v76 : Ref sig .tc := ⟨.hbm, 111, rfl⟩
abbrev main_c_16 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_17 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_c_18 : Ref sig .tc := ⟨.hbm, 130, rfl⟩
abbrev main_v93 : Ref sig .tc := ⟨.hbm, 131, rfl⟩
abbrev main_v94 : Ref sig .tc := ⟨.hbm, 132, rfl⟩
abbrev main_c_19 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_20 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_c_21 : Ref sig .tc := ⟨.hbm, 151, rfl⟩
abbrev main_v111 : Ref sig .tc := ⟨.hbm, 152, rfl⟩
abbrev main_v112 : Ref sig .tc := ⟨.hbm, 153, rfl⟩
abbrev main_c_22 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_23 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_c_24 : Ref sig .tc := ⟨.hbm, 172, rfl⟩
abbrev main_v129 : Ref sig .tc := ⟨.hbm, 173, rfl⟩
abbrev main_v130 : Ref sig .tc := ⟨.hbm, 174, rfl⟩
abbrev main_c_25 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩

abbrev nD : Nat := 1
abbrev τ : Topo := Topo.v7x

variable {F : FTy → Type} [FloatOps F]
-- ==== Kernel15.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.Consts.lean ====
/- The float constants the two programs spell, as the real numbers they denote over the extended reals. One module states
   them, so that no other unfolds the reading of a float word. -/
module

public import Idealize.ShloMosaic.PureOps.Ideal

@[expose] public section

noncomputable section

namespace Cert.Proof

open Idealize.ShloMosaic

/-- The number under the square root of the normalisation, added to the mean square. -/
def epsR : ℝ := 8796093 / 8796093022208
/-- The float nearest to `√(2/π)`, which gelu multiplies the argument of its tanh by. -/
def kR : ℝ := 6693141 / 8388608

theorem word_zero : Ideal.ofBits .f32 0x00000000#32 = ((0 : ℝ) : EReal) := by
  simp [Ideal.ofBits, Ideal.ieee]
theorem word_one : Ideal.ofBits .f32 0x3F800000#32 = ((1 : ℝ) : EReal) := by
  simp [Ideal.ofBits, Ideal.ieee, -EReal.coe_mul]; norm_num
theorem word_three : Ideal.ofBits .f32 0x40400000#32 = ((3 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num
theorem word_128 : Ideal.ofBits .f32 0x43000000#32 = ((128 : ℝ) : EReal) := by
  simp [Ideal.ofBits, Ideal.ieee, -EReal.coe_mul]; norm_num
theorem word_44715 : Ideal.ofBits .f32 0x472EAB00#32 = ((44715 : ℝ) : EReal) := by
  simp [Ideal.ofBits, Ideal.ieee, -EReal.coe_mul]; norm_num
theorem word_million : Ideal.ofBits .f32 0x49742400#32 = ((1000000 : ℝ) : EReal) := by
  simp [Ideal.ofBits, Ideal.ieee, -EReal.coe_mul]; norm_num
theorem word_eps : Ideal.ofBits .f32 0x358637BD#32 = ((epsR : ℝ) : EReal) := by
  simp [Ideal.ofBits, Ideal.ieee, epsR, -EReal.coe_mul]; norm_num
theorem word_k : Ideal.ofBits .f32 0x3F4C422A#32 = ((kR : ℝ) : EReal) := by
  simp [Ideal.ofBits, Ideal.ieee, kR, -EReal.coe_mul]; norm_num
/-- The least float bound of the precondition is infinity. -/
theorem word_inf : Ideal.ofBits .f32 0x7F800000#32 = (⊤ : EReal) := by
  simp [Ideal.ofBits, Ideal.ieee]

theorem epsR_pos : 0 < epsR := by unfold epsR; norm_num

end Cert.Proof

end
-- ==== Proof.Model.lean ====
/- The seven arguments as arrays of real numbers, and every result of the step's backward pass of the mixer as a formula in
   them. Both programs are read as these formulas: the reference in the modules `Ref…`, the kernel in the modules `Ker…`.
   A row is a number below 4096, a column a number below 1024; head `h` owns the columns `128 h … 128 h + 127` of the
   gating half, group `g` the columns `256 g … 256 g + 255` of the pooling half. -/
module

public import proofs.«01_k».proof.Proof.Consts

@[expose] public section

noncomputable section

namespace Cert.Proof

open scoped BigOperators

/-- The arguments: the projection, the cotangent, the mixing matrices, their biases, the normalisation's scale, the pooling
    half's matrices and its scale. -/
structure Args where
  p : ℕ → ℕ → ℝ
  c : ℕ → ℕ → ℝ
  w : ℕ → ℕ → ℕ → ℝ
  b : ℕ → ℕ → ℝ
  g : ℕ → ℝ
  wp : ℕ → ℕ → ℕ → ℝ
  sc : ℕ → ℝ

/-- The tanh of gelu. -/
def th (x : ℝ) : ℝ := Real.tanh (kR * (x + 8943 / 200000 * x * (x * x)))
/-- gelu, by its tanh. -/
def gel (x : ℝ) : ℝ := 1 / 2 * x * (1 + th x)
/-- The derivative of gelu. -/
def dgel (x : ℝ) : ℝ := 1 / 2 * (1 + th x) + 1 / 2 * x * (1 - th x * th x) * (kR * (1 + 26829 / 200000 * (x * x)))

namespace Args

variable (X : Args)

/-! ### The gating half -/

def U (s j : ℕ) : ℝ := gel (X.p s j)
def V (s j : ℕ) : ℝ := gel (X.p s (1024 + j))
/-- The mean square of `V` over one head of one row, and the small number added to it. -/
def MS (s h : ℕ) : ℝ := (∑ d : Fin 128, X.V s (h * 128 + d) * X.V s (h * 128 + d)) / 128 + epsR
/-- The reciprocal of its root. -/
def R (s h : ℕ) : ℝ := (√(X.MS s h))⁻¹
def VN (s j : ℕ) : ℝ := X.V s j * X.R s (j / 128)
def VH (s j : ℕ) : ℝ := X.VN s j * X.g j
/-- The mixing matrices, masked: a row mixes the rows of its chunk up to itself. -/
def W (h t k : ℕ) : ℝ := if k ≤ t then X.w h t k else 0
/-- The mixed rows with their bias: what multiplies `U`. -/
def MX (s j : ℕ) : ℝ :=
  (∑ k : Fin 128, X.W (j / 128) (s % 128) k * X.VH (s / 128 * 128 + k) j) + X.b (j / 128) (s % 128)
def DMX (s j : ℕ) : ℝ := X.c s j * X.U s j
def DVH (s j : ℕ) : ℝ := ∑ t : Fin 128, X.W (j / 128) t (s % 128) * X.DMX (s / 128 * 128 + t) j
def DVN (s j : ℕ) : ℝ := X.DVH s j * X.g j
def DV (s j : ℕ) : ℝ :=
  X.R s (j / 128) * (X.DVN s j
    - X.VN s j * ((∑ d : Fin 128, X.DVN s (j / 128 * 128 + d) * X.VN s (j / 128 * 128 + d)) / 128))
/-- The gradient of the mixing matrices. -/
def dws (h r k : ℕ) : ℝ :=
  if k ≤ r then ∑ n : Fin 32, ∑ d : Fin 128, X.DMX (n * 128 + r) (h * 128 + d) * X.VH (n * 128 + k) (h * 128 + d) else 0
/-- The gradient of their biases. -/
def dbs (h r : ℕ) : ℝ := ∑ n : Fin 32, ∑ d : Fin 128, X.DMX (n * 128 + r) (h * 128 + d)
/-- The gradient of the normalisation's scale. -/
def dgv (j : ℕ) : ℝ := ∑ s : Fin 4096, X.DVH s j * X.VN s j

/-! ### The pooling half -/

def Z (s j : ℕ) : ℝ := X.p s (2048 + j)
def DB (s j : ℕ) : ℝ := X.c s (1024 + j)
/-- The window of group `g`. -/
def _root_.Cert.Proof.win (g : ℕ) : ℕ := 2 ^ (g + 1)
/-- The number of rows the window ending at row `s` holds. -/
def _root_.Cert.Proof.cnt (w s : ℕ) : ℝ := (min (s + 1) w : ℕ)
/-- The mean over the window that ends at a row, less the row. -/
def PO (s j : ℕ) : ℝ :=
  (∑ k ∈ Finset.range (win (j / 256)), if k ≤ s then X.Z (s - k) j else 0) / cnt (win (j / 256)) s - X.Z s j
def YP (s j : ℕ) : ℝ := ∑ k : Fin 256, X.PO s (j / 256 * 256 + k) * X.wp (j / 256) k (j % 256)
/-- The gradient of the pooling half's scale. -/
def dsc (j : ℕ) : ℝ := ∑ s : Fin 4096, X.DB s j * X.YP s j
def DY (s j : ℕ) : ℝ := X.DB s j * X.sc j
/-- The gradient of the pooling half's matrices. -/
def dwp (g k d : ℕ) : ℝ := ∑ s : Fin 4096, X.PO s (g * 256 + k) * X.DY s (g * 256 + d)
def DPO (s j : ℕ) : ℝ := ∑ d : Fin 256, X.DY s (j / 256 * 256 + d) * X.wp (j / 256) (j % 256) d
def DZ (s j : ℕ) : ℝ :=
  (∑ k ∈ Finset.range (win (j / 256)), if s + k < 4096 then X.DPO (s + k) j / cnt (win (j / 256)) (s + k) else 0)
    - X.DPO s j

/-- The gradient of the projection. -/
def dproj (s j : ℕ) : ℝ :=
  if j < 1024 then X.c s j * X.MX s j * dgel (X.p s j)
  else if j < 2048 then X.DV s (j - 1024) * dgel (X.p s j)
  else X.DZ s (j - 2048)

theorem MS_pos (s h : ℕ) : 0 < X.MS s h :=
  add_pos_of_nonneg_of_pos (div_nonneg (Finset.sum_nonneg fun _ _ => mul_self_nonneg _) (by norm_num)) epsR_pos

/-- The square of the reciprocal root is the reciprocal. -/
theorem R_sq (s h : ℕ) : X.R s h * X.R s h = (X.MS s h)⁻¹ := by
  rw [R, ← mul_inv, Real.mul_self_sqrt (X.MS_pos s h).le]

end Args

end Cert.Proof

end
-- ==== Proof.Lift.lean ====
/- Extended-real operations on real numbers are the real operations: the rules by which a program's operations, read at
   one element, become one real formula. -/
module

public import proofs.«01_k».proof.Proof.Consts
public import Idealize.ShloMosaic.PureOps.Ideal

@[expose] public section

noncomputable section

namespace Cert.Proof

open Idealize.ShloMosaic
open scoped BigOperators

theorem lift_add (a b : ℝ) : (a : EReal) + (b : EReal) = ((a + b : ℝ) : EReal) := (EReal.coe_add a b).symm
theorem lift_sub (a b : ℝ) : (a : EReal) - (b : EReal) = ((a - b : ℝ) : EReal) := (EReal.coe_sub a b).symm
theorem lift_mul (a b : ℝ) : (a : EReal) * (b : EReal) = ((a * b : ℝ) : EReal) := (EReal.coe_mul a b).symm
theorem lift_neg (a : ℝ) : -(a : EReal) = ((-a : ℝ) : EReal) := (EReal.coe_neg a).symm
theorem lift_zero : (0 : EReal) = ((0 : ℝ) : EReal) := rfl
theorem lift_one : (1 : EReal) = ((1 : ℝ) : EReal) := rfl
theorem lift_div (a : ℝ) {b : ℝ} (h : b ≠ 0) : Ideal.div (a : EReal) (b : EReal) = ((a / b : ℝ) : EReal) := by
  rw [Ideal.div_coe h, ← EReal.coe_mul]; congr 1; ring
theorem lift_div_128 (a : ℝ) : Ideal.div (a : EReal) ((128 : ℝ) : EReal) = ((a / 128 : ℝ) : EReal) :=
  lift_div a (by norm_num)
theorem lift_div_million (a : ℝ) : Ideal.div (a : EReal) ((1000000 : ℝ) : EReal) = ((a / 1000000 : ℝ) : EReal) :=
  lift_div a (by norm_num)
theorem lift_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]
theorem lift_ite (c : Prop) [Decidable c] (a b : ℝ) :
    (if c then (a : EReal) else (b : EReal)) = ((if c then a else b : ℝ) : EReal) := by split_ifs <;> rfl
theorem lift_rsqrt {a : ℝ} (h : 0 < a) : Ideal.rsqrt (a : EReal) = (((√a)⁻¹ : ℝ) : EReal) := by
  rw [Ideal.rsqrt_coe, if_neg (not_lt.mpr h.le), if_neg h.ne']

end Cert.Proof

end
-- ==== Proof.KerGate.lean ====
/- One chunk of the kernel's gating half: 128 rows of one head. The values the body computes of it, as functions of the
   blocks it loads, and each of them read as a formula of Model.lean. -/
module

public import proofs.«01_k».proof.Proof.Model
public import proofs.«01_k».proof.Proof.Lift
public import proofs.«01_k».proof.Proof.Gen.KernelIdeal
public import Idealize.ShloMosaic.Lib.Pointwise
public import Idealize.ShloMosaic.Lib.WordCmp

@[expose] public section

set_option maxRecDepth 16384

noncomputable section

namespace Cert.Proof.Ker

open Idealize.ShloMosaic Cert.KernelIdeal Cert.KernelIdeal.Gen
open scoped BigOperators

/-- The array holds the real numbers `f`. -/
def Is {s : Shape} (v : s.Idx → EReal) (f : s.Idx → ℝ) : Prop := ∀ i, v i = ((f i : ℝ) : EReal)

theorem Is.of {s : Shape} {v : s.Idx → EReal} {f g : s.Idx → ℝ} (h : Is v f) (e : ∀ i, f i = g i) : Is v g := fun i => by
  rw [h i, e i]

theorem named_c : (Named.named (F := Ideal) (φ := .f32) κ "gelu_c" 0x3D372713#32 : EReal) = ((8943 / 200000 : ℝ) : EReal) := rfl
theorem named_3c : (Named.named (F := Ideal) (φ := .f32) κ "gelu_3c" 0x3E095D4F#32 : EReal) = ((26829 / 200000 : ℝ) : EReal) := rfl

/-! ### The values of one chunk -/

abbrev M := FVec Ideal S128x128 .f32
abbrev B := FVec Ideal S128x128 .bf16

/-- The tanh of gelu, its coefficient named. -/
def tanhE (x : M) : M :=
  tanh (mulf (broadcast S128x128 (Scalar.ofBits .f32 0x3F4C422A#32))
    (addf x (mulf (mulf (broadcast S128x128 (Named.named κ "gelu_c" 0x3D372713#32)) x) (mulf x x))))
def geluE (x : M) : M :=
  mulf (mulf (broadcast S128x128 (Scalar.ofBits .f32 0x3F000000#32)) x)
    (addf (broadcast S128x128 (Scalar.ofBits .f32 0x3F800000#32)) (tanhE x))
def dgelE (x : M) : M :=
  addf (mulf (broadcast S128x128 (Scalar.ofBits .f32 0x3F000000#32))
      (addf (broadcast S128x128 (Scalar.ofBits .f32 0x3F800000#32)) (tanhE x)))
    (mulf (mulf (mulf (broadcast S128x128 (Scalar.ofBits .f32 0x3F000000#32)) x)
        (subf (broadcast S128x128 (Scalar.ofBits .f32 0x3F800000#32)) (mulf (tanhE x) (tanhE x))))
      (mulf (broadcast S128x128 (Scalar.ofBits .f32 0x3F4C422A#32))
        (addf (broadcast S128x128 (Scalar.ofBits .f32 0x3F800000#32))
          (mulf (broadcast S128x128 (Named.named κ "gelu_3c" 0x3E095D4F#32)) (mulf x x)))))
def rE (v : M) : FVec Ideal S128x1 .f32 :=
  rsqrt (addf (divf (shapeCast S128x1 (multiReduction .add [1] S128 (mulf v v) 0x00000000#32 reduces_S128x128_S128 (.inl rfl) rfl)
    shapeCasts_S128_S128x1) (broadcast S128x1 (Scalar.ofBits .f32 0x43000000#32)))
    (broadcast S128x1 (Scalar.ofBits .f32 0x358637BD#32)))
def vnE (xv : M) : M := mulf (geluE xv) (broadcastTo S128x128 (rE (geluE xv)) broadcasts_S128x1_S128x128)
def vhE (xv : M) (g : FVec Ideal S1x128 .f32) : B :=
  truncf .bf16 (mulf (vnE xv) (broadcastTo S128x128 g broadcasts_S1x128_S128x128)) bitsLt_bf16_f32
def mxE (w : B) (xv : M) (g : FVec Ideal S1x128 .f32) (b : M) : M :=
  addf (matmul dot_S128x128_S128x128_S128x128_1_0_0_1_n_n none w (vhE xv g) (constant S128x128 .f32 0x00000000#32)) b
def dmE (xd : B) (xu : M) : M := mulf (extf .f32 xd bitsLt_bf16_f32) (geluE xu)
def dvhE (wt : B) (xd : B) (xu : M) : M :=
  matmul dot_S128x128_S128x128_S128x128_1_0_0_1_n_n none wt (truncf .bf16 (dmE xd xu) bitsLt_bf16_f32)
    (constant S128x128 .f32 0x00000000#32)
def dvnE (wt : B) (xd : B) (xu : M) (g : FVec Ideal S1x128 .f32) : M :=
  mulf (dvhE wt xd xu) (broadcastTo S128x128 g broadcasts_S1x128_S128x128)
def dvE (wt : B) (xd : B) (xu xv : M) (g : FVec Ideal S1x128 .f32) : M :=
  mulf (broadcastTo S128x128 (rE (geluE xv)) broadcasts_S128x1_S128x128)
    (subf (dvnE wt xd xu g) (mulf (vnE xv) (broadcastTo S128x128
      (divf (shapeCast S128x1 (multiReduction .add [1] S128 (mulf (dvnE wt xd xu g) (vnE xv)) 0x00000000#32
        reduces_S128x128_S128 (.inl rfl) rfl) shapeCasts_S128_S128x1) (broadcast S128x1 (Scalar.ofBits .f32 0x43000000#32)))
      broadcasts_S128x1_S128x128)))

/-- What one chunk adds to the gradient of the biases, before its sum over the columns. -/
def dbStep (xd : B) (xu : M) (a : FVec Ideal S1x128x128 .f32) : FVec Ideal S1x128x128 .f32 :=
  shapeCast S1x128x128 (addf (shapeCast S128x128 a shapeCasts_S1x128x128_S128x128) (dmE xd xu)) shapeCasts_S128x128_S1x128x128
/-- What one chunk adds to the gradient of the mixing matrices. -/
def dwsStep (xd : B) (xu xv : M) (g : FVec Ideal S1x128 .f32) (a : FVec Ideal S1x128x128 .f32) : FVec Ideal S1x128x128 .f32 :=
  shapeCast S1x128x128 (addf (shapeCast S128x128 a shapeCasts_S1x128x128_S128x128)
    (matmul dot_S128x128_S128x128_S128x128_1_1_0_0_n_n none (truncf .bf16 (dmE xd xu) bitsLt_bf16_f32) (vhE xv g)
      (constant S128x128 .f32 0x00000000#32))) shapeCasts_S128x128_S1x128x128
/-- What one chunk adds to the gradient of the normalisation's scale. -/
def dgvStep (wt xd : B) (xu xv : M) (a : FVec Ideal S1x128 .f32) : FVec Ideal S1x128 .f32 :=
  shapeCast S1x128 (addf a (shapeCast S1x128 (multiReduction .add [0] S128 (mulf (dvhE wt xd xu) (vnE xv)) 0x00000000#32
    reduces_S128x128_S128_2 (.inl rfl) rfl) shapeCasts_S128_S1x128)) shapeCasts_S1x128_S1x128
/-- The last point's: the accumulated gradient of one head's mixing matrix, masked; and the biases', summed over the columns. -/
def dwsEnd (a : FVec Ideal S1x128x128 .f32) : FVec Ideal S1x128x128 .f32 :=
  shapeCast S1x128x128 (select (cmpi .sge (iota .tc S128x128 32 [0] iota_S128x128_d0_w32) (iota .tc S128x128 32 [1] iota_S128x128_d1_w32))
    (shapeCast S128x128 a shapeCasts_S1x128x128_S128x128) (broadcast S128x128 (Scalar.ofBits .f32 0x00000000#32)))
    shapeCasts_S128x128_S1x128x128
def dbsEnd (a : FVec Ideal S1x128x128 .f32) : FVec Ideal S1x128x1 .f32 :=
  shapeCast S1x128x1 (shapeCast S128x1 (multiReduction .add [1] S128 (shapeCast S128x128 a shapeCasts_S1x128x128_S128x128)
    0x00000000#32 reduces_S128x128_S128 (.inl rfl) rfl) shapeCasts_S128_S128x1) shapeCasts_S128x1_S1x128x1
/-- The gradient of the projection's `u` columns. -/
def puOut (w xd : B) (xu xv : M) (g : FVec Ideal S1x128 .f32) (b : M) : B :=
  shapeCast S128x128 (truncf .bf16 (mulf (mulf (extf .f32 xd bitsLt_bf16_f32) (mxE w xv g b)) (dgelE xu)) bitsLt_bf16_f32)
    shapeCasts_S128x128_S128x128
/-- The gradient of the projection's `v` columns. -/
def pvOut (wt xd : B) (xu xv : M) (g : FVec Ideal S1x128 .f32) : B :=
  shapeCast S128x128 (truncf .bf16 (mulf (dvE wt xd xu xv g) (dgelE xv)) bitsLt_bf16_f32) shapeCasts_S128x128_S128x128

/-! ### Operations on arrays of real numbers -/

section
variable {s : Shape}

theorem Is.tanhE {x : M} {f : S128x128.Idx → ℝ} (h : Is x f) : Is (tanhE x) (fun i => th (f i)) := fun i => by
  pointwise [Ker.tanhE, th]
  simp only [named_c, h i, Ideal.tanh_def, Ideal.mulf_def, Ideal.addf_def, Ideal.ofBits_def, word_k, lift_mul, lift_add,
    Ideal.tanh_coe]

theorem Is.geluE {x : M} {f : S128x128.Idx → ℝ} (h : Is x f) : Is (geluE x) (fun i => gel (f i)) := fun i => by
  pointwise [Ker.geluE, gel]
  simp only [h.tanhE i, h i, Ideal.mulf_def, Ideal.addf_def, Ideal.ofBits_def, word_half, word_one, lift_one, lift_mul, lift_add]

theorem Is.dgelE {x : M} {f : S128x128.Idx → ℝ} (h : Is x f) : Is (dgelE x) (fun i => dgel (f i)) := fun i => by
  pointwise [Ker.dgelE, dgel]
  simp only [named_3c, h.tanhE i, h i, Ideal.mulf_def, Ideal.addf_def, Ideal.subf_def, Ideal.ofBits_def, word_half, word_one,
    word_k, lift_one, lift_mul, lift_add, lift_sub]

end

/-! ### The chunk -/

section
variable {X : Args} {n h : ℕ} {xu xv b : M} {xd w wt : B} {g : FVec Ideal S1x128 .f32}

theorem u_is (hu : Is xu fun i => X.p (n * 128 + (i 0).val) (h * 128 + (i 1).val)) :
    Is (geluE xu) fun i => X.U (n * 128 + (i 0).val) (h * 128 + (i 1).val) := hu.geluE
theorem v_is (hv : Is xv fun i => X.p (n * 128 + (i 0).val) (1024 + (h * 128 + (i 1).val))) :
    Is (geluE xv) fun i => X.V (n * 128 + (i 0).val) (h * 128 + (i 1).val) := hv.geluE

theorem r_is {v : M} (hv : Is v fun i => X.V (n * 128 + (i 0).val) (h * 128 + (i 1).val)) :
    Is (rE v) fun i => X.R (n * 128 + (i 0).val) h := fun i => by
  pointwise [rE]
  simp only [hv _, Ideal.mulf_def, Ideal.addf_def, Ideal.divf_def, Ideal.rsqrt_def, Ideal.ofBits_def, word_128, word_eps,
    lift_mul, lift_sum, lift_div_128, lift_add]
  exact lift_rsqrt (X.MS_pos _ _)

theorem head_of {d : ℕ} (hd : d < 128) : (h * 128 + d) / 128 = h := by omega
theorem chunk_of {d : ℕ} (hd : d < 128) : (n * 128 + d) / 128 = n := by omega
theorem row_of {d : ℕ} (hd : d < 128) : (n * 128 + d) % 128 = d := by omega

theorem vn_is (hv : Is xv fun i => X.p (n * 128 + (i 0).val) (1024 + (h * 128 + (i 1).val))) :
    Is (vnE xv) fun i => X.VN (n * 128 + (i 0).val) (h * 128 + (i 1).val) := fun i => by
  idx_vars i
  pointwise [vnE]
  rw [v_is hv _, r_is (v_is hv) _]
  simp only [Ideal.mulf_def, lift_mul, Args.VN, ix2, head_of i1.isLt]

theorem vh_is (hv : Is xv fun i => X.p (n * 128 + (i 0).val) (1024 + (h * 128 + (i 1).val)))
    (hg : Is g fun i => X.g (h * 128 + (i 1).val)) :
    Is (vhE xv g) fun i => X.VH (n * 128 + (i 0).val) (h * 128 + (i 1).val) := fun i => by
  idx_vars i
  pointwise [vhE]
  rw [vn_is hv _, hg _]
  simp only [Ideal.mulf_def, Ideal.truncf_def, lift_mul, Args.VH]
  rfl

theorem mx_is (hw : Is w fun i => X.W h (i 0).val (i 1).val)
    (hv : Is xv fun i => X.p (n * 128 + (i 0).val) (1024 + (h * 128 + (i 1).val)))
    (hg : Is g fun i => X.g (h * 128 + (i 1).val)) (hb : Is b fun i => X.b h (i 0).val) :
    Is (mxE w xv g b) fun i => X.MX (n * 128 + (i 0).val) (h * 128 + (i 1).val) := fun i => by
  idx_vars i
  pointwise [mxE]
  simp only [hw _, vh_is hv hg _, hb _, Ideal.addf_def, lift_mul, lift_sum, lift_add, Args.MX, ix2, head_of i1.isLt,
    chunk_of i0.isLt, row_of i0.isLt]

theorem dm_is (hd : Is xd fun i => X.c (n * 128 + (i 0).val) (h * 128 + (i 1).val))
    (hu : Is xu fun i => X.p (n * 128 + (i 0).val) (h * 128 + (i 1).val)) :
    Is (dmE xd xu) fun i => X.DMX (n * 128 + (i 0).val) (h * 128 + (i 1).val) := fun i => by
  idx_vars i
  pointwise [dmE]
  rw [u_is hu _, hd _]
  simp only [Ideal.mulf_def, Ideal.extf_def, lift_mul, Args.DMX]
  rfl

theorem dvh_is (hwt : Is wt fun i => X.W h (i 1).val (i 0).val)
    (hd : Is xd fun i => X.c (n * 128 + (i 0).val) (h * 128 + (i 1).val))
    (hu : Is xu fun i => X.p (n * 128 + (i 0).val) (h * 128 + (i 1).val)) :
    Is (dvhE wt xd xu) fun i => X.DVH (n * 128 + (i 0).val) (h * 128 + (i 1).val) := fun i => by
  idx_vars i
  pointwise [dvhE]
  simp only [hwt _, dm_is hd hu _, Ideal.truncf_def, lift_mul, lift_sum, Args.DVH, ix2, head_of i1.isLt,
    chunk_of i0.isLt, row_of i0.isLt]

theorem dvn_is (hwt : Is wt fun i => X.W h (i 1).val (i 0).val)
    (hd : Is xd fun i => X.c (n * 128 + (i 0).val) (h * 128 + (i 1).val))
    (hu : Is xu fun i => X.p (n * 128 + (i 0).val) (h * 128 + (i 1).val)) (hg : Is g fun i => X.g (h * 128 + (i 1).val)) :
    Is (dvnE wt xd xu g) fun i => X.DVN (n * 128 + (i 0).val) (h * 128 + (i 1).val) := fun i => by
  idx_vars i
  pointwise [dvnE]
  simp only [dvh_is hwt hd hu _, hg _, Ideal.mulf_def, lift_mul, Args.DVN]
  rfl

theorem dv_is (hwt : Is wt fun i => X.W h (i 1).val (i 0).val)
    (hd : Is xd fun i => X.c (n * 128 + (i 0).val) (h * 128 + (i 1).val))
    (hu : Is xu fun i => X.p (n * 128 + (i 0).val) (h * 128 + (i 1).val))
    (hv : Is xv fun i => X.p (n * 128 + (i 0).val) (1024 + (h * 128 + (i 1).val)))
    (hg : Is g fun i => X.g (h * 128 + (i 1).val)) :
    Is (dvE wt xd xu xv g) fun i => X.DV (n * 128 + (i 0).val) (h * 128 + (i 1).val) := fun i => by
  idx_vars i
  pointwise [dvE]
  simp only [r_is (v_is hv) _, dvn_is hwt hd hu hg _, vn_is hv _, Ideal.mulf_def, Ideal.subf_def, Ideal.divf_def,
    Ideal.ofBits_def, word_128, lift_mul, lift_sum, lift_div_128, lift_sub, Args.DV, ix2, head_of i1.isLt]

/-- The bias accumulator after one more chunk. -/
theorem db_step {a : FVec Ideal S1x128x128 .f32} {D : S1x128x128.Idx → ℝ} (ha : Is a D)
    (hd : Is xd fun i => X.c (n * 128 + (i 0).val) (h * 128 + (i 1).val))
    (hu : Is xu fun i => X.p (n * 128 + (i 0).val) (h * 128 + (i 1).val)) :
    Is (dbStep xd xu a) fun i => D i + X.DMX (n * 128 + (i 1).val) (h * 128 + (i 2).val) := fun i => by
  idx_vars i
  pointwise [dbStep]
  simp only [ha _, dm_is hd hu _, Ideal.addf_def, lift_add]
  rw [Subsingleton.elim i0 0]
  rfl

/-- The mixing matrices' accumulator after one more chunk. -/
theorem dws_step {a : FVec Ideal S1x128x128 .f32} {D : S1x128x128.Idx → ℝ} (ha : Is a D)
    (hd : Is xd fun i => X.c (n * 128 + (i 0).val) (h * 128 + (i 1).val))
    (hu : Is xu fun i => X.p (n * 128 + (i 0).val) (h * 128 + (i 1).val))
    (hv : Is xv fun i => X.p (n * 128 + (i 0).val) (1024 + (h * 128 + (i 1).val)))
    (hg : Is g fun i => X.g (h * 128 + (i 1).val)) :
    Is (dwsStep xd xu xv g a) fun i => D i
      + ∑ d : Fin 128, X.DMX (n * 128 + (i 1).val) (h * 128 + d) * X.VH (n * 128 + (i 2).val) (h * 128 + d) := fun i => by
  idx_vars i
  pointwise [dwsStep]
  simp only [ha _, dm_is hd hu _, vh_is hv hg _, Ideal.addf_def, Ideal.truncf_def, lift_mul, lift_sum, lift_add]
  rw [Subsingleton.elim i0 0]
  rfl

/-- The accumulator of the normalisation's scale after one more chunk. -/
theorem dgv_step {a : FVec Ideal S1x128 .f32} {D : S1x128.Idx → ℝ} (ha : Is a D)
    (hwt : Is wt fun i => X.W h (i 1).val (i 0).val)
    (hd : Is xd fun i => X.c (n * 128 + (i 0).val) (h * 128 + (i 1).val))
    (hu : Is xu fun i => X.p (n * 128 + (i 0).val) (h * 128 + (i 1).val))
    (hv : Is xv fun i => X.p (n * 128 + (i 0).val) (1024 + (h * 128 + (i 1).val))) :
    Is (dgvStep wt xd xu xv a) fun i => D i
      + ∑ r : Fin 128, X.DVH (n * 128 + r) (h * 128 + (i 1).val) * X.VN (n * 128 + r) (h * 128 + (i 1).val) := fun i => by
  idx_vars i
  pointwise [dgvStep]
  simp only [ha _, dvh_is hwt hd hu _, vn_is hv _, Ideal.addf_def, Ideal.mulf_def, lift_mul, lift_sum, lift_add]
  rfl

theorem dws_end {a : FVec Ideal S1x128x128 .f32} {D : S1x128x128.Idx → ℝ} (ha : Is a D) :
    Is (dwsEnd a) fun i => if (i 2).val ≤ (i 1).val then D i else 0 := fun i => by
  idx_vars i
  pointwise [dwsEnd]
  rw [Subsingleton.elim i0 0, ha _]
  have h1 : i1.val < 128 := i1.isLt
  have h2 : i2.val < 128 := i2.isLt
  have e : Scalar.cmpi .sge (BitVec.ofNat 32 i1.val) (BitVec.ofNat 32 i2.val) = 1#1 ↔ i2.val ≤ i1.val := by word_cmp
  show (if Scalar.cmpi .sge (BitVec.ofNat 32 i1.val) (BitVec.ofNat 32 i2.val) = 1#1 then _ else _) = _
  show _ = (((if i2.val ≤ i1.val then D (ix3 0 i1 i2) else 0 : ℝ)) : EReal)
  by_cases h : i2.val ≤ i1.val
  · rw [if_pos (e.mpr h), if_pos h]
  · rw [if_neg (fun q => h (e.mp q)), if_neg h]; rfl

theorem dbs_end {a : FVec Ideal S1x128x128 .f32} {D : S1x128x128.Idx → ℝ} (ha : Is a D) :
    Is (dbsEnd a) fun i => ∑ d : Fin 128, D (ix3 0 (i 1) d) := fun i => by
  idx_vars i
  pointwise [dbsEnd]
  simp only [ha _, lift_sum]

theorem pu_is (hw : Is w fun i => X.W h (i 0).val (i 1).val)
    (hd : Is xd fun i => X.c (n * 128 + (i 0).val) (h * 128 + (i 1).val))
    (hu : Is xu fun i => X.p (n * 128 + (i 0).val) (h * 128 + (i 1).val))
    (hv : Is xv fun i => X.p (n * 128 + (i 0).val) (1024 + (h * 128 + (i 1).val)))
    (hg : Is g fun i => X.g (h * 128 + (i 1).val)) (hb : Is b fun i => X.b h (i 0).val) :
    Is (puOut w xd xu xv g b) fun i => X.c (n * 128 + (i 0).val) (h * 128 + (i 1).val)
      * X.MX (n * 128 + (i 0).val) (h * 128 + (i 1).val) * dgel (X.p (n * 128 + (i 0).val) (h * 128 + (i 1).val)) :=
  fun i => by
  idx_vars i
  pointwise [puOut]
  simp only [hd _, mx_is hw hv hg hb _, hu.dgelE _, Ideal.mulf_def, Ideal.extf_def, Ideal.truncf_def, lift_mul]
  rfl

theorem pv_is (hwt : Is wt fun i => X.W h (i 1).val (i 0).val)
    (hd : Is xd fun i => X.c (n * 128 + (i 0).val) (h * 128 + (i 1).val))
    (hu : Is xu fun i => X.p (n * 128 + (i 0).val) (h * 128 + (i 1).val))
    (hv : Is xv fun i => X.p (n * 128 + (i 0).val) (1024 + (h * 128 + (i 1).val)))
    (hg : Is g fun i => X.g (h * 128 + (i 1).val)) :
    Is (pvOut wt xd xu xv g) fun i => X.DV (n * 128 + (i 0).val) (h * 128 + (i 1).val)
      * dgel (X.p (n * 128 + (i 0).val) (1024 + (h * 128 + (i 1).val))) := fun i => by
  idx_vars i
  pointwise [pvOut]
  simp only [dv_is hwt hd hu hv hg _, hv.dgelE _, Ideal.mulf_def, Ideal.truncf_def, lift_mul]
  rfl

end

end Cert.Proof.Ker

end
-- ==== Proof.KerLoad.lean ====
/- The blocks one grid point of the kernel loads, as formulas in the arguments, and the parts of them its body reads: each
   load of a rectangle is the block's formula at the shifted place. Then what a list of stores leaves when the first
   stores cover the place. -/
module

public import proofs.«01_k».proof.Proof.KerGate
public import Idealize.ShloMosaic.Lib.Pipeline.ValueKit
public import Idealize.ShloMosaic.Lib.Pipeline.ReadBack

@[expose] public section

set_option maxRecDepth 16384

noncomputable section

namespace Cert.Proof.Ker

open Idealize.ShloMosaic Cert.KernelIdeal Cert.KernelIdeal.Gen
open scoped BigOperators

/-- The thirteen blocks of grid point `t`: 512 rows of the projection (three column ranges), the 16 rows before them, 512
    rows of the cotangent (two column ranges), the 16 rows after them, and the parameters whole. -/
structure Blk (X : Args) (t : ℕ) (y0 y1 y2 : FVec Ideal S512x1024 .f32) (y3 : FVec Ideal S16x1024 .f32)
    (y4 y5 : FVec Ideal S512x1024 .bf16) (y6 : FVec Ideal S16x1024 .bf16) (y7 y8 : FVec Ideal S8x128x128 .bf16)
    (y9 : FVec Ideal S8x128x128 .f32) (y10 : FVec Ideal S1x1024 .f32) (y11 : FVec Ideal S4x256x256 .bf16)
    (y12 : FVec Ideal S1x1024 .f32) : Prop where
  h0 : Is y0 fun i => X.p (t * 512 + (i 0).val) (i 1).val
  h1 : Is y1 fun i => X.p (t * 512 + (i 0).val) (1024 + (i 1).val)
  h2 : Is y2 fun i => X.Z (t * 512 + (i 0).val) (i 1).val
  h3 : Is y3 fun i => X.Z ((32 * t - 1) * 16 + (i 0).val) (i 1).val
  h4 : Is y4 fun i => X.c (t * 512 + (i 0).val) (i 1).val
  h5 : Is y5 fun i => X.DB (t * 512 + (i 0).val) (i 1).val
  h6 : Is y6 fun i => X.DB (min (32 * (t + 1)) 255 * 16 + (i 0).val) (i 1).val
  h7 : Is y7 fun i => X.W (i 0).val (i 1).val (i 2).val
  h8 : Is y8 fun i => X.W (i 0).val (i 2).val (i 1).val
  h9 : Is y9 fun i => X.b (i 0).val (i 1).val
  h10 : Is y10 fun i => X.g (i 1).val
  h11 : Is y11 fun i => X.wp (i 0).val (i 1).val (i 2).val
  h12 : Is y12 fun i => X.sc (i 1).val

/-! ### Loads -/

section
variable {R C p q a b : ℕ}

/-- A load of a rectangle of an array over two axes. -/
theorem ld2 {y : (⟨2, ![R, C]⟩ : Shape).Idx → EReal} {f : ℕ → ℕ → ℝ} (hy : Is y fun i => f (i 0).val (i 1).val)
    {g : ℕ → ℕ → ℝ} (e : ∀ r k, f (a + r) (b + k) = g r k)
    (inb : ∀ x, (![a, b] : Fin 2 → ℕ) x + (![p, q] : Fin 2 → ℕ) x ≤ (⟨2, ![R, C]⟩ : Shape).size x) :
    Is (s := ⟨2, ![p, q]⟩) (View.ld (Val := Elt Ideal) (e' := .f32) y (Rect.unit ![a, b] ![p, q] inb))
      fun i => g (i 0).val (i 1).val := fun i => by
  show y _ = _
  rw [hy]
  show ((f (a + 1 * (i 0).val) (b + 1 * (i 1).val) : ℝ) : EReal) = ((g (i 0).val (i 1).val : ℝ) : EReal)
  rw [one_mul, one_mul, e]

/-- A load of a rectangle of an array over two axes, of the narrow format. -/
theorem ld2b {y : (⟨2, ![R, C]⟩ : Shape).Idx → EReal} {f : ℕ → ℕ → ℝ} (hy : Is y fun i => f (i 0).val (i 1).val)
    {g : ℕ → ℕ → ℝ} (e : ∀ r k, f (a + r) (b + k) = g r k)
    (inb : ∀ x, (![a, b] : Fin 2 → ℕ) x + (![p, q] : Fin 2 → ℕ) x ≤ (⟨2, ![R, C]⟩ : Shape).size x) :
    Is (s := ⟨2, ![p, q]⟩) (View.ld (Val := Elt Ideal) (e' := .bf16) y (Rect.unit ![a, b] ![p, q] inb))
      fun i => g (i 0).val (i 1).val := fun i => by
  show y _ = _
  rw [hy]
  show ((f (a + 1 * (i 0).val) (b + 1 * (i 1).val) : ℝ) : EReal) = ((g (i 0).val (i 1).val : ℝ) : EReal)
  rw [one_mul, one_mul, e]

/-- A load of one layer of an array over three axes. -/
theorem ld3 {h N : ℕ} {y : (⟨3, ![N, R, C]⟩ : Shape).Idx → EReal} {f : ℕ → ℕ → ℕ → ℝ}
    (hy : Is y fun i => f (i 0).val (i 1).val (i 2).val)
    (inb : ∀ x, (![h, 0, 0] : Fin 3 → ℕ) x + (![1, R, C] : Fin 3 → ℕ) x ≤ (⟨3, ![N, R, C]⟩ : Shape).size x) :
    Is (s := ⟨3, ![1, R, C]⟩) (View.ld (Val := Elt Ideal) (e' := .f32) y (Rect.unit ![h, 0, 0] ![1, R, C] inb))
      fun i => f h (i 1).val (i 2).val := fun i => by
  show y _ = _
  rw [hy]
  show ((f (h + 1 * (i 0).val) (0 + 1 * (i 1).val) (0 + 1 * (i 2).val) : ℝ) : EReal)
    = ((f h (i 1).val (i 2).val : ℝ) : EReal)
  have h0 : (i 0).val < 1 := (i 0).isLt
  rw [one_mul, one_mul, one_mul, zero_add, zero_add, Nat.lt_one_iff.mp h0, add_zero]

/-- A load of one layer of an array over three axes, of the narrow format. -/
theorem ld3b {h N : ℕ} {y : (⟨3, ![N, R, C]⟩ : Shape).Idx → EReal} {f : ℕ → ℕ → ℕ → ℝ}
    (hy : Is y fun i => f (i 0).val (i 1).val (i 2).val)
    (inb : ∀ x, (![h, 0, 0] : Fin 3 → ℕ) x + (![1, R, C] : Fin 3 → ℕ) x ≤ (⟨3, ![N, R, C]⟩ : Shape).size x) :
    Is (s := ⟨3, ![1, R, C]⟩) (View.ld (Val := Elt Ideal) (e' := .bf16) y (Rect.unit ![h, 0, 0] ![1, R, C] inb))
      fun i => f h (i 1).val (i 2).val := fun i => by
  show y _ = _
  rw [hy]
  show ((f (h + 1 * (i 0).val) (0 + 1 * (i 1).val) (0 + 1 * (i 2).val) : ℝ) : EReal)
    = ((f h (i 1).val (i 2).val : ℝ) : EReal)
  have h0 : (i 0).val < 1 := (i 0).isLt
  rw [one_mul, one_mul, one_mul, zero_add, zero_add, Nat.lt_one_iff.mp h0, add_zero]

end

/-- One layer as a matrix. -/
theorem Is.layer128 {v : S1x128x128.Idx → EReal} {f : ℕ → ℕ → ℝ} (h : Is v fun i => f (i 1).val (i 2).val) :
    Is (shapeCast S128x128 v shapeCasts_S1x128x128_S128x128) fun i => f (i 0).val (i 1).val := fun i => by
  idx_vars i
  pointwise
  rw [h _]
  rfl
theorem Is.layer256 {v : S1x256x256.Idx → EReal} {f : ℕ → ℕ → ℝ} (h : Is v fun i => f (i 1).val (i 2).val) :
    Is (shapeCast S256x256 v shapeCasts_S1x256x256_S256x256) fun i => f (i 0).val (i 1).val := fun i => by
  idx_vars i
  pointwise
  rw [h _]
  rfl

section
variable {X : Args} {t : ℕ} {y0 y1 y2 : FVec Ideal S512x1024 .f32} {y3 : FVec Ideal S16x1024 .f32}
  {y4 y5 : FVec Ideal S512x1024 .bf16} {y6 : FVec Ideal S16x1024 .bf16} {y7 y8 : FVec Ideal S8x128x128 .bf16}
  {y9 : FVec Ideal S8x128x128 .f32} {y10 : FVec Ideal S1x1024 .f32} {y11 : FVec Ideal S4x256x256 .bf16}
  {y12 : FVec Ideal S1x1024 .f32} (H : Blk X t y0 y1 y2 y3 y4 y5 y6 y7 y8 y9 y10 y11 y12) {a b h : ℕ}
include H

/-- The `u` columns of one chunk. -/
theorem Blk.lu (inb) (ha : a % 128 = 0 := by decide) (hb : b % 128 = 0 := by decide) :
    Is (s := S128x128) (View.ld (Val := Elt Ideal) (e' := .f32) y0 (Rect.unit ![a, b] ![128, 128] inb))
      fun i => X.p ((4 * t + a / 128) * 128 + (i 0).val) (b / 128 * 128 + (i 1).val) :=
  ld2 (f := fun r k => X.p (t * 512 + r) k) H.h0 (g := fun r k => X.p ((4 * t + a / 128) * 128 + r) (b / 128 * 128 + k))
    (fun r k => by congr 1 <;> omega) inb
theorem Blk.lv (inb) (ha : a % 128 = 0 := by decide) (hb : b % 128 = 0 := by decide) :
    Is (s := S128x128) (View.ld (Val := Elt Ideal) (e' := .f32) y1 (Rect.unit ![a, b] ![128, 128] inb))
      fun i => X.p ((4 * t + a / 128) * 128 + (i 0).val) (1024 + (b / 128 * 128 + (i 1).val)) :=
  ld2 (f := fun r k => X.p (t * 512 + r) (1024 + k)) H.h1 (g := fun r k => X.p ((4 * t + a / 128) * 128 + r) (1024 + (b / 128 * 128 + k)))
    (fun r k => by congr 1 <;> omega) inb
theorem Blk.ld (inb) (ha : a % 128 = 0 := by decide) (hb : b % 128 = 0 := by decide) :
    Is (s := S128x128) (View.ld (Val := Elt Ideal) (e' := .bf16) y4 (Rect.unit ![a, b] ![128, 128] inb))
      fun i => X.c ((4 * t + a / 128) * 128 + (i 0).val) (b / 128 * 128 + (i 1).val) :=
  ld2b (f := fun r k => X.c (t * 512 + r) k) H.h4 (g := fun r k => X.c ((4 * t + a / 128) * 128 + r) (b / 128 * 128 + k))
    (fun r k => by congr 1 <;> omega) inb
theorem Blk.lg (inb) (hb : b % 128 = 0 := by decide) :
    Is (s := S1x128) (View.ld (Val := Elt Ideal) (e' := .f32) y10 (Rect.unit ![0, b] ![1, 128] inb))
      fun i => X.g (b / 128 * 128 + (i 1).val) :=
  ld2 (f := fun _ k => X.g k) H.h10 (g := fun _ k => X.g (b / 128 * 128 + k)) (fun r k => by congr 1; omega) inb
/-- The mixing matrix of one head, its transpose, and its biases. -/
theorem Blk.lw (inb) : Is (shapeCast S128x128 (View.ld (Val := Elt Ideal) (e' := .bf16) y7
    (Rect.unit ![h, 0, 0] ![1, 128, 128] inb)) shapeCasts_S1x128x128_S128x128) fun i => X.W h (i 0).val (i 1).val :=
  Is.layer128 (ld3b (f := fun h r k => X.W h r k) H.h7 inb)
theorem Blk.lwt (inb) : Is (shapeCast S128x128 (View.ld (Val := Elt Ideal) (e' := .bf16) y8
    (Rect.unit ![h, 0, 0] ![1, 128, 128] inb)) shapeCasts_S1x128x128_S128x128) fun i => X.W h (i 1).val (i 0).val :=
  Is.layer128 (f := fun r k => X.W h k r) (ld3b (f := fun h r k => X.W h k r) H.h8 inb)
theorem Blk.lb (inb) : Is (shapeCast S128x128 (View.ld (Val := Elt Ideal) (e' := .f32) y9
    (Rect.unit ![h, 0, 0] ![1, 128, 128] inb)) shapeCasts_S1x128x128_S128x128) fun i => X.b h (i 0).val :=
  Is.layer128 (f := fun r _ => X.b h r) (ld3 (f := fun h r _ => X.b h r) H.h9 inb)

/-! The pooling half's: 512 rows (or 16) of one group's 256 columns. -/

theorem Blk.lz (inb) (hb : b % 256 = 0 := by decide) :
    Is (s := S512x256) (View.ld (Val := Elt Ideal) (e' := .f32) y2 (Rect.unit ![0, b] ![512, 256] inb))
      fun i => X.Z (t * 512 + (i 0).val) (b / 256 * 256 + (i 1).val) :=
  ld2 (f := fun r k => X.Z (t * 512 + r) k) H.h2 (g := fun r k => X.Z (t * 512 + r) (b / 256 * 256 + k))
    (fun r k => by congr 1 <;> omega) inb
theorem Blk.lzh (inb) (hb : b % 256 = 0 := by decide) :
    Is (s := S16x256) (View.ld (Val := Elt Ideal) (e' := .f32) y3 (Rect.unit ![0, b] ![16, 256] inb))
      fun i => X.Z ((32 * t - 1) * 16 + (i 0).val) (b / 256 * 256 + (i 1).val) :=
  ld2 (f := fun r k => X.Z ((32 * t - 1) * 16 + r) k) H.h3 (g := fun r k => X.Z ((32 * t - 1) * 16 + r) (b / 256 * 256 + k))
    (fun r k => by congr 1 <;> omega) inb
/-- The same loads through the staging buffer that holds the block. -/
theorem Blk.lz' {M : Memref sig .tc .vmem S512x1024 .f32} (hM : M.IsWhole) (inb) (hb : b % 256 = 0 := by decide) :
    Is (s := S512x256) (View.ld (Val := Elt Ideal) (e' := .f32) (View.read (Elt Ideal) M.view (hM.unread y2))
      (Rect.unit ![0, b] ![512, 256] inb)) fun i => X.Z (t * 512 + (i 0).val) (b / 256 * 256 + (i 1).val) := by
  rw [hM.read_unread]; exact H.lz inb hb
theorem Blk.lzh' {M : Memref sig .tc .vmem S16x1024 .f32} (hM : M.IsWhole) (inb) (hb : b % 256 = 0 := by decide) :
    Is (s := S16x256) (View.ld (Val := Elt Ideal) (e' := .f32) (View.read (Elt Ideal) M.view (hM.unread y3))
      (Rect.unit ![0, b] ![16, 256] inb)) fun i => X.Z ((32 * t - 1) * 16 + (i 0).val) (b / 256 * 256 + (i 1).val) := by
  rw [hM.read_unread]; exact H.lzh inb hb
theorem Blk.lo (inb) (hb : b % 256 = 0 := by decide) :
    Is (s := S512x256) (View.ld (Val := Elt Ideal) (e' := .bf16) y5 (Rect.unit ![0, b] ![512, 256] inb))
      fun i => X.DB (t * 512 + (i 0).val) (b / 256 * 256 + (i 1).val) :=
  ld2b (f := fun r k => X.DB (t * 512 + r) k) H.h5 (g := fun r k => X.DB (t * 512 + r) (b / 256 * 256 + k))
    (fun r k => by congr 1 <;> omega) inb
theorem Blk.loh (inb) (hb : b % 256 = 0 := by decide) :
    Is (s := S16x256) (View.ld (Val := Elt Ideal) (e' := .bf16) y6 (Rect.unit ![0, b] ![16, 256] inb))
      fun i => X.DB (min (32 * (t + 1)) 255 * 16 + (i 0).val) (b / 256 * 256 + (i 1).val) :=
  ld2b (f := fun r k => X.DB (min (32 * (t + 1)) 255 * 16 + r) k) H.h6
    (g := fun r k => X.DB (min (32 * (t + 1)) 255 * 16 + r) (b / 256 * 256 + k)) (fun r k => by congr 1 <;> omega) inb
theorem Blk.lp (inb) : Is (shapeCast S256x256 (View.ld (Val := Elt Ideal) (e' := .bf16) y11
    (Rect.unit ![h, 0, 0] ![1, 256, 256] inb)) shapeCasts_S1x256x256_S256x256) fun i => X.wp h (i 0).val (i 1).val :=
  Is.layer256 (ld3b (f := fun h r k => X.wp h r k) H.h11 inb)
theorem Blk.ls (inb) (hb : b % 256 = 0 := by decide) :
    Is (s := S1x256) (View.ld (Val := Elt Ideal) (e' := .f32) y12 (Rect.unit ![0, b] ![1, 256] inb))
      fun i => X.sc (b / 256 * 256 + (i 1).val) :=
  ld2 (f := fun _ k => X.sc k) H.h12 (g := fun _ k => X.sc (b / 256 * 256 + k)) (fun r k => by congr 1; omega) inb
theorem Blk.lp' {M : Memref sig .tc .vmem S4x256x256 .bf16} (hM : M.IsWhole) (inb) : Is (shapeCast S256x256
    (View.ld (Val := Elt Ideal) (e' := .bf16) (View.read (Elt Ideal) M.view (hM.unread y11))
      (Rect.unit ![h, 0, 0] ![1, 256, 256] inb)) shapeCasts_S1x256x256_S256x256) fun i => X.wp h (i 0).val (i 1).val := by
  rw [hM.read_unread]; exact H.lp inb
theorem Blk.lo' {M : Memref sig .tc .vmem S512x1024 .bf16} (hM : M.IsWhole) (inb) (hb : b % 256 = 0 := by decide) :
    Is (s := S512x256) (View.ld (Val := Elt Ideal) (e' := .bf16) (View.read (Elt Ideal) M.view (hM.unread y5))
      (Rect.unit ![0, b] ![512, 256] inb)) fun i => X.DB (t * 512 + (i 0).val) (b / 256 * 256 + (i 1).val) := by
  rw [hM.read_unread]; exact H.lo inb hb
theorem Blk.loh' {M : Memref sig .tc .vmem S16x1024 .bf16} (hM : M.IsWhole) (inb) (hb : b % 256 = 0 := by decide) :
    Is (s := S16x256) (View.ld (Val := Elt Ideal) (e' := .bf16) (View.read (Elt Ideal) M.view (hM.unread y6))
      (Rect.unit ![0, b] ![16, 256] inb))
      fun i => X.DB (min (32 * (t + 1)) 255 * 16 + (i 0).val) (b / 256 * 256 + (i 1).val) := by
  rw [hM.read_unread]; exact H.loh inb hb
theorem Blk.ls' {M : Memref sig .tc .vmem S1x1024 .f32} (hM : M.IsWhole) (inb) (hb : b % 256 = 0 := by decide) :
    Is (s := S1x256) (View.ld (Val := Elt Ideal) (e' := .f32) (View.read (Elt Ideal) M.view (hM.unread y12))
      (Rect.unit ![0, b] ![1, 256] inb)) fun i => X.sc (b / 256 * 256 + (i 1).val) := by
  rw [hM.read_unread]; exact H.ls inb hb

end

/-! ### What a list of stores leaves -/

section
variable {S : Shape} {e : EltTy} {Val : EltTy → Type} [∀ e, Nonempty (Val e)]

/-- A block's position in the array, along one axis. -/
theorem unit_val {rank : ℕ} {shape : Fin rank → ℕ} (off size : Fin rank → ℕ) (h) (x) (a : Fin rank) :
    ((Rect.unit (s := ⟨rank, shape⟩) off size h).emb x a).val = off a + (x a).val := by
  show off a + 1 * (x a).val = _
  rw [Nat.one_mul]

/-- Of the first `n` runs of four stores, the latest of each: the list is last store first. -/
def pick : ℕ → List (View.Piece Val S e) → List (View.Piece Val S e)
  | n + 1, a :: _ :: _ :: _ :: L => a :: pick n L
  | _, L => L

/-- The first `n` runs of four stores go to one rectangle each. -/
def Runs : ℕ → List (View.Piece Val S e) → Prop
  | n + 1, a :: b :: c :: d :: L => (b.1 = a.1 ∧ c.1 = a.1 ∧ d.1 = a.1) ∧ Runs n L
  | 0, _ => True
  | _, _ => False

theorem canon_cons_congr {L L' : List (View.Piece Val S e)} (p : View.Piece Val S e) (y : S.Idx)
    (h : y ∉ p.1.set → View.canon L y = View.canon L' y) : View.canon (p :: L) y = View.canon (p :: L') y := by
  by_cases hm : y ∈ p.1.set
  · obtain ⟨x, rfl⟩ := p.1.exists_idx_of_mem hm
    obtain ⟨r, w⟩ := p
    rw [show r.idx x = r.emb x from rfl, View.canon_cons_emb, View.canon_cons_emb]
  · rw [View.canon_cons_of_not_mem _ _ hm, View.canon_cons_of_not_mem _ _ hm, h hm]

/-- Of stores to one rectangle in succession only the latest counts. -/
theorem canon_pick : ∀ (n : ℕ) (L : List (View.Piece Val S e)), Runs n L → View.canon L = View.canon (pick n L)
  | 0, _, _ => rfl
  | n + 1, a :: b :: c :: d :: L, ⟨⟨hb, hc, hd⟩, h⟩ => by
    funext y
    show _ = View.canon (a :: pick n L) y
    refine canon_cons_congr a y fun hm => ?_
    rw [View.canon_cons_of_not_mem _ _ (by rw [hb]; exact hm), View.canon_cons_of_not_mem _ _ (by rw [hc]; exact hm),
      View.canon_cons_of_not_mem _ _ (by rw [hd]; exact hm), canon_pick n L h]

/-- The first `n` stores, when they are blocks of `G` and cover the array, leave `G`. -/
theorem canon_take (n : ℕ) (G : S.Idx → Val e) (L : List (View.Piece Val S e)) (h : View.PiecesOf G (L.take n))
    (hc : ∀ y : S.Idx, ∃ p ∈ L.take n, y ∈ p.1.set) : View.canon L = G := by
  funext y
  conv_lhs => rw [← List.take_append_drop n L]
  exact View.canon_append_of_piecesOf G _ _ h y (hc y)

end

/-- Every store of the list holds the real numbers `f` at its places. -/
def PiecesIs {S : Shape} (f : S.Idx → ℝ) : List (View.Piece (Elt Ideal) S .f32) → Prop
  | [] => True
  | p :: L => Is p.2 (fun x => f (p.1.emb x)) ∧ PiecesIs f L

theorem PiecesIs.piecesOf {S : Shape} {f : S.Idx → ℝ} : ∀ {L : List (View.Piece (Elt Ideal) S .f32)}, PiecesIs f L →
    View.PiecesOf (fun y => ((f y : ℝ) : EReal)) L
  | [], _ => trivial
  | _ :: _, h => ⟨h.1, h.2.piecesOf⟩

/-- The first `n` stores, when they hold `f` and cover the array, leave `f`. -/
theorem Is.canon {S : Shape} (n : ℕ) {f : S.Idx → ℝ} {L : List (View.Piece (Elt Ideal) S .f32)} (h : PiecesIs f (L.take n))
    (hc : ∀ y : S.Idx, ∃ p ∈ L.take n, y ∈ p.1.set) : Is (View.canon L) f :=
  fun i => congrFun (canon_take n (fun y => ((f y : ℝ) : EReal)) L h.piecesOf hc) i

/-- The same for stores in the narrow format. -/
def PiecesIsB {S : Shape} (f : S.Idx → ℝ) : List (View.Piece (Elt Ideal) S .bf16) → Prop
  | [] => True
  | p :: L => Is p.2 (fun x => f (p.1.emb x)) ∧ PiecesIsB f L

theorem PiecesIsB.piecesOf {S : Shape} {f : S.Idx → ℝ} : ∀ {L : List (View.Piece (Elt Ideal) S .bf16)}, PiecesIsB f L →
    View.PiecesOf (fun y => ((f y : ℝ) : EReal)) L
  | [], _ => trivial
  | _ :: _, h => ⟨h.1, h.2.piecesOf⟩

theorem Is.canonB {S : Shape} (n : ℕ) {f : S.Idx → ℝ} {L : List (View.Piece (Elt Ideal) S .bf16)} (h : PiecesIsB f (L.take n))
    (hc : ∀ y : S.Idx, ∃ p ∈ L.take n, y ∈ p.1.set) : Is (View.canon L) f :=
  fun i => congrFun (canon_take n (fun y => ((f y : ℝ) : EReal)) L h.piecesOf hc) i

end Cert.Proof.Ker

end
-- ==== Proof.KerPool.lean ====
/- One group of the kernel's pooling half at one grid point: 512 rows of 256 columns. The values the body computes of it,
   as functions of the blocks it loads, and each of them read as a formula of Model.lean. The window's sum is built by
   doubling: the rows are extended by the 16 before (or after) them and rolled by 1, 2, 4, … -/
module

public import proofs.«01_k».proof.Proof.KerGate

@[expose] public section

set_option maxRecDepth 16384

noncomputable section

namespace Cert.Proof.Ker

open Idealize.ShloMosaic Cert.KernelIdeal Cert.KernelIdeal.Gen
open scoped BigOperators

/-! ### The values of one group -/

abbrev P5 := FVec Ideal S512x256 .f32
abbrev P5B := FVec Ideal S512x256 .bf16
abbrev P528 := FVec Ideal S528x256 .f32
abbrev P16 := FVec Ideal S16x256 .f32
abbrev Q := FVec Ideal S256x256 .bf16
abbrev R1 := FVec Ideal S1x256 .f32

/-- The rows with the 16 before them; nothing comes before the first rows. -/
def extB (c : BitVec 1) (zh : P16) (z : P5) : P528 :=
  concatenate S528x256 0 [⟨S16x256, Scalar.select c zh (broadcast S16x256 (Scalar.ofBits .f32 0x00000000#32))⟩, ⟨S512x256, z⟩]
    concatenates_S16x256_S512x256_S528x256_d0
/-- The rows with the 16 after them. -/
def extF (x : P5) (h : P16) : P528 :=
  concatenate S528x256 0 [⟨S512x256, x⟩, ⟨S16x256, h⟩] concatenates_S512x256_S16x256_S528x256_d0
/-- The rows and the rows rolled by `k`, added. -/
def roll (k : BitVec 32) (x : P528) : P528 := addf x (dynamicRotate 0 k none x rotates_S528x256_d0)
/-- The reciprocals of the numbers of rows in the windows. -/
def invE (a w : BitVec 32) : FVec Ideal S512x1 .f32 :=
  divf (broadcast S512x1 (Scalar.ofBits .f32 0x3F800000#32)) (sitofp .f32 (minsi
    (addi (addi (broadcast S512x1 (Scalar.muli a 512#32)) (iota .tc S512x1 32 [0] iota_S512x1_d0_w32)) (broadcast S512x1 1#32))
    (broadcast S512x1 w)))
def invhE (a w : BitVec 32) : FVec Ideal S16x1 .f32 :=
  divf (broadcast S16x1 (Scalar.ofBits .f32 0x3F800000#32)) (sitofp .f32 (minsi
    (addi (addi (broadcast S16x1 (Scalar.muli (Scalar.addi a 1#32) 512#32)) (iota .tc S16x1 32 [0] iota_S16x1_d0_w32))
      (broadcast S16x1 1#32)) (broadcast S16x1 w)))
/-- The pooled rows. -/
def poE (s : P528) (a w : BitVec 32) (z : P5) : P5B :=
  truncf .bf16 (subf (mulf (extractStridedSlice S512x256 ![16, 0] s slices_S528x256_o16_0_S512x256)
    (broadcastTo S512x256 (invE a w) broadcasts_S512x1_S512x256)) z) bitsLt_bf16_f32
def ypE (pb : P5B) (wp : Q) : P5 :=
  matmul dot_S512x256_S256x256_S512x256_1_0_0_1_n_n none pb wp (constant S512x256 .f32 0x00000000#32)
/-- What the rows add to the scale's gradient. -/
def dscStep (d : P5B) (pb : P5B) (wp : Q) (a : R1) : R1 :=
  shapeCast S1x256 (addf a (shapeCast S1x256 (multiReduction .add [0] S256 (mulf (extf .f32 d bitsLt_bf16_f32) (ypE pb wp))
    0x00000000#32 reduces_S512x256_S256 (.inl rfl) rfl) shapeCasts_S256_S1x256)) shapeCasts_S1x256_S1x256
def dyE (d : P5B) (sc : R1) : P5B :=
  truncf .bf16 (mulf (extf .f32 d bitsLt_bf16_f32) (broadcastTo S512x256 sc broadcasts_S1x256_S512x256)) bitsLt_bf16_f32
/-- What the rows add to the pooling matrix's gradient. -/
def dwpStep (pb dy : P5B) (a : FVec Ideal S1x256x256 .f32) : FVec Ideal S1x256x256 .f32 :=
  shapeCast S1x256x256 (addf (shapeCast S256x256 a shapeCasts_S1x256x256_S256x256)
    (matmul dot_S512x256_S512x256_S256x256_0_0_1_1_n_n none pb dy (constant S256x256 .f32 0x00000000#32)))
    shapeCasts_S256x256_S1x256x256
def dpoE (dy : P5B) (wp : Q) : P5 :=
  matmul dot_S512x256_S256x256_S512x256_1_1_0_0_n_n none dy wp (constant S512x256 .f32 0x00000000#32)
/-- The same of the 16 rows after these. -/
def dpohE (d : FVec Ideal S16x256 .bf16) (sc : R1) (wp : Q) : P16 :=
  matmul dot_S16x256_S256x256_S16x256_1_1_0_0_n_n none
    (truncf .bf16 (mulf (extf .f32 d bitsLt_bf16_f32) (broadcastTo S16x256 sc broadcasts_S1x256_S16x256)) bitsLt_bf16_f32) wp
    (constant S16x256 .f32 0x00000000#32)
/-- The gradients of the pooled rows, each divided by its window's number of rows; nothing comes after the last rows. -/
def shareE (dpo : P5) (a w : BitVec 32) (last : BitVec 1) (dpoh : P16) : P528 :=
  extF (mulf dpo (broadcastTo S512x256 (invE a w) broadcasts_S512x1_S512x256))
    (Scalar.select last (broadcast S16x256 (Scalar.ofBits .f32 0x00000000#32))
      (mulf dpoh (broadcastTo S16x256 (invhE a w) broadcasts_S16x1_S16x256)))
/-- The gradient of the projection's pooled columns. -/
def dzOut (s : P528) (dpo : P5) : P5B :=
  shapeCast S512x256 (truncf .bf16 (subf (extractStridedSlice S512x256 ![0, 0] s slices_S528x256_o0_0_S512x256) dpo)
    bitsLt_bf16_f32) shapeCasts_S512x256_S512x256

/-! ### Windows by doubling -/

/-- At the rows that have `n` rows before them, the sum of `n` rows of `e`. -/
def SumB (n : ℕ) (x : P528) (e : ℕ → ℕ → ℝ) : Prop := ∀ i, n ≤ (i 0).val + 1 →
  x i = ((∑ k ∈ Finset.range n, e ((i 0).val - k) (i 1).val : ℝ) : EReal)
/-- At the rows that have `n` rows after them. -/
def SumF (n : ℕ) (x : P528) (e : ℕ → ℕ → ℝ) : Prop := ∀ i, (i 0).val + n ≤ 528 →
  x i = ((∑ k ∈ Finset.range n, e ((i 0).val + k) (i 1).val : ℝ) : EReal)

theorem SumB.one {x : P528} {e : ℕ → ℕ → ℝ} (h : Is x fun i => e (i 0).val (i 1).val) : SumB 1 x e := fun i _ => by
  rw [h i, Finset.sum_range_one, Nat.sub_zero]
theorem SumF.one {x : P528} {e : ℕ → ℕ → ℝ} (h : Is x fun i => e (i 0).val (i 1).val) : SumF 1 x e := fun i _ => by
  rw [h i, Finset.sum_range_one, Nat.add_zero]

theorem roll_apply (k : BitVec 32) (x : P528) (i : S528x256.Idx) (hk : k.toNat < 528) :
    roll k x i = x i + x (ix2 ⟨((i 0).val + 528 - k.toNat) % 528, Nat.mod_lt _ (by decide)⟩ (i 1)) := by
  show x i + dynamicRotate 0 k none x rotates_S528x256_d0 i = _
  congr 1
  unfold dynamicRotate
  refine congrArg x (funext fun b => ?_)
  match b with
  | 0 =>
    rw [if_pos rfl]
    refine Fin.ext ?_
    show ((i 0).val + 528 - (k.toNat + 0) % 528) % 528 = ((i 0).val + 528 - k.toNat) % 528
    omega
  | 1 => exact if_neg (by decide)

theorem SumB.roll {n : ℕ} {x : P528} {e : ℕ → ℕ → ℝ} (h : SumB n x e) (k : BitVec 32) (hk : k.toNat = n) (hn : n < 528) :
    SumB (n + n) (roll k x) e := fun i hi => by
  have h0 : (i 0).val < 528 := (i 0).isLt
  have e0 : ((i 0).val + 528 - k.toNat) % 528 = (i 0).val - n := by omega
  rw [roll_apply k x i (by omega), h i (by omega), h _ (by show n ≤ ((i 0).val + 528 - k.toNat) % 528 + 1; omega), lift_add,
    Finset.sum_range_add]
  refine congrArg _ (congrArg₂ _ rfl (Finset.sum_congr rfl fun j _ => ?_))
  show e (((i 0).val + 528 - k.toNat) % 528 - j) (i 1).val = _
  rw [e0, Nat.sub_sub]

theorem SumF.roll {n : ℕ} {x : P528} {e : ℕ → ℕ → ℝ} (h : SumF n x e) (k : BitVec 32) (hk : k.toNat = 528 - n) (hn : n < 528)
    (hp : 0 < n) : SumF (n + n) (roll k x) e := fun i hi => by
  have h0 : (i 0).val < 528 := (i 0).isLt
  have e0 : ((i 0).val + 528 - k.toNat) % 528 = (i 0).val + n := by omega
  rw [roll_apply k x i (by omega), h i (by omega), h _ (by show ((i 0).val + 528 - k.toNat) % 528 + n ≤ 528; omega), lift_add,
    Finset.sum_range_add]
  refine congrArg _ (congrArg₂ _ rfl (Finset.sum_congr rfl fun j _ => ?_))
  show e (((i 0).val + 528 - k.toNat) % 528 + j) (i 1).val = _
  rw [e0, Nat.add_assoc]

/-! ### The numbers of rows -/

theorem word_toInt {n : ℕ} (h : n < 20000) : (BitVec.ofNat 32 n).toInt = (n : ℕ) := by
  have e : (BitVec.ofNat 32 n).toNat = n := by rw [BitVec.toNat_ofNat]; omega
  rw [BitVec.toInt_eq_toNat_of_lt (by omega), e]

theorem min_word {r w : ℕ} (hr : r < 10000) (hw : w < 10000) (x : BitVec 32) (hx : x = BitVec.ofNat 32 (r + 1)) :
    ((IntOp.minsi x (BitVec.ofNat 32 w)).toInt : ℝ) = cnt w r := by
  have h1 : x.toInt = (r + 1 : ℕ) := by rw [hx]; exact word_toInt (by omega)
  have h2 : (BitVec.ofNat 32 w).toInt = (w : ℕ) := word_toInt (by omega)
  unfold IntOp.minsi cnt
  by_cases h : x.slt (BitVec.ofNat 32 w) = true
  · rw [if_pos h, h1, min_eq_left]
    · rfl
    · rw [BitVec.slt, decide_eq_true_iff, h1, h2] at h; omega
  · rw [if_neg h, h2, min_eq_right]
    · rfl
    · rw [BitVec.slt, decide_eq_true_iff, h1, h2] at h; omega

theorem cnt_ne {w : ℕ} (hw : 0 < w) (s : ℕ) : cnt w s ≠ 0 := by
  unfold cnt
  have h : 0 < min (s + 1) w := lt_min (Nat.succ_pos s) hw
  exact_mod_cast h.ne'

section
variable {X : Args} {t g : ℕ} {a : BitVec 32}

theorem inv_is (ht : t < 8) (ha : a = BitVec.ofNat 32 t) {w : ℕ} (hp : 0 < w) (hw : w < 10000) :
    Is (invE a (BitVec.ofNat 32 w)) fun i => 1 / cnt w (t * 512 + (i 0).val) := fun i => by
  have h0 : (i 0).val < 512 := (i 0).isLt
  show Ideal.div (Ideal.ofBits .f32 0x3F800000#32) (((IntOp.minsi _ (BitVec.ofNat 32 w)).toInt : ℝ) : EReal) = _
  rw [min_word (r := t * 512 + (i 0).val) (by omega) hw, word_one, lift_div _ (cnt_ne hp _)]
  show a * 512#32 + BitVec.ofNat 32 (0 * 512 + (i 0).val) + 1#32 = _
  rw [ha]
  apply BitVec.eq_of_toNat_eq
  simp only [BitVec.toNat_add, BitVec.toNat_mul, BitVec.toNat_ofNat]
  omega

theorem invh_is (ht : t < 8) (ha : a = BitVec.ofNat 32 t) {w : ℕ} (hp : 0 < w) (hw : w < 10000) :
    Is (invhE a (BitVec.ofNat 32 w)) fun i => 1 / cnt w ((t + 1) * 512 + (i 0).val) := fun i => by
  have h0 : (i 0).val < 16 := (i 0).isLt
  show Ideal.div (Ideal.ofBits .f32 0x3F800000#32) (((IntOp.minsi _ (BitVec.ofNat 32 w)).toInt : ℝ) : EReal) = _
  rw [min_word (r := (t + 1) * 512 + (i 0).val) (by omega) hw, word_one, lift_div _ (cnt_ne hp _)]
  show (a + 1#32) * 512#32 + BitVec.ofNat 32 (0 * 16 + (i 0).val) + 1#32 = _
  rw [ha]
  apply BitVec.eq_of_toNat_eq
  simp only [BitVec.toNat_add, BitVec.toNat_mul, BitVec.toNat_ofNat]
  omega

/-! ### The group -/

theorem grp_of {d : ℕ} (hd : d < 256) : (g * 256 + d) / 256 = g := by omega
theorem col_of {d : ℕ} (hd : d < 256) : (g * 256 + d) % 256 = d := by omega

theorem select_one {α : Type} {c : BitVec 1} (h : c = 1#1) (a b : α) : Scalar.select c a b = a := if_pos h
theorem select_other {α : Type} {c : BitVec 1} (h : ¬c = 1#1) (a b : α) : Scalar.select c a b = b := if_neg h

theorem extF_top (x : P5) (h : P16) (i0 : Fin 528) (i1 : Fin 256) (hlt : i0.val < 512) :
    extF x h (ix2 i0 i1) = x (ix2 ⟨i0.val, hlt⟩ i1) :=
  (concatenate_pair_apply 0 x h _ _).trans ((dif_pos hlt).trans (congrArg x (funext fun b => match b with | 0 => rfl | 1 => rfl)))
theorem extF_bot (x : P5) (h : P16) (i0 : Fin 528) (i1 : Fin 256) (hlt : ¬i0.val < 512) :
    extF x h (ix2 i0 i1) = h (ix2 ⟨i0.val - 512, by have := i0.isLt; omega⟩ i1) :=
  (concatenate_pair_apply 0 x h _ _).trans ((dif_neg hlt).trans (congrArg h (funext fun b => match b with | 0 => rfl | 1 => rfl)))
theorem extB_top (c : BitVec 1) (zh : P16) (z : P5) (i0 : Fin 528) (i1 : Fin 256) (hlt : i0.val < 16) :
    extB c zh z (ix2 i0 i1) = Scalar.select c zh (broadcast S16x256 (Scalar.ofBits .f32 0x00000000#32)) (ix2 ⟨i0.val, hlt⟩ i1) :=
  (concatenate_pair_apply 0 _ z _ _).trans ((dif_pos hlt).trans (congrArg (Scalar.select c zh
    (broadcast S16x256 (Scalar.ofBits .f32 0x00000000#32))) (funext fun b => match b with | 0 => rfl | 1 => rfl)))
theorem extB_bot (c : BitVec 1) (zh : P16) (z : P5) (i0 : Fin 528) (i1 : Fin 256) (hlt : ¬i0.val < 16) :
    extB c zh z (ix2 i0 i1) = z (ix2 ⟨i0.val - 16, by have := i0.isLt; omega⟩ i1) :=
  (concatenate_pair_apply 0 _ z _ _).trans ((dif_neg hlt).trans (congrArg z (funext fun b => match b with | 0 => rfl | 1 => rfl)))

/-- Row `r` of the rows with the 16 before them. -/
def eB (X : Args) (t g r j : ℕ) : ℝ := if 16 ≤ t * 512 + r then X.Z (t * 512 + r - 16) (g * 256 + j) else 0

theorem extB_is {c : BitVec 1} {zh : P16} {z : P5} (hc : c = 1#1 ↔ 0 < t)
    (hh : Is zh fun i => X.Z ((32 * t - 1) * 16 + (i 0).val) (g * 256 + (i 1).val))
    (hz : Is z fun i => X.Z (t * 512 + (i 0).val) (g * 256 + (i 1).val)) :
    Is (extB c zh z) fun i => eB X t g (i 0).val (i 1).val := fun i => by
  idx_vars i
  have h528 : i0.val < 528 := i0.isLt
  show _ = ((eB X t g i0.val i1.val : ℝ) : EReal)
  unfold eB
  by_cases hlt : i0.val < 16
  · rw [extB_top c zh z i0 i1 hlt]
    by_cases ht : 0 < t
    · rw [select_one (hc.mpr ht), hh, if_pos (by omega)]
      show ((X.Z ((32 * t - 1) * 16 + i0.val) (g * 256 + i1.val) : ℝ) : EReal) = _
      congr 2; omega
    · rw [select_other fun h => ht (hc.mp h), if_neg (by omega)]
      show Ideal.ofBits .f32 0x00000000#32 = _
      simp
  · rw [extB_bot c zh z i0 i1 hlt, hz, if_pos (by omega)]
    show ((X.Z (t * 512 + (i0.val - 16)) (g * 256 + i1.val) : ℝ) : EReal) = _
    congr 2; omega

theorem po_is (ht : t < 8) (ha : a = BitVec.ofNat 32 t) (hw : win g < 17) (w : BitVec 32) (he : w = BitVec.ofNat 32 (win g))
    {s : P528} {z : P5} (hs : SumB (win g) s (eB X t g)) (hz : Is z fun i => X.Z (t * 512 + (i 0).val) (g * 256 + (i 1).val)) :
    Is (poE s a w z) fun i => X.PO (t * 512 + (i 0).val) (g * 256 + (i 1).val) := fun i => by
  idx_vars i
  pointwise [poE]
  have hp : 0 < win g := Nat.pos_of_ne_zero (by unfold win; positivity)
  rw [hs _ (by show win g ≤ 16 + i0.val + 1; omega), he, inv_is ht ha hp (by omega) _, hz _]
  simp only [Ideal.mulf_def, Ideal.subf_def, Ideal.truncf_def, lift_mul, lift_sub, Args.PO, ix2, grp_of i1.isLt]
  congr 2
  rw [mul_one_div]
  congr 1
  refine Finset.sum_congr rfl fun k hk => ?_
  have hk := Finset.mem_range.mp hk
  show eB X t g (16 + i0.val - k) i1.val = _
  unfold eB
  by_cases h : k ≤ t * 512 + i0.val
  · rw [if_pos h, if_pos (by omega)]; congr 1; omega
  · rw [if_neg h, if_neg (by omega)]

theorem yp_is {pb : P5B} {wp : Q} (hp : Is pb fun i => X.PO (t * 512 + (i 0).val) (g * 256 + (i 1).val))
    (hw : Is wp fun i => X.wp g (i 0).val (i 1).val) :
    Is (ypE pb wp) fun i => X.YP (t * 512 + (i 0).val) (g * 256 + (i 1).val) := fun i => by
  idx_vars i
  pointwise [ypE]
  simp only [hp _, hw _, lift_mul, lift_sum, Args.YP, ix2, grp_of i1.isLt, col_of i1.isLt]

/-- The scale's accumulator after these rows. -/
theorem dsc_step {acc : R1} {D : S1x256.Idx → ℝ} (hacc : Is acc D) {d pb : P5B} {wp : Q}
    (hd : Is d fun i => X.DB (t * 512 + (i 0).val) (g * 256 + (i 1).val))
    (hp : Is pb fun i => X.PO (t * 512 + (i 0).val) (g * 256 + (i 1).val))
    (hw : Is wp fun i => X.wp g (i 0).val (i 1).val) :
    Is (dscStep d pb wp acc) fun i => D i
      + ∑ r : Fin 512, X.DB (t * 512 + r) (g * 256 + (i 1).val) * X.YP (t * 512 + r) (g * 256 + (i 1).val) := fun i => by
  idx_vars i
  pointwise [dscStep]
  simp only [hacc _, hd _, yp_is hp hw _, Ideal.addf_def, Ideal.mulf_def, Ideal.extf_def, lift_mul, lift_sum, lift_add]
  rfl

theorem dy_is {d : P5B} {sc : R1} (hd : Is d fun i => X.DB (t * 512 + (i 0).val) (g * 256 + (i 1).val))
    (hs : Is sc fun i => X.sc (g * 256 + (i 1).val)) :
    Is (dyE d sc) fun i => X.DY (t * 512 + (i 0).val) (g * 256 + (i 1).val) := fun i => by
  idx_vars i
  pointwise [dyE]
  rw [hd _, hs _]
  simp only [Ideal.mulf_def, Ideal.extf_def, Ideal.truncf_def, lift_mul, Args.DY]
  rfl

/-- The pooling matrix's accumulator after these rows. -/
theorem dwp_step {acc : FVec Ideal S1x256x256 .f32} {D : S1x256x256.Idx → ℝ} (hacc : Is acc D) {pb dy : P5B}
    (hp : Is pb fun i => X.PO (t * 512 + (i 0).val) (g * 256 + (i 1).val))
    (hy : Is dy fun i => X.DY (t * 512 + (i 0).val) (g * 256 + (i 1).val)) :
    Is (dwpStep pb dy acc) fun i => D i
      + ∑ r : Fin 512, X.PO (t * 512 + r) (g * 256 + (i 1).val) * X.DY (t * 512 + r) (g * 256 + (i 2).val) := fun i => by
  idx_vars i
  pointwise [dwpStep]
  simp only [hacc _, hp _, hy _, Ideal.addf_def, lift_mul, lift_sum, lift_add]
  rw [Subsingleton.elim i0 0]
  rfl

theorem dpo_is {dy : P5B} {wp : Q} (hy : Is dy fun i => X.DY (t * 512 + (i 0).val) (g * 256 + (i 1).val))
    (hw : Is wp fun i => X.wp g (i 0).val (i 1).val) :
    Is (dpoE dy wp) fun i => X.DPO (t * 512 + (i 0).val) (g * 256 + (i 1).val) := fun i => by
  idx_vars i
  pointwise [dpoE]
  simp only [hy _, hw _, lift_mul, lift_sum, Args.DPO, ix2, grp_of i1.isLt, col_of i1.isLt]

theorem dpoh_is {d : FVec Ideal S16x256 .bf16} {sc : R1} {wp : Q} {n : ℕ}
    (hd : Is d fun i => X.DB (n * 16 + (i 0).val) (g * 256 + (i 1).val)) (hs : Is sc fun i => X.sc (g * 256 + (i 1).val))
    (hw : Is wp fun i => X.wp g (i 0).val (i 1).val) :
    Is (dpohE d sc wp) fun i => X.DPO (n * 16 + (i 0).val) (g * 256 + (i 1).val) := fun i => by
  idx_vars i
  pointwise [dpohE]
  simp only [hd _, hs _, hw _, Ideal.mulf_def, Ideal.extf_def, Ideal.truncf_def, lift_mul, lift_sum, Args.DPO, Args.DY, ix2,
    grp_of i1.isLt, col_of i1.isLt]

/-- Row `r` of the shared gradients with the 16 rows after them. -/
def eF (X : Args) (t g r j : ℕ) : ℝ :=
  if t * 512 + r < 4096 then X.DPO (t * 512 + r) (g * 256 + j) / cnt (win g) (t * 512 + r) else 0

theorem share_is (ht : t < 8) (ha : a = BitVec.ofNat 32 t) (hw : win g < 17) (w : BitVec 32) (he : w = BitVec.ofNat 32 (win g))
    {last : BitVec 1} (hl : last = 1#1 ↔ t = 7) {dpo : P5} {dpoh : P16}
    (hd : Is dpo fun i => X.DPO (t * 512 + (i 0).val) (g * 256 + (i 1).val))
    (hh : Is dpoh fun i => X.DPO (min (32 * (t + 1)) 255 * 16 + (i 0).val) (g * 256 + (i 1).val)) :
    Is (shareE dpo a w last dpoh) fun i => eF X t g (i 0).val (i 1).val := fun i => by
  have hp : 0 < win g := Nat.pos_of_ne_zero (by unfold win; positivity)
  idx_vars i
  have h528 : i0.val < 528 := i0.isLt
  show _ = ((eF X t g i0.val i1.val : ℝ) : EReal)
  unfold eF shareE
  by_cases hlt : i0.val < 512
  · rw [extF_top _ _ i0 i1 hlt, if_pos (by omega)]
    pointwise []
    rw [hd _, he, inv_is ht ha hp (by omega) _]
    simp only [Ideal.mulf_def, lift_mul]
    rw [mul_one_div]
    rfl
  · rw [extF_bot _ _ i0 i1 hlt]
    by_cases h7 : t = 7
    · rw [select_one (hl.mpr h7), if_neg (by omega)]
      show Ideal.ofBits .f32 0x00000000#32 = _
      simp
    · rw [select_other (fun h => h7 (hl.mp h)), if_pos (by omega)]
      pointwise []
      rw [hh _, he, invh_is ht ha hp (by omega) _]
      simp only [Ideal.mulf_def, lift_mul]
      rw [mul_one_div]
      show ((X.DPO (min (32 * (t + 1)) 255 * 16 + (i0.val - 512)) (g * 256 + i1.val)
        / cnt (win g) ((t + 1) * 512 + (i0.val - 512)) : ℝ) : EReal) = _
      rw [show min (32 * (t + 1)) 255 * 16 + (i0.val - 512) = t * 512 + i0.val by omega,
        show (t + 1) * 512 + (i0.val - 512) = t * 512 + i0.val by omega]

theorem dz_is (hw : win g < 17) {s : P528} {dpo : P5} (hs : SumF (win g) s (eF X t g))
    (hd : Is dpo fun i => X.DPO (t * 512 + (i 0).val) (g * 256 + (i 1).val)) :
    Is (dzOut s dpo) fun i => X.DZ (t * 512 + (i 0).val) (g * 256 + (i 1).val) := fun i => by
  idx_vars i
  pointwise [dzOut]
  have h0 : i0.val < 512 := i0.isLt
  rw [hs _ (by show i0.val + win g ≤ 528; omega), hd _]
  simp only [Ideal.subf_def, Ideal.truncf_def, lift_sub, Args.DZ, ix2, grp_of i1.isLt]
  congr 2
  refine Finset.sum_congr rfl fun k hk => ?_
  show eF X t g (i0.val + k) i1.val = _
  unfold eF
  rw [Nat.add_assoc]

/-! ### The four groups -/

section
variable {c last : BitVec 1} {zh : P16} {z z' : P5}

theorem po1 (ht : t < 8) (ha : a = BitVec.ofNat 32 t) (hc : c = 1#1 ↔ 0 < t)
    (hh : Is zh fun i => X.Z ((32 * t - 1) * 16 + (i 0).val) (g * 256 + (i 1).val))
    (hz : Is z fun i => X.Z (t * 512 + (i 0).val) (g * 256 + (i 1).val))
    (hz' : Is z' fun i => X.Z (t * 512 + (i 0).val) (g * 256 + (i 1).val)) (hg : win g = 2 := by decide) :
    Is (poE (roll 1#32 (extB c zh z)) a 2#32 z') fun i => X.PO (t * 512 + (i 0).val) (g * 256 + (i 1).val) :=
  po_is ht ha (by omega) _ (by rw [hg]) (by rw [hg]; exact (SumB.one (extB_is hc hh hz)).roll 1#32 rfl (by decide)) hz'
theorem po2 (ht : t < 8) (ha : a = BitVec.ofNat 32 t) (hc : c = 1#1 ↔ 0 < t)
    (hh : Is zh fun i => X.Z ((32 * t - 1) * 16 + (i 0).val) (g * 256 + (i 1).val))
    (hz : Is z fun i => X.Z (t * 512 + (i 0).val) (g * 256 + (i 1).val))
    (hz' : Is z' fun i => X.Z (t * 512 + (i 0).val) (g * 256 + (i 1).val)) (hg : win g = 4 := by decide) :
    Is (poE (roll 2#32 (roll 1#32 (extB c zh z))) a 4#32 z') fun i => X.PO (t * 512 + (i 0).val) (g * 256 + (i 1).val) :=
  po_is ht ha (by omega) _ (by rw [hg]) (by
    rw [hg]; exact ((SumB.one (extB_is hc hh hz)).roll 1#32 rfl (by decide)).roll 2#32 rfl (by decide)) hz'
theorem po3 (ht : t < 8) (ha : a = BitVec.ofNat 32 t) (hc : c = 1#1 ↔ 0 < t)
    (hh : Is zh fun i => X.Z ((32 * t - 1) * 16 + (i 0).val) (g * 256 + (i 1).val))
    (hz : Is z fun i => X.Z (t * 512 + (i 0).val) (g * 256 + (i 1).val))
    (hz' : Is z' fun i => X.Z (t * 512 + (i 0).val) (g * 256 + (i 1).val)) (hg : win g = 8 := by decide) :
    Is (poE (roll 4#32 (roll 2#32 (roll 1#32 (extB c zh z)))) a 8#32 z')
      fun i => X.PO (t * 512 + (i 0).val) (g * 256 + (i 1).val) :=
  po_is ht ha (by omega) _ (by rw [hg]) (by
    rw [hg]
    exact (((SumB.one (extB_is hc hh hz)).roll 1#32 rfl (by decide)).roll 2#32 rfl (by decide)).roll 4#32 rfl (by decide)) hz'
theorem po4 (ht : t < 8) (ha : a = BitVec.ofNat 32 t) (hc : c = 1#1 ↔ 0 < t)
    (hh : Is zh fun i => X.Z ((32 * t - 1) * 16 + (i 0).val) (g * 256 + (i 1).val))
    (hz : Is z fun i => X.Z (t * 512 + (i 0).val) (g * 256 + (i 1).val))
    (hz' : Is z' fun i => X.Z (t * 512 + (i 0).val) (g * 256 + (i 1).val)) (hg : win g = 16 := by decide) :
    Is (poE (roll 8#32 (roll 4#32 (roll 2#32 (roll 1#32 (extB c zh z))))) a 16#32 z')
      fun i => X.PO (t * 512 + (i 0).val) (g * 256 + (i 1).val) :=
  po_is ht ha (by omega) _ (by rw [hg]) (by
    rw [hg]
    exact ((((SumB.one (extB_is hc hh hz)).roll 1#32 rfl (by decide)).roll 2#32 rfl (by decide)).roll 4#32 rfl
      (by decide)).roll 8#32 rfl (by decide)) hz'

variable {dpo dpo' : P5} {dpoh : P16}

theorem dz1 (ht : t < 8) (ha : a = BitVec.ofNat 32 t) (hl : last = 1#1 ↔ t = 7)
    (hd : Is dpo fun i => X.DPO (t * 512 + (i 0).val) (g * 256 + (i 1).val))
    (hh : Is dpoh fun i => X.DPO (min (32 * (t + 1)) 255 * 16 + (i 0).val) (g * 256 + (i 1).val))
    (hd' : Is dpo' fun i => X.DPO (t * 512 + (i 0).val) (g * 256 + (i 1).val)) (hg : win g = 2 := by decide) :
    Is (dzOut (roll 527#32 (shareE dpo a 2#32 last dpoh)) dpo') fun i => X.DZ (t * 512 + (i 0).val) (g * 256 + (i 1).val) :=
  dz_is (by omega) (by
    rw [hg]; exact (SumF.one (share_is ht ha (by omega) _ (by rw [hg]) hl hd hh)).roll 527#32 rfl (by decide) (by decide)) hd'
theorem dz2 (ht : t < 8) (ha : a = BitVec.ofNat 32 t) (hl : last = 1#1 ↔ t = 7)
    (hd : Is dpo fun i => X.DPO (t * 512 + (i 0).val) (g * 256 + (i 1).val))
    (hh : Is dpoh fun i => X.DPO (min (32 * (t + 1)) 255 * 16 + (i 0).val) (g * 256 + (i 1).val))
    (hd' : Is dpo' fun i => X.DPO (t * 512 + (i 0).val) (g * 256 + (i 1).val)) (hg : win g = 4 := by decide) :
    Is (dzOut (roll 526#32 (roll 527#32 (shareE dpo a 4#32 last dpoh))) dpo')
      fun i => X.DZ (t * 512 + (i 0).val) (g * 256 + (i 1).val) :=
  dz_is (by omega) (by
    rw [hg]
    exact ((SumF.one (share_is ht ha (by omega) _ (by rw [hg]) hl hd hh)).roll 527#32 rfl (by decide) (by decide)).roll
      526#32 rfl (by decide) (by decide)) hd'
theorem dz3 (ht : t < 8) (ha : a = BitVec.ofNat 32 t) (hl : last = 1#1 ↔ t = 7)
    (hd : Is dpo fun i => X.DPO (t * 512 + (i 0).val) (g * 256 + (i 1).val))
    (hh : Is dpoh fun i => X.DPO (min (32 * (t + 1)) 255 * 16 + (i 0).val) (g * 256 + (i 1).val))
    (hd' : Is dpo' fun i => X.DPO (t * 512 + (i 0).val) (g * 256 + (i 1).val)) (hg : win g = 8 := by decide) :
    Is (dzOut (roll 524#32 (roll 526#32 (roll 527#32 (shareE dpo a 8#32 last dpoh)))) dpo')
      fun i => X.DZ (t * 512 + (i 0).val) (g * 256 + (i 1).val) :=
  dz_is (by omega) (by
    rw [hg]
    exact (((SumF.one (share_is ht ha (by omega) _ (by rw [hg]) hl hd hh)).roll 527#32 rfl (by decide) (by decide)).roll
      526#32 rfl (by decide) (by decide)).roll 524#32 rfl (by decide) (by decide)) hd'
theorem dz4 (ht : t < 8) (ha : a = BitVec.ofNat 32 t) (hl : last = 1#1 ↔ t = 7)
    (hd : Is dpo fun i => X.DPO (t * 512 + (i 0).val) (g * 256 + (i 1).val))
    (hh : Is dpoh fun i => X.DPO (min (32 * (t + 1)) 255 * 16 + (i 0).val) (g * 256 + (i 1).val))
    (hd' : Is dpo' fun i => X.DPO (t * 512 + (i 0).val) (g * 256 + (i 1).val)) (hg : win g = 16 := by decide) :
    Is (dzOut (roll 520#32 (roll 524#32 (roll 526#32 (roll 527#32 (shareE dpo a 16#32 last dpoh))))) dpo')
      fun i => X.DZ (t * 512 + (i 0).val) (g * 256 + (i 1).val) :=
  dz_is (by omega) (by
    rw [hg]
    exact ((((SumF.one (share_is ht ha (by omega) _ (by rw [hg]) hl hd hh)).roll 527#32 rfl (by decide) (by decide)).roll
      526#32 rfl (by decide) (by decide)).roll 524#32 rfl (by decide) (by decide)).roll 520#32 rfl (by decide) (by decide)) hd'

end

end

end Cert.Proof.Ker

end
-- ==== Proof.KerCase.lean ====
/- What one grid point of the kernel leaves in each of its result blocks and accumulators, as formulas of Model.lean: the
   body's stores read one by one. The first point (case A) starts the accumulators at zero, the others (cases B and C) add to
   what the point before left; the last point (case C) then masks one gradient and sums another. -/
module

public import proofs.«01_k».proof.Proof.Gen.KernelIdeal.Frame
public import proofs.«01_k».proof.Proof.KerLoad
public import proofs.«01_k».proof.Proof.KerPool

@[expose] public section

set_option maxRecDepth 16384
set_option maxHeartbeats 4000000

noncomputable section

namespace Cert.Proof.Ker

open Idealize.ShloMosaic Cert.KernelIdeal Cert.KernelIdeal.Gen
open scoped BigOperators

/-! ### The words of a grid point: its number, whether rows come before it, whether it is the last -/

theorem lt8 (t : Fin cfg0.N) : t.val < 8 := Nat.lt_of_lt_of_eq t.isLt N_0
theorem coord_eq (t : Fin cfg0.N) : (grid0.coords t 0).val = t.val := by
  have ht := lt8 t
  have e0 : (grid0.coords t 0).val = t.val / 1 % 8 := Pipeline.Grid.coords_val t 0 (by decide) rfl
  omega
theorem num (t : Fin cfg0.N) : BitVec.ofNat 32 (grid0.coords t 0).val = BitVec.ofNat 32 t.val := by rw [coord_eq]
theorem first (t : Fin cfg0.N) : Scalar.cmpi .sgt (BitVec.ofNat 32 (grid0.coords t 0).val) 0#32 = 1#1 ↔ 0 < t.val := by
  have ht := lt8 t
  simp only [coord_eq]
  word_cmp
theorem last (t : Fin cfg0.N) : Scalar.cmpi .eq (BitVec.ofNat 32 (grid0.coords t 0).val) 7#32 = 1#1 ↔ t.val = 7 := by
  have ht := lt8 t
  simp only [coord_eq]
  word_cmp

/-- A load of an accumulator that was just set to zero. -/
theorem zero_ld {s u : Shape} (r : Rect u) (h : s.ShapeCasts u) :
    Is (s := r.shape) (View.ld (Val := Elt Ideal) (e' := .f32)
      (shapeCast u (broadcast s (Scalar.ofBits (F := Ideal) .f32 0x00000000#32)) h) r) fun _ => 0 := fun i => by
  show Ideal.ofBits .f32 0x00000000#32 = _
  simp

/-! ### What one chunk, and one grid point, adds -/

/-- What chunk `n` adds to the gradient of head `h`'s mixing matrix. -/
def cDws (X : Args) (n h r k : ℕ) : ℝ := ∑ d : Fin 128, X.DMX (n * 128 + r) (h * 128 + d) * X.VH (n * 128 + k) (h * 128 + d)
/-- What chunk `n` adds to the gradient of the biases, before the sum over the columns. -/
def cDb (X : Args) (n h r d : ℕ) : ℝ := X.DMX (n * 128 + r) (h * 128 + d)
/-- What chunk `n` adds to the gradient of the normalisation's scale. -/
def cDgv (X : Args) (n j : ℕ) : ℝ := ∑ r : Fin 128, X.DVH (n * 128 + r) j * X.VN (n * 128 + r) j
/-- What grid point `t` adds to the gradient of group `g`'s pooling matrix, and to the pooling half's scale. -/
def cDwp (X : Args) (t g k d : ℕ) : ℝ := ∑ r : Fin 512, X.PO (t * 512 + r) (g * 256 + k) * X.DY (t * 512 + r) (g * 256 + d)
def cDsc (X : Args) (t j : ℕ) : ℝ := ∑ r : Fin 512, X.DB (t * 512 + r) j * X.YP (t * 512 + r) j

section
variable (m : (ℓ : Loc nD τ sig) → Buf (Elt Ideal) ℓ) {X : Args} (c : Dev nD) (t : Fin cfg0.N)
  (H : Blk X t.val (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t))
include H

theorem db_first (h0 : t.val % 8 = 0) (h1 : ¬t.val % 8 = 7) :
    Is (s := S8x128x128) (outsAt0 m c t.val t.isLt).2.2.2.2.2.2 fun i => 0 + cDb X (4 * t.val) (i 0).val (i 1).val (i 2).val + cDb X (4 * t.val + 1) (i 0).val (i 1).val (i 2).val + cDb X (4 * t.val + 2) (i 0).val (i 1).val (i 2).val + cDb X (4 * t.val + 3) (i 0).val (i 1).val (i 2).val := by
  rw [outsAt0_A m c t h0 h1]
  dsimp only
  frame_open
  simp (disch := decide) only [↓ View.readCov_skip, ↓ View.readCov_cons_toLoadRect, ↓ View.readCov_fill]
  frame_out
  unfold_payloads
  rw [canon_pick 8 _ (by refine ⟨?_, ?_, ?_, ?_, ?_, ?_, ?_, ?_, trivial⟩ <;> exact ⟨rfl, rfl, rfl⟩)]
  refine Is.canon 8 ?_ ?_
  · refine ⟨?_, ?_, ?_, ?_, ?_, ?_, ?_, ?_, trivial⟩
    all_goals
      refine Is.of (db_step (db_step (db_step (db_step (zero_ld _ _) (H.ld _) (H.lu _)) (H.ld _) (H.lu _)) (H.ld _) (H.lu _)) (H.ld _) (H.lu _)) ?_
      intro x
      have h0 : (x 0).val = 0 := by have h : (x 0).val < 1 := (x 0).isLt; omega
      simp only [unit_val, h0, Matrix.cons_val, cDb, Nat.zero_add, Nat.add_zero, Nat.zero_div, Nat.zero_mul, Nat.reduceDiv,
        Nat.reduceMul]
  · exact View.cover_of_tiled_head _ _ _ rfl

theorem db_next (h0 : ¬t.val % 8 = 0) {D : ℕ → ℕ → ℕ → ℝ}
    (ha : Is (s := S8x128x128) (outsAt0 m c (t.val - 1) (Nat.lt_of_le_of_lt (Nat.sub_le _ _) t.isLt)).2.2.2.2.2.2 fun i => D (i 0).val (i 1).val (i 2).val) :
    Is (s := S8x128x128) (outsAt0 m c t.val t.isLt).2.2.2.2.2.2 fun i => D (i 0).val (i 1).val (i 2).val + cDb X (4 * t.val) (i 0).val (i 1).val (i 2).val + cDb X (4 * t.val + 1) (i 0).val (i 1).val (i 2).val + cDb X (4 * t.val + 2) (i 0).val (i 1).val (i 2).val + cDb X (4 * t.val + 3) (i 0).val (i 1).val (i 2).val := by
  by_cases h1 : t.val % 8 = 7
  on_goal 1 => rw [outsAt0_C m c t h0 h1]
  on_goal 2 => rw [outsAt0_B m c t h0 h1]
  all_goals
    dsimp only
    frame_open
    simp (disch := decide) only [↓ View.readCov_skip, ↓ View.readCov_cons_toLoadRect, ↓ View.readCov_fill]
    frame_out
    simp only [read_unread_whole]
    unfold_payloads
    rw [canon_pick 8 _ (by refine ⟨?_, ?_, ?_, ?_, ?_, ?_, ?_, ?_, trivial⟩ <;> exact ⟨rfl, rfl, rfl⟩)]
    refine Is.canon 8 ?_ ?_
    · refine ⟨?_, ?_, ?_, ?_, ?_, ?_, ?_, ?_, trivial⟩
      all_goals
        refine Is.of (db_step (db_step (db_step (db_step (ld3 (f := D) ha _) (H.ld _) (H.lu _)) (H.ld _) (H.lu _)) (H.ld _) (H.lu _)) (H.ld _) (H.lu _)) ?_
        intro x
        have h0 : (x 0).val = 0 := by have h : (x 0).val < 1 := (x 0).isLt; omega
        simp only [unit_val, h0, Matrix.cons_val, cDb, Nat.zero_add, Nat.add_zero, Nat.zero_div, Nat.zero_mul, Nat.reduceDiv,
          Nat.reduceMul]
    · exact View.cover_of_tiled_head _ _ _ rfl

/-- The last point's gradients of the mixing matrices, masked. -/
theorem dws_last (h0 : ¬t.val % 8 = 0) (h1 : t.val % 8 = 7) {D : ℕ → ℕ → ℕ → ℝ}
    (ha : Is (s := S8x128x128) (outsAt0 m c (t.val - 1) (Nat.lt_of_le_of_lt (Nat.sub_le _ _) t.isLt)).2.1 fun i => D (i 0).val (i 1).val (i 2).val) :
    Is (s := S8x128x128) (outsAt0 m c t.val t.isLt).2.1 fun i => if (i 2).val ≤ (i 1).val then
      D (i 0).val (i 1).val (i 2).val + cDws X (4 * t.val) (i 0).val (i 1).val (i 2).val + cDws X (4 * t.val + 1) (i 0).val (i 1).val (i 2).val + cDws X (4 * t.val + 2) (i 0).val (i 1).val (i 2).val + cDws X (4 * t.val + 3) (i 0).val (i 1).val (i 2).val else 0 := by
  rw [outsAt0_C m c t h0 h1]
  dsimp only
  frame_open
  simp (disch := decide) only [↓ View.readCov_skip, ↓ View.readCov_cons_toLoadRect, ↓ View.readCov_fill]
  frame_out
  unfold_payloads
  refine Is.canon 8 ?_ ?_
  · refine ⟨?_, ?_, ?_, ?_, ?_, ?_, ?_, ?_, trivial⟩
    all_goals
      refine Is.of (dws_end (dws_step (dws_step (dws_step (dws_step (ld3 (f := D) ha _) (H.ld _) (H.lu _) (H.lv _) (H.lg _)) (H.ld _) (H.lu _) (H.lv _) (H.lg _)) (H.ld _) (H.lu _) (H.lv _) (H.lg _)) (H.ld _) (H.lu _) (H.lv _) (H.lg _))) ?_
      intro x
      have h0 : (x 0).val = 0 := by have h : (x 0).val < 1 := (x 0).isLt; omega
      simp only [unit_val, h0, Matrix.cons_val, cDws, Nat.zero_add, Nat.add_zero, Nat.zero_div, Nat.zero_mul, Nat.reduceDiv,
        Nat.reduceMul]
  · exact View.cover_of_tiled_head _ _ _ rfl

/-- The last point's gradients of the biases. -/
theorem dbs_last (h0 : ¬t.val % 8 = 0) (h1 : t.val % 8 = 7) {D : ℕ → ℕ → ℕ → ℝ}
    (ha : Is (s := S8x128x128) (outsAt0 m c (t.val - 1) (Nat.lt_of_le_of_lt (Nat.sub_le _ _) t.isLt)).2.2.2.2.2.2 fun i => D (i 0).val (i 1).val (i 2).val) :
    Is (s := S8x128x1) (outsAt0 m c t.val t.isLt).2.2.1 fun i => ∑ d : Fin 128, (
      D (i 0).val (i 1).val d + cDb X (4 * t.val) (i 0).val (i 1).val d + cDb X (4 * t.val + 1) (i 0).val (i 1).val d + cDb X (4 * t.val + 2) (i 0).val (i 1).val d + cDb X (4 * t.val + 3) (i 0).val (i 1).val d) := by
  rw [outsAt0_C m c t h0 h1]
  dsimp only
  frame_open
  simp (disch := decide) only [↓ View.readCov_skip, ↓ View.readCov_cons_toLoadRect, ↓ View.readCov_fill]
  frame_out
  simp only [read_unread_whole]
  unfold_payloads
  refine Is.canon 8 ?_ ?_
  · refine ⟨?_, ?_, ?_, ?_, ?_, ?_, ?_, ?_, trivial⟩
    all_goals
      refine Is.of (dbs_end (db_step (db_step (db_step (db_step (ld3 (f := D) ha _) (H.ld _) (H.lu _)) (H.ld _) (H.lu _)) (H.ld _) (H.lu _)) (H.ld _) (H.lu _))) ?_
      intro x
      have h0 : (x 0).val = 0 := by have h : (x 0).val < 1 := (x 0).isLt; omega
      simp only [unit_val, h0, Matrix.cons_val, cDb, Nat.zero_add, Nat.add_zero, Nat.zero_div, Nat.zero_mul, Nat.reduceDiv,
        Nat.reduceMul]
      rfl
  · exact View.cover_of_tiled_head _ _ _ rfl

theorem dws_first (h0 : t.val % 8 = 0) (h1 : ¬t.val % 8 = 7) :
    Is (s := S8x128x128) (outsAt0 m c t.val t.isLt).2.1 fun i => 0 + cDws X (4 * t.val) (i 0).val (i 1).val (i 2).val + cDws X (4 * t.val + 1) (i 0).val (i 1).val (i 2).val + cDws X (4 * t.val + 2) (i 0).val (i 1).val (i 2).val + cDws X (4 * t.val + 3) (i 0).val (i 1).val (i 2).val := by
  rw [outsAt0_A m c t h0 h1]
  dsimp only
  frame_open
  simp (disch := decide) only [↓ View.readCov_skip, ↓ View.readCov_cons_toLoadRect, ↓ View.readCov_fill]
  frame_out
  unfold_payloads
  rw [canon_pick 8 _ (by refine ⟨?_, ?_, ?_, ?_, ?_, ?_, ?_, ?_, trivial⟩ <;> exact ⟨rfl, rfl, rfl⟩)]
  refine Is.canon 8 ?_ ?_
  · refine ⟨?_, ?_, ?_, ?_, ?_, ?_, ?_, ?_, trivial⟩
    all_goals
      refine Is.of (dws_step (dws_step (dws_step (dws_step (zero_ld _ _) (H.ld _) (H.lu _) (H.lv _) (H.lg _)) (H.ld _) (H.lu _) (H.lv _) (H.lg _)) (H.ld _) (H.lu _) (H.lv _) (H.lg _)) (H.ld _) (H.lu _) (H.lv _) (H.lg _)) ?_
      intro x
      have h0 : (x 0).val = 0 := by have h : (x 0).val < 1 := (x 0).isLt; omega
      simp only [unit_val, h0, Matrix.cons_val, cDws, Nat.zero_add, Nat.add_zero, Nat.zero_div, Nat.zero_mul, Nat.reduceDiv,
        Nat.reduceMul]
  · exact View.cover_of_tiled_head _ _ _ rfl

theorem dws_next (h0 : ¬t.val % 8 = 0) (h1 : ¬t.val % 8 = 7) {D : ℕ → ℕ → ℕ → ℝ}
    (ha : Is (s := S8x128x128) (outsAt0 m c (t.val - 1) (Nat.lt_of_le_of_lt (Nat.sub_le _ _) t.isLt)).2.1 fun i => D (i 0).val (i 1).val (i 2).val) :
    Is (s := S8x128x128) (outsAt0 m c t.val t.isLt).2.1 fun i => D (i 0).val (i 1).val (i 2).val + cDws X (4 * t.val) (i 0).val (i 1).val (i 2).val + cDws X (4 * t.val + 1) (i 0).val (i 1).val (i 2).val + cDws X (4 * t.val + 2) (i 0).val (i 1).val (i 2).val + cDws X (4 * t.val + 3) (i 0).val (i 1).val (i 2).val := by
  rw [outsAt0_B m c t h0 h1]
  dsimp only
  frame_open
  simp (disch := decide) only [↓ View.readCov_skip, ↓ View.readCov_cons_toLoadRect, ↓ View.readCov_fill]
  frame_out
  unfold_payloads
  rw [canon_pick 8 _ (by refine ⟨?_, ?_, ?_, ?_, ?_, ?_, ?_, ?_, trivial⟩ <;> exact ⟨rfl, rfl, rfl⟩)]
  refine Is.canon 8 ?_ ?_
  · refine ⟨?_, ?_, ?_, ?_, ?_, ?_, ?_, ?_, trivial⟩
    all_goals
      refine Is.of (dws_step (dws_step (dws_step (dws_step (ld3 (f := D) ha _) (H.ld _) (H.lu _) (H.lv _) (H.lg _)) (H.ld _) (H.lu _) (H.lv _) (H.lg _)) (H.ld _) (H.lu _) (H.lv _) (H.lg _)) (H.ld _) (H.lu _) (H.lv _) (H.lg _)) ?_
      intro x
      have h0 : (x 0).val = 0 := by have h : (x 0).val < 1 := (x 0).isLt; omega
      simp only [unit_val, h0, Matrix.cons_val, cDws, Nat.zero_add, Nat.add_zero, Nat.zero_div, Nat.zero_mul, Nat.reduceDiv,
        Nat.reduceMul]
  · exact View.cover_of_tiled_head _ _ _ rfl

theorem dgv_first (h0 : t.val % 8 = 0) (h1 : ¬t.val % 8 = 7) :
    Is (s := S1x1024) (outsAt0 m c t.val t.isLt).2.2.2.1 fun i => 0 + cDgv X (4 * t.val) (i 1).val + cDgv X (4 * t.val + 1) (i 1).val + cDgv X (4 * t.val + 2) (i 1).val + cDgv X (4 * t.val + 3) (i 1).val := by
  rw [outsAt0_A m c t h0 h1]
  dsimp only
  frame_open
  simp (disch := decide) only [↓ View.readCov_skip, ↓ View.readCov_cons_toLoadRect, ↓ View.readCov_fill]
  frame_out
  unfold_payloads
  rw [canon_pick 8 _ (by refine ⟨?_, ?_, ?_, ?_, ?_, ?_, ?_, ?_, trivial⟩ <;> exact ⟨rfl, rfl, rfl⟩)]
  refine Is.canon 8 ?_ ?_
  · refine ⟨?_, ?_, ?_, ?_, ?_, ?_, ?_, ?_, trivial⟩
    all_goals
      refine Is.of (dgv_step (dgv_step (dgv_step (dgv_step (zero_ld _ _) (H.lwt _) (H.ld _) (H.lu _) (H.lv _)) (H.lwt _) (H.ld _) (H.lu _) (H.lv _)) (H.lwt _) (H.ld _) (H.lu _) (H.lv _)) (H.lwt _) (H.ld _) (H.lu _) (H.lv _)) ?_
      intro x
      have h0 : (x 0).val = 0 := by have h : (x 0).val < 1 := (x 0).isLt; omega
      simp only [unit_val, h0, Matrix.cons_val, cDgv, Nat.zero_add, Nat.add_zero, Nat.zero_div, Nat.zero_mul, Nat.reduceDiv,
        Nat.reduceMul]
  · exact View.cover_of_tiled_head _ _ _ rfl

theorem dgv_next (h0 : ¬t.val % 8 = 0) {D : ℕ → ℝ}
    (ha : Is (s := S1x1024) (outsAt0 m c (t.val - 1) (Nat.lt_of_le_of_lt (Nat.sub_le _ _) t.isLt)).2.2.2.1 fun i => D (i 1).val) :
    Is (s := S1x1024) (outsAt0 m c t.val t.isLt).2.2.2.1 fun i => D (i 1).val + cDgv X (4 * t.val) (i 1).val + cDgv X (4 * t.val + 1) (i 1).val + cDgv X (4 * t.val + 2) (i 1).val + cDgv X (4 * t.val + 3) (i 1).val := by
  by_cases h1 : t.val % 8 = 7
  on_goal 1 => rw [outsAt0_C m c t h0 h1]
  on_goal 2 => rw [outsAt0_B m c t h0 h1]
  all_goals
    dsimp only
    frame_open
    simp (disch := decide) only [↓ View.readCov_skip, ↓ View.readCov_cons_toLoadRect, ↓ View.readCov_fill]
    frame_out
    unfold_payloads
    rw [canon_pick 8 _ (by refine ⟨?_, ?_, ?_, ?_, ?_, ?_, ?_, ?_, trivial⟩ <;> exact ⟨rfl, rfl, rfl⟩)]
    refine Is.canon 8 ?_ ?_
    · refine ⟨?_, ?_, ?_, ?_, ?_, ?_, ?_, ?_, trivial⟩
      all_goals
        refine Is.of (dgv_step (dgv_step (dgv_step (dgv_step (ld2 (f := fun _ k => D k) (g := fun _ k => D (_ + k)) ha (fun _ _ => rfl) _) (H.lwt _) (H.ld _) (H.lu _) (H.lv _)) (H.lwt _) (H.ld _) (H.lu _) (H.lv _)) (H.lwt _) (H.ld _) (H.lu _) (H.lv _)) (H.lwt _) (H.ld _) (H.lu _) (H.lv _)) ?_
        intro x
        have h0 : (x 0).val = 0 := by have h : (x 0).val < 1 := (x 0).isLt; omega
        simp only [unit_val, h0, Matrix.cons_val, cDgv, Nat.zero_add, Nat.add_zero, Nat.zero_div, Nat.zero_mul, Nat.reduceDiv,
          Nat.reduceMul]
    · exact View.cover_of_tiled_head _ _ _ rfl

theorem dsc_first (h0 : t.val % 8 = 0) (h1 : ¬t.val % 8 = 7) :
    Is (s := S1x1024) (outsAt0 m c t.val t.isLt).2.2.2.2.2.1 fun i => 0 + cDsc X t.val (i 1).val := by
  rw [outsAt0_A m c t h0 h1]
  dsimp only
  frame_open
  simp (disch := decide) only [↓ View.readCov_skip, ↓ View.readCov_cons_toLoadRect, ↓ View.readCov_fill]
  frame_out
  unfold_payloads
  refine Is.canon 4 ?_ ?_
  · refine ⟨Is.of (dsc_step (zero_ld _ _) (H.lo _) (po4 (lt8 t) (num t) (first t) (H.lzh' _ _) (H.lz' _ _) (H.lz _)) (H.lp _)) ?_,
      Is.of (dsc_step (zero_ld _ _) (H.lo _) (po3 (lt8 t) (num t) (first t) (H.lzh' _ _) (H.lz' _ _) (H.lz _)) (H.lp _)) ?_,
      Is.of (dsc_step (zero_ld _ _) (H.lo _) (po2 (lt8 t) (num t) (first t) (H.lzh' _ _) (H.lz' _ _) (H.lz _)) (H.lp _)) ?_,
      Is.of (dsc_step (zero_ld _ _) (H.lo _) (po1 (lt8 t) (num t) (first t) (H.lzh' _ _) (H.lz' _ _) (H.lz _)) (H.lp _)) ?_, trivial⟩
    all_goals
      intro x
      have h0 : (x 0).val = 0 := by have h : (x 0).val < 1 := (x 0).isLt; omega
      simp only [unit_val, h0, Matrix.cons_val, cDsc, Nat.zero_add, Nat.add_zero, Nat.zero_div, Nat.zero_mul, Nat.reduceDiv,
        Nat.reduceMul]
  · exact View.cover_of_tiled_head _ _ _ rfl

theorem dsc_next (h0 : ¬t.val % 8 = 0) {D : ℕ → ℝ}
    (ha : Is (s := S1x1024) (outsAt0 m c (t.val - 1) (Nat.lt_of_le_of_lt (Nat.sub_le _ _) t.isLt)).2.2.2.2.2.1 fun i => D (i 1).val) :
    Is (s := S1x1024) (outsAt0 m c t.val t.isLt).2.2.2.2.2.1 fun i => D (i 1).val + cDsc X t.val (i 1).val := by
  by_cases h1 : t.val % 8 = 7
  on_goal 1 => rw [outsAt0_C m c t h0 h1]
  on_goal 2 => rw [outsAt0_B m c t h0 h1]
  all_goals
    dsimp only
    frame_open
    simp (disch := decide) only [↓ View.readCov_skip, ↓ View.readCov_cons_toLoadRect, ↓ View.readCov_fill]
    frame_out
    unfold_payloads
    refine Is.canon 4 ?_ ?_
    · refine ⟨Is.of (dsc_step (ld2 (f := fun _ k => D k) (g := fun _ k => D (_ + k)) ha (fun _ _ => rfl) _) (H.lo _) (po4 (lt8 t) (num t) (first t) (H.lzh' _ _) (H.lz' _ _) (H.lz _)) (H.lp _)) ?_,
        Is.of (dsc_step (ld2 (f := fun _ k => D k) (g := fun _ k => D (_ + k)) ha (fun _ _ => rfl) _) (H.lo _) (po3 (lt8 t) (num t) (first t) (H.lzh' _ _) (H.lz' _ _) (H.lz _)) (H.lp _)) ?_,
        Is.of (dsc_step (ld2 (f := fun _ k => D k) (g := fun _ k => D (_ + k)) ha (fun _ _ => rfl) _) (H.lo _) (po2 (lt8 t) (num t) (first t) (H.lzh' _ _) (H.lz' _ _) (H.lz _)) (H.lp _)) ?_,
        Is.of (dsc_step (ld2 (f := fun _ k => D k) (g := fun _ k => D (_ + k)) ha (fun _ _ => rfl) _) (H.lo _) (po1 (lt8 t) (num t) (first t) (H.lzh' _ _) (H.lz' _ _) (H.lz _)) (H.lp _)) ?_, trivial⟩
      all_goals
        intro x
        have h0 : (x 0).val = 0 := by have h : (x 0).val < 1 := (x 0).isLt; omega
        simp only [unit_val, h0, Matrix.cons_val, cDsc, Nat.zero_add, Nat.add_zero, Nat.zero_div, Nat.zero_mul, Nat.reduceDiv,
          Nat.reduceMul]
    · exact View.cover_of_tiled_head _ _ _ rfl

theorem dwp_first (h0 : t.val % 8 = 0) (h1 : ¬t.val % 8 = 7) :
    Is (s := S4x256x256) (outsAt0 m c t.val t.isLt).2.2.2.2.1 fun i => 0 + cDwp X t.val (i 0).val (i 1).val (i 2).val := by
  rw [outsAt0_A m c t h0 h1]
  dsimp only
  frame_open
  simp (disch := decide) only [↓ View.readCov_skip, ↓ View.readCov_cons_toLoadRect, ↓ View.readCov_fill]
  frame_out
  unfold_payloads
  refine Is.canon 4 ?_ ?_
  · refine ⟨Is.of (dwp_step (zero_ld _ _) (po4 (lt8 t) (num t) (first t) (H.lzh' _ _) (H.lz' _ _) (H.lz _)) (dy_is (H.lo _) (H.ls _))) ?_,
      Is.of (dwp_step (zero_ld _ _) (po3 (lt8 t) (num t) (first t) (H.lzh' _ _) (H.lz' _ _) (H.lz _)) (dy_is (H.lo _) (H.ls _))) ?_,
      Is.of (dwp_step (zero_ld _ _) (po2 (lt8 t) (num t) (first t) (H.lzh' _ _) (H.lz' _ _) (H.lz _)) (dy_is (H.lo _) (H.ls _))) ?_,
      Is.of (dwp_step (zero_ld _ _) (po1 (lt8 t) (num t) (first t) (H.lzh' _ _) (H.lz' _ _) (H.lz _)) (dy_is (H.lo _) (H.ls _))) ?_, trivial⟩
    all_goals
      intro x
      have h0 : (x 0).val = 0 := by have h : (x 0).val < 1 := (x 0).isLt; omega
      simp only [unit_val, h0, Matrix.cons_val, cDwp, Nat.zero_add, Nat.add_zero, Nat.zero_div, Nat.zero_mul, Nat.reduceDiv,
        Nat.reduceMul]
  · exact View.cover_of_tiled_head _ _ _ rfl

theorem dwp_next (h0 : ¬t.val % 8 = 0) {D : ℕ → ℕ → ℕ → ℝ}
    (ha : Is (s := S4x256x256) (outsAt0 m c (t.val - 1) (Nat.lt_of_le_of_lt (Nat.sub_le _ _) t.isLt)).2.2.2.2.1 fun i => D (i 0).val (i 1).val (i 2).val) :
    Is (s := S4x256x256) (outsAt0 m c t.val t.isLt).2.2.2.2.1 fun i => D (i 0).val (i 1).val (i 2).val + cDwp X t.val (i 0).val (i 1).val (i 2).val := by
  by_cases h1 : t.val % 8 = 7
  on_goal 1 => rw [outsAt0_C m c t h0 h1]
  on_goal 2 => rw [outsAt0_B m c t h0 h1]
  all_goals
    dsimp only
    frame_open
    simp (disch := decide) only [↓ View.readCov_skip, ↓ View.readCov_cons_toLoadRect, ↓ View.readCov_fill]
    frame_out
    unfold_payloads
    refine Is.canon 4 ?_ ?_
    · refine ⟨Is.of (dwp_step (ld3 (f := D) ha _) (po4 (lt8 t) (num t) (first t) (H.lzh' _ _) (H.lz' _ _) (H.lz _)) (dy_is (H.lo _) (H.ls _))) ?_,
        Is.of (dwp_step (ld3 (f := D) ha _) (po3 (lt8 t) (num t) (first t) (H.lzh' _ _) (H.lz' _ _) (H.lz _)) (dy_is (H.lo _) (H.ls _))) ?_,
        Is.of (dwp_step (ld3 (f := D) ha _) (po2 (lt8 t) (num t) (first t) (H.lzh' _ _) (H.lz' _ _) (H.lz _)) (dy_is (H.lo _) (H.ls _))) ?_,
        Is.of (dwp_step (ld3 (f := D) ha _) (po1 (lt8 t) (num t) (first t) (H.lzh' _ _) (H.lz' _ _) (H.lz _)) (dy_is (H.lo _) (H.ls _))) ?_, trivial⟩
      all_goals
        intro x
        have h0 : (x 0).val = 0 := by have h : (x 0).val < 1 := (x 0).isLt; omega
        simp only [unit_val, h0, Matrix.cons_val, cDwp, Nat.zero_add, Nat.add_zero, Nat.zero_div, Nat.zero_mul, Nat.reduceDiv,
          Nat.reduceMul]
    · exact View.cover_of_tiled_head _ _ _ rfl

end

end Cert.Proof.Ker

end
-- ==== Proof.KerProj.lean ====
/- What one grid point of the kernel leaves in each of its result blocks and accumulators, as formulas of Model.lean: the
   body's stores read one by one. The first point (case A) starts the accumulators at zero, the others (cases B and C) add to
   what the point before left; the last point (case C) then masks one gradient and sums another. -/
module

public import proofs.«01_k».proof.Proof.KerCase

@[expose] public section

set_option maxRecDepth 16384
set_option maxHeartbeats 4000000

noncomputable section

namespace Cert.Proof.Ker

open Idealize.ShloMosaic Cert.KernelIdeal Cert.KernelIdeal.Gen
open scoped BigOperators

/-! ### Where a store's values lie in the projection's gradient -/

section
variable {X : Args} {t a o n h : ℕ}

theorem u_at (x : (⟨2, ![128, 128]⟩ : Shape).Idx) (hn : n = 4 * t + a / 128 := by rfl) (ho : o = h * 128 := by decide)
    (ha : a % 128 = 0 := by decide) (hl : h < 8 := by decide)
    (inb : ∀ i : Fin 2, (![a, o] : Fin 2 → ℕ) i + (![128, 128] : Fin 2 → ℕ) i ≤ S512x3072.size i := by decide) :
    X.c (n * 128 + (x 0).val) (h * 128 + (x 1).val)
        * X.MX (n * 128 + (x 0).val) (h * 128 + (x 1).val)
        * dgel (X.p (n * 128 + (x 0).val) (h * 128 + (x 1).val))
      = X.dproj (t * 512 + ((Rect.unit (s := S512x3072) ![a, o] ![128, 128] inb).emb x 0).val)
          ((Rect.unit (s := S512x3072) ![a, o] ![128, 128] inb).emb x 1).val := by
  have h1 : (x 1).val < 128 := (x 1).isLt
  have e0 : t * 512 + (a + (x 0).val) = n * 128 + (x 0).val := by omega
  have e1 : o + (x 1).val = h * 128 + (x 1).val := by omega
  simp only [unit_val, Matrix.cons_val]
  rw [e0, e1]
  unfold Args.dproj
  rw [if_pos (by omega)]

theorem v_at (x : (⟨2, ![128, 128]⟩ : Shape).Idx) (hn : n = 4 * t + a / 128 := by rfl) (ho : o = 1024 + h * 128 := by decide)
    (ha : a % 128 = 0 := by decide) (hl : h < 8 := by decide)
    (inb : ∀ i : Fin 2, (![a, o] : Fin 2 → ℕ) i + (![128, 128] : Fin 2 → ℕ) i ≤ S512x3072.size i := by decide) :
    X.DV (n * 128 + (x 0).val) (h * 128 + (x 1).val)
        * dgel (X.p (n * 128 + (x 0).val) (1024 + (h * 128 + (x 1).val)))
      = X.dproj (t * 512 + ((Rect.unit (s := S512x3072) ![a, o] ![128, 128] inb).emb x 0).val)
          ((Rect.unit (s := S512x3072) ![a, o] ![128, 128] inb).emb x 1).val := by
  have h1 : (x 1).val < 128 := (x 1).isLt
  have e0 : t * 512 + (a + (x 0).val) = n * 128 + (x 0).val := by omega
  have e1 : o + (x 1).val = 1024 + (h * 128 + (x 1).val) := by omega
  simp only [unit_val, Matrix.cons_val]
  rw [e0, e1]
  unfold Args.dproj
  rw [if_neg (by omega), if_pos (by omega)]
  congr 2
  omega

theorem z_at (x : (⟨2, ![512, 256]⟩ : Shape).Idx) (ho : o = 2048 + h * 256 := by decide)
    (inb : ∀ i : Fin 2, (![0, o] : Fin 2 → ℕ) i + (![512, 256] : Fin 2 → ℕ) i ≤ S512x3072.size i := by decide) :
    X.DZ (t * 512 + (x 0).val) (h * 256 + (x 1).val)
      = X.dproj (t * 512 + ((Rect.unit (s := S512x3072) ![0, o] ![512, 256] inb).emb x 0).val)
          ((Rect.unit (s := S512x3072) ![0, o] ![512, 256] inb).emb x 1).val := by
  simp only [unit_val, Matrix.cons_val, Nat.zero_add]
  unfold Args.dproj
  rw [if_neg (by omega), if_neg (by omega)]
  congr 1
  omega

end

section
variable (m : (ℓ : Loc nD τ sig) → Buf (Elt Ideal) ℓ) {X : Args} (c : Dev nD) (t : Fin cfg0.N)
  (H : Blk X t.val (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t))
include H

/-- The projection's gradient: every point stores its own 512 rows. -/
theorem dproj_rows : Is (s := S512x3072) (outsAt0 m c t.val t.isLt).1 fun i => X.dproj (t.val * 512 + (i 0).val) (i 1).val := by
  by_cases h0 : t.val % 8 = 0
  on_goal 1 =>
    have h1 : ¬t.val % 8 = 7 := by omega
    rw [outsAt0_A m c t h0 h1]
  on_goal 2 => by_cases h1 : t.val % 8 = 7
  on_goal 2 => rw [outsAt0_C m c t h0 h1]
  on_goal 3 => rw [outsAt0_B m c t h0 h1]
  all_goals
    dsimp only
    frame_open
    frame_out
    unfold_payloads
    refine Is.canonB 68 ?_ ?_
    · refine ⟨Is.of (dz4 (lt8 t) (num t) (last t) (dpo_is (dy_is (H.lo _) (H.ls _)) (H.lp _))
        (dpoh_is (H.loh _) (H.ls _) (H.lp _)) (dpo_is (dy_is (H.lo _) (H.ls _)) (H.lp _))) fun x => z_at x, ?_⟩
      refine ⟨Is.of (dz3 (lt8 t) (num t) (last t) (dpo_is (dy_is (H.lo' _ _) (H.ls' _ _)) (H.lp' _ _))
        (dpoh_is (H.loh' _ _) (H.ls' _ _) (H.lp' _ _)) (dpo_is (dy_is (H.lo _) (H.ls _)) (H.lp _))) fun x => z_at x, ?_⟩
      refine ⟨Is.of (dz2 (lt8 t) (num t) (last t) (dpo_is (dy_is (H.lo' _ _) (H.ls' _ _)) (H.lp' _ _))
        (dpoh_is (H.loh' _ _) (H.ls' _ _) (H.lp' _ _)) (dpo_is (dy_is (H.lo _) (H.ls _)) (H.lp _))) fun x => z_at x, ?_⟩
      refine ⟨Is.of (dz1 (lt8 t) (num t) (last t) (dpo_is (dy_is (H.lo' _ _) (H.ls' _ _)) (H.lp' _ _))
        (dpoh_is (H.loh' _ _) (H.ls' _ _) (H.lp' _ _)) (dpo_is (dy_is (H.lo _) (H.ls _)) (H.lp _))) fun x => z_at x, ?_⟩
      iterate 32 refine ⟨Is.of (pv_is (H.lwt _) (H.ld _) (H.lu _) (H.lv _) (H.lg _)) fun x => v_at x,
        Is.of (pu_is (H.lw _) (H.ld _) (H.lu _) (H.lv _) (H.lg _) (H.lb _)) fun x => u_at x, ?_⟩
      trivial
    · exact View.cover_of_tiledBy _ ![128, 128] (by sl_kernel_rfl)

end

end Cert.Proof.Ker

end
-- ==== Proof.KerAll.lean ====
/- The results after all eight grid points: what the points add up to, as the sums of Model.lean. -/
module

public import proofs.«01_k».proof.Proof.KerCase

@[expose] public section

set_option maxRecDepth 16384

noncomputable section

namespace Cert.Proof.Ker

open Idealize.ShloMosaic Cert.KernelIdeal Cert.KernelIdeal.Gen
open scoped BigOperators

/-- A sum over blocks of `b` numbers each. -/
theorem sum_blocks (f : ℕ → ℝ) (b : ℕ) : ∀ a, ∑ n ∈ Finset.range a, ∑ r : Fin b, f (n * b + r.val) = ∑ s ∈ Finset.range (a * b), f s
  | 0 => by rw [Nat.zero_mul]; rfl
  | a + 1 => by
    rw [Finset.sum_range_succ, sum_blocks f b a, Nat.add_mul, Nat.one_mul, Finset.sum_range_add,
      Fin.sum_univ_eq_sum_range (fun r => f (a * b + r)) b]
theorem sum_four (f : ℕ → ℝ) (n : ℕ) : ∑ k ∈ Finset.range (4 * (n + 1)), f k
    = ∑ k ∈ Finset.range (4 * n), f k + f (4 * n) + f (4 * n + 1) + f (4 * n + 2) + f (4 * n + 3) := by
  rw [show 4 * (n + 1) = 4 * n + 1 + 1 + 1 + 1 by omega]
  simp only [Finset.sum_range_succ]

theorem lt_points {n : ℕ} (hn : n < cfg0.N) : n < 8 := lt_of_lt_of_eq hn N_0

section
variable (m : (ℓ : Loc nD τ sig) → Buf (Elt Ideal) ℓ) {X : Args} (c : Dev nD)
  (H : ∀ t : Fin cfg0.N, Blk X t.val (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t))
include H

theorem dws_at : ∀ n (hn : n < cfg0.N), n < 7 → Is (s := S8x128x128) (outsAt0 m c n hn).2.1
    fun i => ∑ k ∈ Finset.range (4 * (n + 1)), cDws X k (i 0).val (i 1).val (i 2).val
  | 0, hn, _ => (dws_first m c ⟨0, hn⟩ (H _) (Nat.zero_mod 8) (by show ¬(0 % 8 = 7); decide)).of fun i => by
    rw [sum_four]; rfl
  | n + 1, hn, h7 => by
    have h8 := lt_points hn
    refine (dws_next m c ⟨n + 1, hn⟩ (H _) (by show ¬(n + 1) % 8 = 0; omega) (by show ¬(n + 1) % 8 = 7; omega)
      (D := fun h r k => ∑ n' ∈ Finset.range (4 * (n + 1)), cDws X n' h r k) (dws_at n (Nat.lt_of_succ_lt hn) (by omega))).of fun i => ?_
    rw [sum_four _ (n + 1)]

theorem db_at : ∀ n (hn : n < cfg0.N), Is (s := S8x128x128) (outsAt0 m c n hn).2.2.2.2.2.2
    fun i => ∑ k ∈ Finset.range (4 * (n + 1)), cDb X k (i 0).val (i 1).val (i 2).val
  | 0, hn => (db_first m c ⟨0, hn⟩ (H _) (Nat.zero_mod 8) (by show ¬(0 % 8 = 7); decide)).of fun i => by
    rw [sum_four]; rfl
  | n + 1, hn => by
    have h8 := lt_points hn
    refine (db_next m c ⟨n + 1, hn⟩ (H _) (by show ¬(n + 1) % 8 = 0; omega)
      (D := fun h r d => ∑ k ∈ Finset.range (4 * (n + 1)), cDb X k h r d) (db_at n (Nat.lt_of_succ_lt hn))).of fun i => ?_
    rw [sum_four _ (n + 1)]

theorem dgv_at : ∀ n (hn : n < cfg0.N), Is (s := S1x1024) (outsAt0 m c n hn).2.2.2.1
    fun i => ∑ k ∈ Finset.range (4 * (n + 1)), cDgv X k (i 1).val
  | 0, hn => (dgv_first m c ⟨0, hn⟩ (H _) (Nat.zero_mod 8) (by show ¬(0 % 8 = 7); decide)).of fun i => by
    rw [sum_four]; rfl
  | n + 1, hn => by
    have h8 := lt_points hn
    refine (dgv_next m c ⟨n + 1, hn⟩ (H _) (by show ¬(n + 1) % 8 = 0; omega)
      (D := fun j => ∑ k ∈ Finset.range (4 * (n + 1)), cDgv X k j) (dgv_at n (Nat.lt_of_succ_lt hn))).of fun i => ?_
    rw [sum_four _ (n + 1)]

theorem dwp_at : ∀ n (hn : n < cfg0.N), Is (s := S4x256x256) (outsAt0 m c n hn).2.2.2.2.1
    fun i => ∑ k ∈ Finset.range (n + 1), cDwp X k (i 0).val (i 1).val (i 2).val
  | 0, hn => (dwp_first m c ⟨0, hn⟩ (H _) (Nat.zero_mod 8) (by show ¬(0 % 8 = 7); decide)).of fun i => by
    rw [Finset.sum_range_succ]; rfl
  | n + 1, hn => by
    have h8 := lt_points hn
    refine (dwp_next m c ⟨n + 1, hn⟩ (H _) (by show ¬(n + 1) % 8 = 0; omega)
      (D := fun g r d => ∑ k ∈ Finset.range (n + 1), cDwp X k g r d) (dwp_at n (Nat.lt_of_succ_lt hn))).of fun i => ?_
    rw [Finset.sum_range_succ _ (n + 1)]

theorem dsc_at : ∀ n (hn : n < cfg0.N), Is (s := S1x1024) (outsAt0 m c n hn).2.2.2.2.2.1
    fun i => ∑ k ∈ Finset.range (n + 1), cDsc X k (i 1).val
  | 0, hn => (dsc_first m c ⟨0, hn⟩ (H _) (Nat.zero_mod 8) (by show ¬(0 % 8 = 7); decide)).of fun i => by
    rw [Finset.sum_range_succ]; rfl
  | n + 1, hn => by
    have h8 := lt_points hn
    refine (dsc_next m c ⟨n + 1, hn⟩ (H _) (by show ¬(n + 1) % 8 = 0; omega)
      (D := fun j => ∑ k ∈ Finset.range (n + 1), cDsc X k j) (dsc_at n (Nat.lt_of_succ_lt hn))).of fun i => ?_
    rw [Finset.sum_range_succ _ (n + 1)]

/-! ### The results -/

theorem dws_all' (n : ℕ) (e : n = 6) (h : n + 1 < cfg0.N) :
    Is (s := S8x128x128) (outsAt0 m c (n + 1) h).2.1 fun i => X.dws (i 0).val (i 1).val (i 2).val := by
  refine (dws_last m c ⟨n + 1, h⟩ (H _) (by show ¬(n + 1) % 8 = 0; omega) (by show (n + 1) % 8 = 7; omega)
    (D := fun h r k => ∑ n' ∈ Finset.range (4 * (n + 1)), cDws X n' h r k)
    (dws_at m c H n (Nat.lt_of_succ_lt h) (by omega))).of fun i => ?_
  subst e
  unfold Args.dws
  exact if_congr Iff.rfl (by
    rw [← sum_four (fun n' => cDws X n' (i 0).val (i 1).val (i 2).val) 7]
    exact (Fin.sum_univ_eq_sum_range (fun n' => cDws X n' (i 0).val (i 1).val (i 2).val) 32).symm) rfl
theorem dws_all (h : 7 < cfg0.N) : Is (s := S8x128x128) (outsAt0 m c 7 h).2.1 fun i => X.dws (i 0).val (i 1).val (i 2).val :=
  dws_all' m c H 6 rfl h
theorem dbs_all' (n : ℕ) (e : n = 6) (h : n + 1 < cfg0.N) :
    Is (s := S8x128x1) (outsAt0 m c (n + 1) h).2.2.1 fun i => X.dbs (i 0).val (i 1).val := by
  refine (dbs_last m c ⟨n + 1, h⟩ (H _) (by show ¬(n + 1) % 8 = 0; omega) (by show (n + 1) % 8 = 7; omega)
    (D := fun h r d => ∑ n' ∈ Finset.range (4 * (n + 1)), cDb X n' h r d) (db_at m c H n (Nat.lt_of_succ_lt h))).of fun i => ?_
  subst e
  unfold Args.dbs
  rw [Finset.sum_comm]
  refine Finset.sum_congr rfl fun d _ => ?_
  rw [← sum_four (fun n' => cDb X n' (i 0).val (i 1).val d.val) 7]
  exact (Fin.sum_univ_eq_sum_range (fun n' => cDb X n' (i 0).val (i 1).val d.val) 32).symm
theorem dbs_all (h : 7 < cfg0.N) : Is (s := S8x128x1) (outsAt0 m c 7 h).2.2.1 fun i => X.dbs (i 0).val (i 1).val :=
  dbs_all' m c H 6 rfl h
theorem dgv_all (h : 7 < cfg0.N) : Is (s := S1x1024) (outsAt0 m c 7 h).2.2.2.1 fun i => X.dgv (i 1).val :=
  (dgv_at m c H 7 h).of fun i => by
    unfold Args.dgv
    rw [Fin.sum_univ_eq_sum_range (fun s => X.DVH s (i 1).val * X.VN s (i 1).val) 4096]
    exact sum_blocks (fun s => X.DVH s (i 1).val * X.VN s (i 1).val) 128 32
theorem dwp_all (h : 7 < cfg0.N) : Is (s := S4x256x256) (outsAt0 m c 7 h).2.2.2.2.1
    fun i => X.dwp (i 0).val (i 1).val (i 2).val :=
  (dwp_at m c H 7 h).of fun i => by
    unfold Args.dwp
    rw [Fin.sum_univ_eq_sum_range (fun s => X.PO s ((i 0).val * 256 + (i 1).val) * X.DY s ((i 0).val * 256 + (i 2).val)) 4096]
    exact sum_blocks (fun s => X.PO s ((i 0).val * 256 + (i 1).val) * X.DY s ((i 0).val * 256 + (i 2).val)) 512 8
theorem dsc_all (h : 7 < cfg0.N) : Is (s := S1x1024) (outsAt0 m c 7 h).2.2.2.2.2.1 fun i => X.dsc (i 1).val :=
  (dsc_at m c H 7 h).of fun i => by
    unfold Args.dsc
    rw [Fin.sum_univ_eq_sum_range (fun s => X.DB s (i 1).val * X.YP s (i 1).val) 4096]
    exact sum_blocks (fun s => X.DB s (i 1).val * X.YP s (i 1).val) 512 8

end

end Cert.Proof.Ker

end
-- ==== Proof.RefGate.lean ====
/- The gating half of the reference, read at one element: each stage of the printed program is one formula of Model.lean.
   The stages are those of the forward pass and of its transpose, in the order of the program. -/
module

public import proofs.«01_k».proof.Proof.Model
public import proofs.«01_k».proof.Proof.Lift
public import proofs.«01_k».proof.Proof.Gen.ReferenceIdeal.Read
public import Idealize.ShloMosaic.Lib.Pointwise

@[expose] public section

set_option maxRecDepth 16384

noncomputable section

namespace Cert.Proof.Ref

open Idealize.ShloMosaic Cert.ReferenceIdeal Cert.ReferenceIdeal.Read
open scoped BigOperators

variable {X : Args} {x0 : S4096x3072.Idx → EReal} {x1 : S4096x2048.Idx → EReal} {x2 : S8x128x128.Idx → EReal}
  {x3 : S8x128.Idx → EReal} {x4 : S1x1024.Idx → EReal}

/-! ### gelu -/

theorem v14 (h0 : ∀ i, x0 i = ((X.p (i 0).val (i 1).val : ℝ) : EReal)) (i : S4096x1024.Idx) :
    val_main_v14 (F := Ideal) x0 i = ((th (X.p (i 0).val (i 1).val) : ℝ) : EReal) := by
  simp only [val_main_v14_apply, val_main_v13_apply, val_main_v12_apply, val_main_cst_2_apply, val_main_v11_apply,
    val_main_v10_apply, val_main_v9_apply, val_main_cst_1_apply, val_main_v8_apply, val_main_v7_apply,
    val_main_cst_0_apply, val_main_v3_apply, val_main_v2_apply, val_main_v1_apply, h0, Ideal.hostUnary_tanh_def,
    Ideal.hostDivf_def, Ideal.mulf_def, Ideal.addf_def, Ideal.ofBits_def, word_k, word_44715, word_million, lift_mul,
    lift_add, lift_div_million, Ideal.tanh_coe]
  rw [th]; congr 2; show kR * (X.p _ _ + _) = _; ring

theorem v38 (h0 : ∀ i, x0 i = ((X.p (i 0).val (i 1).val : ℝ) : EReal)) (i : S4096x1024.Idx) :
    val_main_v38 (F := Ideal) x0 i = ((th (X.p (i 0).val (1024 + (i 1).val)) : ℝ) : EReal) := by
  simp only [val_main_v38_apply, val_main_v37_apply, val_main_v36_apply, val_main_cst_10_apply, val_main_v35_apply,
    val_main_v34_apply, val_main_v33_apply, val_main_cst_9_apply, val_main_v32_apply, val_main_v31_apply,
    val_main_cst_8_apply, val_main_v27_apply, val_main_v26_apply, val_main_v25_apply, h0, Ideal.hostUnary_tanh_def,
    Ideal.hostDivf_def, Ideal.mulf_def, Ideal.addf_def, Ideal.ofBits_def, word_k, word_44715, word_million, lift_mul,
    lift_add, lift_div_million, Ideal.tanh_coe]
  rw [th]; congr 2; show kR * (X.p _ _ + _) = _; ring

theorem v24 (h0 : ∀ i, x0 i = ((X.p (i 0).val (i 1).val : ℝ) : EReal)) (i : S4096x1024.Idx) :
    val_main_v24 (F := Ideal) x0 i = ((X.U (i 0).val (i 1).val : ℝ) : EReal) := by
  simp only [val_main_v24_apply, val_main_v23_apply, val_main_v22_apply, val_main_cst_6_apply, val_main_v21_apply,
    val_main_v20_apply, val_main_cst_5_apply, v14 h0, val_main_v1_apply, h0, Ideal.mulf_def, Ideal.addf_def,
    Ideal.ofBits_def, word_half, word_one, lift_mul, lift_add]
  rw [Args.U, gel]; congr 1; show X.p _ _ * _ = _; ring

theorem v48 (h0 : ∀ i, x0 i = ((X.p (i 0).val (i 1).val : ℝ) : EReal)) (i : S4096x1024.Idx) :
    val_main_v48 (F := Ideal) x0 i = ((X.V (i 0).val (i 1).val : ℝ) : EReal) := by
  simp only [val_main_v48_apply, val_main_v47_apply, val_main_v46_apply, val_main_cst_14_apply, val_main_v45_apply,
    val_main_v44_apply, val_main_cst_13_apply, v38 h0, val_main_v25_apply, h0, Ideal.mulf_def, Ideal.addf_def,
    Ideal.ofBits_def, word_half, word_one, lift_mul, lift_add]
  rw [Args.V, gel]; congr 1; show X.p _ _ * _ = _; ring

/-- gelu's derivative as the transpose of the program spells it, for `u`. -/
theorem dgel_transposed (x d t : ℝ) (ht : t = th x) :
    d * (1 / 2 * (1 + t)) + kR * (1 / 2 * (x * d) * ((1 + t) * (1 - t)))
      + 44715 * (kR * (1 / 2 * (x * d) * ((1 + t) * (1 - t))) / 1000000) * (3 * (x * x)) = d * dgel x := by
  rw [dgel, ht]; ring

/-! ### The normalised half of one head -/

theorem split (a b : ℕ) (hb : b < 1024) : (a * 1024 + b) / 1024 = a ∧ (a * 1024 + b) % 1024 = b := by omega

theorem v51 (h0 : ∀ i, x0 i = ((X.p (i 0).val (i 1).val : ℝ) : EReal)) (i : S4096x8x128.Idx) :
    val_main_v51 (F := Ideal) x0 i = ((X.V (i 0).val ((i 1).val * 128 + (i 2).val) : ℝ) : EReal) := by
  have h1 : (i 1).val < 8 := (i 1).isLt
  have h2 : (i 2).val < 128 := (i 2).isLt
  rw [val_main_v51_apply, v48 h0]
  congr 2
  · show (((i 0).val * 8 + (i 1).val) * 128 + (i 2).val) / 1024 = _; omega
  · show (((i 0).val * 8 + (i 1).val) * 128 + (i 2).val) % 1024 = _; omega

theorem v54 (h0 : ∀ i, x0 i = ((X.p (i 0).val (i 1).val : ℝ) : EReal)) (i : S4096x8.Idx) :
    val_main_v54 (F := Ideal) x0 i = ((∑ d : Fin 128, X.V (i 0).val ((i 1).val * 128 + d)
      * X.V (i 0).val ((i 1).val * 128 + d) : ℝ) : EReal) := by
  rw [val_main_v54_apply]
  simp only [val_main_cst_15_apply, val_main_v53_apply, v51 h0, Ideal.ofBits_def, Ideal.mulf_def, word_zero, lift_mul,
    lift_sum, lift_add, zero_add]

theorem v59 (h0 : ∀ i, x0 i = ((X.p (i 0).val (i 1).val : ℝ) : EReal)) (i : S4096x8x1.Idx) :
    val_main_v59 (F := Ideal) x0 i = ((X.MS (i 0).val (i 1).val : ℝ) : EReal) := by
  simp only [val_main_v59_apply, val_main_v58_apply, val_main_cst_17_apply, val_main_v57_apply, val_main_v56_apply,
    val_main_cst_16_apply, val_main_v55_apply, v54 h0, Ideal.hostDivf_def, Ideal.addf_def, Ideal.ofBits_def, word_eps,
    word_128, lift_div_128, lift_add]
  rfl

theorem v60 (h0 : ∀ i, x0 i = ((X.p (i 0).val (i 1).val : ℝ) : EReal)) (i : S4096x8x1.Idx) :
    val_main_v60 (F := Ideal) x0 i = ((X.R (i 0).val (i 1).val : ℝ) : EReal) := by
  rw [val_main_v60_apply, v59 h0, Ideal.hostUnary_rsqrt_def, lift_rsqrt (X.MS_pos _ _)]; rfl

theorem v63 (h0 : ∀ i, x0 i = ((X.p (i 0).val (i 1).val : ℝ) : EReal)) (i : S4096x8x1.Idx) :
    val_main_v63 (F := Ideal) x0 i
      = ((-(1 / 2) * (X.R (i 0).val (i 1).val / X.MS (i 0).val (i 1).val) : ℝ) : EReal) := by
  simp only [val_main_v63_apply, val_main_v62_apply, val_main_cst_18_apply, val_main_v61_apply, v60 h0, v59 h0,
    Ideal.hostDivf_def, Ideal.mulf_def, Ideal.ofBits_def, word_neg_half, lift_div _ (X.MS_pos _ _).ne', lift_mul]

theorem v65 (h0 : ∀ i, x0 i = ((X.p (i 0).val (i 1).val : ℝ) : EReal)) (i : S4096x8x128.Idx) :
    val_main_v65 (F := Ideal) x0 i = ((X.VN (i 0).val ((i 1).val * 128 + (i 2).val) : ℝ) : EReal) := by
  have h2 : (i 2).val < 128 := (i 2).isLt
  simp only [val_main_v65_apply, val_main_v64_apply, v60 h0, v51 h0, Ideal.mulf_def, lift_mul]
  rw [Args.VN, show ((i 1).val * 128 + (i 2).val) / 128 = (i 1).val by omega]

theorem v67 (h4 : ∀ i, x4 i = ((X.g (i 1).val : ℝ) : EReal)) (i : S4096x8x128.Idx) :
    val_main_v67 (F := Ideal) x4 i = ((X.g ((i 1).val * 128 + (i 2).val) : ℝ) : EReal) := by
  have h1 : (i 1).val < 8 := (i 1).isLt
  have h2 : (i 2).val < 128 := (i 2).isLt
  simp only [val_main_v67_apply, val_main_v66_apply, val_main_v52_apply, val_main_v50_apply, h4]
  congr 2
  show ((i 1).val * 128 + (i 2).val) % 1024 = _; omega

theorem v69 (h0 : ∀ i, x0 i = ((X.p (i 0).val (i 1).val : ℝ) : EReal)) (h4 : ∀ i, x4 i = ((X.g (i 1).val : ℝ) : EReal))
    (i : S32x128x8x128.Idx) :
    val_main_v69 (F := Ideal) x0 x4 i
      = ((X.VH ((i 0).val * 128 + (i 1).val) ((i 2).val * 128 + (i 3).val) : ℝ) : EReal) := by
  have h1 : (i 1).val < 128 := (i 1).isLt
  have h2 : (i 2).val < 8 := (i 2).isLt
  have h3 : (i 3).val < 128 := (i 3).isLt
  simp only [val_main_v69_apply, val_main_v68_apply, v65 h0, v67 h4, Ideal.mulf_def, lift_mul]
  rw [Args.VH]
  have e0 : ((((i 0).val * 128 + (i 1).val) * 8 + (i 2).val) * 128 + (i 3).val) / 1024 = (i 0).val * 128 + (i 1).val := by
    omega
  have e1 : ((((i 0).val * 128 + (i 1).val) * 8 + (i 2).val) * 128 + (i 3).val) / 128 % 8 = (i 2).val := by omega
  have e2 : ((((i 0).val * 128 + (i 1).val) * 8 + (i 2).val) * 128 + (i 3).val) % 128 = (i 3).val := by omega
  show ((X.VN (((((i 0).val * 128 + (i 1).val) * 8 + (i 2).val) * 128 + (i 3).val) / 1024)
    (((((i 0).val * 128 + (i 1).val) * 8 + (i 2).val) * 128 + (i 3).val) / 128 % 8 * 128
      + ((((i 0).val * 128 + (i 1).val) * 8 + (i 2).val) * 128 + (i 3).val) % 128)
    * X.g (((((i 0).val * 128 + (i 1).val) * 8 + (i 2).val) * 128 + (i 3).val) / 128 % 8 * 128
      + ((((i 0).val * 128 + (i 1).val) * 8 + (i 2).val) * 128 + (i 3).val) % 128) : ℝ) : EReal) = _
  rw [e0, e1, e2]

/-! ### The mixing -/

/-- The lower triangle, as the program compares two coordinates below 128 for it. -/
theorem tril_le : ∀ a b : Fin 128, IntOp.cmpi .sge (IntOp.addi (BitVec.ofNat 32 a.val) 0#32) (BitVec.ofNat 32 b.val)
    = if b.val ≤ a.val then 1#1 else 0#1 := by decide +kernel

theorem v71 (i : S128x128.Idx) : val_main_v71 (F := Ideal) i = if (i 1).val ≤ (i 0).val then 1#1 else 0#1 := by
  simp only [val_main_v71_apply, val_main_call0_v4_apply, val_main_call0_v2_apply, val_main_call0_v0_apply,
    val_main_call0_v1_apply, val_main_call0_c_apply, val_main_call0_v3_apply, val_main_v70_apply, val_main_c_apply,
    val_main_call0_v5_apply, val_main_call0_c_0_apply]
  have e := tril_le ⟨(i 0).val, (i 0).isLt⟩ ⟨(i 1).val, (i 1).isLt⟩
  dsimp only at e
  rw [e]; split_ifs <;> rfl

theorem v74_1 (i : S8x128x128.Idx) : val_main_v74_1 (F := Ideal) i = if (i 2).val ≤ (i 1).val then 1#1 else 0#1 := by
  rw [val_main_v74_1_apply, val_main_v72_apply, v71]

theorem v74_0 (h2 : ∀ i, x2 i = ((X.w (i 0).val (i 1).val (i 2).val : ℝ) : EReal)) (i : S8x128x128.Idx) :
    val_main_v74_0 (F := Ideal) x2 i = ((X.W (i 0).val (i 1).val (i 2).val : ℝ) : EReal) := by
  rw [val_main_v74_0_apply, v74_1, h2, val_main_v73_apply, val_main_cst_19_apply, Ideal.ofBits_def, word_zero, Args.W]
  split_ifs <;> rfl

theorem v81 (h0 : ∀ i, x0 i = ((X.p (i 0).val (i 1).val : ℝ) : EReal)) (h4 : ∀ i, x4 i = ((X.g (i 1).val : ℝ) : EReal))
    (h2 : ∀ i, x2 i = ((X.w (i 0).val (i 1).val (i 2).val : ℝ) : EReal))
    (h3 : ∀ i, x3 i = ((X.b (i 0).val (i 1).val : ℝ) : EReal)) (i : S4096x1024.Idx) :
    val_main_v81 (F := Ideal) x0 x2 x3 x4 i = ((X.MX (i 0).val (i 1).val : ℝ) : EReal) := by
  have hi0 : (i 0).val < 4096 := (i 0).isLt
  have hi1 : (i 1).val < 1024 := (i 1).isLt
  simp only [val_main_v81_apply, val_main_v80_apply, val_main_v76_apply, val_main_v75_apply, val_main_v79_apply,
    val_main_v78_apply, val_main_v77_apply, v69 h0 h4, v74_0 h2, h3, Ideal.addf_def, lift_mul, lift_sum, lift_add]
  have e0 : ((i 0).val * 1024 + (i 1).val) / 131072 = (i 0).val / 128 := by omega
  have e1 : ((i 0).val * 1024 + (i 1).val) / 1024 % 128 = (i 0).val % 128 := by omega
  have e2 : ((i 0).val * 1024 + (i 1).val) / 128 % 8 = (i 1).val / 128 := by omega
  have e3 : ((i 0).val * 1024 + (i 1).val) % 128 = (i 1).val % 128 := by omega
  have e4 : (i 1).val / 128 * 128 + (i 1).val % 128 = (i 1).val := by omega
  show (((∑ k : Fin 128, X.VH (((i 0).val * 1024 + (i 1).val) / 131072 * 128 + k.val)
      (((i 0).val * 1024 + (i 1).val) / 128 % 8 * 128 + ((i 0).val * 1024 + (i 1).val) % 128)
        * X.W (((i 0).val * 1024 + (i 1).val) / 128 % 8) (((i 0).val * 1024 + (i 1).val) / 1024 % 128) k.val)
      + X.b (((i 0).val * 1024 + (i 1).val) / 128 % 8) (((i 0).val * 1024 + (i 1).val) / 1024 % 128) : ℝ) : EReal) = _
  rw [e0, e1, e2, e3, e4, Args.MX]
  simp only [mul_comm]

end Cert.Proof.Ref

end
-- ==== Proof.KerRun.lean ====
/- The kernel's launch read as a whole: the blocks it loads are the arguments' (after the host's masking, transposing and
   broadcasting), and the six result arrays after the last grid point are the formulas of Model.lean. -/
module

public import proofs.«01_k».proof.Proof.KerProj
public import proofs.«01_k».proof.Proof.KerAll
public import proofs.«01_k».proof.Proof.RefGate
public import Idealize.ShloMosaic.Lib.Pipeline.ValueKit
public import Idealize.ShloMosaic.Lib.Claim

@[expose] public section

set_option maxRecDepth 16384

noncomputable section

namespace Cert.Proof.Ker

open Idealize.ShloMosaic Cert.KernelIdeal Cert.KernelIdeal.Gen
open scoped BigOperators

/-! ### Which block a window shows at a point -/

theorem idx0 : ∀ t : Fin cfg0.N, win0_0.index t = ![t.val, 0] := by decide +kernel
theorem idx1 : ∀ t : Fin cfg0.N, win0_1.index t = ![t.val, 1] := by decide +kernel
theorem idx2 : ∀ t : Fin cfg0.N, win0_2.index t = ![t.val, 2] := by decide +kernel
theorem idx3 : ∀ t : Fin cfg0.N, win0_3.index t = ![32 * t.val - 1, 2] := by decide +kernel
theorem idx4 : ∀ t : Fin cfg0.N, win0_4.index t = ![t.val, 0] := by decide +kernel
theorem idx5 : ∀ t : Fin cfg0.N, win0_5.index t = ![t.val, 1] := by decide +kernel
theorem idx6 : ∀ t : Fin cfg0.N, win0_6.index t = ![min (32 * (t.val + 1)) 255, 1] := by decide +kernel
theorem idx7 : ∀ t : Fin cfg0.N, win0_7.index t = ![0, 0, 0] := by decide +kernel
theorem idx8 : ∀ t : Fin cfg0.N, win0_8.index t = ![0, 0, 0] := by decide +kernel
theorem idx9 : ∀ t : Fin cfg0.N, win0_9.index t = ![0, 0, 0] := by decide +kernel
theorem idx10 : ∀ t : Fin cfg0.N, win0_10.index t = ![0, 0] := by decide +kernel
theorem idx11 : ∀ t : Fin cfg0.N, win0_11.index t = ![0, 0, 0] := by decide +kernel
theorem idx12 : ∀ t : Fin cfg0.N, win0_12.index t = ![0, 0] := by decide +kernel
theorem idx13 : ∀ t : Fin cfg0.N, win0_13.index t = ![t.val, 0] := by decide +kernel
theorem idx14 : ∀ t : Fin cfg0.N, win0_14.index t = ![0, 0, 0] := by decide +kernel
theorem idx15 : ∀ t : Fin cfg0.N, win0_15.index t = ![0, 0, 0] := by decide +kernel
theorem idx16 : ∀ t : Fin cfg0.N, win0_16.index t = ![0, 0] := by decide +kernel
theorem idx17 : ∀ t : Fin cfg0.N, win0_17.index t = ![0, 0, 0] := by decide +kernel
theorem idx18 : ∀ t : Fin cfg0.N, win0_18.index t = ![0, 0] := by decide +kernel

/-- An entry of the mask applied to a weight. -/
theorem masked (a b : Fin 128) {x : EReal} {r : ℝ} (hx : x = r) :
    Scalar.select (Scalar.select (IntOp.cmpi CmpIPredicate.sge (IntOp.addi (BitVec.ofNat 32 a.val) 0#32) (BitVec.ofNat 32 b.val))
      1#1 0#1) x 0 = (((if b.val ≤ a.val then r else 0 : ℝ)) : EReal) := by
  rw [Ref.tril_le, hx]; split_ifs <;> rfl

section
variable (m : (ℓ : Loc nD τ sig) → Buf (Elt Ideal) ℓ) {X : Args} (c : Dev nD)

/-- The arguments on device `c` are the real numbers of `X`. -/
structure Holds (X : Args) : Prop where
  a0 : ∀ i, m ((c.tc : Thread nD τ).loc main_arg0) i = ((X.p (i 0).val (i 1).val : ℝ) : EReal)
  a1 : ∀ i, m ((c.tc : Thread nD τ).loc main_arg1) i = ((X.c (i 0).val (i 1).val : ℝ) : EReal)
  a2 : ∀ i, m ((c.tc : Thread nD τ).loc main_arg2) i = ((X.w (i 0).val (i 1).val (i 2).val : ℝ) : EReal)
  a3 : ∀ i, m ((c.tc : Thread nD τ).loc main_arg3) i = ((X.b (i 0).val (i 1).val : ℝ) : EReal)
  a4 : ∀ i, m ((c.tc : Thread nD τ).loc main_arg4) i = ((X.g (i 1).val : ℝ) : EReal)
  a5 : ∀ i, m ((c.tc : Thread nD τ).loc main_arg5) i = ((X.wp (i 0).val (i 1).val (i 2).val : ℝ) : EReal)
  a6 : ∀ i, m ((c.tc : Thread nD τ).loc main_arg6) i = ((X.sc (i 1).val : ℝ) : EReal)

variable {m c} (K : Holds m c X)
include K

/-! ### What the host prepares -/

theorem v4_is : Is (s := S8x128x128) (V m c main_v4) fun i => X.W (i 0).val (i 1).val (i 2).val := fun i => by
  idx_vars i
  simp only [V, hostOps0, hostOps0_1, hostOps0_2, hostOps0_3, hostOps0_4, List.flatten_cons, List.flatten_nil, List.append_nil,
    List.cons_append, List.nil_append]
  entry_read
  simp only [StableHlo.TRef.ofBuf_toBuf]
  simp -implicitDefEqProofs only [StableHlo.TRef.toBuf, StableHlo.TRef.ofBuf, cast_eq]
  pointwise
  exact masked i1 i2 (K.a2 _)
theorem v5_is : Is (s := S8x128x128) (V m c main_v5) fun i => X.W (i 0).val (i 2).val (i 1).val := fun i => by
  idx_vars i
  simp only [V, hostOps0, hostOps0_1, hostOps0_2, hostOps0_3, hostOps0_4, List.flatten_cons, List.flatten_nil, List.append_nil,
    List.cons_append, List.nil_append]
  entry_read
  simp only [StableHlo.TRef.ofBuf_toBuf]
  simp -implicitDefEqProofs only [StableHlo.TRef.toBuf, StableHlo.TRef.ofBuf, cast_eq]
  pointwise
  exact masked i2 i1 (K.a2 _)
theorem v7_is : Is (s := S8x128x128) (V m c main_v7) fun i => X.b (i 0).val (i 1).val := fun i => by
  idx_vars i
  simp only [V, hostOps0, hostOps0_1, hostOps0_2, hostOps0_3, hostOps0_4, List.flatten_cons, List.flatten_nil, List.append_nil,
    List.cons_append, List.nil_append]
  entry_read
  pointwise
  exact K.a3 _
theorem v8_is : Is (s := S4x256x256) (V m c main_v8) fun i => X.wp (i 0).val (i 1).val (i 2).val := fun i => by
  idx_vars i
  simp only [V, hostOps0, hostOps0_1, hostOps0_2, hostOps0_3, hostOps0_4, List.flatten_cons, List.flatten_nil, List.append_nil,
    List.cons_append, List.nil_append]
  entry_read
  pointwise
  exact K.a5 _

/-! ### The blocks -/

theorem b0 (t : Fin cfg0.N) : Is (s := S512x1024) (iblk m c 0 t) fun i => X.p (t.val * 512 + (i 0).val) (i 1).val := fun i => by
  show V m c main_arg0 (((cfg0.win 0).blk t).view.emb i) = _
  rw [V_main_arg0, K.a0]
  blk_simp [idx0]
  try simp only [Nat.zero_mul, Nat.zero_add, Nat.one_mul, Args.Z, Args.DB]
theorem b1 (t : Fin cfg0.N) : Is (s := S512x1024) (iblk m c 1 t) fun i => X.p (t.val * 512 + (i 0).val) (1024 + (i 1).val) := fun i => by
  show V m c main_arg0 (((cfg0.win 1).blk t).view.emb i) = _
  rw [V_main_arg0, K.a0]
  blk_simp [idx1]
  try simp only [Nat.zero_mul, Nat.zero_add, Nat.one_mul, Args.Z, Args.DB]
theorem b2 (t : Fin cfg0.N) : Is (s := S512x1024) (iblk m c 2 t) fun i => X.Z (t.val * 512 + (i 0).val) (i 1).val := fun i => by
  show V m c main_arg0 (((cfg0.win 2).blk t).view.emb i) = _
  rw [V_main_arg0, K.a0]
  blk_simp [idx2]
  try simp only [Nat.zero_mul, Nat.zero_add, Nat.one_mul, Args.Z, Args.DB]
theorem b3 (t : Fin cfg0.N) : Is (s := S16x1024) (iblk m c 3 t) fun i => X.Z ((32 * t.val - 1) * 16 + (i 0).val) (i 1).val := fun i => by
  show V m c main_arg0 (((cfg0.win 3).blk t).view.emb i) = _
  rw [V_main_arg0, K.a0]
  blk_simp [idx3]
  try simp only [Nat.zero_mul, Nat.zero_add, Nat.one_mul, Args.Z, Args.DB]
theorem b4 (t : Fin cfg0.N) : Is (s := S512x1024) (iblk m c 4 t) fun i => X.c (t.val * 512 + (i 0).val) (i 1).val := fun i => by
  show V m c main_arg1 (((cfg0.win 4).blk t).view.emb i) = _
  rw [V_main_arg1, K.a1]
  blk_simp [idx4]
  try simp only [Nat.zero_mul, Nat.zero_add, Nat.one_mul, Args.Z, Args.DB]
theorem b5 (t : Fin cfg0.N) : Is (s := S512x1024) (iblk m c 5 t) fun i => X.DB (t.val * 512 + (i 0).val) (i 1).val := fun i => by
  show V m c main_arg1 (((cfg0.win 5).blk t).view.emb i) = _
  rw [V_main_arg1, K.a1]
  blk_simp [idx5]
  try simp only [Nat.zero_mul, Nat.zero_add, Nat.one_mul, Args.Z, Args.DB]
theorem b6 (t : Fin cfg0.N) : Is (s := S16x1024) (iblk m c 6 t) fun i => X.DB (min (32 * (t.val + 1)) 255 * 16 + (i 0).val) (i 1).val := fun i => by
  show V m c main_arg1 (((cfg0.win 6).blk t).view.emb i) = _
  rw [V_main_arg1, K.a1]
  blk_simp [idx6]
  try simp only [Nat.zero_mul, Nat.zero_add, Nat.one_mul, Args.Z, Args.DB]
theorem b7 (t : Fin cfg0.N) : Is (s := S8x128x128) (iblk m c 7 t) fun i => X.W (i 0).val (i 1).val (i 2).val := fun i => by
  show V m c main_v4 (((cfg0.win 7).blk t).view.emb i) = _
  refine (v4_is K _).trans ?_
  blk_simp [idx7]
  try simp only [Nat.zero_mul, Nat.zero_add, Nat.one_mul, Args.Z, Args.DB]
theorem b8 (t : Fin cfg0.N) : Is (s := S8x128x128) (iblk m c 8 t) fun i => X.W (i 0).val (i 2).val (i 1).val := fun i => by
  show V m c main_v5 (((cfg0.win 8).blk t).view.emb i) = _
  refine (v5_is K _).trans ?_
  blk_simp [idx8]
  try simp only [Nat.zero_mul, Nat.zero_add, Nat.one_mul, Args.Z, Args.DB]
theorem b9 (t : Fin cfg0.N) : Is (s := S8x128x128) (iblk m c 9 t) fun i => X.b (i 0).val (i 1).val := fun i => by
  show V m c main_v7 (((cfg0.win 9).blk t).view.emb i) = _
  refine (v7_is K _).trans ?_
  blk_simp [idx9]
  try simp only [Nat.zero_mul, Nat.zero_add, Nat.one_mul, Args.Z, Args.DB]
theorem b10 (t : Fin cfg0.N) : Is (s := S1x1024) (iblk m c 10 t) fun i => X.g (i 1).val := fun i => by
  show V m c main_arg4 (((cfg0.win 10).blk t).view.emb i) = _
  rw [V_main_arg4, K.a4]
  blk_simp [idx10]
  try simp only [Nat.zero_mul, Nat.zero_add, Nat.one_mul, Args.Z, Args.DB]
theorem b11 (t : Fin cfg0.N) : Is (s := S4x256x256) (iblk m c 11 t) fun i => X.wp (i 0).val (i 1).val (i 2).val := fun i => by
  show V m c main_v8 (((cfg0.win 11).blk t).view.emb i) = _
  refine (v8_is K _).trans ?_
  blk_simp [idx11]
  try simp only [Nat.zero_mul, Nat.zero_add, Nat.one_mul, Args.Z, Args.DB]
theorem b12 (t : Fin cfg0.N) : Is (s := S1x1024) (iblk m c 12 t) fun i => X.sc (i 1).val := fun i => by
  show V m c main_arg6 (((cfg0.win 12).blk t).view.emb i) = _
  rw [V_main_arg6, K.a6]
  blk_simp [idx12]
  try simp only [Nat.zero_mul, Nat.zero_add, Nat.one_mul, Args.Z, Args.DB]

theorem blocks (t : Fin cfg0.N) : Blk X t.val (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t) (iblk m c 12 t) :=
  ⟨b0 K t, b1 K t, b2 K t, b3 K t, b4 K t, b5 K t, b6 K t, b7 K t, b8 K t, b9 K t, b10 K t, b11 K t, b12 K t⟩

/-! ### The result arrays -/

theorem out13 : (dats m 0 c).arrAt 13 cfg0.N = fun i : S4096x3072.Idx => ((X.dproj (i 0).val (i 1).val : ℝ) : EReal) := by
  refine (dats m 0 c).arrAt_eq_of_covers 13 _ (by decide +kernel) fun t hf y => ?_
  blk_simp [idx13]
  rw [after0_13, dproj_rows m c t (blocks K t)]
theorem out14 : (dats m 0 c).arrAt 14 cfg0.N = fun i : S8x128x128.Idx => ((X.dws (i 0).val (i 1).val (i 2).val : ℝ) : EReal) := by
  refine (dats m 0 c).arrAt_eq_of_after_last 14 t0_7 (by decide +kernel) _ fun j => ?_
  blk_simp [idx14]
  rw [after0_14]
  refine (dws_all m c (blocks K) t0_7.isLt _).trans ?_
  simp only [Nat.zero_mul, Nat.zero_add]
theorem out15 : (dats m 0 c).arrAt 15 cfg0.N = fun i : S8x128x1.Idx => ((X.dbs (i 0).val (i 1).val : ℝ) : EReal) := by
  refine (dats m 0 c).arrAt_eq_of_after_last 15 t0_7 (by decide +kernel) _ fun j => ?_
  blk_simp [idx15]
  rw [after0_15]
  refine (dbs_all m c (blocks K) t0_7.isLt _).trans ?_
  simp only [Nat.zero_mul, Nat.zero_add]
theorem out16 : (dats m 0 c).arrAt 16 cfg0.N = fun i : S1x1024.Idx => ((X.dgv (i 1).val : ℝ) : EReal) := by
  refine (dats m 0 c).arrAt_eq_of_after_last 16 t0_7 (by decide +kernel) _ fun j => ?_
  blk_simp [idx16]
  rw [after0_16]
  refine (dgv_all m c (blocks K) t0_7.isLt _).trans ?_
  simp only [Nat.zero_mul, Nat.zero_add]
theorem out17 : (dats m 0 c).arrAt 17 cfg0.N = fun i : S4x256x256.Idx => ((X.dwp (i 0).val (i 1).val (i 2).val : ℝ) : EReal) := by
  refine (dats m 0 c).arrAt_eq_of_after_last 17 t0_7 (by decide +kernel) _ fun j => ?_
  blk_simp [idx17]
  rw [after0_17]
  refine (dwp_all m c (blocks K) t0_7.isLt _).trans ?_
  simp only [Nat.zero_mul, Nat.zero_add]
theorem out18 : (dats m 0 c).arrAt 18 cfg0.N = fun i : S1x1024.Idx => ((X.dsc (i 1).val : ℝ) : EReal) := by
  refine (dats m 0 c).arrAt_eq_of_after_last 18 t0_7 (by decide +kernel) _ fun j => ?_
  blk_simp [idx18]
  rw [after0_18]
  refine (dsc_all m c (blocks K) t0_7.isLt _).trans ?_
  simp only [Nat.zero_mul, Nat.zero_add]

end

/-- What the kernel leaves in its six results, on arguments that are real numbers. -/
theorem run (m : (ℓ : Loc nD τ sig) → Buf (Elt Ideal) ℓ) (ρ : Dev nD → PrngReg) {X : Dev nD → Args} (K : ∀ c, Holds m c (X c)) :
    θ_run (defs (F := Ideal)) (onTc (τ := τ) (main (F := Ideal))) ⟨m, fun _ => 0, ρ⟩ (fun r => ∀ c : Dev nD,
      (r.2.mem ((c.tc : Thread nD τ).loc main_v9_0) = fun i : S4096x3072.Idx => (((X c).dproj (i 0).val (i 1).val : ℝ) : EReal))
      ∧ (r.2.mem ((c.tc : Thread nD τ).loc main_v9_1) = fun i : S8x128x128.Idx => (((X c).dws (i 0).val (i 1).val (i 2).val : ℝ) : EReal))
      ∧ (r.2.mem ((c.tc : Thread nD τ).loc main_v9_2) = fun i : S8x128x1.Idx => (((X c).dbs (i 0).val (i 1).val : ℝ) : EReal))
      ∧ (r.2.mem ((c.tc : Thread nD τ).loc main_v9_3) = fun i : S1x1024.Idx => (((X c).dgv (i 1).val : ℝ) : EReal))
      ∧ (r.2.mem ((c.tc : Thread nD τ).loc main_v9_4) = fun i : S4x256x256.Idx => (((X c).dwp (i 0).val (i 1).val (i 2).val : ℝ) : EReal))
      ∧ (r.2.mem ((c.tc : Thread nD τ).loc main_v9_5) = fun i : S1x1024.Idx => (((X c).dsc (i 1).val : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  θ_run_mono (θ_run_and (run_main m ρ) (unchanged m ρ)) fun _ h c =>
    ⟨((h.1 c).1 13).trans (out13 (K c)), ((h.1 c).1 14).trans (out14 (K c)), ((h.1 c).1 15).trans (out15 (K c)),
      ((h.1 c).1 16).trans (out16 (K c)), ((h.1 c).1 17).trans (out17 (K c)), ((h.1 c).1 18).trans (out18 (K c)), h.2 c⟩

end Cert.Proof.Ker

end
-- ==== Proof.RefGate2.lean ====
/- The transpose of the gating half of the reference, read at one element: the gradients of the mixing matrices, of their
   biases, of the normalisation's scale, and of the two halves of the projection that pass through gelu. -/
module

public import proofs.«01_k».proof.Proof.RefGate

@[expose] public section

set_option maxRecDepth 16384

noncomputable section

namespace Cert.Proof.Ref

open Idealize.ShloMosaic Cert.ReferenceIdeal Cert.ReferenceIdeal.Read
open scoped BigOperators

variable {X : Args} {x0 : S4096x3072.Idx → EReal} {x1 : S4096x2048.Idx → EReal} {x2 : S8x128x128.Idx → EReal}
  {x3 : S8x128.Idx → EReal} {x4 : S1x1024.Idx → EReal}

/-! ### A sum over the first and the last of four axes -/

theorem drop_outer {n0 n1 n2 n3 : ℕ} (h : (⟨4, ![n0, n1, n2, n3]⟩ : Shape).ReducesTo [0, 3] ⟨2, ![n1, n2]⟩)
    (j : (⟨2, ![n1, n2]⟩ : Shape).Idx) (i : (⟨4, ![n0, n1, n2, n3]⟩ : Shape).Idx) :
    h.drop i = j ↔ ∃ k : Fin n0 × Fin n3, ix4 k.1 (j 0) (j 1) k.2 = i := by
  constructor
  · intro e
    refine ⟨(i 0, i 3), funext fun a => Fin.ext ?_⟩
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    refine funext fun b => Fin.ext ?_
    match b with
    | ⟨0, _⟩ => rfl
    | ⟨1, _⟩ => rfl

theorem sum_outer {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (j : (⟨2, ![n1, n2]⟩ : Shape).Idx) :
    Ideal.hostReduceAdd h v init j = init + ∑ a : Fin n0, ∑ b : Fin n3, v (ix4 a (j 0) (j 1) b) := by
  unfold Ideal.hostReduceAdd
  rw [Finset.sum_filter_eq_sum_of_fiber (fun i => h.drop i = j) (fun k : Fin n0 × Fin n3 => ix4 k.1 (j 0) (j 1) k.2)
    (fun _ _ e => Prod.ext (congrFun e 0) (congrFun e 3)) (drop_outer h j) v]
  rw [Fintype.sum_prod_type]

/-! ### The mixing, transposed -/

theorem v179 (h1 : ∀ i, x1 i = ((X.c (i 0).val (i 1).val : ℝ) : EReal)) (i : S4096x1024.Idx) :
    val_main_v179 (F := Ideal) x1 i = ((X.c (i 0).val (i 1).val : ℝ) : EReal) := by
  rw [val_main_v179_apply, val_main_v0_apply, Ideal.extf_def, h1]

theorem v180 (h1 : ∀ i, x1 i = ((X.c (i 0).val (i 1).val : ℝ) : EReal)) (i : S4096x1024.Idx) :
    val_main_v180 (F := Ideal) x1 i = ((X.DB (i 0).val (i 1).val : ℝ) : EReal) := by
  rw [val_main_v180_apply, val_main_v0_apply, Ideal.extf_def, h1]; rfl

theorem v265 (h0 : ∀ i, x0 i = ((X.p (i 0).val (i 1).val : ℝ) : EReal))
    (h1 : ∀ i, x1 i = ((X.c (i 0).val (i 1).val : ℝ) : EReal)) (i : S4096x1024.Idx) :
    val_main_v265 (F := Ideal) x0 x1 i = ((X.DMX (i 0).val (i 1).val : ℝ) : EReal) := by
  rw [val_main_v265_apply, v24 h0, v179 h1, Ideal.mulf_def, lift_mul, mul_comm, Args.DMX]

theorem v267 (h0 : ∀ i, x0 i = ((X.p (i 0).val (i 1).val : ℝ) : EReal))
    (h1 : ∀ i, x1 i = ((X.c (i 0).val (i 1).val : ℝ) : EReal)) (i : S32x128x8x128.Idx) :
    val_main_v267 (F := Ideal) x0 x1 i
      = ((X.DMX ((i 0).val * 128 + (i 1).val) ((i 2).val * 128 + (i 3).val) : ℝ) : EReal) := by
  have h1' : (i 1).val < 128 := (i 1).isLt
  have h2' : (i 2).val < 8 := (i 2).isLt
  have h3' : (i 3).val < 128 := (i 3).isLt
  rw [val_main_v267_apply, v265 h0 h1]
  congr 2
  · show ((((i 0).val * 128 + (i 1).val) * 8 + (i 2).val) * 128 + (i 3).val) / 1024 = _; omega
  · show ((((i 0).val * 128 + (i 1).val) * 8 + (i 2).val) * 128 + (i 3).val) % 1024 = _; omega

theorem v268 (h0 : ∀ i, x0 i = ((X.p (i 0).val (i 1).val : ℝ) : EReal))
    (h1 : ∀ i, x1 i = ((X.c (i 0).val (i 1).val : ℝ) : EReal)) (i : S128x8.Idx) :
    val_main_v268 (F := Ideal) x0 x1 i = ((X.dbs (i 1).val (i 0).val : ℝ) : EReal) := by
  have e : val_main_v268 (F := Ideal) x0 x1 i
      = Ideal.hostReduceAdd Gen.reducesTo_S32x128x8x128_S128x8_d0_3 (val_main_v267 (F := Ideal) x0 x1)
        (val_main_cst_56 (F := Ideal) (Shape.Idx.first Gen.h_S_)) i := rfl
  rw [e, sum_outer Gen.reducesTo_S32x128x8x128_S128x8_d0_3]
  simp only [val_main_cst_56_apply, v267 h0 h1, Ideal.ofBits_def, word_zero, lift_sum, lift_add, zero_add]
  rfl

theorem v335 (h0 : ∀ i, x0 i = ((X.p (i 0).val (i 1).val : ℝ) : EReal))
    (h1 : ∀ i, x1 i = ((X.c (i 0).val (i 1).val : ℝ) : EReal)) (i : S8x128x1.Idx) :
    val_main_v335 (F := Ideal) x0 x1 i = ((X.dbs (i 0).val (i 1).val : ℝ) : EReal) := by
  have hi0 : (i 0).val < 8 := (i 0).isLt
  rw [val_main_v335_apply, val_main_v271_apply]
  have e : ∀ k : S128x8.Idx, val_main_v270 (F := Ideal) x0 x1 k
      = Ideal.hostReduceAdd Gen.reducesTo_S1x128x8x1_S128x8_d0_3 (val_main_v269 (F := Ideal) x0 x1)
        (val_main_cst_57 (F := Ideal) (Shape.Idx.first Gen.h_S_)) k := fun _ => rfl
  rw [e, sum_outer Gen.reducesTo_S1x128x8x1_S128x8_d0_3]
  simp only [val_main_cst_57_apply, val_main_v269_apply, v268 h0 h1, Ideal.ofBits_def, word_zero, lift_sum, lift_add,
    zero_add, Finset.univ_unique, Finset.sum_singleton]
  congr 2
  · show ((0 * 128 + (i 1).val) * 8 + (i 0).val) * 1 % 8 = _; omega
  · show ((0 * 128 + (i 1).val) * 8 + (i 0).val) * 1 / 8 = _; omega

theorem v272 (h0 : ∀ i, x0 i = ((X.p (i 0).val (i 1).val : ℝ) : EReal))
    (h1 : ∀ i, x1 i = ((X.c (i 0).val (i 1).val : ℝ) : EReal)) (i : S8x32x128x128.Idx) :
    val_main_v272 (F := Ideal) x0 x1 i
      = ((X.DMX ((i 1).val * 128 + (i 3).val) ((i 0).val * 128 + (i 2).val) : ℝ) : EReal) := by
  rw [val_main_v272_apply, v267 h0 h1]

theorem v273 (h0 : ∀ i, x0 i = ((X.p (i 0).val (i 1).val : ℝ) : EReal))
    (h1 : ∀ i, x1 i = ((X.c (i 0).val (i 1).val : ℝ) : EReal))
    (h4 : ∀ i, x4 i = ((X.g (i 1).val : ℝ) : EReal)) (i : S8x128x128.Idx) :
    val_main_v273 (F := Ideal) x0 x1 x4 i = ((∑ n : Fin 32, ∑ d : Fin 128,
      X.DMX (n * 128 + (i 1).val) ((i 0).val * 128 + d) * X.VH (n * 128 + (i 2).val) ((i 0).val * 128 + d) : ℝ) : EReal) := by
  have e : val_main_v273 (F := Ideal) x0 x1 x4 i = ∑ n : Fin 32, ∑ d : Fin 128,
      val_main_v272 (F := Ideal) x0 x1 (ix4 (i 0) n d (i 1)) * val_main_v69 (F := Ideal) x0 x4 (ix4 n (i 2) (i 0) d) := by
    unfold val_main_v273
    generalize val_main_v272 (F := Ideal) x0 x1 = y
    generalize val_main_v69 (F := Ideal) x0 x4 = z
    idx_vars i
    pointwise
  rw [e]
  simp only [v272 h0 h1, v69 h0 h4, lift_mul, lift_sum]
  rfl

theorem v276 (h0 : ∀ i, x0 i = ((X.p (i 0).val (i 1).val : ℝ) : EReal))
    (h1 : ∀ i, x1 i = ((X.c (i 0).val (i 1).val : ℝ) : EReal))
    (h4 : ∀ i, x4 i = ((X.g (i 1).val : ℝ) : EReal)) (i : S8x128x128.Idx) :
    val_main_v276 (F := Ideal) x0 x1 x4 i = ((X.dws (i 0).val (i 1).val (i 2).val : ℝ) : EReal) := by
  rw [val_main_v276_apply, v74_1, v273 h0 h1 h4, val_main_call4_v0_apply, val_main_call4_cst_apply, Ideal.ofBits_def,
    word_zero, Args.dws]
  split_ifs <;> rfl

theorem v277 (h0 : ∀ i, x0 i = ((X.p (i 0).val (i 1).val : ℝ) : EReal))
    (h1 : ∀ i, x1 i = ((X.c (i 0).val (i 1).val : ℝ) : EReal))
    (h2 : ∀ i, x2 i = ((X.w (i 0).val (i 1).val (i 2).val : ℝ) : EReal)) (i : S4096x8x128.Idx) :
    val_main_v277 (F := Ideal) x0 x1 x2 i = ((X.DVH (i 0).val ((i 1).val * 128 + (i 2).val) : ℝ) : EReal) := by
  have h1' : (i 1).val < 8 := (i 1).isLt
  have h2' : (i 2).val < 128 := (i 2).isLt
  simp only [val_main_v277_apply, val_main_v275_apply, val_main_v274_apply, v272 h0 h1, v74_0 h2, lift_mul, lift_sum]
  have e0 : (((i 0).val * 8 + (i 1).val) * 128 + (i 2).val) / 131072 = (i 0).val / 128 := by omega
  have e1 : (((i 0).val * 8 + (i 1).val) * 128 + (i 2).val) / 1024 % 128 = (i 0).val % 128 := by omega
  have e2 : (((i 0).val * 8 + (i 1).val) * 128 + (i 2).val) / 128 % 8 = (i 1).val := by omega
  have e3 : (((i 0).val * 8 + (i 1).val) * 128 + (i 2).val) % 128 = (i 2).val := by omega
  show ((∑ k : Fin 128, X.DMX ((((i 0).val * 8 + (i 1).val) * 128 + (i 2).val) / 131072 * 128 + k.val)
      ((((i 0).val * 8 + (i 1).val) * 128 + (i 2).val) / 128 % 8 * 128
        + (((i 0).val * 8 + (i 1).val) * 128 + (i 2).val) % 128)
      * X.W ((((i 0).val * 8 + (i 1).val) * 128 + (i 2).val) / 128 % 8) k.val
        ((((i 0).val * 8 + (i 1).val) * 128 + (i 2).val) / 1024 % 128) : ℝ) : EReal) = _
  rw [e0, e1, e2, e3, Args.DVH, show ((i 1).val * 128 + (i 2).val) / 128 = (i 1).val by omega]
  simp only [mul_comm]

theorem v300 (h0 : ∀ i, x0 i = ((X.p (i 0).val (i 1).val : ℝ) : EReal))
    (h1 : ∀ i, x1 i = ((X.c (i 0).val (i 1).val : ℝ) : EReal))
    (h2 : ∀ i, x2 i = ((X.w (i 0).val (i 1).val (i 2).val : ℝ) : EReal)) (i : S1x1024.Idx) :
    val_main_v300 (F := Ideal) x0 x1 x2 i = ((X.dgv (i 1).val : ℝ) : EReal) := by
  have hi : (i 1).val < 1024 := (i 1).isLt
  simp only [val_main_v300_apply, val_main_v298_apply, val_main_v283_apply, val_main_cst_59_apply, val_main_v280_apply,
    val_main_v279_apply, val_main_cst_58_apply, val_main_v278_apply, v65 h0, v277 h0 h1 h2, Ideal.mulf_def,
    Ideal.ofBits_def, word_zero, lift_mul, lift_sum, lift_add, zero_add, Finset.univ_unique, Finset.sum_singleton]
  rw [Args.dgv]
  congr 1
  refine Finset.sum_congr rfl fun s _ => ?_
  have e : ((0 * 8 + (i 1).val / 128) * 128 + (i 1).val % 128) / 128 * 128
      + ((0 * 8 + (i 1).val / 128) * 128 + (i 1).val % 128) % 128 = (i 1).val := by omega
  show X.VN s.val (((0 * 8 + (i 1).val / 128) * 128 + (i 1).val % 128) / 128 * 128
      + ((0 * 8 + (i 1).val / 128) * 128 + (i 1).val % 128) % 128)
    * X.DVH s.val (((0 * 8 + (i 1).val / 128) * 128 + (i 1).val % 128) / 128 * 128
      + ((0 * 8 + (i 1).val / 128) * 128 + (i 1).val % 128) % 128) = _
  rw [e, mul_comm]

/-! ### The normalisation, transposed -/

theorem v282 (h0 : ∀ i, x0 i = ((X.p (i 0).val (i 1).val : ℝ) : EReal))
    (h1 : ∀ i, x1 i = ((X.c (i 0).val (i 1).val : ℝ) : EReal))
    (h2 : ∀ i, x2 i = ((X.w (i 0).val (i 1).val (i 2).val : ℝ) : EReal))
    (h4 : ∀ i, x4 i = ((X.g (i 1).val : ℝ) : EReal)) (i : S4096x8x128.Idx) :
    val_main_v282 (F := Ideal) x0 x1 x2 x4 i = ((X.DVN (i 0).val ((i 1).val * 128 + (i 2).val) : ℝ) : EReal) := by
  have e : val_main_v281 (F := Ideal) x4 i = val_main_v67 (F := Ideal) x4 i := rfl
  rw [val_main_v282_apply, v277 h0 h1 h2, e, v67 h4, Ideal.mulf_def, lift_mul, Args.DVN]

/-- The two equal terms the transpose of the mean square leaves are the one term of the formula. -/
theorem norm_transposed (r ms v s d : ℝ) (hr : r * r = ms⁻¹) :
    d * r + v * (s * (-(1 / 2) * (r / ms)) / 128) + s * (-(1 / 2) * (r / ms)) / 128 * v
      = r * (d - v * r * (s * r / 128)) := by
  rw [div_eq_mul_inv r ms, ← hr]; ring

theorem v297 (h0 : ∀ i, x0 i = ((X.p (i 0).val (i 1).val : ℝ) : EReal))
    (h1 : ∀ i, x1 i = ((X.c (i 0).val (i 1).val : ℝ) : EReal))
    (h2 : ∀ i, x2 i = ((X.w (i 0).val (i 1).val (i 2).val : ℝ) : EReal))
    (h4 : ∀ i, x4 i = ((X.g (i 1).val : ℝ) : EReal)) (i : S4096x8x128.Idx) :
    val_main_v297 (F := Ideal) x0 x1 x2 x4 i = ((X.DV (i 0).val ((i 1).val * 128 + (i 2).val) : ℝ) : EReal) := by
  have h1' : (i 1).val < 8 := (i 1).isLt
  have h2' : (i 2).val < 128 := (i 2).isLt
  have e0 : (((i 0).val * 8 + (i 1).val) * 1 + 0) / 8 = (i 0).val := by omega
  have e1 : (((i 0).val * 8 + (i 1).val) * 1 + 0) % 8 = (i 1).val := by omega
  simp only [val_main_v297_apply, val_main_v296_apply, val_main_v295_apply, val_main_v294_apply, val_main_v288_apply,
    val_main_v293_apply, val_main_v292_apply, val_main_cst_62_apply, val_main_v291_apply, val_main_v290_apply,
    val_main_cst_61_apply, val_main_v289_apply, val_main_v287_apply, val_main_v286_apply, val_main_v285_apply,
    val_main_cst_60_apply, val_main_v284_apply, v282 h0 h1 h2 h4, v51 h0, v60 h0, v63 h0, Ideal.mulf_def, Ideal.addf_def,
    Ideal.hostDivf_def, Ideal.ofBits_def, word_zero, word_128, lift_mul, lift_sum, lift_add, lift_div_128, zero_add,
    Finset.univ_unique, Finset.sum_singleton]
  have e2 : ((i 1).val * 128 + (i 2).val) / 128 = (i 1).val := by omega
  have e3 : ∑ d : Fin 128, X.DVN (i 0).val ((i 1).val * 128 + d) * X.VN (i 0).val ((i 1).val * 128 + d)
      = (∑ d : Fin 128, X.V (i 0).val ((i 1).val * 128 + d) * X.DVN (i 0).val ((i 1).val * 128 + d))
        * X.R (i 0).val (i 1).val := by
    rw [Finset.sum_mul]
    refine Finset.sum_congr rfl fun d _ => ?_
    rw [Args.VN, show ((i 1).val * 128 + d.val) / 128 = (i 1).val by have := d.isLt; omega]; ring
  rw [Args.DV, e2, e3, Args.VN, e2, ← norm_transposed _ _ _ _ _ (X.R_sq _ _)]
  congr 1
  show _ + _ * ((∑ d : Fin 128, X.V ((((i 0).val * 8 + (i 1).val) * 1 + 0) / 8)
      ((((i 0).val * 8 + (i 1).val) * 1 + 0) % 8 * 128 + d.val)
      * X.DVN ((((i 0).val * 8 + (i 1).val) * 1 + 0) / 8) ((((i 0).val * 8 + (i 1).val) * 1 + 0) % 8 * 128 + d.val)) * _ / 128)
    + (∑ d : Fin 128, X.V ((((i 0).val * 8 + (i 1).val) * 1 + 0) / 8)
      ((((i 0).val * 8 + (i 1).val) * 1 + 0) % 8 * 128 + d.val)
      * X.DVN ((((i 0).val * 8 + (i 1).val) * 1 + 0) / 8) ((((i 0).val * 8 + (i 1).val) * 1 + 0) % 8 * 128 + d.val)) * _ / 128 * _
    = _
  rw [e0, e1]

theorem v299 (h0 : ∀ i, x0 i = ((X.p (i 0).val (i 1).val : ℝ) : EReal))
    (h1 : ∀ i, x1 i = ((X.c (i 0).val (i 1).val : ℝ) : EReal))
    (h2 : ∀ i, x2 i = ((X.w (i 0).val (i 1).val (i 2).val : ℝ) : EReal))
    (h4 : ∀ i, x4 i = ((X.g (i 1).val : ℝ) : EReal)) (i : S4096x1024.Idx) :
    val_main_v299 (F := Ideal) x0 x1 x2 x4 i = ((X.DV (i 0).val (i 1).val : ℝ) : EReal) := by
  have h1' : (i 1).val < 1024 := (i 1).isLt
  rw [val_main_v299_apply, v297 h0 h1 h2 h4]
  congr 2
  · show ((i 0).val * 1024 + (i 1).val) / 1024 = _; omega
  · show ((i 0).val * 1024 + (i 1).val) / 128 % 8 * 128 + ((i 0).val * 1024 + (i 1).val) % 128 = _; omega

/-! ### gelu, transposed -/

theorem v315 (h0 : ∀ i, x0 i = ((X.p (i 0).val (i 1).val : ℝ) : EReal))
    (h1 : ∀ i, x1 i = ((X.c (i 0).val (i 1).val : ℝ) : EReal))
    (h2 : ∀ i, x2 i = ((X.w (i 0).val (i 1).val (i 2).val : ℝ) : EReal))
    (h4 : ∀ i, x4 i = ((X.g (i 1).val : ℝ) : EReal)) (i : S4096x1024.Idx) :
    val_main_v315 (F := Ideal) x0 x1 x2 x4 i
      = ((X.DV (i 0).val (i 1).val * dgel (X.p (i 0).val (1024 + (i 1).val)) : ℝ) : EReal) := by
  simp only [val_main_v315_apply, val_main_v314_apply, val_main_v313_apply, val_main_v312_apply, val_main_cst_67_apply,
    val_main_v311_apply, val_main_v310_apply, val_main_cst_66_apply, val_main_v309_apply, val_main_v308_apply,
    val_main_v307_apply, val_main_cst_65_apply, val_main_v306_apply, val_main_v305_apply, val_main_v304_apply,
    val_main_cst_64_apply, val_main_v303_apply, val_main_v302_apply, v299 h0 h1 h2 h4, val_main_v47_apply,
    val_main_v46_apply, val_main_cst_14_apply, val_main_v45_apply, val_main_v44_apply, val_main_cst_13_apply,
    val_main_v43_apply, val_main_v42_apply, val_main_v41_apply, val_main_cst_12_apply, val_main_v40_apply,
    val_main_v39_apply, val_main_cst_11_apply, val_main_v30_apply, val_main_v29_apply, val_main_cst_7_apply,
    val_main_v28_apply, v38 h0, val_main_v25_apply, h0, Ideal.mulf_def, Ideal.addf_def, Ideal.subf_def,
    Ideal.hostDivf_def, Ideal.ofBits_def, word_half, word_one, word_three, word_k, word_44715, word_million, lift_mul,
    lift_add, lift_sub, lift_div_million]
  exact congrArg _ (dgel_transposed (X.p (i 0).val (1024 + (i 1).val)) _ _ rfl)

theorem v331 (h0 : ∀ i, x0 i = ((X.p (i 0).val (i 1).val : ℝ) : EReal))
    (h1 : ∀ i, x1 i = ((X.c (i 0).val (i 1).val : ℝ) : EReal))
    (h2 : ∀ i, x2 i = ((X.w (i 0).val (i 1).val (i 2).val : ℝ) : EReal))
    (h3 : ∀ i, x3 i = ((X.b (i 0).val (i 1).val : ℝ) : EReal))
    (h4 : ∀ i, x4 i = ((X.g (i 1).val : ℝ) : EReal)) (i : S4096x1024.Idx) :
    val_main_v331 (F := Ideal) x0 x1 x2 x3 x4 i
      = ((X.c (i 0).val (i 1).val * X.MX (i 0).val (i 1).val * dgel (X.p (i 0).val (i 1).val) : ℝ) : EReal) := by
  simp only [val_main_v331_apply, val_main_v330_apply, val_main_v329_apply, val_main_v328_apply, val_main_cst_72_apply,
    val_main_v327_apply, val_main_v326_apply, val_main_cst_71_apply, val_main_v325_apply, val_main_v324_apply,
    val_main_v323_apply, val_main_cst_70_apply, val_main_v322_apply, val_main_v321_apply, val_main_v320_apply,
    val_main_cst_69_apply, val_main_v319_apply, val_main_v318_apply, val_main_v266_apply, v179 h1, v81 h0 h4 h2 h3,
    val_main_v23_apply, val_main_v22_apply, val_main_cst_6_apply, val_main_v21_apply, val_main_v20_apply,
    val_main_cst_5_apply, val_main_v19_apply, val_main_v18_apply, val_main_v17_apply, val_main_cst_4_apply,
    val_main_v16_apply, val_main_v15_apply, val_main_cst_3_apply, val_main_v6_apply, val_main_v5_apply,
    val_main_cst_apply, val_main_v4_apply, v14 h0, val_main_v1_apply, h0, Ideal.mulf_def, Ideal.addf_def, Ideal.subf_def,
    Ideal.hostDivf_def, Ideal.ofBits_def, word_half, word_one, word_three, word_k, word_44715, word_million, lift_mul,
    lift_add, lift_sub, lift_div_million]
  exact congrArg _ (dgel_transposed (X.p (i 0).val (i 1).val) _ _ rfl)

end Cert.Proof.Ref

end
-- ==== Proof.RefShape.lean ====
/- Operations of the reference's pooling half, read at one element at any extents: running sums over the rows from either
   end, rows shifted down behind zeros, zero padding. Operands are given as real formulas of their coordinates. -/
module

public import proofs.«01_k».proof.Proof.Model
public import proofs.«01_k».proof.Proof.Lift
public import Idealize.ShloMosaic.Lib.Pointwise
public import Idealize.ShloMosaic.PureOps.Ideal

@[expose] public section

set_option maxRecDepth 16384

noncomputable section

namespace Cert.Proof.Ref

open Idealize.ShloMosaic
open scoped BigOperators

/-! ### Sums of real numbers over a range -/

/-- A running sum less the one `w` rows before it is the sum of the last `w` terms. -/
theorem range_lag (f : ℕ → ℝ) (s w : ℕ) :
    ∑ k ∈ Finset.range (s + 1), f k - ∑ k ∈ Finset.range (s + 1 - w), f k
      = ∑ k ∈ Finset.range w, if k ≤ s then f (s - k) else 0 := by
  induction w with
  | zero => simp
  | succ w ih =>
    rw [Finset.sum_range_succ (fun k => if k ≤ s then f (s - k) else 0) w, ← ih]
    by_cases h : w ≤ s
    · rw [if_pos h, show s + 1 - w = (s + 1 - (w + 1)) + 1 by omega,
        Finset.sum_range_succ f (s + 1 - (w + 1)),
        show s + 1 - (w + 1) = s - w by omega]
      ring
    · rw [if_neg h, show s + 1 - w = 0 by omega, show s + 1 - (w + 1) = 0 by omega]
      ring

/-- A sum from row `s` on, of terms each less the one `w` rows after it, keeps the first `w` terms. -/
theorem range_tail (q : ℕ → ℝ) (N s w : ℕ) :
    ∑ n ∈ Finset.range N, (if s + n < N then q (s + n) - (if s + n + w < N then q (s + n + w) else 0) else 0)
      = ∑ k ∈ Finset.range w, if s + k < N then q (s + k) else 0 := by
  let F : ℕ → ℝ := fun n => if n < N then q n else 0
  have e : ∀ n, (if s + n < N then q (s + n) - (if s + n + w < N then q (s + n + w) else 0) else 0)
      = F (s + n) - F (s + (w + n)) := by
    intro n
    show _ = (if s + n < N then q (s + n) else 0) - (if s + (w + n) < N then q (s + (w + n)) else 0)
    rw [show s + (w + n) = s + n + w by omega]
    by_cases h : s + n < N
    · rw [if_pos h, if_pos h]
    · rw [if_neg h, if_neg h, if_neg (by omega), sub_zero]
  have a := Finset.sum_range_add (fun k => F (s + k)) N w
  have b := Finset.sum_range_add (fun k => F (s + k)) w N
  have z : ∑ k ∈ Finset.range w, F (s + (N + k)) = 0 :=
    Finset.sum_eq_zero fun k _ => if_neg (by omega)
  rw [Finset.sum_congr rfl fun n _ => e n, Finset.sum_sub_distrib]
  show _ = ∑ k ∈ Finset.range w, F (s + k)
  rw [Nat.add_comm w N] at b
  linarith

/-- A window that reaches `lo` rows back, over rows the first `lo` of which are padding. -/
theorem range_first {N lo s : ℕ} (hlo : lo + 1 = N) (hs : s < N) (f : ℕ → ℝ) :
    ∑ n ∈ Finset.range N, (if lo ≤ s + n ∧ s + n - lo < N then f (s + n - lo) else 0) = ∑ k ∈ Finset.range (s + 1), f k := by
  rw [show Finset.range N = Finset.range ((lo - s) + (s + 1)) by congr 1; omega, Finset.sum_range_add,
    Finset.sum_eq_zero fun n hn => if_neg (by have := Finset.mem_range.1 hn; omega), zero_add]
  refine Finset.sum_congr rfl fun n hn => ?_
  have := Finset.mem_range.1 hn
  rw [if_pos (by omega), show s + (lo - s + n) - lo = n by omega]

/-! ### Running sums over the first of three axes -/

theorem fold_add {ι : Type} (l : List ι) (g : ι → EReal) (a : EReal) :
    l.foldl (fun r n => r + g n) a = a + (l.map g).sum := by
  induction l generalizing a with
  | nil => simp
  | cons x l ih => rw [List.foldl_cons, ih, List.map_cons, List.sum_cons, add_assoc]

theorem numel_col (N : ℕ) : (⟨3, ![N, 1, 1]⟩ : Shape).numel = N := by
  show ∏ a : Fin 3, (![N, 1, 1] : Fin 3 → ℕ) a = N
  rw [Fin.prod_univ_three]
  show N * 1 * 1 = N
  omega

theorem col_at {N : ℕ} (n : Fin (⟨3, ![N, 1, 1]⟩ : Shape).numel) :
    ((⟨3, ![N, 1, 1]⟩ : Shape).rowMajor.symm n 0).val = n.val ∧ ((⟨3, ![N, 1, 1]⟩ : Shape).rowMajor.symm n 1).val = 0
      ∧ ((⟨3, ![N, 1, 1]⟩ : Shape).rowMajor.symm n 2).val = 0 := by
  have e := Shape.rowMajor_val_three ((⟨3, ![N, 1, 1]⟩ : Shape).rowMajor.symm n)
  rw [Equiv.apply_symm_apply] at e
  have h1 : ((⟨3, ![N, 1, 1]⟩ : Shape).rowMajor.symm n 1).val < 1 := ((⟨3, ![N, 1, 1]⟩ : Shape).rowMajor.symm n 1).isLt
  have h2 : ((⟨3, ![N, 1, 1]⟩ : Shape).rowMajor.symm n 2).val < 1 := ((⟨3, ![N, 1, 1]⟩ : Shape).rowMajor.symm n 2).isLt
  change n.val = (((⟨3, ![N, 1, 1]⟩ : Shape).rowMajor.symm n 0).val * 1
    + ((⟨3, ![N, 1, 1]⟩ : Shape).rowMajor.symm n 1).val) * 1 + ((⟨3, ![N, 1, 1]⟩ : Shape).rowMajor.symm n 2).val at e
  omega

theorem window_sum {N A B lo hi : ℕ}
    (h : (⟨3, ![N, A, B]⟩ : Shape).ReduceWindows ![N, 1, 1] ![1, 1, 1] ![lo, 0, 0] ![hi, 0, 0] ⟨3, ![N, A, B]⟩)
    {x : (⟨3, ![N, A, B]⟩ : Shape).Idx → EReal} {f : ℕ → ℕ → ℕ → ℝ}
    (hx : ∀ i, x i = ((f (i 0).val (i 1).val (i 2).val : ℝ) : EReal)) (i : (⟨3, ![N, A, B]⟩ : Shape).Idx) :
    Ideal.hostReduceWindowAdd ![N, 1, 1] ![1, 1, 1] ![lo, 0, 0] ![hi, 0, 0] h x 0 i
      = ((∑ n ∈ Finset.range N, (if lo ≤ (i 0).val + n ∧ (i 0).val + n - lo < N
          then f ((i 0).val + n - lo) (i 1).val (i 2).val else 0) : ℝ) : EReal) := by
  unfold Ideal.hostReduceWindowAdd Host.reduceWindow
  dsimp only
  rw [fold_add, zero_add]
  refine Eq.trans ?_ (lift_sum (Finset.range N) fun n => if lo ≤ (i 0).val + n ∧ (i 0).val + n - lo < N
    then f ((i 0).val + n - lo) (i 1).val (i 2).val else 0)
  rw [← Fin.sum_univ_eq_sum_range (fun n => (((if lo ≤ (i 0).val + n ∧ (i 0).val + n - lo < N
    then f ((i 0).val + n - lo) (i 1).val (i 2).val else 0 : ℝ)) : EReal)), ← Fin.sum_univ_def]
  refine Fintype.sum_equiv (finCongr (numel_col N)) _ _ fun n => ?_
  obtain ⟨c0, c1, c2⟩ := col_at n
  have hi1 : (i 1).val < A := (i 1).isLt
  have hi2 : (i 2).val < B := (i 2).isLt
  show _ = ((if lo ≤ (i 0).val + n.val ∧ (i 0).val + n.val - lo < N
    then f ((i 0).val + n.val - lo) (i 1).val (i 2).val else 0 : ℝ) : EReal)
  have key : (∀ a : Fin 3, (![lo, 0, 0] : Fin 3 → ℕ) a ≤ (i a).val * (![1, 1, 1] : Fin 3 → ℕ) a
        + ((⟨3, ![N, 1, 1]⟩ : Shape).rowMajor.symm n a).val
      ∧ (i a).val * (![1, 1, 1] : Fin 3 → ℕ) a + ((⟨3, ![N, 1, 1]⟩ : Shape).rowMajor.symm n a).val
        - (![lo, 0, 0] : Fin 3 → ℕ) a < (![N, A, B] : Fin 3 → ℕ) a)
      ↔ lo ≤ (i 0).val + n.val ∧ (i 0).val + n.val - lo < N := by
    rw [Fin.forall_fin_succ, Fin.forall_fin_two]
    show (lo ≤ (i 0).val * 1 + ((⟨3, ![N, 1, 1]⟩ : Shape).rowMajor.symm n 0).val
      ∧ (i 0).val * 1 + ((⟨3, ![N, 1, 1]⟩ : Shape).rowMajor.symm n 0).val - lo < N)
      ∧ (0 ≤ (i 1).val * 1 + ((⟨3, ![N, 1, 1]⟩ : Shape).rowMajor.symm n 1).val
      ∧ (i 1).val * 1 + ((⟨3, ![N, 1, 1]⟩ : Shape).rowMajor.symm n 1).val - 0 < A)
      ∧ (0 ≤ (i 2).val * 1 + ((⟨3, ![N, 1, 1]⟩ : Shape).rowMajor.symm n 2).val
      ∧ (i 2).val * 1 + ((⟨3, ![N, 1, 1]⟩ : Shape).rowMajor.symm n 2).val - 0 < B) ↔ _
    rw [c0, c1, c2]; omega
  by_cases hc : lo ≤ (i 0).val + n.val ∧ (i 0).val + n.val - lo < N
  · rw [if_pos hc]
    refine (dif_pos (key.2 hc)).trans ((hx _).trans ?_)
    show ((f ((i 0).val * 1 + ((⟨3, ![N, 1, 1]⟩ : Shape).rowMajor.symm n 0).val - lo)
      ((i 1).val * 1 + ((⟨3, ![N, 1, 1]⟩ : Shape).rowMajor.symm n 1).val - 0)
      ((i 2).val * 1 + ((⟨3, ![N, 1, 1]⟩ : Shape).rowMajor.symm n 2).val - 0) : ℝ) : EReal) = _
    rw [c0, c1, c2]
    simp only [Nat.mul_one, Nat.add_zero, Nat.sub_zero]
  · rw [if_neg hc]
    exact dif_neg fun h => hc (key.1 h)

/-- The running sum from the first row. -/
theorem sum_up {N A B lo : ℕ} (hlo : lo + 1 = N)
    (h : (⟨3, ![N, A, B]⟩ : Shape).ReduceWindows ![N, 1, 1] ![1, 1, 1] ![lo, 0, 0] ![0, 0, 0] ⟨3, ![N, A, B]⟩)
    {x : (⟨3, ![N, A, B]⟩ : Shape).Idx → EReal} {f : ℕ → ℕ → ℕ → ℝ}
    (hx : ∀ i, x i = ((f (i 0).val (i 1).val (i 2).val : ℝ) : EReal)) (i : (⟨3, ![N, A, B]⟩ : Shape).Idx) :
    Ideal.hostReduceWindowAdd ![N, 1, 1] ![1, 1, 1] ![lo, 0, 0] ![0, 0, 0] h x 0 i
      = ((∑ k ∈ Finset.range ((i 0).val + 1), f k (i 1).val (i 2).val : ℝ) : EReal) := by
  rw [window_sum h hx i, range_first hlo (i 0).isLt fun k => f k (i 1).val (i 2).val]

/-- The running sum from the last row. -/
theorem sum_down {N A B hi : ℕ}
    (h : (⟨3, ![N, A, B]⟩ : Shape).ReduceWindows ![N, 1, 1] ![1, 1, 1] ![0, 0, 0] ![hi, 0, 0] ⟨3, ![N, A, B]⟩)
    {x : (⟨3, ![N, A, B]⟩ : Shape).Idx → EReal} {f : ℕ → ℕ → ℕ → ℝ}
    (hx : ∀ i, x i = ((f (i 0).val (i 1).val (i 2).val : ℝ) : EReal)) (i : (⟨3, ![N, A, B]⟩ : Shape).Idx) :
    Ideal.hostReduceWindowAdd ![N, 1, 1] ![1, 1, 1] ![0, 0, 0] ![hi, 0, 0] h x 0 i
      = ((∑ n ∈ Finset.range N, (if (i 0).val + n < N then f ((i 0).val + n) (i 1).val (i 2).val else 0) : ℝ) : EReal) := by
  rw [window_sum h hx i]
  simp only [Nat.zero_le, true_and, Nat.sub_zero]

/-! ### Rows behind rows of zeros, and zero padding -/

theorem lag_at {L M N C : ℕ} (h : Shape.Concatenates [(⟨2, ![L, C]⟩ : Shape), ⟨2, ![M, C]⟩] ⟨2, ![N, C]⟩ 0)
    {z : (⟨2, ![L, C]⟩ : Shape).Idx → EReal} {x : (⟨2, ![M, C]⟩ : Shape).Idx → EReal} {f : ℕ → ℕ → ℝ} (hz : ∀ i, z i = 0)
    (hx : ∀ i, x i = ((f (i 0).val (i 1).val : ℝ) : EReal)) (hf : ∀ j, f 0 j = 0) (i : (⟨2, ![N, C]⟩ : Shape).Idx) :
    concatenate ⟨2, ![N, C]⟩ 0 [⟨⟨2, ![L, C]⟩, z⟩, ⟨⟨2, ![M, C]⟩, x⟩] h i = ((f ((i 0).val - L) (i 1).val : ℝ) : EReal) := by
  refine (concatenate_pair_apply 0 z x h i).trans ?_
  by_cases hc : (i 0).val < L
  · refine (dif_pos hc).trans ((hz _).trans ?_)
    rw [show (i 0).val - L = 0 by omega, hf]; rfl
  · exact (dif_neg hc).trans (hx _)

theorem pad_two {n c N C l0 l1 h0 h1 : ℕ}
    (h : (⟨2, ![n, c]⟩ : Shape).Pads ![l0, l1] ![h0, h1] ![0, 0] ⟨2, ![N, C]⟩)
    {x : (⟨2, ![n, c]⟩ : Shape).Idx → EReal} {u : Shape} {v : u.Idx → EReal} (hu : 0 < u.numel) {f : ℕ → ℕ → ℝ}
    (hv : ∀ k, v k = 0) (hx : ∀ i, x i = ((f (i 0).val (i 1).val : ℝ) : EReal)) (i : (⟨2, ![N, C]⟩ : Shape).Idx) :
    pad ⟨2, ![N, C]⟩ ![l0, l1] ![h0, h1] ![0, 0] x v h hu i
      = ((if (l0 ≤ (i 0).val ∧ (i 0).val - l0 < n) ∧ (l1 ≤ (i 1).val ∧ (i 1).val - l1 < c)
          then f ((i 0).val - l0) ((i 1).val - l1) else 0 : ℝ) : EReal) := by
  unfold pad
  have key : (∀ a : Fin 2, (![l0, l1] : Fin 2 → ℕ) a ≤ (i a).val
        ∧ ((i a).val - (![l0, l1] : Fin 2 → ℕ) a) % ((![0, 0] : Fin 2 → ℕ) a + 1) = 0
        ∧ ((i a).val - (![l0, l1] : Fin 2 → ℕ) a) / ((![0, 0] : Fin 2 → ℕ) a + 1) < (![n, c] : Fin 2 → ℕ) a)
      ↔ (l0 ≤ (i 0).val ∧ (i 0).val - l0 < n) ∧ (l1 ≤ (i 1).val ∧ (i 1).val - l1 < c) := by
    rw [Fin.forall_fin_two]
    show (l0 ≤ (i 0).val ∧ ((i 0).val - l0) % 1 = 0 ∧ ((i 0).val - l0) / 1 < n)
      ∧ (l1 ≤ (i 1).val ∧ ((i 1).val - l1) % 1 = 0 ∧ ((i 1).val - l1) / 1 < c) ↔ _
    simp only [Nat.mod_one, Nat.div_one, true_and]
  by_cases hc : (l0 ≤ (i 0).val ∧ (i 0).val - l0 < n) ∧ (l1 ≤ (i 1).val ∧ (i 1).val - l1 < c)
  · rw [if_pos hc]
    refine (dif_pos (key.2 hc)).trans ((hx _).trans ?_)
    show ((f (((i 0).val - l0) / 1) (((i 1).val - l1) / 1) : ℝ) : EReal) = _
    rw [Nat.div_one, Nat.div_one]
  · rw [if_neg hc]
    exact (dif_neg fun h => hc (key.1 h)).trans (hv _)

/-- One group's rows among zeros for the other groups. -/
theorem pad_group {N C g hi G : ℕ} (h : (⟨3, ![N, 1, C]⟩ : Shape).Pads ![0, g, 0] ![0, hi, 0] ![0, 0, 0] ⟨3, ![N, G, C]⟩)
    {x : (⟨3, ![N, 1, C]⟩ : Shape).Idx → EReal} {u : Shape} {v : u.Idx → EReal} (hu : 0 < u.numel) {f : ℕ → ℕ → ℝ}
    (hv : ∀ k, v k = 0) (hx : ∀ i, x i = ((f (i 0).val (i 2).val : ℝ) : EReal)) (i : (⟨3, ![N, G, C]⟩ : Shape).Idx) :
    pad ⟨3, ![N, G, C]⟩ ![0, g, 0] ![0, hi, 0] ![0, 0, 0] x v h hu i
      = ((if (i 1).val = g then f (i 0).val (i 2).val else 0 : ℝ) : EReal) := by
  have hi0 : (i 0).val < N := (i 0).isLt
  have hi2 : (i 2).val < C := (i 2).isLt
  unfold pad
  have key : (∀ a : Fin 3, (![0, g, 0] : Fin 3 → ℕ) a ≤ (i a).val
        ∧ ((i a).val - (![0, g, 0] : Fin 3 → ℕ) a) % ((![0, 0, 0] : Fin 3 → ℕ) a + 1) = 0
        ∧ ((i a).val - (![0, g, 0] : Fin 3 → ℕ) a) / ((![0, 0, 0] : Fin 3 → ℕ) a + 1) < (![N, 1, C] : Fin 3 → ℕ) a)
      ↔ (i 1).val = g := by
    rw [Fin.forall_fin_succ, Fin.forall_fin_two]
    show (0 ≤ (i 0).val ∧ ((i 0).val - 0) % 1 = 0 ∧ ((i 0).val - 0) / 1 < N)
      ∧ (g ≤ (i 1).val ∧ ((i 1).val - g) % 1 = 0 ∧ ((i 1).val - g) / 1 < 1)
      ∧ (0 ≤ (i 2).val ∧ ((i 2).val - 0) % 1 = 0 ∧ ((i 2).val - 0) / 1 < C) ↔ _
    simp only [Nat.mod_one, Nat.div_one, true_and, Nat.sub_zero]
    omega
  by_cases hc : (i 1).val = g
  · rw [if_pos hc]
    refine (dif_pos (key.2 hc)).trans ((hx _).trans ?_)
    show ((f (((i 0).val - 0) / 1) (((i 2).val - 0) / 1) : ℝ) : EReal) = _
    rw [Nat.div_one, Nat.div_one, Nat.sub_zero, Nat.sub_zero]
  · rw [if_neg hc]
    exact (dif_neg fun h => hc (key.1 h)).trans (hv _)

/-! ### The number of rows a window holds -/

/-- The program's count of the rows of a window, at one row and one group. -/
theorem count_word : ∀ g : Fin 4, ∀ s : Fin 4096,
    (IntOp.minsi (IntOp.addi (BitVec.ofNat 32 s.val) 1#32) (BitVec.ofNat 32 (2 ^ (g.val + 1)))).toInt
      = ((min (s.val + 1) (2 ^ (g.val + 1)) : ℕ) : ℤ) := by decide +kernel

theorem cnt_ne {w : ℕ} (hw : 0 < w) (s : ℕ) : cnt w s ≠ 0 := by
  rw [cnt]; exact Nat.cast_ne_zero.mpr (by omega)

theorem win_pos (g : ℕ) : 0 < win g := by rw [win]; positivity

end Cert.Proof.Ref

end
-- ==== Proof.RefPool.lean ====
/- The pooling half of the reference, read at one element: the means over the windows, the linear map of a group, and the
   gradients of its matrices and of its scale. -/
module

public import proofs.«01_k».proof.Proof.RefShape
public import proofs.«01_k».proof.Proof.RefGate2

@[expose] public section

set_option maxRecDepth 16384

noncomputable section

namespace Cert.Proof.Ref

open Idealize.ShloMosaic Cert.ReferenceIdeal Cert.ReferenceIdeal.Read
open scoped BigOperators

variable {X : Args} {x0 : S4096x3072.Idx → EReal} {x1 : S4096x2048.Idx → EReal} {x5 : S4x256x256.Idx → EReal}
  {x6 : S1x1024.Idx → EReal}

/-! ### The running sums and the counts -/

theorem v84 (h0 : ∀ i, x0 i = ((X.p (i 0).val (i 1).val : ℝ) : EReal)) (i : S4096x4x256.Idx) :
    val_main_v84 (F := Ideal) x0 i = ((X.Z (i 0).val ((i 1).val * 256 + (i 2).val) : ℝ) : EReal) := by
  have h1 : (i 1).val < 4 := (i 1).isLt
  have h2 : (i 2).val < 256 := (i 2).isLt
  rw [val_main_v84_apply, val_main_v49_apply, h0, Args.Z]
  congr 2
  · show (((i 0).val * 4 + (i 1).val) * 256 + (i 2).val) / 1024 = _; omega
  · show 2048 + (((i 0).val * 4 + (i 1).val) * 256 + (i 2).val) % 1024 = _; omega

theorem v85 (h0 : ∀ i, x0 i = ((X.p (i 0).val (i 1).val : ℝ) : EReal)) (i : S4096x4x256.Idx) :
    val_main_v85 (F := Ideal) x0 i
      = ((∑ k ∈ Finset.range ((i 0).val + 1), X.Z k ((i 1).val * 256 + (i 2).val) : ℝ) : EReal) := by
  unfold val_main_v85 Host.reduceWindowAdd
  rw [Ideal.hostReduceWindowAdd_def, val_main_call2_call0_v0_apply, val_main_call2_call0_cst_apply, Ideal.ofBits_def, word_zero]
  exact sum_up (f := fun s a b => X.Z s (a * 256 + b)) rfl _ (v84 h0) i

/-- The sum of the rows before row `n`. -/
def CS (X : Args) (g n j : ℕ) : ℝ := ∑ k ∈ Finset.range n, X.Z k (g * 256 + j)

theorem v88 (h0 : ∀ i, x0 i = ((X.p (i 0).val (i 1).val : ℝ) : EReal)) (i : S4097x4x256.Idx) :
    val_main_v88 (F := Ideal) x0 i = ((CS X (i 1).val (i 0).val (i 2).val : ℝ) : EReal) := by
  refine (concatenate_pair_apply 0 (val_main_v87 (F := Ideal)) (val_main_v85 (F := Ideal) x0) _ i).trans ?_
  by_cases hc : (i 0).val < 1
  · refine (dif_pos hc).trans ?_
    rw [val_main_v87_apply, val_main_cst_20_apply, Ideal.ofBits_def, word_zero, show (i 0).val = 0 by omega]; rfl
  · refine (dif_neg hc).trans ((v85 h0 _).trans ?_)
    show ((∑ k ∈ Finset.range ((i 0).val - 1 + 1), X.Z k ((i 1).val * 256 + (i 2).val) : ℝ) : EReal) = _
    rw [show (i 0).val - 1 + 1 = (i 0).val by omega]; rfl

theorem CS_zero (X : Args) (g j : ℕ) : CS X g 0 j = 0 := Finset.sum_range_zero _

/-- One group's stage: the difference of two running sums, divided by the count, less the row. -/
theorem pooled_at (X : Args) (g s j : ℕ) (hj : j < 256) {c z a l : EReal} (hc : c = ((cnt (win g) s : ℝ) : EReal))
    (hz : z = ((X.Z s (g * 256 + j) : ℝ) : EReal)) (ha : a = ((CS X g (s + 1) j : ℝ) : EReal))
    (hl : l = ((CS X g (s - (win g - 1)) j : ℝ) : EReal)) :
    Ideal.div (a - l) c - z = ((X.PO s (g * 256 + j) : ℝ) : EReal) := by
  have e := range_lag (fun k => X.Z k (g * 256 + j)) s (win g)
  rw [show s + 1 - win g = s - (win g - 1) by have := win_pos g; omega] at e
  rw [hc, hz, ha, hl, lift_sub, lift_div _ (cnt_ne (win_pos g) s), lift_sub, Args.PO,
    show (g * 256 + j) / 256 = g by omega, CS, CS, e]

theorem v102 (i : S4096x1.Idx) : val_main_v102 (F := Ideal) i = ((cnt (win 0) (i 0).val : ℝ) : EReal) := by
  simp only [val_main_v102_apply, val_main_v101_apply, val_main_v100_apply, val_main_v99_apply, val_main_c_25_apply,
    val_main_v98_apply, val_main_v97_apply, val_main_c_24_apply, val_main_v90_apply]
  exact congrArg (fun z : ℤ => ((z : ℝ) : EReal)) (count_word 0 ⟨(i 0).val, (i 0).isLt⟩)

theorem v121 (i : S4096x1.Idx) : val_main_v121 (F := Ideal) i = ((cnt (win 1) (i 0).val : ℝ) : EReal) := by
  simp only [val_main_v121_apply, val_main_v120_apply, val_main_v119_apply, val_main_v118_apply, val_main_c_29_apply,
    val_main_v117_apply, val_main_v116_apply, val_main_c_28_apply, val_main_v90_apply]
  exact congrArg (fun z : ℤ => ((z : ℝ) : EReal)) (count_word 1 ⟨(i 0).val, (i 0).isLt⟩)

theorem v140 (i : S4096x1.Idx) : val_main_v140 (F := Ideal) i = ((cnt (win 2) (i 0).val : ℝ) : EReal) := by
  simp only [val_main_v140_apply, val_main_v139_apply, val_main_v138_apply, val_main_v137_apply, val_main_c_33_apply,
    val_main_v136_apply, val_main_v135_apply, val_main_c_32_apply, val_main_v90_apply]
  exact congrArg (fun z : ℤ => ((z : ℝ) : EReal)) (count_word 2 ⟨(i 0).val, (i 0).isLt⟩)

theorem v159 (i : S4096x1.Idx) : val_main_v159 (F := Ideal) i = ((cnt (win 3) (i 0).val : ℝ) : EReal) := by
  simp only [val_main_v159_apply, val_main_v158_apply, val_main_v157_apply, val_main_v156_apply, val_main_c_37_apply,
    val_main_v155_apply, val_main_v154_apply, val_main_c_36_apply, val_main_v90_apply]
  exact congrArg (fun z : ℤ => ((z : ℝ) : EReal)) (count_word 3 ⟨(i 0).val, (i 0).isLt⟩)

/-! ### The pooled rows -/

theorem row_col {a b : ℕ} (h : b < 256) : (a * 256 + b) / 256 = a ∧ (a * 256 + b) % 256 = b := by omega

theorem CS_at (X : Args) {g g' n n' j j' : ℕ} (hg : g = g') (h : n = n' ∧ j = j') :
    ((CS X g n j : ℝ) : EReal) = ((CS X g' n' j' : ℝ) : EReal) := by rw [hg, h.1, h.2]

theorem Z_at (X : Args) (g : ℕ) {n n' j j' : ℕ} (h : n = n' ∧ j = j') :
    ((X.Z n (g * 256 + j) : ℝ) : EReal) = ((X.Z n' (g * 256 + j') : ℝ) : EReal) := by rw [h.1, h.2]

theorem v92 (h0 : ∀ i, x0 i = ((X.p (i 0).val (i 1).val : ℝ) : EReal)) (i : S4097x256.Idx) :
    val_main_v92 (F := Ideal) x0 i = ((CS X 0 (i 0).val (i 1).val : ℝ) : EReal) := by
  rw [val_main_v92_apply, val_main_v91_apply, v88 h0]
  exact CS_at X rfl (row_col (i 1).isLt)

theorem v95 (h0 : ∀ i, x0 i = ((X.p (i 0).val (i 1).val : ℝ) : EReal)) (i : S4096x256.Idx) :
    val_main_v95 (F := Ideal) x0 i = ((CS X 0 ((i 0).val - 1) (i 1).val : ℝ) : EReal) :=
  lag_at (f := CS X 0) _ (fun k => by rw [val_main_v93_apply, val_main_cst_22_apply, Ideal.ofBits_def, word_zero]; rfl)
    (fun k => by rw [val_main_v94_apply, v92 h0]) (CS_zero X 0) i

theorem v109 (h0 : ∀ i, x0 i = ((X.p (i 0).val (i 1).val : ℝ) : EReal)) (i : S4096x256.Idx) :
    val_main_v109 (F := Ideal) x0 i = ((X.PO (i 0).val (0 * 256 + (i 1).val) : ℝ) : EReal) := by
  rw [val_main_v109_apply, val_main_v106_apply, val_main_v104_apply, val_main_v103_apply, val_main_v105_apply,
    val_main_v108_apply, val_main_v107_apply, v84 h0, v92 h0, v95 h0, v102]
  exact pooled_at X 0 (i 0).val (i 1).val (i 1).isLt rfl (Z_at X 0 (row_col (i 1).isLt))
    (CS_at X rfl ⟨Nat.add_comm 1 _, rfl⟩) rfl

theorem v111 (h0 : ∀ i, x0 i = ((X.p (i 0).val (i 1).val : ℝ) : EReal)) (i : S4097x256.Idx) :
    val_main_v111 (F := Ideal) x0 i = ((CS X 1 (i 0).val (i 1).val : ℝ) : EReal) := by
  rw [val_main_v111_apply, val_main_v110_apply, v88 h0]
  exact CS_at X rfl (row_col (i 1).isLt)

theorem v114 (h0 : ∀ i, x0 i = ((X.p (i 0).val (i 1).val : ℝ) : EReal)) (i : S4096x256.Idx) :
    val_main_v114 (F := Ideal) x0 i = ((CS X 1 ((i 0).val - 3) (i 1).val : ℝ) : EReal) :=
  lag_at (f := CS X 1) _ (fun k => by rw [val_main_v112_apply, val_main_cst_26_apply, Ideal.ofBits_def, word_zero]; rfl)
    (fun k => by rw [val_main_v113_apply, v111 h0]) (CS_zero X 1) i

theorem v128 (h0 : ∀ i, x0 i = ((X.p (i 0).val (i 1).val : ℝ) : EReal)) (i : S4096x256.Idx) :
    val_main_v128 (F := Ideal) x0 i = ((X.PO (i 0).val (1 * 256 + (i 1).val) : ℝ) : EReal) := by
  rw [val_main_v128_apply, val_main_v125_apply, val_main_v123_apply, val_main_v122_apply, val_main_v124_apply,
    val_main_v127_apply, val_main_v126_apply, v84 h0, v111 h0, v114 h0, v121]
  exact pooled_at X 1 (i 0).val (i 1).val (i 1).isLt rfl (Z_at X 1 (row_col (i 1).isLt))
    (CS_at X rfl ⟨Nat.add_comm 1 _, rfl⟩) rfl

theorem v130 (h0 : ∀ i, x0 i = ((X.p (i 0).val (i 1).val : ℝ) : EReal)) (i : S4097x256.Idx) :
    val_main_v130 (F := Ideal) x0 i = ((CS X 2 (i 0).val (i 1).val : ℝ) : EReal) := by
  rw [val_main_v130_apply, val_main_v129_apply, v88 h0]
  exact CS_at X rfl (row_col (i 1).isLt)

theorem v133 (h0 : ∀ i, x0 i = ((X.p (i 0).val (i 1).val : ℝ) : EReal)) (i : S4096x256.Idx) :
    val_main_v133 (F := Ideal) x0 i = ((CS X 2 ((i 0).val - 7) (i 1).val : ℝ) : EReal) :=
  lag_at (f := CS X 2) _ (fun k => by rw [val_main_v131_apply, val_main_cst_30_apply, Ideal.ofBits_def, word_zero]; rfl)
    (fun k => by rw [val_main_v132_apply, v130 h0]) (CS_zero X 2) i

theorem v147 (h0 : ∀ i, x0 i = ((X.p (i 0).val (i 1).val : ℝ) : EReal)) (i : S4096x256.Idx) :
    val_main_v147 (F := Ideal) x0 i = ((X.PO (i 0).val (2 * 256 + (i 1).val) : ℝ) : EReal) := by
  rw [val_main_v147_apply, val_main_v144_apply, val_main_v142_apply, val_main_v141_apply, val_main_v143_apply,
    val_main_v146_apply, val_main_v145_apply, v84 h0, v130 h0, v133 h0, v140]
  exact pooled_at X 2 (i 0).val (i 1).val (i 1).isLt rfl (Z_at X 2 (row_col (i 1).isLt))
    (CS_at X rfl ⟨Nat.add_comm 1 _, rfl⟩) rfl

theorem v149 (h0 : ∀ i, x0 i = ((X.p (i 0).val (i 1).val : ℝ) : EReal)) (i : S4097x256.Idx) :
    val_main_v149 (F := Ideal) x0 i = ((CS X 3 (i 0).val (i 1).val : ℝ) : EReal) := by
  rw [val_main_v149_apply, val_main_v148_apply, v88 h0]
  exact CS_at X rfl (row_col (i 1).isLt)

theorem v152 (h0 : ∀ i, x0 i = ((X.p (i 0).val (i 1).val : ℝ) : EReal)) (i : S4096x256.Idx) :
    val_main_v152 (F := Ideal) x0 i = ((CS X 3 ((i 0).val - 15) (i 1).val : ℝ) : EReal) :=
  lag_at (f := CS X 3) _ (fun k => by rw [val_main_v150_apply, val_main_cst_34_apply, Ideal.ofBits_def, word_zero]; rfl)
    (fun k => by rw [val_main_v151_apply, v149 h0]) (CS_zero X 3) i

theorem v166 (h0 : ∀ i, x0 i = ((X.p (i 0).val (i 1).val : ℝ) : EReal)) (i : S4096x256.Idx) :
    val_main_v166 (F := Ideal) x0 i = ((X.PO (i 0).val (3 * 256 + (i 1).val) : ℝ) : EReal) := by
  rw [val_main_v166_apply, val_main_v163_apply, val_main_v161_apply, val_main_v160_apply, val_main_v162_apply,
    val_main_v165_apply, val_main_v164_apply, v84 h0, v149 h0, v152 h0, v159]
  exact pooled_at X 3 (i 0).val (i 1).val (i 1).isLt rfl (Z_at X 3 (row_col (i 1).isLt))
    (CS_at X rfl ⟨Nat.add_comm 1 _, rfl⟩) rfl

/-- The four groups' rows, stacked. -/
theorem v171 (h0 : ∀ i, x0 i = ((X.p (i 0).val (i 1).val : ℝ) : EReal)) (i : S4096x4x256.Idx) :
    val_main_v171 (F := Ideal) x0 i = ((X.PO (i 0).val ((i 1).val * 256 + (i 2).val) : ℝ) : EReal) := by
  have a0 : ∀ k, val_main_v167 (F := Ideal) x0 k = ((X.PO (k 0).val (0 * 256 + (k 2).val) : ℝ) : EReal) := fun k => by
    rw [val_main_v167_apply, v109 h0]
  have a1 : ∀ k, val_main_v168 (F := Ideal) x0 k = ((X.PO (k 0).val (1 * 256 + (k 2).val) : ℝ) : EReal) := fun k => by
    rw [val_main_v168_apply, v128 h0]
  have a2 : ∀ k, val_main_v169 (F := Ideal) x0 k = ((X.PO (k 0).val (2 * 256 + (k 2).val) : ℝ) : EReal) := fun k => by
    rw [val_main_v169_apply, v147 h0]
  have a3 : ∀ k, val_main_v170 (F := Ideal) x0 k = ((X.PO (k 0).val (3 * 256 + (k 2).val) : ℝ) : EReal) := fun k => by
    rw [val_main_v170_apply, v166 h0]
  unfold val_main_v171
  generalize val_main_v167 (F := Ideal) x0 = y0 at *
  generalize val_main_v168 (F := Ideal) x0 = y1 at *
  generalize val_main_v169 (F := Ideal) x0 = y2 at *
  generalize val_main_v170 (F := Ideal) x0 = y3 at *
  idx_vars i
  pointwise
  have hi : i1.val < 4 := i1.isLt
  have move : ∀ {g : ℕ}, g = i1.val → ((X.PO i0.val (g * 256 + i2.val) : ℝ) : EReal) = ((X.PO i0.val (i1.val * 256 + i2.val) : ℝ) : EReal) :=
    fun e => by rw [e]
  by_cases c0 : i1.val < 1
  · exact (dif_pos c0).trans ((a0 _).trans (move (by omega)))
  refine (dif_neg c0).trans ?_
  by_cases c1 : i1.val - 1 < 1
  · exact (dif_pos c1).trans ((a1 _).trans (move (by omega)))
  refine (dif_neg c1).trans ?_
  by_cases c2 : i1.val - 1 - 1 < 1
  · exact (dif_pos c2).trans ((a2 _).trans (move (by omega)))
  · exact (dif_neg c2).trans ((a3 _).trans (move (by omega)))

/-! ### The linear map and the gradient of the scale -/

theorem v174 (h0 : ∀ i, x0 i = ((X.p (i 0).val (i 1).val : ℝ) : EReal))
    (h5 : ∀ i, x5 i = ((X.wp (i 0).val (i 1).val (i 2).val : ℝ) : EReal)) (i : S4096x1024.Idx) :
    val_main_v174 (F := Ideal) x0 x5 i = ((X.YP (i 0).val (i 1).val : ℝ) : EReal) := by
  have h1' : (i 1).val < 1024 := (i 1).isLt
  simp only [val_main_v174_apply, val_main_v173_apply, val_main_v172_apply, v171 h0, h5, lift_mul, lift_sum]
  have e0 : ((i 0).val * 1024 + (i 1).val) / 1024 = (i 0).val := by omega
  have e1 : ((i 0).val * 1024 + (i 1).val) / 256 % 4 = (i 1).val / 256 := by omega
  have e2 : ((i 0).val * 1024 + (i 1).val) % 256 = (i 1).val % 256 := by omega
  show ((∑ k : Fin 256, X.wp (((i 0).val * 1024 + (i 1).val) / 256 % 4) k.val (((i 0).val * 1024 + (i 1).val) % 256)
    * X.PO (((i 0).val * 1024 + (i 1).val) / 1024) (((i 0).val * 1024 + (i 1).val) / 256 % 4 * 256 + k.val) : ℝ) : EReal) = _
  rw [e0, e1, e2, Args.YP]
  simp only [mul_comm]

theorem v264 (h0 : ∀ i, x0 i = ((X.p (i 0).val (i 1).val : ℝ) : EReal))
    (h1 : ∀ i, x1 i = ((X.c (i 0).val (i 1).val : ℝ) : EReal))
    (h5 : ∀ i, x5 i = ((X.wp (i 0).val (i 1).val (i 2).val : ℝ) : EReal)) (i : S1x1024.Idx) :
    val_main_v264 (F := Ideal) x0 x1 x5 i = ((X.dsc (i 1).val : ℝ) : EReal) := by
  have hi : (i 1).val < 1024 := (i 1).isLt
  simp only [val_main_v264_apply, val_main_v186_apply, val_main_cst_39_apply, val_main_v183_apply, val_main_v182_apply,
    val_main_cst_38_apply, val_main_v181_apply, v174 h0 h5, v180 h1, Ideal.mulf_def, Ideal.ofBits_def, word_zero, lift_mul,
    lift_sum, lift_add, zero_add, Finset.univ_unique, Finset.sum_singleton]
  rw [Args.dsc]
  congr 1
  refine Finset.sum_congr rfl fun s _ => ?_
  show X.YP s.val (0 * 1024 + (i 1).val) * X.DB s.val (0 * 1024 + (i 1).val) = _
  rw [Nat.zero_mul, Nat.zero_add, mul_comm]

/-! ### The linear map, transposed -/

theorem v188 (h1 : ∀ i, x1 i = ((X.c (i 0).val (i 1).val : ℝ) : EReal))
    (h6 : ∀ i, x6 i = ((X.sc (i 1).val : ℝ) : EReal)) (i : S4x256x4096.Idx) :
    val_main_v188 (F := Ideal) x1 x6 i = ((X.DY (i 2).val ((i 0).val * 256 + (i 1).val) : ℝ) : EReal) := by
  have h0' : (i 0).val < 4 := (i 0).isLt
  have h1' : (i 1).val < 256 := (i 1).isLt
  simp only [val_main_v188_apply, val_main_v187_apply, val_main_v185_apply, val_main_v184_apply, val_main_v175_apply,
    val_main_v83_apply, v180 h1, h6, Ideal.mulf_def, lift_mul]
  have e0 : (((i 2).val * 4 + (i 0).val) * 256 + (i 1).val) / 1024 = (i 2).val := by omega
  have e1 : (((i 2).val * 4 + (i 0).val) * 256 + (i 1).val) % 1024 = (i 0).val * 256 + (i 1).val := by omega
  have e2 : ((i 0).val * 256 + (i 1).val) % 1024 = (i 0).val * 256 + (i 1).val := by omega
  show ((X.DB ((((i 2).val * 4 + (i 0).val) * 256 + (i 1).val) / 1024) ((((i 2).val * 4 + (i 0).val) * 256 + (i 1).val) % 1024)
    * X.sc ((((i 2).val * 4 + (i 0).val) * 256 + (i 1).val) % 1024 % 1024) : ℝ) : EReal) = _
  rw [e0, e1, e2, Args.DY]

theorem v192 (h0 : ∀ i, x0 i = ((X.p (i 0).val (i 1).val : ℝ) : EReal))
    (h1 : ∀ i, x1 i = ((X.c (i 0).val (i 1).val : ℝ) : EReal))
    (h6 : ∀ i, x6 i = ((X.sc (i 1).val : ℝ) : EReal)) (i : S4x256x256.Idx) :
    val_main_v192 (F := Ideal) x0 x1 x6 i = ((X.dwp (i 0).val (i 1).val (i 2).val : ℝ) : EReal) := by
  simp only [val_main_v192_apply, val_main_v191_apply, v188 h1 h6, v171 h0, lift_mul, lift_sum]
  rw [Args.dwp]
  congr 1
  exact Finset.sum_congr rfl fun s _ => mul_comm _ _

theorem v190 (h1 : ∀ i, x1 i = ((X.c (i 0).val (i 1).val : ℝ) : EReal))
    (h5 : ∀ i, x5 i = ((X.wp (i 0).val (i 1).val (i 2).val : ℝ) : EReal))
    (h6 : ∀ i, x6 i = ((X.sc (i 1).val : ℝ) : EReal)) (i : S4096x4x256.Idx) :
    val_main_v190 (F := Ideal) x1 x5 x6 i = ((X.DPO (i 0).val ((i 1).val * 256 + (i 2).val) : ℝ) : EReal) := by
  have h2' : (i 2).val < 256 := (i 2).isLt
  simp only [val_main_v190_apply, val_main_v189_apply, v188 h1 h6, h5, lift_mul, lift_sum]
  rw [Args.DPO, (row_col h2').1, (row_col h2').2]

end Cert.Proof.Ref

end
-- ==== Proof.RefProj.lean ====
/- The pooling half of the reference, transposed and read at one element, and the gradient of the projection put together
   from its three parts. -/
module

public import proofs.«01_k».proof.Proof.RefPool

@[expose] public section

set_option maxRecDepth 16384

noncomputable section

namespace Cert.Proof.Ref

open Idealize.ShloMosaic Cert.ReferenceIdeal Cert.ReferenceIdeal.Read
open scoped BigOperators

variable {X : Args} {x0 : S4096x3072.Idx → EReal} {x1 : S4096x2048.Idx → EReal} {x2 : S8x128x128.Idx → EReal}
  {x3 : S8x128.Idx → EReal} {x4 : S1x1024.Idx → EReal} {x5 : S4x256x256.Idx → EReal} {x6 : S1x1024.Idx → EReal}

/-! ### One group's rows -/

/-- A row of the gradient of the pooled rows of group `g`, divided by its window's count. -/
def Q (X : Args) (g s j : ℕ) : ℝ := X.DPO s (g * 256 + j) / cnt (win g) s

/-- What the transpose of the two running sums of group `g` holds at row `n` of the sums: the row before, less the row a
    window later. -/
def T (X : Args) (g n j : ℕ) : ℝ :=
  (if 1 ≤ n ∧ n - 1 < 4096 then Q X g (n - 1) j else 0)
    - (if n < 4096 - (win g - 1) then Q X g (n + (win g - 1)) j else 0)

theorem DPO_at (X : Args) (g : ℕ) {n n' j j' : ℕ} (h : n = n' ∧ j = j') :
    ((X.DPO n (g * 256 + j) : ℝ) : EReal) = ((X.DPO n' (g * 256 + j') : ℝ) : EReal) := by rw [h.1, h.2]

theorem quotient_at (X : Args) (g : ℕ) {s j : ℕ} {a c : EReal} (ha : a = ((X.DPO s (g * 256 + j) : ℝ) : EReal))
    (hc : c = ((cnt (win g) s : ℝ) : EReal)) : Ideal.div a c = ((Q X g s j : ℝ) : EReal) := by
  rw [ha, hc, lift_div _ (cnt_ne (win_pos g) s), Q]

/-- The two paddings of one group's quotients added. -/
theorem T_at (X : Args) (g : ℕ) {n j w : ℕ} (hw : win g - 1 = w) {a b : EReal} (hj : j < 256)
    (ha : a = ((if (1 ≤ n ∧ n - 1 < 4096) ∧ (0 ≤ j ∧ j - 0 < 256) then Q X g (n - 1) (j - 0) else 0 : ℝ) : EReal))
    (hb : b = ((if (0 ≤ n ∧ n - 0 < 4096 - w) ∧ (0 ≤ j ∧ j - 0 < 256) then -Q X g (w + (n - 0)) (j - 0) else 0 : ℝ) : EReal)) :
    a + b = ((T X g n j : ℝ) : EReal) := by
  rw [ha, hb, lift_add, T, hw]
  simp only [hj, and_true, Nat.sub_zero, Nat.zero_le, true_and, Nat.add_comm w n]
  congr 1
  split_ifs <;> ring

section
variable (h1 : ∀ i, x1 i = ((X.c (i 0).val (i 1).val : ℝ) : EReal))
  (h5 : ∀ i, x5 i = ((X.wp (i 0).val (i 1).val (i 2).val : ℝ) : EReal)) (h6 : ∀ i, x6 i = ((X.sc (i 1).val : ℝ) : EReal))
include h1 h5 h6

theorem v200 (i : S4096x256.Idx) : val_main_v200 (F := Ideal) x1 x5 x6 i = ((X.DPO (i 0).val (3 * 256 + (i 1).val) : ℝ) : EReal) := by
  rw [val_main_v200_apply, val_main_v199_apply, v190 h1 h5 h6]
  exact DPO_at X 3 (row_col (i 1).isLt)

theorem v203 (i : S4096x4x256.Idx) : val_main_v203 (F := Ideal) x1 x5 x6 i
    = ((if (i 1).val = 3 then -X.DPO (i 0).val (3 * 256 + (i 2).val) else 0 : ℝ) : EReal) :=
  pad_group (f := fun s j => -X.DPO s (3 * 256 + j)) Gen.pads_S4096x1x256_S4096x4x256_000_300_000 _
    (fun k => by rw [val_main_cst_40_apply, Ideal.ofBits_def, word_zero]; rfl)
    (fun k => by rw [val_main_v202_apply, val_main_v201_apply, v200 h1 h5 h6]; rfl) i

theorem v205 (i : S4096x256.Idx) : val_main_v205 (F := Ideal) x1 x5 x6 i = ((Q X 3 (i 0).val (i 1).val : ℝ) : EReal) := by
  rw [val_main_v205_apply, v200 h1 h5 h6, val_main_v204_apply, v159]
  exact quotient_at X 3 rfl rfl

theorem v211 (i : S4097x256.Idx) : val_main_v211 (F := Ideal) x1 x5 x6 i = ((T X 3 (i 0).val (i 1).val : ℝ) : EReal) := by
  rw [val_main_v211_apply]
  refine T_at X 3 rfl (i 1).isLt (pad_two (f := Q X 3) Gen.pads_S4096x256_S4097x256_100_000 _
    (fun k => by rw [val_main_cst_41_apply, Ideal.ofBits_def, word_zero]; rfl) (v205 h1 h5 h6) i)
    (pad_two (f := fun n j => -Q X 3 (15 + n) j) Gen.pads_S4081x256_S4097x256_0160_000 _
    (fun k => by rw [val_main_cst_42_apply, Ideal.ofBits_def, word_zero]; rfl)
    (fun k => by rw [val_main_v209_apply, val_main_v206_apply, v205 h1 h5 h6]; rfl) i)

theorem v213 (i : S4097x4x256.Idx) : val_main_v213 (F := Ideal) x1 x5 x6 i
    = ((if (i 1).val = 3 then T X 3 (i 0).val (i 2).val else 0 : ℝ) : EReal) :=
  pad_group (f := T X 3) Gen.pads_S4097x1x256_S4097x4x256_000_300_000 _ (fun k => by rw [val_main_cst_43_apply, Ideal.ofBits_def, word_zero]; rfl)
    (fun k => by rw [val_main_v212_apply, v211 h1 h5 h6]) i

theorem v198 (i : S4096x256.Idx) : val_main_v198 (F := Ideal) x1 x5 x6 i = ((X.DPO (i 0).val (2 * 256 + (i 1).val) : ℝ) : EReal) := by
  rw [val_main_v198_apply, val_main_v197_apply, v190 h1 h5 h6]
  exact DPO_at X 2 (row_col (i 1).isLt)

theorem v216 (i : S4096x4x256.Idx) : val_main_v216 (F := Ideal) x1 x5 x6 i
    = ((if (i 1).val = 2 then -X.DPO (i 0).val (2 * 256 + (i 2).val) else 0 : ℝ) : EReal) :=
  pad_group (f := fun s j => -X.DPO s (2 * 256 + j)) Gen.pads_S4096x1x256_S4096x4x256_000_210_000 _
    (fun k => by rw [val_main_cst_44_apply, Ideal.ofBits_def, word_zero]; rfl)
    (fun k => by rw [val_main_v215_apply, val_main_v214_apply, v198 h1 h5 h6]; rfl) i

theorem v219 (i : S4096x256.Idx) : val_main_v219 (F := Ideal) x1 x5 x6 i = ((Q X 2 (i 0).val (i 1).val : ℝ) : EReal) := by
  rw [val_main_v219_apply, v198 h1 h5 h6, val_main_v218_apply, v140]
  exact quotient_at X 2 rfl rfl

theorem v225 (i : S4097x256.Idx) : val_main_v225 (F := Ideal) x1 x5 x6 i = ((T X 2 (i 0).val (i 1).val : ℝ) : EReal) := by
  rw [val_main_v225_apply]
  refine T_at X 2 rfl (i 1).isLt (pad_two (f := Q X 2) Gen.pads_S4096x256_S4097x256_100_000 _
    (fun k => by rw [val_main_cst_45_apply, Ideal.ofBits_def, word_zero]; rfl) (v219 h1 h5 h6) i)
    (pad_two (f := fun n j => -Q X 2 (7 + n) j) Gen.pads_S4089x256_S4097x256_080_000 _
    (fun k => by rw [val_main_cst_46_apply, Ideal.ofBits_def, word_zero]; rfl)
    (fun k => by rw [val_main_v223_apply, val_main_v220_apply, v219 h1 h5 h6]; rfl) i)

theorem v227 (i : S4097x4x256.Idx) : val_main_v227 (F := Ideal) x1 x5 x6 i
    = ((if (i 1).val = 2 then T X 2 (i 0).val (i 2).val else 0 : ℝ) : EReal) :=
  pad_group (f := T X 2) Gen.pads_S4097x1x256_S4097x4x256_000_210_000 _ (fun k => by rw [val_main_cst_47_apply, Ideal.ofBits_def, word_zero]; rfl)
    (fun k => by rw [val_main_v226_apply, v225 h1 h5 h6]) i

theorem v196 (i : S4096x256.Idx) : val_main_v196 (F := Ideal) x1 x5 x6 i = ((X.DPO (i 0).val (1 * 256 + (i 1).val) : ℝ) : EReal) := by
  rw [val_main_v196_apply, val_main_v195_apply, v190 h1 h5 h6]
  exact DPO_at X 1 (row_col (i 1).isLt)

theorem v231 (i : S4096x4x256.Idx) : val_main_v231 (F := Ideal) x1 x5 x6 i
    = ((if (i 1).val = 1 then -X.DPO (i 0).val (1 * 256 + (i 2).val) else 0 : ℝ) : EReal) :=
  pad_group (f := fun s j => -X.DPO s (1 * 256 + j)) Gen.pads_S4096x1x256_S4096x4x256_000_120_000 _
    (fun k => by rw [val_main_cst_48_apply, Ideal.ofBits_def, word_zero]; rfl)
    (fun k => by rw [val_main_v230_apply, val_main_v229_apply, v196 h1 h5 h6]; rfl) i

theorem v234 (i : S4096x256.Idx) : val_main_v234 (F := Ideal) x1 x5 x6 i = ((Q X 1 (i 0).val (i 1).val : ℝ) : EReal) := by
  rw [val_main_v234_apply, v196 h1 h5 h6, val_main_v233_apply, v121]
  exact quotient_at X 1 rfl rfl

theorem v240 (i : S4097x256.Idx) : val_main_v240 (F := Ideal) x1 x5 x6 i = ((T X 1 (i 0).val (i 1).val : ℝ) : EReal) := by
  rw [val_main_v240_apply]
  refine T_at X 1 rfl (i 1).isLt (pad_two (f := Q X 1) Gen.pads_S4096x256_S4097x256_100_000 _
    (fun k => by rw [val_main_cst_49_apply, Ideal.ofBits_def, word_zero]; rfl) (v234 h1 h5 h6) i)
    (pad_two (f := fun n j => -Q X 1 (3 + n) j) Gen.pads_S4093x256_S4097x256_040_000 _
    (fun k => by rw [val_main_cst_50_apply, Ideal.ofBits_def, word_zero]; rfl)
    (fun k => by rw [val_main_v238_apply, val_main_v235_apply, v234 h1 h5 h6]; rfl) i)

theorem v242 (i : S4097x4x256.Idx) : val_main_v242 (F := Ideal) x1 x5 x6 i
    = ((if (i 1).val = 1 then T X 1 (i 0).val (i 2).val else 0 : ℝ) : EReal) :=
  pad_group (f := T X 1) Gen.pads_S4097x1x256_S4097x4x256_000_120_000 _ (fun k => by rw [val_main_cst_51_apply, Ideal.ofBits_def, word_zero]; rfl)
    (fun k => by rw [val_main_v241_apply, v240 h1 h5 h6]) i

theorem v194 (i : S4096x256.Idx) : val_main_v194 (F := Ideal) x1 x5 x6 i = ((X.DPO (i 0).val (0 * 256 + (i 1).val) : ℝ) : EReal) := by
  rw [val_main_v194_apply, val_main_v193_apply, v190 h1 h5 h6]
  exact DPO_at X 0 (row_col (i 1).isLt)

theorem v246 (i : S4096x4x256.Idx) : val_main_v246 (F := Ideal) x1 x5 x6 i
    = ((if (i 1).val = 0 then -X.DPO (i 0).val (0 * 256 + (i 2).val) else 0 : ℝ) : EReal) :=
  pad_group (f := fun s j => -X.DPO s (0 * 256 + j)) Gen.pads_S4096x1x256_S4096x4x256_000_030_000 _
    (fun k => by rw [val_main_cst_52_apply, Ideal.ofBits_def, word_zero]; rfl)
    (fun k => by rw [val_main_v245_apply, val_main_v244_apply, v194 h1 h5 h6]; rfl) i

theorem v249 (i : S4096x256.Idx) : val_main_v249 (F := Ideal) x1 x5 x6 i = ((Q X 0 (i 0).val (i 1).val : ℝ) : EReal) := by
  rw [val_main_v249_apply, v194 h1 h5 h6, val_main_v248_apply, v102]
  exact quotient_at X 0 rfl rfl

theorem v255 (i : S4097x256.Idx) : val_main_v255 (F := Ideal) x1 x5 x6 i = ((T X 0 (i 0).val (i 1).val : ℝ) : EReal) := by
  rw [val_main_v255_apply]
  refine T_at X 0 rfl (i 1).isLt (pad_two (f := Q X 0) Gen.pads_S4096x256_S4097x256_100_000 _
    (fun k => by rw [val_main_cst_53_apply, Ideal.ofBits_def, word_zero]; rfl) (v249 h1 h5 h6) i)
    (pad_two (f := fun n j => -Q X 0 (1 + n) j) Gen.pads_S4095x256_S4097x256_020_000 _
    (fun k => by rw [val_main_cst_54_apply, Ideal.ofBits_def, word_zero]; rfl)
    (fun k => by rw [val_main_v253_apply, val_main_v250_apply, v249 h1 h5 h6]; rfl) i)

theorem v257 (i : S4097x4x256.Idx) : val_main_v257 (F := Ideal) x1 x5 x6 i
    = ((if (i 1).val = 0 then T X 0 (i 0).val (i 2).val else 0 : ℝ) : EReal) :=
  pad_group (f := T X 0) Gen.pads_S4097x1x256_S4097x4x256_000_030_000 _ (fun k => by rw [val_main_cst_55_apply, Ideal.ofBits_def, word_zero]; rfl)
    (fun k => by rw [val_main_v256_apply, v255 h1 h5 h6]) i

/-! ### The four groups together -/

omit h1 h5 h6 in
/-- Four summands of which the one of a number below four counts. -/
theorem pick_four (f : ℕ → ℝ) {g : ℕ} (hg : g < 4) :
    (if g = 3 then f 3 else 0) + (if g = 2 then f 2 else 0) + (if g = 1 then f 1 else 0) + (if g = 0 then f 0 else 0) = f g := by
  rcases g with _ | _ | _ | _ | g
  · norm_num
  · norm_num
  · norm_num
  · norm_num
  · omega

theorem v247 (i : S4096x4x256.Idx) : val_main_v247 (F := Ideal) x1 x5 x6 i
    = ((-X.DPO (i 0).val ((i 1).val * 256 + (i 2).val) : ℝ) : EReal) := by
  rw [val_main_v247_apply, val_main_v232_apply, val_main_v217_apply, v203 h1 h5 h6, v216 h1 h5 h6, v231 h1 h5 h6,
    v246 h1 h5 h6]
  simp only [Ideal.addf_def, lift_add]
  exact congrArg _ (pick_four (fun g => -X.DPO (i 0).val (g * 256 + (i 2).val)) (i 1).isLt)

theorem v258 (i : S4097x4x256.Idx) : val_main_v258 (F := Ideal) x1 x5 x6 i
    = ((T X (i 1).val (i 0).val (i 2).val : ℝ) : EReal) := by
  rw [val_main_v258_apply, val_main_v243_apply, val_main_v228_apply, v213 h1 h5 h6, v227 h1 h5 h6, v242 h1 h5 h6,
    v257 h1 h5 h6]
  simp only [Ideal.addf_def, lift_add]
  exact congrArg _ (pick_four (fun g => T X g (i 0).val (i 2).val) (i 1).isLt)

theorem v261 (i : S4096x4x256.Idx) : val_main_v261 (F := Ideal) x1 x5 x6 i
    = ((∑ k ∈ Finset.range (win (i 1).val), (if (i 0).val + k < 4096 then Q X (i 1).val ((i 0).val + k) (i 2).val else 0) : ℝ)
        : EReal) := by
  unfold val_main_v261 Host.reduceWindowAdd
  rw [Ideal.hostReduceWindowAdd_def, val_main_call3_call0_v0_apply, val_main_call3_call0_cst_apply, Ideal.ofBits_def, word_zero]
  refine (sum_down (f := fun s g j => T X g (s + 1) j) _ (fun k => ?_) i).trans ?_
  · rw [val_main_v260_apply, v258 h1 h5 h6]
    exact congrArg (fun n => ((T X (k 1).val n (k 2).val : ℝ) : EReal)) (Nat.add_comm 1 (k 0).val)
  · congr 1
    rw [← range_tail (fun s => Q X (i 1).val s (i 2).val) 4096 (i 0).val (win (i 1).val)]
    refine Finset.sum_congr rfl fun n _ => ?_
    have hw := win_pos (i 1).val
    by_cases hn : (i 0).val + n < 4096
    · rw [if_pos hn, if_pos hn, T, if_pos (by omega), Nat.add_sub_cancel,
        show (i 0).val + n + 1 + (win (i 1).val - 1) = (i 0).val + n + win (i 1).val by omega]
      congr 1
      exact if_congr (by omega) rfl rfl
    · rw [if_neg hn, if_neg hn]

theorem v263 (i : S4096x1024.Idx) : val_main_v263 (F := Ideal) x1 x5 x6 i = ((X.DZ (i 0).val (i 1).val : ℝ) : EReal) := by
  have h1' : (i 1).val < 1024 := (i 1).isLt
  rw [val_main_v263_apply, val_main_v262_apply, v247 h1 h5 h6, v261 h1 h5 h6, Ideal.addf_def, lift_add]
  have e0 : ((i 0).val * 1024 + (i 1).val) / 1024 = (i 0).val := by omega
  have e1 : ((i 0).val * 1024 + (i 1).val) / 256 % 4 = (i 1).val / 256 := by omega
  have e2 : ((i 0).val * 1024 + (i 1).val) % 256 = (i 1).val % 256 := by omega
  have e3 : (i 1).val / 256 * 256 + (i 1).val % 256 = (i 1).val := by omega
  show ((-X.DPO (((i 0).val * 1024 + (i 1).val) / 1024)
      (((i 0).val * 1024 + (i 1).val) / 256 % 4 * 256 + ((i 0).val * 1024 + (i 1).val) % 256)
    + ∑ k ∈ Finset.range (win (((i 0).val * 1024 + (i 1).val) / 256 % 4)),
      (if ((i 0).val * 1024 + (i 1).val) / 1024 + k < 4096 then Q X (((i 0).val * 1024 + (i 1).val) / 256 % 4)
        (((i 0).val * 1024 + (i 1).val) / 1024 + k) (((i 0).val * 1024 + (i 1).val) % 256) else 0) : ℝ) : EReal) = _
  rw [e0, e1, e2, e3, Args.DZ, neg_add_eq_sub]
  simp only [Q, e3]

end

/-! ### The gradient of the projection -/

theorem v334 (h0 : ∀ i, x0 i = ((X.p (i 0).val (i 1).val : ℝ) : EReal))
    (h1 : ∀ i, x1 i = ((X.c (i 0).val (i 1).val : ℝ) : EReal))
    (h2 : ∀ i, x2 i = ((X.w (i 0).val (i 1).val (i 2).val : ℝ) : EReal))
    (h3 : ∀ i, x3 i = ((X.b (i 0).val (i 1).val : ℝ) : EReal)) (h4 : ∀ i, x4 i = ((X.g (i 1).val : ℝ) : EReal))
    (h5 : ∀ i, x5 i = ((X.wp (i 0).val (i 1).val (i 2).val : ℝ) : EReal))
    (h6 : ∀ i, x6 i = ((X.sc (i 1).val : ℝ) : EReal)) (i : S4096x3072.Idx) :
    val_main_v334 (F := Ideal) x0 x1 x2 x3 x4 x5 x6 i = ((X.dproj (i 0).val (i 1).val : ℝ) : EReal) := by
  have hi0 : (i 0).val < 4096 := (i 0).isLt
  have hi1 : (i 1).val < 3072 := (i 1).isLt
  have a := pad_two (v := val_main_cst_63 (F := Ideal)) (f := X.DZ) Gen.pads_S4096x1024_S4096x3072_000_204800 Gen.h_S_
    (fun k => by rw [val_main_cst_63_apply, Ideal.ofBits_def, word_zero]; rfl) (v263 h1 h5 h6) i
  have b := pad_two (v := val_main_cst_68 (F := Ideal)) (f := fun s j => X.DV s j * dgel (X.p s (1024 + j))) Gen.pads_S4096x1024_S4096x3072_000_102410240 Gen.h_S_
    (fun k => by rw [val_main_cst_68_apply, Ideal.ofBits_def, word_zero]; rfl) (v315 h0 h1 h2 h4) i
  have d := pad_two (v := val_main_cst_73 (F := Ideal)) (f := fun s j => X.c s j * X.MX s j * dgel (X.p s j)) Gen.pads_S4096x1024_S4096x3072_000_020480 Gen.h_S_
    (fun k => by rw [val_main_cst_73_apply, Ideal.ofBits_def, word_zero]; rfl) (v331 h0 h1 h2 h3 h4) i
  rw [val_main_v334_apply, val_main_v333_apply, val_main_v317_apply]
  refine (congrArg₂ (· + ·) (congrArg₂ (· + ·) a b) d).trans ?_
  rw [lift_add, lift_add, Args.dproj]
  congr 1
  by_cases c0 : (i 1).val < 1024
  · rw [if_neg (by omega), if_neg (by omega), if_pos (by omega), if_pos c0]; simp
  · by_cases c1 : (i 1).val < 2048
    · rw [if_neg (by omega), if_pos (by omega), if_neg (by omega), if_neg c0, if_pos c1]
      simp [show 1024 + ((i 1).val - 1024) = (i 1).val by omega]
    · rw [if_pos (by omega), if_neg (by omega), if_neg (by omega), if_neg c0, if_neg c1]; simp

end Cert.Proof.Ref

end
-- ==== Proof.Algebraic.lean ====
/- The value claim: finite arguments are arrays of real numbers, over which the kernel's launch and the reference both end
   with the formulas of Model.lean. -/
module

public import proofs.«01_k».proof.Defs
public import proofs.«01_k».proof.Proof.KerRun
public import proofs.«01_k».proof.Proof.RefGate2
public import proofs.«01_k».proof.Proof.RefProj
public import proofs.«01_k».proof.Proof.Gen.ReferenceIdeal.Run
public import proofs.«01_k».proof.Proof.Gen.Pre_finite_inputs

@[expose] public section

set_option maxRecDepth 16384

noncomputable section

namespace Cert.Proof

open Idealize.ShloMosaic Idealize.SL.Sem

/-! ### Finite arguments are real numbers -/

/-- A value whose absolute value is below infinity is a real number. -/
theorem real_of_lt {x : Ideal .f32}
    (h : FloatOps.cmpf .olt (FloatOps.hostAbsf x) (FloatOps.ofBits (F := Ideal) .f32 0x7F800000#32) = 1#1) :
    (x : EReal) = ((x : EReal).toReal : EReal) := by
  have h' : BitVec.ofBool (decide (max (x : EReal) (-(x : EReal)) < Ideal.ofBits .f32 0x7F800000#32)) = 1#1 := h
  rw [word_inf] at h'
  have hlt : max (x : EReal) (-(x : EReal)) < ⊤ := by
    by_contra hn
    simp [hn] at h'
  rw [max_lt_iff] at hlt
  refine (EReal.coe_toReal hlt.1.ne fun hb => ?_).symm
  rw [hb] at hlt
  simp at hlt

/-- An array of two axes as a function of two numbers, zero outside. -/
def nat2 {a b : ℕ} (f : Shape.Idx ⟨2, ![a, b]⟩ → EReal) (i j : ℕ) : ℝ :=
  if h : i < a ∧ j < b then (f fun k => match k with | ⟨0, _⟩ => ⟨i, h.1⟩ | ⟨1, _⟩ => ⟨j, h.2⟩).toReal else 0

/-- The same of three axes. -/
def nat3 {a b c : ℕ} (f : Shape.Idx ⟨3, ![a, b, c]⟩ → EReal) (i j k : ℕ) : ℝ :=
  if h : i < a ∧ j < b ∧ k < c then
    (f fun l => match l with | ⟨0, _⟩ => ⟨i, h.1⟩ | ⟨1, _⟩ => ⟨j, h.2.1⟩ | ⟨2, _⟩ => ⟨k, h.2.2⟩).toReal else 0

theorem nat2_at {a b : ℕ} {f : Shape.Idx ⟨2, ![a, b]⟩ → EReal} (hf : ∀ i, f i = ((f i).toReal : EReal))
    (i : Shape.Idx ⟨2, ![a, b]⟩) : f i = ((nat2 f (i 0).val (i 1).val : ℝ) : EReal) := by
  rw [hf i, nat2, dif_pos ⟨(i 0).isLt, (i 1).isLt⟩]
  congr 3
  funext k
  match k with
  | ⟨0, _⟩ => rfl
  | ⟨1, _⟩ => rfl

theorem nat3_at {a b c : ℕ} {f : Shape.Idx ⟨3, ![a, b, c]⟩ → EReal} (hf : ∀ i, f i = ((f i).toReal : EReal))
    (i : Shape.Idx ⟨3, ![a, b, c]⟩) : f i = ((nat3 f (i 0).val (i 1).val (i 2).val : ℝ) : EReal) := by
  rw [hf i, nat3, dif_pos ⟨(i 0).isLt, (i 1).isLt, (i 2).isLt⟩]
  congr 3
  funext k
  match k with
  | ⟨0, _⟩ => rfl
  | ⟨1, _⟩ => rfl
  | ⟨2, _⟩ => rfl

section Kernel

open Cert.KernelIdeal

variable (m : (ℓ : Loc nD τ sig) → Buf (Elt Ideal) ℓ)

/-- The arguments on a device, as real numbers. -/
def args (c : Dev nD) : Args where
  p := nat2 (a := 4096) (b := 3072) (m ((c.tc : Thread nD τ).loc main_arg0))
  c := nat2 (a := 4096) (b := 2048) (m ((c.tc : Thread nD τ).loc main_arg1))
  w := nat3 (a := 8) (b := 128) (c := 128) (m ((c.tc : Thread nD τ).loc main_arg2))
  b := nat2 (a := 8) (b := 128) (m ((c.tc : Thread nD τ).loc main_arg3))
  g := nat2 (a := 1) (b := 1024) (m ((c.tc : Thread nD τ).loc main_arg4)) 0
  wp := nat3 (a := 4) (b := 256) (c := 256) (m ((c.tc : Thread nD τ).loc main_arg5))
  sc := nat2 (a := 1) (b := 1024) (m ((c.tc : Thread nD τ).loc main_arg6)) 0

/-- Under the precondition every argument is the array of real numbers `args` reads off it. -/
theorem holds {m} (h : Cert.Pre_KernelIdeal_finite_inputs m) (c : Dev nD) : Ker.Holds m c (args m c) where
  a0 i := nat2_at (fun i => real_of_lt (congrFun (h c).1 i)) i
  a1 i := nat2_at (fun i => real_of_lt (congrFun (h c).2.1 i)) i
  a2 i := nat3_at (fun i => real_of_lt (congrFun (h c).2.2.1 i)) i
  a3 i := nat2_at (fun i => real_of_lt (congrFun (h c).2.2.2.1 i)) i
  a4 i := by
    have e : (i 0).val = 0 := Nat.lt_one_iff.mp (i 0).isLt
    have := nat2_at (fun i => real_of_lt (congrFun (h c).2.2.2.2.1 i)) i
    rwa [e] at this
  a5 i := nat3_at (fun i => real_of_lt (congrFun (h c).2.2.2.2.2.1 i)) i
  a6 i := by
    have e : (i 0).val = 0 := Nat.lt_one_iff.mp (i 0).isLt
    have := nat2_at (fun i => real_of_lt (congrFun (h c).2.2.2.2.2.2 i)) i
    rwa [e] at this

end Kernel

/-! ### The reference's run -/

section Reference

open Cert.ReferenceIdeal Cert.ReferenceIdeal.Read

/-- The arguments of the reference on a device are the real numbers of `X`. -/
structure Given (m : (ℓ : Loc nD τ sig) → Buf (Elt Ideal) ℓ) (c : Dev nD) (X : Args) : Prop where
  a0 : ∀ i, m ((c.tc : Thread nD τ).loc main_arg0) i = ((X.p (i 0).val (i 1).val : ℝ) : EReal)
  a1 : ∀ i, m ((c.tc : Thread nD τ).loc main_arg1) i = ((X.c (i 0).val (i 1).val : ℝ) : EReal)
  a2 : ∀ i, m ((c.tc : Thread nD τ).loc main_arg2) i = ((X.w (i 0).val (i 1).val (i 2).val : ℝ) : EReal)
  a3 : ∀ i, m ((c.tc : Thread nD τ).loc main_arg3) i = ((X.b (i 0).val (i 1).val : ℝ) : EReal)
  a4 : ∀ i, m ((c.tc : Thread nD τ).loc main_arg4) i = ((X.g (i 1).val : ℝ) : EReal)
  a5 : ∀ i, m ((c.tc : Thread nD τ).loc main_arg5) i = ((X.wp (i 0).val (i 1).val (i 2).val : ℝ) : EReal)
  a6 : ∀ i, m ((c.tc : Thread nD τ).loc main_arg6) i = ((X.sc (i 1).val : ℝ) : EReal)

/-- The reference ends with the six formulas, and its arguments as they were. -/
theorem reference_run (m : (ℓ : Loc nD τ sig) → Buf (Elt Ideal) ℓ) (ρ : Dev nD → PrngReg) {X : Dev nD → Args}
    (K : ∀ c, Given m c (X c)) :
    θ_run (defs (F := Ideal)) (onTc (τ := τ) (main (F := Ideal))) ⟨m, fun _ => 0, ρ⟩ fun r => ∀ c : Dev nD,
      r.2.mem ((c.tc : Thread nD τ).loc main_v334) = (fun i : S4096x3072.Idx => (((X c).dproj (i 0).val (i 1).val : ℝ) : EReal))
      ∧ r.2.mem ((c.tc : Thread nD τ).loc main_v276)
        = (fun i : S8x128x128.Idx => (((X c).dws (i 0).val (i 1).val (i 2).val : ℝ) : EReal))
      ∧ r.2.mem ((c.tc : Thread nD τ).loc main_v335) = (fun i : S8x128x1.Idx => (((X c).dbs (i 0).val (i 1).val : ℝ) : EReal))
      ∧ r.2.mem ((c.tc : Thread nD τ).loc main_v300) = (fun i : S1x1024.Idx => (((X c).dgv (i 1).val : ℝ) : EReal))
      ∧ r.2.mem ((c.tc : Thread nD τ).loc main_v192)
        = (fun i : S4x256x256.Idx => (((X c).dwp (i 0).val (i 1).val (i 2).val : ℝ) : EReal))
      ∧ r.2.mem ((c.tc : Thread nD τ).loc main_v264) = (fun i : S1x1024.Idx => (((X c).dsc (i 1).val : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).1.trans (val_main_v334_eq _)).trans
        (funext (Ref.v334 (K c).a0 (K c).a1 (K c).a2 (K c).a3 (K c).a4 (K c).a5 (K c).a6)),
      ((h c).2.1.trans (val_main_v276_eq _)).trans (funext (Ref.v276 (K c).a0 (K c).a1 (K c).a4)),
      ((h c).2.2.1.trans (val_main_v335_eq _)).trans (funext (Ref.v335 (K c).a0 (K c).a1)),
      ((h c).2.2.2.1.trans (val_main_v300_eq _)).trans (funext (Ref.v300 (K c).a0 (K c).a1 (K c).a2)),
      ((h c).2.2.2.2.1.trans (val_main_v192_eq _)).trans (funext (Ref.v192 (K c).a0 (K c).a1 (K c).a6)),
      ((h c).2.2.2.2.2.1.trans (val_main_v264_eq _)).trans (funext (Ref.v264 (K c).a0 (K c).a1 (K c).a5)),
      (h c).2.2.2.2.2.2⟩)
    (Cert.ReferenceIdeal.Value.run (F := Ideal) m ρ)

end Reference

/-! ### The two together -/

theorem algebraic : Cert.algebraic_KernelIdeal_ReferenceIdeal_pre_finite_inputs := by
  intro m ρ m' ρ' hp hm
  have K := holds hp
  refine ⟨_, _, _, _, _, _, Ker.run m ρ K, reference_run m' ρ' (X := args m) fun c => ?_⟩
  obtain ⟨e0, e1, e2, e3, e4, e5, e6⟩ := hm c
  exact ⟨fun i => (congrFun e0 i).trans ((K c).a0 i), fun i => (congrFun e1 i).trans ((K c).a1 i),
    fun i => (congrFun e2 i).trans ((K c).a2 i), fun i => (congrFun e3 i).trans ((K c).a3 i),
    fun i => (congrFun e4 i).trans ((K c).a4 i), fun i => (congrFun e5 i).trans ((K c).a5 i),
    fun i => (congrFun e6 i).trans ((K c).a6 i)⟩

end Cert.Proof

end
-- ==== Proof.Products.lean ====
/- What the weight gradients' kernels share: stores that hold an array's columns leave the array, and a block of a gradient is
   the transpose of one factor's columns times the other factor. -/
module

public import proofs.«01_k».proof.Proof.Consts
public import proofs.«01_k».proof.Proof.Gen.Kernel2Ideal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Products

open Idealize.ShloMosaic Idealize.SL.Sem
open scoped BigOperators

/-- Stores that cover an array and each hold its entries leave the array. -/
theorem canon_of_pieces {s : Shape} {e : EltTy} (G : s.Idx → Elt Ideal e)
    (L : List (View.Piece (Elt Ideal) s e)) (h : View.PiecesOf (Val := Elt Ideal) G L)
    (hc : ∀ y, ∃ p ∈ L, y ∈ p.1.set) : View.canon (Val := Elt Ideal) L = G := by
  funext i
  have h' := View.canon_append_of_piecesOf (Val := Elt Ideal) G [] L h i (hc i)
  rwa [List.append_nil] at h'

section

open Cert.Kernel2Ideal Cert.Kernel2Ideal.Gen

/-- A block of a weight's gradient: the transpose of a block of columns of one factor times columns of the other. -/
def weight (x : S4096x512.Idx → EReal) (y : S4096x2048.Idx → EReal) : S1x512x2048.Idx → EReal := fun i =>
  ∑ k : Fin 4096, x (ix2 k (i 1)) * y (ix2 k (i 2))

/-- A product of two blocks of 512 columns, entry by entry. -/
theorem product (x y : FVec Ideal S4096x512 .bf16) (i : S1x512x512.Idx) :
    k0_pay1 (F := Ideal) x y i = ∑ k : Fin 4096, x (ix2 k (i 1)) * y (ix2 k (i 2)) := by
  idx_vars i
  unfold k0_pay1
  pointwise [word_zero]
  rw [EReal.coe_zero, zero_add]

/-- One part of a block: 512 columns of the second factor, from column `o` on. -/
theorem part (x : FVec Ideal S4096x512 .bf16) (y : FVec Ideal S4096x2048 .bf16) (o : ℕ)
    (inb : ∀ i, (![0, o] : Fin 2 → ℕ) i + S4096x512.size i ≤ S4096x2048.size i)
    (inb' : ∀ i, (![0, 0, o] : Fin 3 → ℕ) i + S1x512x512.size i ≤ S1x512x2048.size i) (i : S1x512x512.Idx) :
    k0_pay1 (F := Ideal) (View.ld (Val := Elt Ideal) x r0_0)
        (View.ld (Val := Elt Ideal) y (Rect.unit (s := S4096x2048) ![0, o] S4096x512.size inb)) i
      = weight x y ((Rect.unit (s := S1x512x2048) ![0, 0, o] S1x512x512.size inb').emb i) := by
  refine (product _ _ i).trans (Finset.sum_congr rfl fun k _ => congrArg₂ (· * ·) (congrArg x (funext fun b => Fin.ext ?_))
    (congrArg y (funext fun b => Fin.ext ?_)))
  · match b with
    | 0 => show 0 + 1 * k.val = k.val; omega
    | 1 => rfl
  · match b with
    | 0 => show 0 + 1 * k.val = k.val; omega
    | 1 => rfl

/-- What the four stores of a point leave in its block. -/
theorem block (x : FVec Ideal S4096x512 .bf16) (y : FVec Ideal S4096x2048 .bf16) : out0_2 (F := Ideal) x y = weight x y := by
  have e4 : ∀ i, k0_pay4 (F := Ideal) (View.ld (Val := Elt Ideal) x r0_0) (View.ld (Val := Elt Ideal) y r0_7) i = weight x y (r0_8.emb i) :=
    part x y 1536 _ _
  have e3 : ∀ i, k0_pay3 (F := Ideal) (View.ld (Val := Elt Ideal) x r0_0) (View.ld (Val := Elt Ideal) y r0_5) i = weight x y (r0_6.emb i) :=
    part x y 1024 _ _
  have e2 : ∀ i, k0_pay2 (F := Ideal) (View.ld (Val := Elt Ideal) x r0_0) (View.ld (Val := Elt Ideal) y r0_3) i = weight x y (r0_4.emb i) :=
    part x y 512 _ _
  have e1 : ∀ i, k0_pay1 (F := Ideal) (View.ld (Val := Elt Ideal) x r0_0) (View.ld (Val := Elt Ideal) y r0_1) i = weight x y (r0_2.emb i) :=
    part x y 0 _ _
  exact canon_of_pieces (e := .bf16) (weight x y) _ ⟨e4, e3, e2, e1, trivial⟩ (cover0_2 _ _ _ _)

end

end Cert.Proof.Products

end
-- ==== Proof.DwDown.lean ====
/- The gradient of the second feed-forward matrix: the kernel's sixteen grid points each store 512 of its rows. -/
module

public import proofs.«01_k».proof.Defs
public import proofs.«01_k».proof.Proof.Products
public import proofs.«01_k».proof.Proof.Gen.Reference2Ideal.Read
public import Idealize.ShloMosaic.Lib.Claim
public import Idealize.ShloMosaic.Adequacy
public import Idealize.ShloMosaic.Init

@[expose] public section

set_option maxRecDepth 16384

noncomputable section

namespace Cert.Proof.DwDown

open Idealize.ShloMosaic Idealize.SL.Sem
open scoped BigOperators

section Kernel

open Cert.Kernel2Ideal Cert.Kernel2Ideal.Gen

/-- The gradient: the transpose of the activations times the cotangent. -/
def grad (a : S4096x8192.Idx → EReal) (g : S4096x2048.Idx → EReal) : S1x8192x2048.Idx → EReal := fun i =>
  ∑ k : Fin 4096, a (ix2 k (i 1)) * g (ix2 k (i 2))

theorem idx0 : ∀ t : Fin cfg0.N, win0_0.index t = ![0, t.val] := by decide +kernel
theorem idx1 : ∀ t : Fin cfg0.N, win0_1.index t = ![0, 0] := by decide +kernel
theorem idx2 : ∀ t : Fin cfg0.N, win0_2.index t = ![0, t.val, 0] := by decide +kernel

section
variable (m : (ℓ : Loc nD τ sig) → Buf (Elt Ideal) ℓ) (c : Dev nD)

/-- The arguments as arrays of numbers. -/
def acts : S4096x8192.Idx → EReal := m ((c.tc : Thread nD τ).loc main_arg0)
def cot : S4096x2048.Idx → EReal := m ((c.tc : Thread nD τ).loc main_arg1)

theorem b0 (t : Fin cfg0.N) (i : S4096x512.Idx) (j : S4096x8192.Idx) (h0 : (j 0).val = (i 0).val)
    (h1 : (j 1).val = t.val * 512 + (i 1).val) : iblk m c 0 t i = acts m c j := by
  show V m c main_arg0 (((cfg0.win 0).blk t).view.emb i) = _
  rw [V_main_arg0]
  refine congrArg (acts m c) (funext fun b => Fin.ext ?_)
  match b with
  | 0 => blk_simp [idx0, h0]
  | 1 => blk_simp [idx0, h1]
theorem b1 (t : Fin cfg0.N) (i : S4096x2048.Idx) (j : S4096x2048.Idx) (h0 : (j 0).val = (i 0).val)
    (h1 : (j 1).val = (i 1).val) : iblk m c 1 t i = cot m c j := by
  show V m c main_arg1 (((cfg0.win 1).blk t).view.emb i) = _
  rw [V_main_arg1]
  refine congrArg (cot m c) (funext fun b => Fin.ext ?_)
  match b with
  | 0 => blk_simp [idx1, h0]
  | 1 => blk_simp [idx1, h1]

/-- A point's block lies in the gradient where its window says. -/
theorem value (t : Fin cfg0.N) (y : S1x512x2048.Idx) (i : S1x8192x2048.Idx) (h1 : (i 1).val = t.val * 512 + (y 1).val) (h2 : (i 2).val = (y 2).val) :
    out0_2 (F := Ideal) (iblk m c 0 t) (iblk m c 1 t) y = grad (acts m c) (cot m c) i := by
  refine (congrFun (Products.block (iblk m c 0 t) (iblk m c 1 t)) y).trans (Finset.sum_congr rfl fun k _ =>
    congrArg₂ (· * ·) (b0 m c t _ _ rfl h1) (b1 m c t _ _ rfl h2))

theorem out2 : (dats m 0 c).arrAt 2 cfg0.N = grad (acts m c) (cot m c) := by
  refine (dats m 0 c).arrAt_eq_of_covers 2 _ (by decide +kernel) fun t hf y => ?_
  blk_simp [idx2]
  rw [after0_2]
  refine value m c t y _ ?_ ?_ <;> blk_simp [idx2]

end

/-- What the kernel leaves in its result. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = grad (acts m c) (cot m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out2 m c), (h c).2⟩) (Cert.Kernel2Ideal.Value.run_blocks (F := Ideal) m ρ)

end Kernel

/-! ### The reference -/

section Reference

open Cert.Reference2Ideal Cert.Reference2Ideal.Gen Cert.Reference2Ideal.Read

theorem reference (a : S4096x8192.Idx → EReal) (g : S4096x2048.Idx → EReal) : val_main_v7 (F := Ideal) a g = grad a g := by
  funext i
  rw [val_main_v7_apply, val_main_v6_apply, val_main_v5_apply]
  refine (val_main_v4_apply a g _).trans (Finset.sum_congr rfl fun k _ => ?_)
  rw [val_main_v3_apply, val_main_v0_apply]
  refine (mul_comm _ _).trans (congrArg₂ (· * ·) (congrArg a (funext fun b => ?_)) (congrArg g (funext fun b => ?_)))
  · match b with
    | 0 => rfl
    | 1 => rfl
  · match b with
    | 0 => rfl
    | 1 => rfl

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7)
        = grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1.trans (val_main_v7_eq _ _)).trans (reference _ _), (h c).2⟩)
    (Cert.Reference2Ideal.Value.run (F := Ideal) m ρ)

/-- The reference declares no semaphore. -/
theorem frame_reference : Cert.quiescent_Reference2Ideal := fun m ρ _ =>
  (θ_run defs _ _).mono (fun r h => ⟨fun c => (h c).2, sem_eq_zero_of_no_sems (by decide) r.2⟩) (reference_run m ρ)

end Reference

theorem algebraic : Cert.algebraic_Kernel2Ideal_Reference2Ideal := by
  intro m ρ m' ρ' _ hm
  refine ⟨_, run m ρ, (θ_run _ _ _).mono (fun r h c => ⟨(h c).1.trans ?_, (h c).2⟩) (reference_run m' ρ')⟩
  rw [(hm c).1, (hm c).2]
  rfl

end Cert.Proof.DwDown

end
-- ==== Proof.DwUp.lean ====
/- The gradient of the first feed-forward matrix: the kernel's sixteen grid points each store 512 rows of one device's 2048
   columns, and the reference's product is cut into the same columns. -/
module

public import proofs.«01_k».proof.Defs
public import proofs.«01_k».proof.Proof.Products
public import proofs.«01_k».proof.Proof.Gen.Kernel3Ideal.Value
public import proofs.«01_k».proof.Proof.Gen.Reference3Ideal.Read
public import Idealize.ShloMosaic.Lib.Claim
public import Idealize.ShloMosaic.Adequacy
public import Idealize.ShloMosaic.Init

@[expose] public section

set_option maxRecDepth 16384

noncomputable section

namespace Cert.Proof.DwUp

open Idealize.ShloMosaic Idealize.SL.Sem
open scoped BigOperators

section Kernel

open Cert.Kernel3Ideal Cert.Kernel3Ideal.Gen

/-- Device `i 0`'s columns of the gradient: the transpose of the normalised stream times the cotangent. -/
def grad (a : S4096x2048.Idx → EReal) (g : S4096x8192.Idx → EReal) : S4x2048x2048.Idx → EReal := fun i =>
  ∑ k : Fin 4096, a (ix2 k (i 1)) * g (ix2 k ⟨(i 0).val * 2048 + (i 2).val, by
    have h0 : (i 0).val < 4 := (i 0).isLt
    have h2 : (i 2).val < 2048 := (i 2).isLt
    omega⟩)

theorem idx0 : ∀ t : Fin cfg0.N, win0_0.index t = ![0, t.val % 4] := by decide +kernel
theorem idx1 : ∀ t : Fin cfg0.N, win0_1.index t = ![0, t.val / 4] := by decide +kernel
theorem idx2 : ∀ t : Fin cfg0.N, win0_2.index t = ![t.val / 4, t.val % 4, 0] := by decide +kernel

section
variable (m : (ℓ : Loc nD τ sig) → Buf (Elt Ideal) ℓ) (c : Dev nD)

/-- The arguments as arrays of numbers. -/
def acts : S4096x2048.Idx → EReal := m ((c.tc : Thread nD τ).loc main_arg0)
def cot : S4096x8192.Idx → EReal := m ((c.tc : Thread nD τ).loc main_arg1)

theorem b0 (t : Fin cfg0.N) (i : S4096x512.Idx) (j : S4096x2048.Idx) (h0 : (j 0).val = (i 0).val)
    (h1 : (j 1).val = t.val % 4 * 512 + (i 1).val) : iblk m c 0 t i = acts m c j := by
  show V m c main_arg0 (((cfg0.win 0).blk t).view.emb i) = _
  rw [V_main_arg0]
  refine congrArg (acts m c) (funext fun b => Fin.ext ?_)
  match b with
  | 0 => blk_simp [idx0, h0]
  | 1 => blk_simp [idx0, h1]
theorem b1 (t : Fin cfg0.N) (i : S4096x2048.Idx) (j : S4096x8192.Idx) (h0 : (j 0).val = (i 0).val)
    (h1 : (j 1).val = t.val / 4 * 2048 + (i 1).val) : iblk m c 1 t i = cot m c j := by
  show V m c main_arg1 (((cfg0.win 1).blk t).view.emb i) = _
  rw [V_main_arg1]
  refine congrArg (cot m c) (funext fun b => Fin.ext ?_)
  match b with
  | 0 => blk_simp [idx1, h0]
  | 1 => blk_simp [idx1, h1]

/-- A point's block lies in the gradient where its window says. -/
theorem value (t : Fin cfg0.N) (y : S1x512x2048.Idx) (i : S4x2048x2048.Idx) (h0 : (i 0).val = t.val / 4)
    (h1 : (i 1).val = t.val % 4 * 512 + (y 1).val) (h2 : (i 2).val = (y 2).val) :
    out0_2 (F := Ideal) (iblk m c 0 t) (iblk m c 1 t) y = grad (acts m c) (cot m c) i := by
  refine (congrFun (Products.block (iblk m c 0 t) (iblk m c 1 t)) y).trans (Finset.sum_congr rfl fun k _ =>
    congrArg₂ (· * ·) (b0 m c t _ _ rfl h1) (b1 m c t _ _ rfl ?_))
  show (i 0).val * 2048 + (i 2).val = t.val / 4 * 2048 + (y 2).val
  omega

theorem out2 : (dats m 0 c).arrAt 2 cfg0.N = grad (acts m c) (cot m c) := by
  refine (dats m 0 c).arrAt_eq_of_covers 2 _ (by decide +kernel) fun t hf y => ?_
  blk_simp [idx2]
  rw [after0_2]
  refine value m c t y _ ?_ ?_ ?_ <;> blk_simp [idx2]

end

/-- What the kernel leaves in its result. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = grad (acts m c) (cot m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out2 m c), (h c).2⟩) (Cert.Kernel3Ideal.Value.run_blocks (F := Ideal) m ρ)

end Kernel

/-! ### The reference -/

section Reference

open Cert.Reference3Ideal Cert.Reference3Ideal.Gen Cert.Reference3Ideal.Read

theorem reference (a : S4096x2048.Idx → EReal) (g : S4096x8192.Idx → EReal) : val_main_v8 (F := Ideal) a g = grad a g := by
  funext i
  have h0 : (i 0).val < 4 := (i 0).isLt
  have h1 : (i 1).val < 2048 := (i 1).isLt
  have h2 : (i 2).val < 2048 := (i 2).isLt
  rw [val_main_v8_apply, val_main_v7_apply, val_main_v6_apply, val_main_v5_apply]
  refine (val_main_v4_apply a g _).trans (Finset.sum_congr rfl fun k _ => ?_)
  rw [val_main_v3_apply, val_main_v0_apply]
  refine (mul_comm _ _).trans (congrArg₂ (· * ·) (congrArg a (funext fun b => Fin.ext ?_)) (congrArg g (funext fun b => Fin.ext ?_)))
  · match b with
    | 0 => rfl
    | 1 => show (((i 1).val * 4 + (i 0).val) * 2048 + (i 2).val) / 8192 = (i 1).val; omega
  · match b with
    | 0 => rfl
    | 1 => show (((i 1).val * 4 + (i 0).val) * 2048 + (i 2).val) % 8192 = (i 0).val * 2048 + (i 2).val; omega

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v8)
        = grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1.trans (val_main_v8_eq _ _)).trans (reference _ _), (h c).2⟩)
    (Cert.Reference3Ideal.Value.run (F := Ideal) m ρ)

/-- The reference declares no semaphore. -/
theorem frame_reference : Cert.quiescent_Reference3Ideal := fun m ρ _ =>
  (θ_run defs _ _).mono (fun r h => ⟨fun c => (h c).2, sem_eq_zero_of_no_sems (by decide) r.2⟩) (reference_run m ρ)

end Reference

theorem algebraic : Cert.algebraic_Kernel3Ideal_Reference3Ideal := by
  intro m ρ m' ρ' _ hm
  refine ⟨_, run m ρ, (θ_run _ _ _).mono (fun r h c => ⟨(h c).1.trans ?_, (h c).2⟩) (reference_run m' ρ')⟩
  rw [(hm c).1, (hm c).2]
  rfl

end Cert.Proof.DwUp

end
-- ==== Proof.DwOut.lean ====
/- The gradient of the matrix after the mixer: the kernel's four grid points each store 512 of its rows. -/
module

public import proofs.«01_k».proof.Defs
public import proofs.«01_k».proof.Proof.Products
public import proofs.«01_k».proof.Proof.Gen.Kernel4Ideal.Value
public import proofs.«01_k».proof.Proof.Gen.Reference4Ideal.Read
public import Idealize.ShloMosaic.Lib.Claim
public import Idealize.ShloMosaic.Adequacy
public import Idealize.ShloMosaic.Init

@[expose] public section

set_option maxRecDepth 16384

noncomputable section

namespace Cert.Proof.DwOut

open Idealize.ShloMosaic Idealize.SL.Sem
open scoped BigOperators

section Kernel

open Cert.Kernel4Ideal Cert.Kernel4Ideal.Gen

/-- The gradient: the transpose of the mixer's output times the cotangent. -/
def grad (a : S4096x2048.Idx → EReal) (g : S4096x2048.Idx → EReal) : S1x2048x2048.Idx → EReal := fun i =>
  ∑ k : Fin 4096, a (ix2 k (i 1)) * g (ix2 k (i 2))

theorem idx0 : ∀ t : Fin cfg0.N, win0_0.index t = ![0, t.val] := by decide +kernel
theorem idx1 : ∀ t : Fin cfg0.N, win0_1.index t = ![0, 0] := by decide +kernel
theorem idx2 : ∀ t : Fin cfg0.N, win0_2.index t = ![0, t.val, 0] := by decide +kernel

section
variable (m : (ℓ : Loc nD τ sig) → Buf (Elt Ideal) ℓ) (c : Dev nD)

/-- The arguments as arrays of numbers. -/
def acts : S4096x2048.Idx → EReal := m ((c.tc : Thread nD τ).loc main_arg0)
def cot : S4096x2048.Idx → EReal := m ((c.tc : Thread nD τ).loc main_arg1)

theorem b0 (t : Fin cfg0.N) (i : S4096x512.Idx) (j : S4096x2048.Idx) (h0 : (j 0).val = (i 0).val)
    (h1 : (j 1).val = t.val * 512 + (i 1).val) : iblk m c 0 t i = acts m c j := by
  show V m c main_arg0 (((cfg0.win 0).blk t).view.emb i) = _
  rw [V_main_arg0]
  refine congrArg (acts m c) (funext fun b => Fin.ext ?_)
  match b with
  | 0 => blk_simp [idx0, h0]
  | 1 => blk_simp [idx0, h1]
theorem b1 (t : Fin cfg0.N) (i : S4096x2048.Idx) (j : S4096x2048.Idx) (h0 : (j 0).val = (i 0).val)
    (h1 : (j 1).val = (i 1).val) : iblk m c 1 t i = cot m c j := by
  show V m c main_arg1 (((cfg0.win 1).blk t).view.emb i) = _
  rw [V_main_arg1]
  refine congrArg (cot m c) (funext fun b => Fin.ext ?_)
  match b with
  | 0 => blk_simp [idx1, h0]
  | 1 => blk_simp [idx1, h1]

/-- A point's block lies in the gradient where its window says. -/
theorem value (t : Fin cfg0.N) (y : S1x512x2048.Idx) (i : S1x2048x2048.Idx) (h1 : (i 1).val = t.val * 512 + (y 1).val) (h2 : (i 2).val = (y 2).val) :
    out0_2 (F := Ideal) (iblk m c 0 t) (iblk m c 1 t) y = grad (acts m c) (cot m c) i := by
  refine (congrFun (Products.block (iblk m c 0 t) (iblk m c 1 t)) y).trans (Finset.sum_congr rfl fun k _ =>
    congrArg₂ (· * ·) (b0 m c t _ _ rfl h1) (b1 m c t _ _ rfl h2))

theorem out2 : (dats m 0 c).arrAt 2 cfg0.N = grad (acts m c) (cot m c) := by
  refine (dats m 0 c).arrAt_eq_of_covers 2 _ (by decide +kernel) fun t hf y => ?_
  blk_simp [idx2]
  rw [after0_2]
  refine value m c t y _ ?_ ?_ <;> blk_simp [idx2]

end

/-- What the kernel leaves in its result. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = grad (acts m c) (cot m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out2 m c), (h c).2⟩) (Cert.Kernel4Ideal.Value.run_blocks (F := Ideal) m ρ)

end Kernel

/-! ### The reference -/

section Reference

open Cert.Reference4Ideal Cert.Reference4Ideal.Gen Cert.Reference4Ideal.Read

theorem reference (a : S4096x2048.Idx → EReal) (g : S4096x2048.Idx → EReal) : val_main_v7 (F := Ideal) a g = grad a g := by
  funext i
  rw [val_main_v7_apply, val_main_v6_apply, val_main_v5_apply]
  refine (val_main_v4_apply a g _).trans (Finset.sum_congr rfl fun k _ => ?_)
  rw [val_main_v3_apply, val_main_v0_apply]
  refine (mul_comm _ _).trans (congrArg₂ (· * ·) (congrArg a (funext fun b => ?_)) (congrArg g (funext fun b => ?_)))
  · match b with
    | 0 => rfl
    | 1 => rfl
  · match b with
    | 0 => rfl
    | 1 => rfl

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7)
        = grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1.trans (val_main_v7_eq _ _)).trans (reference _ _), (h c).2⟩)
    (Cert.Reference4Ideal.Value.run (F := Ideal) m ρ)

/-- The reference declares no semaphore. -/
theorem frame_reference : Cert.quiescent_Reference4Ideal := fun m ρ _ =>
  (θ_run defs _ _).mono (fun r h => ⟨fun c => (h c).2, sem_eq_zero_of_no_sems (by decide) r.2⟩) (reference_run m ρ)

end Reference

theorem algebraic : Cert.algebraic_Kernel4Ideal_Reference4Ideal := by
  intro m ρ m' ρ' _ hm
  refine ⟨_, run m ρ, (θ_run _ _ _).mono (fun r h c => ⟨(h c).1.trans ?_, (h c).2⟩) (reference_run m' ρ')⟩
  rw [(hm c).1, (hm c).2]
  rfl

end Cert.Proof.DwOut

end
-- ==== Proof.DwIn.lean ====
/- The gradient of the matrix before the mixer: the kernel's sixteen grid points each store 512 rows of one device's 768 columns,
   in three parts of 256 columns, and the reference's product is cut into the same columns. -/
module

public import proofs.«01_k».proof.Defs
public import proofs.«01_k».proof.Proof.Products
public import proofs.«01_k».proof.Proof.Gen.Kernel5Ideal.Value
public import proofs.«01_k».proof.Proof.Gen.Reference5Ideal.Read
public import Idealize.ShloMosaic.Lib.Claim
public import Idealize.ShloMosaic.Adequacy
public import Idealize.ShloMosaic.Init

@[expose] public section

set_option maxRecDepth 16384

noncomputable section

namespace Cert.Proof.DwIn

open Idealize.ShloMosaic Idealize.SL.Sem
open scoped BigOperators

section Kernel

open Cert.Kernel5Ideal Cert.Kernel5Ideal.Gen

/-- Device `i 0`'s columns of the gradient: the transpose of the normalised stream times the cotangent. -/
def grad (a : S4096x2048.Idx → EReal) (g : S4096x3072.Idx → EReal) : S4x2048x768.Idx → EReal := fun i =>
  ∑ k : Fin 4096, a (ix2 k (i 1)) * g (ix2 k ⟨(i 0).val * 768 + (i 2).val, by
    have h0 : (i 0).val < 4 := (i 0).isLt
    have h2 : (i 2).val < 768 := (i 2).isLt
    omega⟩)

/-- A block of the gradient: the transpose of a block of columns of one factor times columns of the other. -/
def weight (x : S4096x512.Idx → EReal) (y : S4096x768.Idx → EReal) : S1x512x768.Idx → EReal := fun i =>
  ∑ k : Fin 4096, x (ix2 k (i 1)) * y (ix2 k (i 2))

/-- A product of a block of 512 columns and one of 256, entry by entry. -/
theorem product (x : FVec Ideal S4096x512 .bf16) (y : FVec Ideal S4096x256 .bf16) (i : S1x512x256.Idx) :
    k0_pay1 (F := Ideal) x y i = ∑ k : Fin 4096, x (ix2 k (i 1)) * y (ix2 k (i 2)) := by
  idx_vars i
  unfold k0_pay1
  pointwise [word_zero]
  rw [EReal.coe_zero, zero_add]

/-- One part of a block: 256 columns of the second factor, from column `o` on. -/
theorem part (x : FVec Ideal S4096x512 .bf16) (y : FVec Ideal S4096x768 .bf16) (o : ℕ)
    (inb : ∀ i, (![0, o] : Fin 2 → ℕ) i + S4096x256.size i ≤ S4096x768.size i)
    (inb' : ∀ i, (![0, 0, o] : Fin 3 → ℕ) i + S1x512x256.size i ≤ S1x512x768.size i) (i : S1x512x256.Idx) :
    k0_pay1 (F := Ideal) (View.ld (Val := Elt Ideal) x r0_0)
        (View.ld (Val := Elt Ideal) y (Rect.unit (s := S4096x768) ![0, o] S4096x256.size inb)) i
      = weight x y ((Rect.unit (s := S1x512x768) ![0, 0, o] S1x512x256.size inb').emb i) := by
  refine (product _ _ i).trans (Finset.sum_congr rfl fun k _ => congrArg₂ (· * ·) (congrArg x (funext fun b => Fin.ext ?_))
    (congrArg y (funext fun b => Fin.ext ?_)))
  · match b with
    | 0 => show 0 + 1 * k.val = k.val; omega
    | 1 => rfl
  · match b with
    | 0 => show 0 + 1 * k.val = k.val; omega
    | 1 => rfl

/-- What the three stores of a point leave in its block. -/
theorem block (x : FVec Ideal S4096x512 .bf16) (y : FVec Ideal S4096x768 .bf16) : out0_2 (F := Ideal) x y = weight x y := by
  have e3 : ∀ i, k0_pay3 (F := Ideal) (View.ld (Val := Elt Ideal) x r0_0) (View.ld (Val := Elt Ideal) y r0_5) i
      = weight x y (r0_6.emb i) := part x y 512 _ _
  have e2 : ∀ i, k0_pay2 (F := Ideal) (View.ld (Val := Elt Ideal) x r0_0) (View.ld (Val := Elt Ideal) y r0_3) i
      = weight x y (r0_4.emb i) := part x y 256 _ _
  have e1 : ∀ i, k0_pay1 (F := Ideal) (View.ld (Val := Elt Ideal) x r0_0) (View.ld (Val := Elt Ideal) y r0_1) i
      = weight x y (r0_2.emb i) := part x y 0 _ _
  exact Products.canon_of_pieces (e := .bf16) (weight x y) _ ⟨e3, e2, e1, trivial⟩ (cover0_2 _ _ _)

theorem idx0 : ∀ t : Fin cfg0.N, win0_0.index t = ![0, t.val % 4] := by decide +kernel
theorem idx1 : ∀ t : Fin cfg0.N, win0_1.index t = ![0, t.val / 4] := by decide +kernel
theorem idx2 : ∀ t : Fin cfg0.N, win0_2.index t = ![t.val / 4, t.val % 4, 0] := by decide +kernel

section
variable (m : (ℓ : Loc nD τ sig) → Buf (Elt Ideal) ℓ) (c : Dev nD)

/-- The arguments as arrays of numbers. -/
def acts : S4096x2048.Idx → EReal := m ((c.tc : Thread nD τ).loc main_arg0)
def cot : S4096x3072.Idx → EReal := m ((c.tc : Thread nD τ).loc main_arg1)

theorem b0 (t : Fin cfg0.N) (i : S4096x512.Idx) (j : S4096x2048.Idx) (h0 : (j 0).val = (i 0).val)
    (h1 : (j 1).val = t.val % 4 * 512 + (i 1).val) : iblk m c 0 t i = acts m c j := by
  show V m c main_arg0 (((cfg0.win 0).blk t).view.emb i) = _
  rw [V_main_arg0]
  refine congrArg (acts m c) (funext fun b => Fin.ext ?_)
  match b with
  | 0 => blk_simp [idx0, h0]
  | 1 => blk_simp [idx0, h1]
theorem b1 (t : Fin cfg0.N) (i : S4096x768.Idx) (j : S4096x3072.Idx) (h0 : (j 0).val = (i 0).val)
    (h1 : (j 1).val = t.val / 4 * 768 + (i 1).val) : iblk m c 1 t i = cot m c j := by
  show V m c main_arg1 (((cfg0.win 1).blk t).view.emb i) = _
  rw [V_main_arg1]
  refine congrArg (cot m c) (funext fun b => Fin.ext ?_)
  match b with
  | 0 => blk_simp [idx1, h0]
  | 1 => blk_simp [idx1, h1]

/-- A point's block lies in the gradient where its window says. -/
theorem value (t : Fin cfg0.N) (y : S1x512x768.Idx) (i : S4x2048x768.Idx) (h0 : (i 0).val = t.val / 4)
    (h1 : (i 1).val = t.val % 4 * 512 + (y 1).val) (h2 : (i 2).val = (y 2).val) :
    out0_2 (F := Ideal) (iblk m c 0 t) (iblk m c 1 t) y = grad (acts m c) (cot m c) i := by
  refine (congrFun (block (iblk m c 0 t) (iblk m c 1 t)) y).trans (Finset.sum_congr rfl fun k _ =>
    congrArg₂ (· * ·) (b0 m c t _ _ rfl h1) (b1 m c t _ _ rfl ?_))
  show (i 0).val * 768 + (i 2).val = t.val / 4 * 768 + (y 2).val
  omega

theorem out2 : (dats m 0 c).arrAt 2 cfg0.N = grad (acts m c) (cot m c) := by
  refine (dats m 0 c).arrAt_eq_of_covers 2 _ (by decide +kernel) fun t hf y => ?_
  blk_simp [idx2]
  rw [after0_2]
  refine value m c t y _ ?_ ?_ ?_ <;> blk_simp [idx2]

end

/-- What the kernel leaves in its result. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = grad (acts m c) (cot m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out2 m c), (h c).2⟩) (Cert.Kernel5Ideal.Value.run_blocks (F := Ideal) m ρ)

end Kernel

/-! ### The reference -/

section Reference

open Cert.Reference5Ideal Cert.Reference5Ideal.Gen Cert.Reference5Ideal.Read

theorem reference (a : S4096x2048.Idx → EReal) (g : S4096x3072.Idx → EReal) : val_main_v8 (F := Ideal) a g = grad a g := by
  funext i
  have h0 : (i 0).val < 4 := (i 0).isLt
  have h1 : (i 1).val < 2048 := (i 1).isLt
  have h2 : (i 2).val < 768 := (i 2).isLt
  rw [val_main_v8_apply, val_main_v7_apply, val_main_v6_apply, val_main_v5_apply]
  refine (val_main_v4_apply a g _).trans (Finset.sum_congr rfl fun k _ => ?_)
  rw [val_main_v3_apply, val_main_v0_apply]
  refine (mul_comm _ _).trans (congrArg₂ (· * ·) (congrArg a (funext fun b => Fin.ext ?_)) (congrArg g (funext fun b => Fin.ext ?_)))
  · match b with
    | 0 => rfl
    | 1 => show (((i 1).val * 4 + (i 0).val) * 768 + (i 2).val) / 3072 = (i 1).val; omega
  · match b with
    | 0 => rfl
    | 1 => show (((i 1).val * 4 + (i 0).val) * 768 + (i 2).val) % 3072 = (i 0).val * 768 + (i 2).val; omega

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v8)
        = grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1.trans (val_main_v8_eq _ _)).trans (reference _ _), (h c).2⟩)
    (Cert.Reference5Ideal.Value.run (F := Ideal) m ρ)

/-- The reference declares no semaphore. -/
theorem frame_reference : Cert.quiescent_Reference5Ideal := fun m ρ _ =>
  (θ_run defs _ _).mono (fun r h => ⟨fun c => (h c).2, sem_eq_zero_of_no_sems (by decide) r.2⟩) (reference_run m ρ)

end Reference

theorem algebraic : Cert.algebraic_Kernel5Ideal_Reference5Ideal := by
  intro m ρ m' ρ' _ hm
  refine ⟨_, run m ρ, (θ_run _ _ _).mono (fun r h c => ⟨(h c).1.trans ?_, (h c).2⟩) (reference_run m' ρ')⟩
  rw [(hm c).1, (hm c).2]
  rfl

end Cert.Proof.DwIn

end
-- ==== Proof.Dact.lean ====
/- The gradient of the squared-ReLU network's first product: the kernel's sixteen grid points each store 1024 rows of 2048 columns,
   in four parts of 512 columns. The kernel has the positive part back as the root of its square, which the forward pass left. -/
module

public import proofs.«01_k».proof.Defs
public import proofs.«01_k».proof.Proof.Products
public import proofs.«01_k».proof.Proof.Gen.Kernel6Ideal.Value
public import proofs.«01_k».proof.Proof.Gen.Reference6Ideal.Read
public import Idealize.ShloMosaic.Lib.Claim
public import Idealize.ShloMosaic.Adequacy
public import Idealize.ShloMosaic.Init

@[expose] public section

set_option maxRecDepth 16384

noncomputable section

namespace Cert.Proof.Dact

open Idealize.ShloMosaic Idealize.SL.Sem
open scoped BigOperators

section Kernel

open Cert.Kernel6Ideal Cert.Kernel6Ideal.Gen

/-- The root of a positive part's square is the positive part. -/
theorem sqrt_sq (u : EReal) : Ideal.sqrt (max u 0 * max u 0) = max u 0 := by
  induction u with
  | bot =>
    rw [max_eq_right bot_le, mul_zero]
    show (if (0 : ℝ) < 0 then (⊥ : EReal) else ((Real.sqrt 0 : ℝ) : EReal)) = ((0 : ℝ) : EReal)
    simp
  | top =>
    rw [max_eq_left le_top, EReal.top_mul_top]
    rfl
  | coe r =>
    have h : max (r : EReal) 0 = ((max r 0 : ℝ) : EReal) := (EReal.coe_strictMono.monotone.map_max (a := r) (b := 0)).symm
    rw [h, ← EReal.coe_mul]
    show (if max r 0 * max r 0 < 0 then (⊥ : EReal) else ((Real.sqrt (max r 0 * max r 0) : ℝ) : EReal)) = _
    rw [if_neg (not_lt.mpr (mul_self_nonneg _)), Real.sqrt_mul_self (le_max_right r 0)]

/-- The gradient: the cotangent times the transpose of the matrix, times twice the product's positive part. -/
def grad (a : S4096x2048.Idx → EReal) (w : S8192x2048.Idx → EReal) (u : S4096x8192.Idx → EReal) : S4096x8192.Idx → EReal := fun i =>
  (∑ k : Fin 2048, a (ix2 (i 0) k) * w (ix2 (i 1) k)) * (((2 : ℝ) : EReal) * max (u i) 0)

/-- A block of 1024 rows and 2048 columns, from what the forward pass left. -/
def rows (x : S1024x2048.Idx → EReal) (y : S2048x2048.Idx → EReal) (z : S1024x2048.Idx → EReal) : S1024x2048.Idx → EReal := fun i =>
  (∑ k : Fin 2048, x (ix2 (i 0) k) * y (ix2 (i 1) k)) * (((2 : ℝ) : EReal) * Ideal.sqrt (z i))

theorem word_two : Ideal.ofBits .f32 0x40000000#32 = ((2 : ℝ) : EReal) := by
  simp [Ideal.ofBits, Ideal.ieee, -EReal.coe_mul]; norm_num

/-- A product of 1024 rows with 512 rows of the matrix, times twice the root, entry by entry. -/
theorem product (x : FVec Ideal S1024x2048 .bf16) (y : FVec Ideal S512x2048 .bf16) (z : FVec Ideal S1024x512 .bf16) (i : S1024x512.Idx) :
    k0_pay2 (F := Ideal) x y z i
      = (∑ k : Fin 2048, x (ix2 (i 0) k) * y (ix2 (i 1) k)) * (((2 : ℝ) : EReal) * Ideal.sqrt (z i)) := by
  idx_vars i
  unfold k0_pay2
  pointwise [word_zero, word_two]
  simp only [EReal.coe_zero, zero_add]

/-- One part of a block: 512 rows of the matrix, from row `o` on. -/
theorem part (x : FVec Ideal S1024x2048 .bf16) (y : FVec Ideal S2048x2048 .bf16) (z : FVec Ideal S1024x2048 .bf16) (o : ℕ)
    (inb : ∀ i, (![o, 0] : Fin 2 → ℕ) i + S512x2048.size i ≤ S2048x2048.size i)
    (inb' : ∀ i, (![0, o] : Fin 2 → ℕ) i + S1024x512.size i ≤ S1024x2048.size i) (i : S1024x512.Idx) :
    k0_pay2 (F := Ideal) (View.ld (Val := Elt Ideal) x r0_0)
        (View.ld (Val := Elt Ideal) y (Rect.unit (s := S2048x2048) ![o, 0] S512x2048.size inb))
        (View.ld (Val := Elt Ideal) z (Rect.unit (s := S1024x2048) ![0, o] S1024x512.size inb')) i
      = rows x y z ((Rect.unit (s := S1024x2048) ![0, o] S1024x512.size inb').emb i) := by
  refine (product _ _ _ i).trans (congrArg₂ (· * ·) (Finset.sum_congr rfl fun k _ => congrArg₂ (· * ·)
    (congrArg x (funext fun b => Fin.ext ?_)) (congrArg y (funext fun b => Fin.ext ?_))) rfl)
  · match b with
    | 0 => rfl
    | 1 => show 0 + 1 * k.val = k.val; omega
  · match b with
    | 0 => rfl
    | 1 => show 0 + 1 * k.val = k.val; omega

/-- What the four stores of a point leave in its block. -/
theorem block (x : FVec Ideal S1024x2048 .bf16) (y : FVec Ideal S2048x2048 .bf16) (z : FVec Ideal S1024x2048 .bf16) :
    out0_3 (F := Ideal) x y z = rows x y z := by
  have e4 : ∀ i, k0_pay2 (F := Ideal) (View.ld (Val := Elt Ideal) x r0_0) (View.ld (Val := Elt Ideal) y r0_7)
      (View.ld (Val := Elt Ideal) z r0_8) i = rows x y z (r0_8.emb i) := part x y z 1536 _ _
  have e3 : ∀ i, k0_pay1 (F := Ideal) (k0_pay5 (View.ld (Val := Elt Ideal) x r0_0) (View.ld (Val := Elt Ideal) y r0_5))
      (k0_pay6 (View.ld (Val := Elt Ideal) z r0_6)) i = rows x y z (r0_6.emb i) := part x y z 1024 _ _
  have e2 : ∀ i, k0_pay4 (F := Ideal) (View.ld (Val := Elt Ideal) x r0_0) (View.ld (Val := Elt Ideal) y r0_3)
      (View.ld (Val := Elt Ideal) z r0_4) i = rows x y z (r0_4.emb i) := part x y z 512 _ _
  have e1 : ∀ i, k0_pay3 (F := Ideal) (View.ld (Val := Elt Ideal) x r0_0) (View.ld (Val := Elt Ideal) y r0_1)
      (View.ld (Val := Elt Ideal) z r0_2) i = rows x y z (r0_2.emb i) := part x y z 0 _ _
  exact Products.canon_of_pieces (e := .bf16) (rows x y z) _ ⟨e4, e3, e2, e1, trivial⟩ (cover0_3 _ _ _ _)

theorem idx0 : ∀ t : Fin cfg0.N, win0_0.index t = ![t.val % 4, 0] := by decide +kernel
theorem idx1 : ∀ t : Fin cfg0.N, win0_1.index t = ![t.val / 4, 0] := by decide +kernel
theorem idx2 : ∀ t : Fin cfg0.N, win0_2.index t = ![t.val % 4, t.val / 4] := by decide +kernel
theorem idx3 : ∀ t : Fin cfg0.N, win0_3.index t = ![t.val % 4, t.val / 4] := by decide +kernel

section
variable (m : (ℓ : Loc nD τ sig) → Buf (Elt Ideal) ℓ) (c : Dev nD)

/-- The arguments as arrays of numbers. -/
def cot : S4096x2048.Idx → EReal := m ((c.tc : Thread nD τ).loc main_arg0)
def weight : S8192x2048.Idx → EReal := m ((c.tc : Thread nD τ).loc main_arg1)
def pre : S4096x8192.Idx → EReal := m ((c.tc : Thread nD τ).loc main_arg2)

/-- What the host squares for the kernel. -/
theorem saved (i : S4096x8192.Idx) : V m c main_v2 i = max (pre m c i) 0 * max (pre m c i) 0 := by
  idx_vars i
  simp only [V, hostOps0, hostOps0_1, List.flatten_cons, List.flatten_nil, List.append_nil, List.cons_append, List.nil_append]
  entry_read
  simp only [StableHlo.TRef.ofBuf_toBuf]
  simp -implicitDefEqProofs only [StableHlo.TRef.toBuf, StableHlo.TRef.ofBuf, cast_eq]
  pointwise [word_zero]
  rfl

theorem b0 (t : Fin cfg0.N) (i : S1024x2048.Idx) (j : S4096x2048.Idx) (h0 : (j 0).val = t.val % 4 * 1024 + (i 0).val)
    (h1 : (j 1).val = (i 1).val) : iblk m c 0 t i = cot m c j := by
  show V m c main_arg0 (((cfg0.win 0).blk t).view.emb i) = _
  rw [V_main_arg0]
  refine congrArg (cot m c) (funext fun b => Fin.ext ?_)
  match b with
  | 0 => blk_simp [idx0, h0]
  | 1 => blk_simp [idx0, h1]
theorem b1 (t : Fin cfg0.N) (i : S2048x2048.Idx) (j : S8192x2048.Idx) (h0 : (j 0).val = t.val / 4 * 2048 + (i 0).val)
    (h1 : (j 1).val = (i 1).val) : iblk m c 1 t i = weight m c j := by
  show V m c main_arg1 (((cfg0.win 1).blk t).view.emb i) = _
  rw [V_main_arg1]
  refine congrArg (weight m c) (funext fun b => Fin.ext ?_)
  match b with
  | 0 => blk_simp [idx1, h0]
  | 1 => blk_simp [idx1, h1]
theorem b2 (t : Fin cfg0.N) (i : S1024x2048.Idx) (j : S4096x8192.Idx) (h0 : (j 0).val = t.val % 4 * 1024 + (i 0).val)
    (h1 : (j 1).val = t.val / 4 * 2048 + (i 1).val) : iblk m c 2 t i = max (pre m c j) 0 * max (pre m c j) 0 := by
  refine Eq.trans ?_ (saved m c j)
  show V m c main_v2 (((cfg0.win 2).blk t).view.emb i) = _
  refine congrArg (V m c main_v2) (funext fun b => Fin.ext ?_)
  match b with
  | 0 => blk_simp [idx2, h0]
  | 1 => blk_simp [idx2, h1]

/-- A point's block lies in the gradient where its window says. -/
theorem value (t : Fin cfg0.N) (y : S1024x2048.Idx) (i : S4096x8192.Idx) (h0 : (i 0).val = t.val % 4 * 1024 + (y 0).val)
    (h1 : (i 1).val = t.val / 4 * 2048 + (y 1).val) :
    out0_3 (F := Ideal) (iblk m c 0 t) (iblk m c 1 t) (iblk m c 2 t) y = grad (cot m c) (weight m c) (pre m c) i := by
  refine (congrFun (block (iblk m c 0 t) (iblk m c 1 t) (iblk m c 2 t)) y).trans (congrArg₂ (· * ·)
    (Finset.sum_congr rfl fun k _ => congrArg₂ (· * ·) (b0 m c t _ _ h0 rfl) (b1 m c t _ _ h1 rfl)) (congrArg _ ?_))
  exact (congrArg Ideal.sqrt (b2 m c t y i h0 h1)).trans (sqrt_sq _)

theorem out3 : (dats m 0 c).arrAt 3 cfg0.N = grad (cot m c) (weight m c) (pre m c) := by
  refine (dats m 0 c).arrAt_eq_of_covers 3 _ (by decide +kernel) fun t hf y => ?_
  blk_simp [idx3]
  rw [after0_3]
  refine value m c t y _ ?_ ?_ <;> blk_simp [idx3]

end

/-- What the kernel leaves in its result. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = grad (cot m c) (weight m c) (pre m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (out3 m c), (h c).2⟩) (Cert.Kernel6Ideal.Value.run_blocks (F := Ideal) m ρ)

end Kernel

/-! ### The reference -/

section Reference

open Cert.Reference6Ideal Cert.Reference6Ideal.Gen Cert.Reference6Ideal.Read

theorem reference_product (a : S4096x2048.Idx → EReal) (w : S8192x2048.Idx → EReal) (i : S4096x8192.Idx) :
    val_main_v10 (F := Ideal) a w i = ∑ k : Fin 2048, a (ix2 (i 0) k) * w (ix2 (i 1) k) := by
  refine (val_main_v10_apply a w _).trans (Finset.sum_congr rfl fun k _ => ?_)
  rw [val_main_v9_apply, val_main_v0_apply]
  refine congrArg₂ (· * ·) (congrArg a (funext fun b => ?_)) (congrArg w (funext fun b => ?_))
  · match b with
    | 0 => rfl
    | 1 => rfl
  · match b with
    | 0 => rfl
    | 1 => rfl

/-- Where the product is not positive the gradient is zero, and so is twice its positive part. -/
theorem gate (p u : EReal) :
    Scalar.select (Ideal.cmp .ogt u 0) (p * (((2 : ℝ) : EReal) * max u 0)) 0 = p * (((2 : ℝ) : EReal) * max u 0) := by
  by_cases h : 0 < u
  · simp [Scalar.select, Ideal.cmp, h]
  · simp [Scalar.select, Ideal.cmp, h, max_eq_right (not_lt.mp h)]

theorem reference (a : S4096x2048.Idx → EReal) (w : S8192x2048.Idx → EReal) (u : S4096x8192.Idx → EReal) :
    val_main_v14 (F := Ideal) a w u = grad a w u := by
  funext i
  rw [val_main_v14_apply, val_main_v13_apply, val_main_v12_apply, val_main_v11_apply, val_main_v7_apply, val_main_v6_apply,
    val_main_v3_apply, val_main_v2_apply, val_main_v1_apply, val_main_call0_v0_apply, val_main_call0_cst_apply, reference_product,
    val_main_cst_apply, val_main_cst_1_apply, val_main_cst_2_apply]
  refine Eq.trans ?_ (gate _ (u i))
  show Scalar.select (Ideal.cmp .ogt (u i) (Ideal.ofBits .f32 0x00000000#32))
    (_ * (Ideal.ofBits .f32 0x40000000#32 * max (u i) (Ideal.ofBits .f32 0x00000000#32))) (Ideal.ofBits .f32 0x00000000#32) = _
  rw [word_zero, word_two]
  rfl

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14)
        = grad (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1.trans (val_main_v14_eq _ _ _)).trans (reference _ _ _), (h c).2⟩)
    (Cert.Reference6Ideal.Value.run (F := Ideal) m ρ)

/-- The reference declares no semaphore. -/
theorem frame_reference : Cert.quiescent_Reference6Ideal := fun m ρ _ =>
  (θ_run defs _ _).mono (fun r h => ⟨fun c => (h c).2, sem_eq_zero_of_no_sems (by decide) r.2⟩) (reference_run m ρ)

end Reference

theorem algebraic : Cert.algebraic_Kernel6Ideal_Reference6Ideal := by
  intro m ρ m' ρ' _ hm
  refine ⟨_, run m ρ, (θ_run _ _ _).mono (fun r h c => ⟨(h c).1.trans ?_, (h c).2⟩) (reference_run m' ρ')⟩
  rw [(hm c).1, (hm c).2.1, (hm c).2.2]
  rfl

end Cert.Proof.Dact

end
-- ==== Proof.Up.lean ====
/- The squared-ReLU network's first product and its square: the kernel's sixteen grid points each store 1024 rows of one device's
   2048 columns, in four parts of 512 columns. -/
module

public import proofs.«01_k».proof.Defs
public import proofs.«01_k».proof.Proof.Products
public import proofs.«01_k».proof.Proof.Gen.Kernel7Ideal.Value
public import proofs.«01_k».proof.Proof.Gen.Reference7Ideal.Read
public import Idealize.ShloMosaic.Lib.Claim
public import Idealize.ShloMosaic.Adequacy
public import Idealize.ShloMosaic.Init

@[expose] public section

set_option maxRecDepth 16384

noncomputable section

namespace Cert.Proof.Up

open Idealize.ShloMosaic Idealize.SL.Sem
open scoped BigOperators

section Kernel

open Cert.Kernel7Ideal Cert.Kernel7Ideal.Gen

/-- The square of a number's positive part. -/
def sq (p : EReal) : EReal := max p 0 * max p 0

/-- The squared positive part of the normalised stream's product with the matrix, whose columns lie 2048 to a device. -/
def act (a : S4096x2048.Idx → EReal) (w : S4x2048x2048.Idx → EReal) : S4096x8192.Idx → EReal := fun i =>
  sq (∑ k : Fin 2048, a (ix2 (i 0) k) * w (ix3 ⟨(i 1).val / 2048, by have h : (i 1).val < 8192 := (i 1).isLt; omega⟩ k
    ⟨(i 1).val % 2048, Nat.mod_lt _ (by decide)⟩))

/-- A block of 1024 rows and 2048 columns. -/
def rows (x : S1024x2048.Idx → EReal) (y : S1x2048x2048.Idx → EReal) : S1024x2048.Idx → EReal := fun i =>
  sq (∑ k : Fin 2048, x (ix2 (i 0) k) * y (ix3 0 k (i 1)))

/-- The squared positive part of a product of 1024 rows with 512 columns, entry by entry. -/
theorem product (x : FVec Ideal S1024x2048 .bf16) (y : FVec Ideal S1x2048x512 .bf16) (i : S1024x512.Idx) :
    k0_pay1 (F := Ideal) x y i = sq (∑ k : Fin 2048, x (ix2 (i 0) k) * y (ix3 0 k (i 1))) := by
  idx_vars i
  unfold k0_pay1
  pointwise [word_zero]
  simp only [EReal.coe_zero, zero_add]
  rfl

/-- One part of a block: 512 columns of the matrix, from column `o` on. -/
theorem part (x : FVec Ideal S1024x2048 .bf16) (y : FVec Ideal S1x2048x2048 .bf16) (o : ℕ)
    (inb : ∀ i, (![0, 0, o] : Fin 3 → ℕ) i + S1x2048x512.size i ≤ S1x2048x2048.size i)
    (inb' : ∀ i, (![0, o] : Fin 2 → ℕ) i + S1024x512.size i ≤ S1024x2048.size i) (i : S1024x512.Idx) :
    k0_pay1 (F := Ideal) (View.ld (Val := Elt Ideal) x r0_0)
        (View.ld (Val := Elt Ideal) y (Rect.unit (s := S1x2048x2048) ![0, 0, o] S1x2048x512.size inb)) i
      = rows x y ((Rect.unit (s := S1024x2048) ![0, o] S1024x512.size inb').emb i) := by
  refine (product _ _ i).trans (congrArg sq (Finset.sum_congr rfl fun k _ => congrArg₂ (· * ·)
    (congrArg x (funext fun b => Fin.ext ?_)) (congrArg y (funext fun b => Fin.ext ?_))))
  · match b with
    | 0 => rfl
    | 1 => show 0 + 1 * k.val = k.val; omega
  · match b with
    | 0 => rfl
    | 1 => show 0 + 1 * k.val = k.val; omega
    | 2 => rfl

/-- What the four stores of a point leave in its block. -/
theorem block (x : FVec Ideal S1024x2048 .bf16) (y : FVec Ideal S1x2048x2048 .bf16) : out0_2 (F := Ideal) x y = rows x y := by
  have e4 : ∀ i, k0_pay1 (F := Ideal) (View.ld (Val := Elt Ideal) x r0_0) (View.ld (Val := Elt Ideal) y r0_7) i
      = rows x y (r0_8.emb i) := part x y 1536 _ _
  have e3 : ∀ i, k0_pay4 (F := Ideal) (View.ld (Val := Elt Ideal) x r0_0) (View.ld (Val := Elt Ideal) y r0_5) i
      = rows x y (r0_6.emb i) := part x y 1024 _ _
  have e2 : ∀ i, k0_pay3 (F := Ideal) (View.ld (Val := Elt Ideal) x r0_0) (View.ld (Val := Elt Ideal) y r0_3) i
      = rows x y (r0_4.emb i) := part x y 512 _ _
  have e1 : ∀ i, k0_pay2 (F := Ideal) (View.ld (Val := Elt Ideal) x r0_0) (View.ld (Val := Elt Ideal) y r0_1) i
      = rows x y (r0_2.emb i) := part x y 0 _ _
  exact Products.canon_of_pieces (e := .bf16) (rows x y) _ ⟨e4, e3, e2, e1, trivial⟩ (cover0_2 _ _ _ _)

theorem idx0 : ∀ t : Fin cfg0.N, win0_0.index t = ![t.val % 4, 0] := by decide +kernel
theorem idx1 : ∀ t : Fin cfg0.N, win0_1.index t = ![t.val / 4, 0, 0] := by decide +kernel
theorem idx2 : ∀ t : Fin cfg0.N, win0_2.index t = ![t.val % 4, t.val / 4] := by decide +kernel

section
variable (m : (ℓ : Loc nD τ sig) → Buf (Elt Ideal) ℓ) (c : Dev nD)

/-- The arguments as arrays of numbers. -/
def acts : S4096x2048.Idx → EReal := m ((c.tc : Thread nD τ).loc main_arg0)
def weight : S4x2048x2048.Idx → EReal := m ((c.tc : Thread nD τ).loc main_arg1)

theorem b0 (t : Fin cfg0.N) (i : S1024x2048.Idx) (j : S4096x2048.Idx) (h0 : (j 0).val = t.val % 4 * 1024 + (i 0).val)
    (h1 : (j 1).val = (i 1).val) : iblk m c 0 t i = acts m c j := by
  show V m c main_arg0 (((cfg0.win 0).blk t).view.emb i) = _
  rw [V_main_arg0]
  refine congrArg (acts m c) (funext fun b => Fin.ext ?_)
  match b with
  | 0 => blk_simp [idx0, h0]
  | 1 => blk_simp [idx0, h1]
theorem b1 (t : Fin cfg0.N) (i : S1x2048x2048.Idx) (j : S4x2048x2048.Idx) (h0 : (j 0).val = t.val / 4)
    (h1 : (j 1).val = (i 1).val) (h2 : (j 2).val = (i 2).val) : iblk m c 1 t i = weight m c j := by
  show V m c main_arg1 (((cfg0.win 1).blk t).view.emb i) = _
  rw [V_main_arg1]
  refine congrArg (weight m c) (funext fun b => Fin.ext ?_)
  match b with
  | 0 => blk_simp [idx1, h0]
  | 1 => blk_simp [idx1, h1]
  | 2 => blk_simp [idx1, h2]

/-- A point's block lies in the result where its window says. -/
theorem value (t : Fin cfg0.N) (y : S1024x2048.Idx) (i : S4096x8192.Idx) (h0 : (i 0).val = t.val % 4 * 1024 + (y 0).val)
    (h1 : (i 1).val = t.val / 4 * 2048 + (y 1).val) :
    out0_2 (F := Ideal) (iblk m c 0 t) (iblk m c 1 t) y = act (acts m c) (weight m c) i := by
  have hy : (y 1).val < 2048 := (y 1).isLt
  refine (congrFun (block (iblk m c 0 t) (iblk m c 1 t)) y).trans (congrArg sq (Finset.sum_congr rfl fun k _ =>
    congrArg₂ (· * ·) (b0 m c t _ _ h0 rfl) (b1 m c t _ _ ?_ rfl ?_)))
  · show (i 1).val / 2048 = t.val / 4
    omega
  · show (i 1).val % 2048 = (y 1).val
    omega

theorem out2 : (dats m 0 c).arrAt 2 cfg0.N = act (acts m c) (weight m c) := by
  refine (dats m 0 c).arrAt_eq_of_covers 2 _ (by decide +kernel) fun t hf y => ?_
  blk_simp [idx2]
  rw [after0_2]
  refine value m c t y _ ?_ ?_ <;> blk_simp [idx2]

end

/-- What the kernel leaves in its result. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = act (acts m c) (weight m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out2 m c), (h c).2⟩) (Cert.Kernel7Ideal.Value.run_blocks (F := Ideal) m ρ)

end Kernel

/-! ### The reference -/

section Reference

open Cert.Reference7Ideal Cert.Reference7Ideal.Gen Cert.Reference7Ideal.Read

theorem reference_product (a : S4096x2048.Idx → EReal) (w : S4x2048x2048.Idx → EReal) (i : S4096x8192.Idx) :
    val_main_v4 (F := Ideal) a w i = ∑ k : Fin 2048, a (ix2 (i 0) k) * w (ix3 ⟨(i 1).val / 2048, by
      have h : (i 1).val < 8192 := (i 1).isLt
      omega⟩ k ⟨(i 1).val % 2048, Nat.mod_lt _ (by decide)⟩) := by
  have h1 : (i 1).val < 8192 := (i 1).isLt
  refine (val_main_v4_apply a w _).trans (Finset.sum_congr rfl fun k _ => ?_)
  rw [val_main_v0_apply, val_main_v3_apply, val_main_v2_apply, val_main_v1_apply]
  refine congrArg₂ (· * ·) (congrArg a (funext fun b => ?_)) (congrArg w (funext fun b => Fin.ext ?_))
  · match b with
    | 0 => rfl
    | 1 => rfl
  · match b with
    | 0 => show (k.val * 8192 + (i 1).val) / 2048 % 4 = (i 1).val / 2048; omega
    | 1 => show (k.val * 8192 + (i 1).val) / 8192 = k.val; omega
    | 2 => show (k.val * 8192 + (i 1).val) % 2048 = (i 1).val % 2048; omega

theorem reference (a : S4096x2048.Idx → EReal) (w : S4x2048x2048.Idx → EReal) : val_main_v7 (F := Ideal) a w = act a w := by
  funext i
  rw [val_main_v7_apply, val_main_v6_apply, val_main_v5_apply, reference_product, val_main_call0_v0_apply,
    val_main_call0_cst_apply]
  show max _ (Ideal.ofBits .f32 0x00000000#32) * max _ (Ideal.ofBits .f32 0x00000000#32) = _
  rw [word_zero]
  rfl

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7)
        = act (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1.trans (val_main_v7_eq _ _)).trans (reference _ _), (h c).2⟩)
    (Cert.Reference7Ideal.Value.run (F := Ideal) m ρ)

/-- The reference declares no semaphore. -/
theorem frame_reference : Cert.quiescent_Reference7Ideal := fun m ρ _ =>
  (θ_run defs _ _).mono (fun r h => ⟨fun c => (h c).2, sem_eq_zero_of_no_sems (by decide) r.2⟩) (reference_run m ρ)

end Reference

theorem algebraic : Cert.algebraic_Kernel7Ideal_Reference7Ideal := by
  intro m ρ m' ρ' _ hm
  refine ⟨_, run m ρ, (θ_run _ _ _).mono (fun r h c => ⟨(h c).1.trans ?_, (h c).2⟩) (reference_run m' ρ')⟩
  rw [(hm c).1, (hm c).2]
  rfl

end Cert.Proof.Up

end
-- ==== Proof.Inproj.lean ====
/- The product before the mixer: the kernel's thirty-two grid points each store 512 rows of one device's 768 columns, in three
   parts of 256 columns. -/
module

public import proofs.«01_k».proof.Defs
public import proofs.«01_k».proof.Proof.Products
public import proofs.«01_k».proof.Proof.Gen.Kernel8Ideal.Value
public import proofs.«01_k».proof.Proof.Gen.Reference8Ideal.Read
public import Idealize.ShloMosaic.Lib.Claim
public import Idealize.ShloMosaic.Adequacy
public import Idealize.ShloMosaic.Init

@[expose] public section

set_option maxRecDepth 16384

noncomputable section

namespace Cert.Proof.Inproj

open Idealize.ShloMosaic Idealize.SL.Sem
open scoped BigOperators

section Kernel

open Cert.Kernel8Ideal Cert.Kernel8Ideal.Gen

/-- The product of the normalised stream with the matrix, whose columns lie 768 to a device. -/
def prod (a : S4096x2048.Idx → EReal) (w : S4x2048x768.Idx → EReal) : S4096x3072.Idx → EReal := fun i =>
  ∑ k : Fin 2048, a (ix2 (i 0) k) * w (ix3 ⟨(i 1).val / 768, by have h : (i 1).val < 3072 := (i 1).isLt; omega⟩ k
    ⟨(i 1).val % 768, Nat.mod_lt _ (by decide)⟩)

/-- A block of 512 rows and 768 columns of the product. -/
def rows (x : S512x2048.Idx → EReal) (y : S1x2048x768.Idx → EReal) : S512x768.Idx → EReal := fun i =>
  ∑ k : Fin 2048, x (ix2 (i 0) k) * y (ix3 0 k (i 1))

/-- A product of 512 rows with 256 columns, entry by entry. -/
theorem product (x : FVec Ideal S512x2048 .bf16) (y : FVec Ideal S1x2048x256 .bf16) (i : S512x256.Idx) :
    k0_pay1 (F := Ideal) x y i = ∑ k : Fin 2048, x (ix2 (i 0) k) * y (ix3 0 k (i 1)) := by
  idx_vars i
  unfold k0_pay1
  pointwise [word_zero]
  rw [EReal.coe_zero, zero_add]

/-- One part of a block: 256 columns of the matrix, from column `o` on. -/
theorem part (x : FVec Ideal S512x2048 .bf16) (y : FVec Ideal S1x2048x768 .bf16) (o : ℕ)
    (inb : ∀ i, (![0, 0, o] : Fin 3 → ℕ) i + S1x2048x256.size i ≤ S1x2048x768.size i)
    (inb' : ∀ i, (![0, o] : Fin 2 → ℕ) i + S512x256.size i ≤ S512x768.size i) (i : S512x256.Idx) :
    k0_pay1 (F := Ideal) (View.ld (Val := Elt Ideal) x r0_0)
        (View.ld (Val := Elt Ideal) y (Rect.unit (s := S1x2048x768) ![0, 0, o] S1x2048x256.size inb)) i
      = rows x y ((Rect.unit (s := S512x768) ![0, o] S512x256.size inb').emb i) := by
  refine (product _ _ i).trans (Finset.sum_congr rfl fun k _ => congrArg₂ (· * ·) (congrArg x (funext fun b => Fin.ext ?_))
    (congrArg y (funext fun b => Fin.ext ?_)))
  · match b with
    | 0 => rfl
    | 1 => show 0 + 1 * k.val = k.val; omega
  · match b with
    | 0 => rfl
    | 1 => show 0 + 1 * k.val = k.val; omega
    | 2 => rfl

/-- What the three stores of a point leave in its block. -/
theorem block (x : FVec Ideal S512x2048 .bf16) (y : FVec Ideal S1x2048x768 .bf16) : out0_2 (F := Ideal) x y = rows x y := by
  have e3 : ∀ i, k0_pay3 (F := Ideal) (View.ld (Val := Elt Ideal) x r0_0) (View.ld (Val := Elt Ideal) y r0_5) i
      = rows x y (r0_6.emb i) := part x y 512 _ _
  have e2 : ∀ i, k0_pay2 (F := Ideal) (View.ld (Val := Elt Ideal) x r0_0) (View.ld (Val := Elt Ideal) y r0_3) i
      = rows x y (r0_4.emb i) := part x y 256 _ _
  have e1 : ∀ i, k0_pay1 (F := Ideal) (View.ld (Val := Elt Ideal) x r0_0) (View.ld (Val := Elt Ideal) y r0_1) i
      = rows x y (r0_2.emb i) := part x y 0 _ _
  exact Products.canon_of_pieces (e := .f32) (rows x y) _ ⟨e3, e2, e1, trivial⟩ (cover0_2 _ _ _)

theorem idx0 : ∀ t : Fin cfg0.N, win0_0.index t = ![t.val % 8, 0] := by decide +kernel
theorem idx1 : ∀ t : Fin cfg0.N, win0_1.index t = ![t.val / 8, 0, 0] := by decide +kernel
theorem idx2 : ∀ t : Fin cfg0.N, win0_2.index t = ![t.val % 8, t.val / 8] := by decide +kernel

section
variable (m : (ℓ : Loc nD τ sig) → Buf (Elt Ideal) ℓ) (c : Dev nD)

/-- The arguments as arrays of numbers. -/
def acts : S4096x2048.Idx → EReal := m ((c.tc : Thread nD τ).loc main_arg0)
def weight : S4x2048x768.Idx → EReal := m ((c.tc : Thread nD τ).loc main_arg1)

theorem b0 (t : Fin cfg0.N) (i : S512x2048.Idx) (j : S4096x2048.Idx) (h0 : (j 0).val = t.val % 8 * 512 + (i 0).val)
    (h1 : (j 1).val = (i 1).val) : iblk m c 0 t i = acts m c j := by
  show V m c main_arg0 (((cfg0.win 0).blk t).view.emb i) = _
  rw [V_main_arg0]
  refine congrArg (acts m c) (funext fun b => Fin.ext ?_)
  match b with
  | 0 => blk_simp [idx0, h0]
  | 1 => blk_simp [idx0, h1]
theorem b1 (t : Fin cfg0.N) (i : S1x2048x768.Idx) (j : S4x2048x768.Idx) (h0 : (j 0).val = t.val / 8)
    (h1 : (j 1).val = (i 1).val) (h2 : (j 2).val = (i 2).val) : iblk m c 1 t i = weight m c j := by
  show V m c main_arg1 (((cfg0.win 1).blk t).view.emb i) = _
  rw [V_main_arg1]
  refine congrArg (weight m c) (funext fun b => Fin.ext ?_)
  match b with
  | 0 => blk_simp [idx1, h0]
  | 1 => blk_simp [idx1, h1]
  | 2 => blk_simp [idx1, h2]

/-- A point's block lies in the product where its window says. -/
theorem value (t : Fin cfg0.N) (y : S512x768.Idx) (i : S4096x3072.Idx) (h0 : (i 0).val = t.val % 8 * 512 + (y 0).val)
    (h1 : (i 1).val = t.val / 8 * 768 + (y 1).val) :
    out0_2 (F := Ideal) (iblk m c 0 t) (iblk m c 1 t) y = prod (acts m c) (weight m c) i := by
  have hy : (y 1).val < 768 := (y 1).isLt
  refine (congrFun (block (iblk m c 0 t) (iblk m c 1 t)) y).trans (Finset.sum_congr rfl fun k _ =>
    congrArg₂ (· * ·) (b0 m c t _ _ h0 rfl) (b1 m c t _ _ ?_ rfl ?_))
  · show (i 1).val / 768 = t.val / 8
    omega
  · show (i 1).val % 768 = (y 1).val
    omega

theorem out2 : (dats m 0 c).arrAt 2 cfg0.N = prod (acts m c) (weight m c) := by
  refine (dats m 0 c).arrAt_eq_of_covers 2 _ (by decide +kernel) fun t hf y => ?_
  blk_simp [idx2]
  rw [after0_2]
  refine value m c t y _ ?_ ?_ <;> blk_simp [idx2]

end

/-- What the kernel leaves in its result. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = prod (acts m c) (weight m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out2 m c), (h c).2⟩) (Cert.Kernel8Ideal.Value.run_blocks (F := Ideal) m ρ)

end Kernel

/-! ### The reference -/

section Reference

open Cert.Reference8Ideal Cert.Reference8Ideal.Gen Cert.Reference8Ideal.Read

theorem reference (a : S4096x2048.Idx → EReal) (w : S4x2048x768.Idx → EReal) : val_main_v4 (F := Ideal) a w = prod a w := by
  funext i
  have h1 : (i 1).val < 3072 := (i 1).isLt
  refine (val_main_v4_apply a w _).trans (Finset.sum_congr rfl fun k _ => ?_)
  rw [val_main_v0_apply, val_main_v3_apply, val_main_v2_apply, val_main_v1_apply]
  refine congrArg₂ (· * ·) (congrArg a (funext fun b => ?_)) (congrArg w (funext fun b => Fin.ext ?_))
  · match b with
    | 0 => rfl
    | 1 => rfl
  · match b with
    | 0 => show (k.val * 3072 + (i 1).val) / 768 % 4 = (i 1).val / 768; omega
    | 1 => show (k.val * 3072 + (i 1).val) / 3072 = k.val; omega
    | 2 => show (k.val * 3072 + (i 1).val) % 768 = (i 1).val % 768; omega

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v4)
        = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1.trans (val_main_v4_eq _ _)).trans (reference _ _), (h c).2⟩)
    (Cert.Reference8Ideal.Value.run (F := Ideal) m ρ)

/-- The reference declares no semaphore. -/
theorem frame_reference : Cert.quiescent_Reference8Ideal := fun m ρ _ =>
  (θ_run defs _ _).mono (fun r h => ⟨fun c => (h c).2, sem_eq_zero_of_no_sems (by decide) r.2⟩) (reference_run m ρ)

end Reference

theorem algebraic : Cert.algebraic_Kernel8Ideal_Reference8Ideal := by
  intro m ρ m' ρ' _ hm
  refine ⟨_, run m ρ, (θ_run _ _ _).mono (fun r h c => ⟨(h c).1.trans ?_, (h c).2⟩) (reference_run m' ρ')⟩
  rw [(hm c).1, (hm c).2]
  rfl

end Cert.Proof.Inproj

end
-- ==== Proof.Dmixed.lean ====
/- The gradient of the mixer's output: the kernel's sixteen grid points each store 256 of its rows, in four parts of 512
   columns. -/
module

public import proofs.«01_k».proof.Defs
public import proofs.«01_k».proof.Proof.Products
public import proofs.«01_k».proof.Proof.Gen.Kernel9Ideal.Value
public import proofs.«01_k».proof.Proof.Gen.Reference9Ideal.Read
public import Idealize.ShloMosaic.Lib.Claim
public import Idealize.ShloMosaic.Adequacy
public import Idealize.ShloMosaic.Init

@[expose] public section

set_option maxRecDepth 16384

noncomputable section

namespace Cert.Proof.Dmixed

open Idealize.ShloMosaic Idealize.SL.Sem
open scoped BigOperators

section Kernel

open Cert.Kernel9Ideal Cert.Kernel9Ideal.Gen

/-- The gradient: the cotangent times the transpose of the matrix. -/
def grad (a : S4096x2048.Idx → EReal) (w : S2048x2048.Idx → EReal) : S4096x2048.Idx → EReal := fun i =>
  ∑ k : Fin 2048, a (ix2 (i 0) k) * w (ix2 (i 1) k)

/-- A block of 256 rows of the gradient. -/
def rows (x : S256x2048.Idx → EReal) (y : S2048x2048.Idx → EReal) : S256x2048.Idx → EReal := fun i =>
  ∑ k : Fin 2048, x (ix2 (i 0) k) * y (ix2 (i 1) k)

/-- A product of 256 rows with 512 rows of the matrix, entry by entry. -/
theorem product (x : FVec Ideal S256x2048 .bf16) (y : FVec Ideal S512x2048 .bf16) (i : S256x512.Idx) :
    k0_pay1 (F := Ideal) x y i = ∑ k : Fin 2048, x (ix2 (i 0) k) * y (ix2 (i 1) k) := by
  idx_vars i
  unfold k0_pay1
  pointwise [word_zero]
  rw [EReal.coe_zero, zero_add]

/-- One part of a block: 512 rows of the matrix, from row `o` on. -/
theorem part (x : FVec Ideal S256x2048 .bf16) (y : FVec Ideal S2048x2048 .bf16) (o : ℕ)
    (inb : ∀ i, (![o, 0] : Fin 2 → ℕ) i + S512x2048.size i ≤ S2048x2048.size i)
    (inb' : ∀ i, (![0, o] : Fin 2 → ℕ) i + S256x512.size i ≤ S256x2048.size i) (i : S256x512.Idx) :
    k0_pay1 (F := Ideal) (View.ld (Val := Elt Ideal) x r0_0)
        (View.ld (Val := Elt Ideal) y (Rect.unit (s := S2048x2048) ![o, 0] S512x2048.size inb)) i
      = rows x y ((Rect.unit (s := S256x2048) ![0, o] S256x512.size inb').emb i) := by
  refine (product _ _ i).trans (Finset.sum_congr rfl fun k _ => congrArg₂ (· * ·) (congrArg x (funext fun b => Fin.ext ?_))
    (congrArg y (funext fun b => Fin.ext ?_)))
  · match b with
    | 0 => rfl
    | 1 => show 0 + 1 * k.val = k.val; omega
  · match b with
    | 0 => rfl
    | 1 => show 0 + 1 * k.val = k.val; omega

/-- What the four stores of a point leave in its block. -/
theorem block (x : FVec Ideal S256x2048 .bf16) (y : FVec Ideal S2048x2048 .bf16) : out0_2 (F := Ideal) x y = rows x y := by
  have e4 : ∀ i, k0_pay4 (F := Ideal) (View.ld (Val := Elt Ideal) x r0_0) (View.ld (Val := Elt Ideal) y r0_7) i
      = rows x y (r0_8.emb i) := part x y 1536 _ _
  have e3 : ∀ i, k0_pay3 (F := Ideal) (View.ld (Val := Elt Ideal) x r0_0) (View.ld (Val := Elt Ideal) y r0_5) i
      = rows x y (r0_6.emb i) := part x y 1024 _ _
  have e2 : ∀ i, k0_pay2 (F := Ideal) (View.ld (Val := Elt Ideal) x r0_0) (View.ld (Val := Elt Ideal) y r0_3) i
      = rows x y (r0_4.emb i) := part x y 512 _ _
  have e1 : ∀ i, k0_pay1 (F := Ideal) (View.ld (Val := Elt Ideal) x r0_0) (View.ld (Val := Elt Ideal) y r0_1) i
      = rows x y (r0_2.emb i) := part x y 0 _ _
  exact Products.canon_of_pieces (e := .bf16) (rows x y) _ ⟨e4, e3, e2, e1, trivial⟩ (cover0_2 _ _ _ _)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel

section
variable (m : (ℓ : Loc nD τ sig) → Buf (Elt Ideal) ℓ) (c : Dev nD)

/-- The arguments as arrays of numbers. -/
def cot : S4096x2048.Idx → EReal := m ((c.tc : Thread nD τ).loc main_arg0)
def weight : S2048x2048.Idx → EReal := m ((c.tc : Thread nD τ).loc main_arg1)

theorem b0 (t : Fin cfg0.N) (i : S256x2048.Idx) (j : S4096x2048.Idx) (h0 : (j 0).val = t.val * 256 + (i 0).val)
    (h1 : (j 1).val = (i 1).val) : iblk m c 0 t i = cot m c j := by
  show V m c main_arg0 (((cfg0.win 0).blk t).view.emb i) = _
  rw [V_main_arg0]
  refine congrArg (cot m c) (funext fun b => Fin.ext ?_)
  match b with
  | 0 => blk_simp [idx0, h0]
  | 1 => blk_simp [idx0, h1]
theorem b1 (t : Fin cfg0.N) (i j : S2048x2048.Idx) (h0 : (j 0).val = (i 0).val) (h1 : (j 1).val = (i 1).val) :
    iblk m c 1 t i = weight m c j := by
  show V m c main_arg1 (((cfg0.win 1).blk t).view.emb i) = _
  rw [V_main_arg1]
  refine congrArg (weight m c) (funext fun b => Fin.ext ?_)
  match b with
  | 0 => blk_simp [idx1, h0]
  | 1 => blk_simp [idx1, h1]

/-- A point's block lies in the gradient where its window says. -/
theorem value (t : Fin cfg0.N) (y : S256x2048.Idx) (i : S4096x2048.Idx) (h0 : (i 0).val = t.val * 256 + (y 0).val)
    (h1 : (i 1).val = (y 1).val) : out0_2 (F := Ideal) (iblk m c 0 t) (iblk m c 1 t) y = grad (cot m c) (weight m c) i :=
  (congrFun (block (iblk m c 0 t) (iblk m c 1 t)) y).trans (Finset.sum_congr rfl fun k _ =>
    congrArg₂ (· * ·) (b0 m c t _ _ h0 rfl) (b1 m c t _ _ h1 rfl))

theorem out2 : (dats m 0 c).arrAt 2 cfg0.N = grad (cot m c) (weight m c) := by
  refine (dats m 0 c).arrAt_eq_of_covers 2 _ (by decide +kernel) fun t hf y => ?_
  blk_simp [idx2]
  rw [after0_2]
  refine value m c t y _ ?_ ?_ <;> blk_simp [idx2]

end

/-- What the kernel leaves in its result. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = grad (cot m c) (weight m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out2 m c), (h c).2⟩) (Cert.Kernel9Ideal.Value.run_blocks (F := Ideal) m ρ)

end Kernel

/-! ### The reference -/

section Reference

open Cert.Reference9Ideal Cert.Reference9Ideal.Gen Cert.Reference9Ideal.Read

theorem reference (a : S4096x2048.Idx → EReal) (w : S2048x2048.Idx → EReal) : val_main_v5 (F := Ideal) a w = grad a w := by
  funext i
  rw [val_main_v5_apply]
  refine (val_main_v4_apply a w _).trans (Finset.sum_congr rfl fun k _ => ?_)
  rw [val_main_v3_apply, val_main_v0_apply]
  refine congrArg₂ (· * ·) (congrArg a (funext fun b => ?_)) (congrArg w (funext fun b => ?_))
  · match b with
    | 0 => rfl
    | 1 => rfl
  · match b with
    | 0 => rfl
    | 1 => rfl

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5)
        = grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1.trans (val_main_v5_eq _ _)).trans (reference _ _), (h c).2⟩)
    (Cert.Reference9Ideal.Value.run (F := Ideal) m ρ)

/-- The reference declares no semaphore. -/
theorem frame_reference : Cert.quiescent_Reference9Ideal := fun m ρ _ =>
  (θ_run defs _ _).mono (fun r h => ⟨fun c => (h c).2, sem_eq_zero_of_no_sems (by decide) r.2⟩) (reference_run m ρ)

end Reference

theorem algebraic : Cert.algebraic_Kernel9Ideal_Reference9Ideal := by
  intro m ρ m' ρ' _ hm
  refine ⟨_, run m ρ, (θ_run _ _ _).mono (fun r h c => ⟨(h c).1.trans ?_, (h c).2⟩) (reference_run m' ρ')⟩
  rw [(hm c).1, (hm c).2]
  rfl

end Cert.Proof.Dmixed

end
-- ==== Proof.Norm.lean ====
/- The scale a row is normalised by, and the gradient of the normalisation: the kernel's form of the gradient equals the
   form the chain rule gives, whatever the row holds. -/
module

public import proofs.«01_k».proof.Proof.Consts
public import proofs.«01_k».proof.Proof.Lift

@[expose] public section

noncomputable section

namespace Cert.Proof.Norm

open Idealize.ShloMosaic
open scoped BigOperators

theorem word_2048 : Ideal.ofBits .f32 0x45000000#32 = ((2048 : ℝ) : EReal) := by
  simp [Ideal.ofBits, Ideal.ieee, -EReal.coe_mul]; norm_num

/-- The mean square of a row, and what is added to it. -/
def meanSq (x : Fin 2048 → EReal) : EReal := Ideal.div (∑ k, x k * x k) ((2048 : ℝ) : EReal) + ((epsR : ℝ) : EReal)

/-- The factor a row is normalised by. -/
def scale (x : Fin 2048 → EReal) : EReal := Ideal.rsqrt (meanSq x)

theorem mul_self_nonneg' (a : EReal) : 0 ≤ a * a := by
  induction a with
  | bot => simp
  | top => simp
  | coe a => exact_mod_cast mul_self_nonneg a

/-- A row of real numbers has a positive real scale, whose square is the inverse of the mean square. -/
theorem scale_real (x : Fin 2048 → ℝ) : ∃ v : ℝ, 0 < v ∧ meanSq (fun k => (x k : EReal)) = (v : EReal)
    ∧ scale (fun k => (x k : EReal)) = (((√v)⁻¹ : ℝ) : EReal) := by
  have hv : 0 < (∑ k, x k * x k) / 2048 + epsR :=
    add_pos_of_nonneg_of_pos (div_nonneg (Finset.sum_nonneg fun k _ => mul_self_nonneg _) (by norm_num)) epsR_pos
  have e : meanSq (fun k => (x k : EReal)) = (((∑ k, x k * x k) / 2048 + epsR : ℝ) : EReal) := by
    unfold meanSq
    rw [Finset.sum_congr rfl fun k _ => lift_mul (x k) (x k), lift_sum, lift_div _ (by norm_num), lift_add]
  exact ⟨_, hv, e, by unfold scale; rw [e, lift_rsqrt hv]⟩

/-- A row with an infinite entry has mean square infinity and scale zero. -/
theorem scale_infinite (x : Fin 2048 → EReal) (k : Fin 2048) (h : x k = ⊤ ∨ x k = ⊥) : meanSq x = ⊤ ∧ scale x = 0 := by
  have hs : ∑ k, x k * x k = ⊤ := by
    refine top_le_iff.mp (le_trans (le_of_eq ?_) (Finset.single_le_sum (fun i _ => mul_self_nonneg' (x i)) (Finset.mem_univ k)))
    rcases h with h | h <;> rw [h] <;> rfl
  have e : meanSq x = ⊤ := by
    unfold meanSq
    rw [hs, Ideal.div_coe (by norm_num), EReal.top_mul_coe_of_pos (by norm_num), EReal.top_add_coe]
  exact ⟨e, by unfold scale; rw [e]; rfl⟩

/-- A nonnegative real factor goes through a sum. -/
theorem sum_mul_coe {ι : Type*} (s : Finset ι) (f : ι → EReal) {r : ℝ} (h : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih, EReal.right_distrib_of_nonneg_of_ne_top (by exact_mod_cast h) (EReal.coe_ne_top r)]

/-- A number taken twice real times, added to itself. -/
theorem twice (s : EReal) (a : ℝ) : s * (a : EReal) + s * (a : EReal) = s * ((2 * a : ℝ) : EReal) := by
  induction s with
  | coe s => rw [lift_mul, lift_add, lift_mul]; congr 1; ring
  | top =>
    rcases lt_trichotomy a 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy a 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- The gradient at entry `j` of a normalised row `x` with cotangent `d`: as the kernel has it. -/
def grad (x d : Fin 2048 → EReal) (j : Fin 2048) : EReal :=
  scale x * (d j - x j * scale x * Ideal.div (∑ k, d k * (x k * scale x)) ((2048 : ℝ) : EReal))

/-- What the chain rule multiplies the row by. -/
def slope (x d : Fin 2048 → EReal) : EReal :=
  Ideal.div ((∑ k, x k * d k) * (((-(1 / 2) : ℝ) : EReal) * Ideal.div (scale x) (meanSq x))) ((2048 : ℝ) : EReal)

/-- The kernel's form of the gradient is the chain rule's. -/
theorem grad_eq (x d : Fin 2048 → EReal) (j : Fin 2048) :
    grad x d j = d j * scale x + (x j * slope x d + slope x d * x j) := by
  by_cases h : ∃ k, x k = ⊤ ∨ x k = ⊥
  · obtain ⟨k, hk⟩ := h
    obtain ⟨hv, hr⟩ := scale_infinite x k hk
    have hq : slope x d = 0 := by
      unfold slope
      rw [hr, hv]
      simp [Ideal.div]
    unfold grad
    rw [hq, hr]
    simp
  · have hx : ∀ k, x k = (((x k).toReal : ℝ) : EReal) := fun k =>
      (EReal.coe_toReal (fun e => h ⟨k, .inl e⟩) (fun e => h ⟨k, .inr e⟩)).symm
    obtain ⟨y, rfl⟩ : ∃ y : Fin 2048 → ℝ, x = fun k => (y k : EReal) := ⟨fun k => (x k).toReal, funext hx⟩
    obtain ⟨v, hv, ev, er⟩ := scale_real y
    have hs : 0 < √v := Real.sqrt_pos.mpr hv
    have hr : (0 : ℝ) ≤ (√v)⁻¹ := inv_nonneg.mpr hs.le
    unfold grad slope
    rw [er, ev]
    have e1 : ∑ k, d k * ((y k : EReal) * (((√v)⁻¹ : ℝ) : EReal)) = (∑ k, (y k : EReal) * d k) * (((√v)⁻¹ : ℝ) : EReal) := by
      rw [← sum_mul_coe _ _ hr]
      exact Finset.sum_congr rfl fun k _ => by rw [← mul_assoc, mul_comm (d k)]
    rw [e1]
    dsimp only
    generalize ∑ k, (y k : EReal) * d k = S
    rw [Ideal.div_coe (by norm_num), Ideal.div_coe (by norm_num), lift_div _ hv.ne', lift_mul (-(1 / 2)), mul_comm (S * _ * _) ((y j : ℝ) : EReal),
      sub_eq_add_neg, EReal.left_distrib_of_nonneg_of_ne_top (by exact_mod_cast hr) (EReal.coe_ne_top _), mul_comm _ (d j)]
    refine congrArg (d j * _ + ·) ?_
    have e2 : ((y j : ℝ) : EReal) * (S * ((-(1 / 2) * ((√v)⁻¹ / v) : ℝ) : EReal) * ((1 / 2048 : ℝ) : EReal))
        = S * ((y j * (-(1 / 2) * ((√v)⁻¹ / v)) * (1 / 2048) : ℝ) : EReal) := by
      rw [EReal.coe_mul (_ * _), EReal.coe_mul (y j)]; ac_rfl
    rw [e2, twice]
    have e3 : ((y j : ℝ) : EReal) * (((√v)⁻¹ : ℝ) : EReal) * (S * (((√v)⁻¹ : ℝ) : EReal) * ((1 / 2048 : ℝ) : EReal))
        = S * ((y j * (√v)⁻¹ * (√v)⁻¹ * (1 / 2048) : ℝ) : EReal) := by
      rw [EReal.coe_mul (_ * _ * _), EReal.coe_mul (_ * _), EReal.coe_mul (y j)]; ac_rfl
    rw [e3, ← mul_neg, ← EReal.coe_neg, mul_left_comm, lift_mul]
    congr 2
    have hvv : v = √v * √v := (Real.mul_self_sqrt hv.le).symm
    have : (√v)⁻¹ / v = (√v)⁻¹ * (√v)⁻¹ * (√v)⁻¹ := by
      conv_lhs => rw [hvv]
      rw [Real.sqrt_mul_self hs.le]
      field_simp
    rw [this]
    ring

end Cert.Proof.Norm

end
-- ==== Proof.Outproj.lean ====
/- The product after the mixer: the kernel's sixteen grid points each add 256 rows of the product to the residual, in four
   parts of 512 columns, and normalise the rows they have stored. -/
module

public import proofs.«01_k».proof.Defs
public import proofs.«01_k».proof.Proof.Norm
public import proofs.«01_k».proof.Proof.Products
public import proofs.«01_k».proof.Proof.Gen.Kernel10Ideal.Value
public import proofs.«01_k».proof.Proof.Gen.Reference10Ideal.Read
public import Idealize.ShloMosaic.Lib.Claim
public import Idealize.ShloMosaic.Lib.Pipeline.ValueKit
public import Idealize.ShloMosaic.Adequacy
public import Idealize.ShloMosaic.Init

@[expose] public section

set_option maxRecDepth 16384

noncomputable section

namespace Cert.Proof.Outproj

open Idealize.ShloMosaic Idealize.SL.Sem
open scoped BigOperators

section Kernel

open Cert.Kernel10Ideal Cert.Kernel10Ideal.Gen

/-- The product added to the residual. -/
def stream (a : S4096x2048.Idx → EReal) (w : S2048x2048.Idx → EReal) (x : S4096x2048.Idx → EReal) :
    S4096x2048.Idx → EReal := fun i => x i + ∑ k : Fin 2048, a (ix2 (i 0) k) * w (ix2 k (i 1))

/-- Its rows normalised and scaled. -/
def normed (a : S4096x2048.Idx → EReal) (w : S2048x2048.Idx → EReal) (x : S4096x2048.Idx → EReal)
    (g : S1x2048.Idx → EReal) : S4096x2048.Idx → EReal := fun i =>
  stream a w x i * Norm.scale (fun k => stream a w x (ix2 (i 0) k)) * g (ix2 0 (i 1))

/-- A block of 256 rows of the same. -/
def rows (a : S256x2048.Idx → EReal) (w : S2048x2048.Idx → EReal) (x : S256x2048.Idx → EReal) :
    S256x2048.Idx → EReal := fun i => x i + ∑ k : Fin 2048, a (ix2 (i 0) k) * w (ix2 k (i 1))

/-- The product of 256 rows with 512 columns added to the residual, entry by entry. -/
theorem product (a : FVec Ideal S256x2048 .bf16) (w : FVec Ideal S2048x512 .bf16) (x : FVec Ideal S256x512 .f32)
    (i : S256x512.Idx) : k0_pay3 (F := Ideal) a w x i = x i + ∑ k : Fin 2048, a (ix2 (i 0) k) * w (ix2 k (i 1)) := by
  idx_vars i
  unfold k0_pay3
  pointwise [word_zero]
  rw [EReal.coe_zero, zero_add]

/-- One part of a block: 512 columns, from column `o` on. -/
theorem part (a : FVec Ideal S256x2048 .bf16) (w : FVec Ideal S2048x2048 .bf16) (x : FVec Ideal S256x2048 .f32) (o : ℕ)
    (inb : ∀ i, (![0, o] : Fin 2 → ℕ) i + S2048x512.size i ≤ S2048x2048.size i)
    (inb' : ∀ i, (![0, o] : Fin 2 → ℕ) i + S256x512.size i ≤ S256x2048.size i) (i : S256x512.Idx) :
    k0_pay3 (F := Ideal) a (View.ld (Val := Elt Ideal) w (Rect.unit (s := S2048x2048) ![0, o] S2048x512.size inb))
        (View.ld (Val := Elt Ideal) x (Rect.unit (s := S256x2048) ![0, o] S256x512.size inb')) i
      = rows a w x ((Rect.unit (s := S256x2048) ![0, o] S256x512.size inb').emb i) := by
  refine (product _ _ _ i).trans (congrArg₂ (· + ·) rfl (Finset.sum_congr rfl fun k _ =>
    congrArg₂ (· * ·) (congrArg a (funext fun b => Fin.ext ?_)) (congrArg w (funext fun b => Fin.ext ?_))))
  · match b with
    | 0 => show (i 0).val = 0 + 1 * (i 0).val; omega
    | 1 => rfl
  · match b with
    | 0 => show 0 + 1 * k.val = k.val; omega
    | 1 => rfl

/-- The normalisation of a block, entry by entry. -/
theorem norm (y : FVec Ideal S256x2048 .f32) (g : FVec Ideal S1x2048 .f32) (i : S256x2048.Idx) :
    k0_pay2 (F := Ideal) y g i = y i * Norm.scale (fun k => y (ix2 (i 0) k)) * g (ix2 0 (i 1)) := by
  idx_vars i
  unfold k0_pay2
  pointwise [Norm.word_2048, word_eps]
  rfl

section
variable (m : (ℓ : Loc nD τ sig) → Buf (Elt Ideal) ℓ) (c : Dev nD)

/-- What the four stores of a point leave in its block of the stream. -/
theorem block4 (t : Fin cfg0.N) : (outsAt0 (F := Ideal) m c t).1
    = rows (iblk m c 0 t) (iblk m c 1 t) (iblk m c 2 t) := by
  unfold outsAt0
  dsimp only
  frame_open
  frame_out
  exact Products.canon_of_pieces (e := .f32) _ _ ⟨part _ _ _ 1536 _ _, part _ _ _ 1024 _ _, part _ _ _ 512 _ _,
    part _ _ _ 0 _ _, trivial⟩ (View.cover_of_tiledL _ S256x512.size (by sl_kernel_rfl))

/-- What a point stores of the normalised rows. -/
theorem block5 (t : Fin cfg0.N) (i : S256x2048.Idx) : (outsAt0 (F := Ideal) m c t).2 i
    = rows (iblk m c 0 t) (iblk m c 1 t) (iblk m c 2 t) i
      * Norm.scale (fun k => rows (iblk m c 0 t) (iblk m c 1 t) (iblk m c 2 t) (ix2 (i 0) k))
      * (iblk m c 3 t : S1x2048.Idx → EReal) (ix2 0 (i 1)) := by
  have h4 := block4 m c t
  unfold outsAt0 at h4 ⊢
  dsimp only at h4 ⊢
  revert h4
  frame_open
  frame_out
  intro h4
  simp only [View.readCov_eq_canon']
  rw [h4]
  have e : ∀ j : S256x2048.Idx, (Rect.unit (s := S256x2048) ![0, 0] ![256, 2048] inb_S256x2048_S256x2048_0_0).idx j = j :=
    fun j => funext fun b => Fin.ext (by
      match b with
      | 0 => show 0 + 1 * (j 0).val = (j 0).val; omega
      | 1 => show 0 + 1 * (j 1).val = (j 1).val; omega)
  simp only [e]
  exact norm _ _ i

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![t.val, 0] := by decide +kernel
theorem idx5 : ∀ t : Fin cfg0.N, win0_5.index t = ![t.val, 0] := by decide +kernel

/-- The arguments as arrays of numbers. -/
def acts : S4096x2048.Idx → EReal := m ((c.tc : Thread nD τ).loc main_arg0)
def weight : S2048x2048.Idx → EReal := m ((c.tc : Thread nD τ).loc main_arg1)
def resid : S4096x2048.Idx → EReal := m ((c.tc : Thread nD τ).loc main_arg2)
def gain : S1x2048.Idx → EReal := m ((c.tc : Thread nD τ).loc main_arg3)

theorem b0 (t : Fin cfg0.N) (i : S256x2048.Idx) (j : S4096x2048.Idx) (h0 : (j 0).val = t.val * 256 + (i 0).val)
    (h1 : (j 1).val = (i 1).val) : iblk m c 0 t i = acts m c j := by
  show V m c main_arg0 (((cfg0.win 0).blk t).view.emb i) = _
  rw [V_main_arg0]
  refine congrArg (acts m c) (funext fun b => Fin.ext ?_)
  match b with
  | 0 => blk_simp [idx0, h0]
  | 1 => blk_simp [idx0, h1]
theorem b1 (t : Fin cfg0.N) (i : S2048x2048.Idx) : iblk m c 1 t i = weight m c i := by
  show V m c main_arg1 (((cfg0.win 1).blk t).view.emb i) = _
  rw [V_main_arg1]
  refine congrArg (weight m c) (funext fun b => Fin.ext ?_)
  match b with
  | 0 => blk_simp [idx1]
  | 1 => blk_simp [idx1]
theorem b2 (t : Fin cfg0.N) (i : S256x2048.Idx) (j : S4096x2048.Idx) (h0 : (j 0).val = t.val * 256 + (i 0).val)
    (h1 : (j 1).val = (i 1).val) : iblk m c 2 t i = resid m c j := by
  show V m c main_arg2 (((cfg0.win 2).blk t).view.emb i) = _
  rw [V_main_arg2]
  refine congrArg (resid m c) (funext fun b => Fin.ext ?_)
  match b with
  | 0 => blk_simp [idx2, h0]
  | 1 => blk_simp [idx2, h1]
theorem b3 (t : Fin cfg0.N) (i : S1x2048.Idx) : iblk m c 3 t i = gain m c i := by
  show V m c main_arg3 (((cfg0.win 3).blk t).view.emb i) = _
  rw [V_main_arg3]
  refine congrArg (gain m c) (funext fun b => Fin.ext ?_)
  match b with
  | 0 => blk_simp [idx3]
  | 1 => blk_simp [idx3]

/-- A point's block lies in the stream where its window says. -/
theorem value (t : Fin cfg0.N) (y : S256x2048.Idx) (i : S4096x2048.Idx) (h0 : (i 0).val = t.val * 256 + (y 0).val)
    (h1 : (i 1).val = (y 1).val) :
    rows (iblk m c 0 t) (iblk m c 1 t) (iblk m c 2 t) y = stream (acts m c) (weight m c) (resid m c) i := by
  refine congrArg₂ (· + ·) (b2 m c t y i h0 h1) (Finset.sum_congr rfl fun k _ =>
    congrArg₂ (· * ·) (b0 m c t _ _ h0 rfl) ((b1 m c t _).trans (congrArg (weight m c) (funext fun b => Fin.ext ?_))))
  match b with
  | 0 => rfl
  | 1 => exact h1.symm

theorem value' (t : Fin cfg0.N) (y : S256x2048.Idx) (i : S4096x2048.Idx) (h0 : (i 0).val = t.val * 256 + (y 0).val)
    (h1 : (i 1).val = (y 1).val) :
    (outsAt0 (F := Ideal) m c t).2 y = normed (acts m c) (weight m c) (resid m c) (gain m c) i := by
  refine (block5 m c t y).trans (congrArg₂ (· * ·) (congrArg₂ (· * ·) (value m c t y i h0 h1)
    (congrArg Norm.scale (funext fun k => value m c t _ _ h0 rfl))) ((b3 m c t _).trans
      (congrArg (gain m c) (funext fun b => Fin.ext ?_))))
  match b with
  | 0 => rfl
  | 1 => exact h1.symm

theorem out4 : (dats m 0 c).arrAt 4 cfg0.N = stream (acts m c) (weight m c) (resid m c) := by
  refine (dats m 0 c).arrAt_eq_of_covers 4 _ (by decide +kernel) fun t hf y => ?_
  blk_simp [idx4]
  rw [after0_4, block4]
  refine value m c t y _ ?_ ?_ <;> blk_simp [idx4]

theorem out5 : (dats m 0 c).arrAt 5 cfg0.N = normed (acts m c) (weight m c) (resid m c) (gain m c) := by
  refine (dats m 0 c).arrAt_eq_of_covers 5 _ (by decide +kernel) fun t hf y => ?_
  blk_simp [idx5]
  rw [after0_5]
  refine value' m c t y _ ?_ ?_ <;> blk_simp [idx5]

end

/-- What the kernel leaves in its results. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = stream (acts m c) (weight m c) (resid m c)
      ∧ r.2.mem ((c.tc : Thread nD τ).loc main_v0_1) = normed (acts m c) (weight m c) (resid m c) (gain m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (out4 m c), (h c).2.1.trans (out5 m c), (h c).2.2⟩)
    (Cert.Kernel10Ideal.Value.run_blocks (F := Ideal) m ρ)

end Kernel

/-! ### The reference -/

section Reference

open Cert.Reference10Ideal Cert.Reference10Ideal.Gen Cert.Reference10Ideal.Read

variable (a : S4096x2048.Idx → EReal) (w : S2048x2048.Idx → EReal) (x : S4096x2048.Idx → EReal) (g : S1x2048.Idx → EReal)

theorem reference4 : val_main_v3 (F := Ideal) a w x = stream a w x := by
  funext i
  rw [val_main_v3_apply, val_main_v2_apply]
  refine congrArg (x i + ·) (Finset.sum_congr rfl fun k _ => ?_)
  rw [val_main_v0_apply, val_main_v1_apply]
  refine congrArg₂ (· * ·) (congrArg a (funext fun b => ?_)) (congrArg w (funext fun b => ?_))
  · match b with
    | 0 => rfl
    | 1 => rfl
  · match b with
    | 0 => rfl
    | 1 => rfl

theorem reference5 : val_main_v18 (F := Ideal) a w x g = normed a w x g := by
  funext i
  simp only [val_main_v18_apply, val_main_v17_apply, val_main_v16_apply, val_main_v15_apply, val_main_v14_apply, val_main_v13_apply,
    val_main_v12_apply, val_main_v11_apply, val_main_v10_apply, val_main_v9_apply, val_main_v8_apply, val_main_v7_apply,
    val_main_v6_apply, val_main_v5_apply, val_main_v4_apply, val_main_cst_apply, val_main_cst_0_apply, val_main_cst_1_apply]
  rw [reference4]
  have e : ∀ k, idx_main_v6 (idx_main_v7 (idx_main_v13 i)) k = ix2 (i 0) k := fun k => funext fun b => by
    match b with
    | 0 => rfl
    | 1 => rfl
  simp only [e]
  show stream a w x i * Ideal.rsqrt (Ideal.div (Ideal.ofBits .f32 0x00000000#32 + ∑ k : Fin 2048, stream a w x (ix2 (i 0) k)
    * stream a w x (ix2 (i 0) k)) (Ideal.ofBits .f32 0x45000000#32) + Ideal.ofBits .f32 0x358637BD#32) * g _ = _
  rw [word_zero, Norm.word_2048, word_eps, EReal.coe_zero, zero_add]
  refine congrArg (_ * g ·) (funext fun b => Fin.ext ?_)
  match b with
  | 0 => rfl
  | 1 => exact Nat.mod_eq_of_lt (i 1).isLt

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = stream (m ((c.tc : Thread nD τ).loc main_arg0))
        (m ((c.tc : Thread nD τ).loc main_arg1)) (m ((c.tc : Thread nD τ).loc main_arg2))
      ∧ r.2.mem ((c.tc : Thread nD τ).loc main_v18) = normed (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1.trans (val_main_v3_eq _ _ _)).trans (reference4 _ _ _),
    ((h c).2.1.trans (val_main_v18_eq _ _ _ _)).trans (reference5 _ _ _ _), (h c).2.2⟩)
    (Cert.Reference10Ideal.Value.run (F := Ideal) m ρ)

/-- The reference declares no semaphore. -/
theorem frame_reference : Cert.quiescent_Reference10Ideal := fun m ρ _ =>
  (θ_run defs _ _).mono (fun r h => ⟨fun c => (h c).2.2, sem_eq_zero_of_no_sems (by decide) r.2⟩) (reference_run m ρ)

end Reference

theorem algebraic : Cert.algebraic_Kernel10Ideal_Reference10Ideal := by
  intro m ρ m' ρ' _ hm
  refine ⟨_, _, run m ρ, (θ_run _ _ _).mono (fun r h c => ⟨(h c).1.trans ?_, (h c).2.1.trans ?_, (h c).2.2⟩) (reference_run m' ρ')⟩
  · rw [(hm c).1, (hm c).2.1, (hm c).2.2.1]
    rfl
  · rw [(hm c).1, (hm c).2.1, (hm c).2.2.1, (hm c).2.2.2]
    rfl

end Cert.Proof.Outproj

end
-- ==== Proof.NormBwd.lean ====
/- The last step of a product followed by the gradient of a normalisation: loads from an accumulator that is filled in halves
   and parts, the gradient of a block of 128 rows, and the sums over its rows. -/
module

public import proofs.«01_k».proof.Proof.Norm
public import proofs.«01_k».proof.Proof.Gen.Kernel11Ideal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.NormBwd

open Idealize.ShloMosaic
open scoped BigOperators

section Loads

variable {Val : EltTy → Type} [∀ e, Nonempty (Val e)] {S : Shape} {e : EltTy} {sig : RefSig} {κ : Kind} {sp : Space}

/-- A load of a rectangle the first `n` stores cover reads `G`, when these stores are blocks of `G`. -/
theorem load (n : ℕ) (G : S.Idx → Val e) (v : View sig κ sp S e) (r : Rect S) (L : List (View.Piece Val S e))
    (h : View.PiecesOf G (L.take n)) (hc : ∀ x, ∃ p ∈ L.take n, r.idx x ∈ p.1.set) :
    v.readCov L r.toLoadRect = View.ld G r := by
  rw [View.readCov_eq_canon']
  funext j
  show View.canon L (r.idx j) = G (r.idx j)
  conv_lhs => rw [← List.take_append_drop n L]
  exact View.canon_append_of_piecesOf G _ _ h _ (hc j)

/-- Four stores of 256 rows, from row `a` on, and 512 columns each cover 128 of these rows. -/
theorem cover_half {a o : ℕ} (ho : a ≤ o ∧ o + 128 ≤ a + 256)
    (inb : ∀ i, (![o, 0] : Fin 2 → ℕ) i + (![128, 2048] : Fin 2 → ℕ) i ≤ (⟨2, ![512, 2048]⟩ : Shape).size i)
    (i3 i2 i1 i0 w3 w2 w1 w0) (x : (⟨2, ![128, 2048]⟩ : Shape).Idx) :
    ∃ p ∈ ([⟨Rect.unit (s := ⟨2, ![512, 2048]⟩) ![a, 1536] ![256, 512] i3, w3⟩, ⟨Rect.unit ![a, 1024] ![256, 512] i2, w2⟩,
      ⟨Rect.unit ![a, 512] ![256, 512] i1, w1⟩, ⟨Rect.unit ![a, 0] ![256, 512] i0, w0⟩] : List (View.Piece Val ⟨2, ![512, 2048]⟩ e)),
      (Rect.unit (s := ⟨2, ![512, 2048]⟩) ![o, 0] ![128, 2048] inb).idx x ∈ p.1.set := by
  have h0 : (x 0).val < 128 := (x 0).isLt
  have h1 : (x 1).val < 2048 := (x 1).isLt
  have mem : ∀ (q : ℕ) (hq : q ≤ (x 1).val ∧ (x 1).val < q + 512) (iq),
      (Rect.unit (s := ⟨2, ![512, 2048]⟩) ![o, 0] ![128, 2048] inb).idx x
        ∈ (Rect.unit (s := ⟨2, ![512, 2048]⟩) ![a, q] ![256, 512] iq).set := fun q hq iq => by
    rw [Rect.mem_set_unit]
    intro b
    match b with
    | 0 => show a ≤ o + 1 * (x 0).val ∧ o + 1 * (x 0).val < a + 256; omega
    | 1 => show q ≤ 0 + 1 * (x 1).val ∧ 0 + 1 * (x 1).val < q + 512; omega
  by_cases c3 : 1536 ≤ (x 1).val
  · exact ⟨_, List.mem_cons_self .., mem 1536 ⟨c3, by omega⟩ i3⟩
  by_cases c2 : 1024 ≤ (x 1).val
  · exact ⟨_, List.mem_cons_of_mem _ (List.mem_cons_self ..), mem 1024 ⟨c2, by omega⟩ i2⟩
  by_cases c1 : 512 ≤ (x 1).val
  · exact ⟨_, List.mem_cons_of_mem _ (List.mem_cons_of_mem _ (List.mem_cons_self ..)), mem 512 ⟨c1, by omega⟩ i1⟩
  · exact ⟨_, List.mem_cons_of_mem _ (List.mem_cons_of_mem _ (List.mem_cons_of_mem _ (List.mem_cons_self ..))), mem 0 ⟨by omega, by omega⟩ i0⟩

end Loads

/-- A sum over blocks of `b` numbers each. -/
theorem sum_blocks (f : ℕ → EReal) (b : ℕ) : ∀ a, ∑ n ∈ Finset.range a, ∑ r : Fin b, f (n * b + r.val) = ∑ s ∈ Finset.range (a * b), f s
  | 0 => by rw [Nat.zero_mul]; rfl
  | a + 1 => by
    rw [Finset.sum_range_succ, sum_blocks f b a, Nat.add_mul, Nat.one_mul, Finset.sum_range_add,
      Fin.sum_univ_eq_sum_range (fun r => f (a * b + r)) b]

/-- A sum of four blocks, one after the other. -/
theorem sum_four (f : ℕ → EReal) (b : ℕ) (p : EReal) :
    p + ∑ r : Fin b, f (0 + r.val) + ∑ r : Fin b, f (b + r.val) + ∑ r : Fin b, f (2 * b + r.val) + ∑ r : Fin b, f (3 * b + r.val)
      = p + ∑ s : Fin (4 * b), f s.val := by
  rw [Fin.sum_univ_eq_sum_range f, ← sum_blocks f b 4]
  simp only [Finset.sum_range_succ, Finset.sum_range_zero, zero_add, Nat.zero_mul, Nat.one_mul, add_assoc]

section Rows

open Cert.Kernel11Ideal Cert.Kernel11Ideal.Gen

/-- The gradient of a block of rows `X` with scale `g`, residual `R` and cotangent `D` of the normalised and scaled rows. -/
def grad {n : ℕ} (X R D : (⟨2, ![n, 2048]⟩ : Shape).Idx → EReal) (g : S1x2048.Idx → EReal) :
    (⟨2, ![n, 2048]⟩ : Shape).Idx → EReal := fun i =>
  R i + Norm.grad (fun k => X (ix2 (i 0) k)) (fun k => D (ix2 (i 0) k) * g (ix2 0 k)) (i 1)

/-- What a row gives to the gradient of the scale. -/
def gain {n : ℕ} (X D : (⟨2, ![n, 2048]⟩ : Shape).Idx → EReal) : (⟨2, ![n, 2048]⟩ : Shape).Idx → EReal := fun i =>
  D i * (X i * Norm.scale fun k => X (ix2 (i 0) k))

/-- The gradient as the rule for a quotient and a root gives it, term by term. -/
theorem grad_read {n : ℕ} (X R D : (⟨2, ![n, 2048]⟩ : Shape).Idx → EReal) (g : S1x2048.Idx → EReal) (i : (⟨2, ![n, 2048]⟩ : Shape).Idx) :
    R i + D i * g (ix2 0 (i 1)) * Norm.scale (fun k => X (ix2 (i 0) k))
      + X i * Norm.slope (fun k => X (ix2 (i 0) k)) (fun k => D (ix2 (i 0) k) * g (ix2 0 k))
      + Norm.slope (fun k => X (ix2 (i 0) k)) (fun k => D (ix2 (i 0) k) * g (ix2 0 k)) * X i = grad X R D g i := by
  have e : i = ix2 (i 0) (i 1) := funext fun b => by
    match b with
    | 0 => rfl
    | 1 => rfl
  rw [add_assoc, add_assoc]
  exact congrArg (R i + ·) ((congrArg₂ (fun p q : EReal => p * g (ix2 0 (i 1)) * Norm.scale (fun k => X (ix2 (i 0) k))
    + (q * Norm.slope (fun k => X (ix2 (i 0) k)) (fun k => D (ix2 (i 0) k) * g (ix2 0 k))
      + Norm.slope (fun k => X (ix2 (i 0) k)) (fun k => D (ix2 (i 0) k) * g (ix2 0 k)) * q)) (congrArg D e) (congrArg X e)).trans
    (Norm.grad_eq (fun k => X (ix2 (i 0) k)) (fun k => D (ix2 (i 0) k) * g (ix2 0 k)) (i 1)).symm)

/-- The gradient at an entry reads one row of the stream and of the product. -/
theorem grad_congr {n n' : ℕ} {X R D : (⟨2, ![n, 2048]⟩ : Shape).Idx → EReal} {g g' : S1x2048.Idx → EReal}
    {X' R' D' : (⟨2, ![n', 2048]⟩ : Shape).Idx → EReal} (i : (⟨2, ![n, 2048]⟩ : Shape).Idx) (j : (⟨2, ![n', 2048]⟩ : Shape).Idx)
    (h1 : i 1 = j 1) (hX : ∀ k, X (ix2 (i 0) k) = X' (ix2 (j 0) k)) (hR : R i = R' j)
    (hD : ∀ k, D (ix2 (i 0) k) = D' (ix2 (j 0) k)) (hg : ∀ k, g (ix2 0 k) = g' (ix2 0 k)) : grad X R D g i = grad X' R' D' g' j := by
  refine congrArg₂ (· + ·) hR ?_
  rw [(funext hX : (fun k => X (ix2 (i 0) k)) = fun k => X' (ix2 (j 0) k)),
    (funext fun k => congrArg₂ (· * ·) (hD k) (hg k) : (fun k => D (ix2 (i 0) k) * g (ix2 0 k)) = fun k => D' (ix2 (j 0) k) * g' (ix2 0 k)), h1]

theorem gain_congr {n n' : ℕ} {X D : (⟨2, ![n, 2048]⟩ : Shape).Idx → EReal} {X' D' : (⟨2, ![n', 2048]⟩ : Shape).Idx → EReal}
    (i : (⟨2, ![n, 2048]⟩ : Shape).Idx) (j : (⟨2, ![n', 2048]⟩ : Shape).Idx) (hx : X i = X' j)
    (hX : ∀ k, X (ix2 (i 0) k) = X' (ix2 (j 0) k)) (hD : D i = D' j) : gain X D i = gain X' D' j :=
  congrArg₂ (· * ·) hD (congrArg₂ (· * ·) hx (congrArg Norm.scale (funext hX)))

/-- The gradient of the scale: the sum over all rows. -/
def slope {n : ℕ} (X D : (⟨2, ![n, 2048]⟩ : Shape).Idx → EReal) : S1x2048.Idx → EReal := fun i => ∑ r : Fin n, gain X D (ix2 r (i 1))

theorem grad_pay (R : FVec Ideal S128x2048 .bf16) (X D : FVec Ideal S128x2048 .f32) (g : FVec Ideal S1x2048 .f32) (i : S128x2048.Idx) :
    k0_pay20 (F := Ideal) (k0_pay14 R) (k0_pay18 g D X) (k0_pay19 X) i = grad X R D g i := by
  idx_vars i
  unfold_payloads
  pointwise [Norm.word_2048, word_eps]
  rfl

theorem gain_pay (X D : FVec Ideal S128x2048 .f32) (i : S1x2048.Idx) :
    k0_pay17 (F := Ideal) D X i = ∑ r : Fin 128, gain X D (ix2 r (i 1)) := by
  idx_vars i
  unfold_payloads
  pointwise [Norm.word_2048, word_eps]
  rfl

/-- Loads of 128 rows, from row `o` on, of the arguments give the same rows of the gradient. -/
theorem grad_ld (X R D : S512x2048.Idx → EReal) (g : S1x2048.Idx → EReal) (o : ℕ)
    (inb : ∀ i, (![o, 0] : Fin 2 → ℕ) i + (![128, 2048] : Fin 2 → ℕ) i ≤ S512x2048.size i) (i : S128x2048.Idx) :
    grad (n := 128) (View.ld (Val := Elt Ideal) (e' := .f32) X (Rect.unit (s := S512x2048) ![o, 0] ![128, 2048] inb))
        (View.ld (Val := Elt Ideal) (e' := .f32) R (Rect.unit (s := S512x2048) ![o, 0] ![128, 2048] inb))
        (View.ld (Val := Elt Ideal) (e' := .f32) D (Rect.unit (s := S512x2048) ![o, 0] ![128, 2048] inb)) g i
      = grad (n := 512) X R D g ((Rect.unit (s := S512x2048) ![o, 0] ![128, 2048] inb).emb i) := by
  have e : ∀ k : Fin 2048, (Rect.unit (s := S512x2048) ![o, 0] ![128, 2048] inb).idx (ix2 (i 0) k)
      = ix2 ((Rect.unit (s := S512x2048) ![o, 0] ![128, 2048] inb).emb i 0) k := fun k => funext fun b => Fin.ext (by
    match b with
    | 0 => rfl
    | 1 => show 0 + 1 * k.val = k.val; omega)
  have e1 : i 1 = (Rect.unit (s := S512x2048) ![o, 0] ![128, 2048] inb).emb i 1 :=
    Fin.ext (by show (i 1).val = 0 + 1 * (i 1).val; omega)
  unfold grad View.ld
  simp only [e]
  rw [e1]
  rfl

theorem gain_ld (X D : S512x2048.Idx → EReal) (o : ℕ)
    (inb : ∀ i, (![o, 0] : Fin 2 → ℕ) i + (![128, 2048] : Fin 2 → ℕ) i ≤ S512x2048.size i) (i : S128x2048.Idx) :
    gain (n := 128) (View.ld (Val := Elt Ideal) (e' := .f32) X (Rect.unit (s := S512x2048) ![o, 0] ![128, 2048] inb))
        (View.ld (Val := Elt Ideal) (e' := .f32) D (Rect.unit (s := S512x2048) ![o, 0] ![128, 2048] inb)) i
      = gain (n := 512) X D ((Rect.unit (s := S512x2048) ![o, 0] ![128, 2048] inb).emb i) := by
  have e : ∀ k : Fin 2048, (Rect.unit (s := S512x2048) ![o, 0] ![128, 2048] inb).idx (ix2 (i 0) k)
      = ix2 ((Rect.unit (s := S512x2048) ![o, 0] ![128, 2048] inb).emb i 0) k := fun k => funext fun b => Fin.ext (by
    match b with
    | 0 => rfl
    | 1 => show 0 + 1 * k.val = k.val; omega)
  unfold gain View.ld
  simp only [e]
  rfl

/-- The gradient of the scale: what was there and what 512 rows give. -/
def added (X D : S512x2048.Idx → EReal) (P : S1x2048.Idx → EReal) : S1x2048.Idx → EReal := fun i =>
  P i + ∑ r : Fin 512, gain (n := 512) X D (ix2 r (i 1))

/-- The sum over 512 rows, taken from four loads of 128 rows. -/
theorem gain_sum (X D : S512x2048.Idx → EReal) (P : S1x2048.Idx → EReal)
    (i0 : ∀ i, (![0, 0] : Fin 2 → ℕ) i + (![128, 2048] : Fin 2 → ℕ) i ≤ S512x2048.size i)
    (i1 : ∀ i, (![128, 0] : Fin 2 → ℕ) i + (![128, 2048] : Fin 2 → ℕ) i ≤ S512x2048.size i)
    (i2 : ∀ i, (![256, 0] : Fin 2 → ℕ) i + (![128, 2048] : Fin 2 → ℕ) i ≤ S512x2048.size i)
    (i3 : ∀ i, (![384, 0] : Fin 2 → ℕ) i + (![128, 2048] : Fin 2 → ℕ) i ≤ S512x2048.size i) (i : S1x2048.Idx) :
    k0_pay21 (F := Ideal) (k0_pay17
        (View.ld (Val := Elt Ideal) (e' := .f32) D (Rect.unit (s := S512x2048) ![384, 0] ![128, 2048] i3))
        (View.ld (Val := Elt Ideal) (e' := .f32) X (Rect.unit (s := S512x2048) ![384, 0] ![128, 2048] i3)))
      (k0_pay21 (F := Ideal) (k0_pay17
        (View.ld (Val := Elt Ideal) (e' := .f32) D (Rect.unit (s := S512x2048) ![256, 0] ![128, 2048] i2))
        (View.ld (Val := Elt Ideal) (e' := .f32) X (Rect.unit (s := S512x2048) ![256, 0] ![128, 2048] i2)))
      (k0_pay21 (F := Ideal) (k0_pay17
        (View.ld (Val := Elt Ideal) (e' := .f32) D (Rect.unit (s := S512x2048) ![128, 0] ![128, 2048] i1))
        (View.ld (Val := Elt Ideal) (e' := .f32) X (Rect.unit (s := S512x2048) ![128, 0] ![128, 2048] i1)))
      (k0_pay21 (F := Ideal) (k0_pay17
        (View.ld (Val := Elt Ideal) (e' := .f32) D (Rect.unit (s := S512x2048) ![0, 0] ![128, 2048] i0))
        (View.ld (Val := Elt Ideal) (e' := .f32) X (Rect.unit (s := S512x2048) ![0, 0] ![128, 2048] i0))) P))) i
      = added X D P i := by
  have add : ∀ (v P : FVec Ideal S1x2048 .f32) (i : S1x2048.Idx), k0_pay21 (F := Ideal) v P i = P i + v i := fun v P i => by
    idx_vars i
    unfold_payloads
    pointwise
  let f : ℕ → EReal := fun s => if h : s < 512 then gain (n := 512) X D (ix2 ⟨s, h⟩ (i 1)) else 0
  have part : ∀ (o : ℕ) (ho : o + 128 ≤ 512) (inb : ∀ i, (![o, 0] : Fin 2 → ℕ) i + (![128, 2048] : Fin 2 → ℕ) i ≤ S512x2048.size i),
      k0_pay17 (F := Ideal) (View.ld (Val := Elt Ideal) (e' := .f32) D (Rect.unit (s := S512x2048) ![o, 0] ![128, 2048] inb))
        (View.ld (Val := Elt Ideal) (e' := .f32) X (Rect.unit (s := S512x2048) ![o, 0] ![128, 2048] inb)) i
        = ∑ r : Fin 128, f (o + r.val) := fun o ho inb => by
    refine (gain_pay _ _ i).trans (Finset.sum_congr rfl fun r _ => (gain_ld X D o inb _).trans ?_)
    have hr : o + r.val < 512 := by have := r.isLt; omega
    show _ = if h : o + r.val < 512 then gain (n := 512) X D (ix2 ⟨o + r.val, h⟩ (i 1)) else 0
    rw [dif_pos hr]
    refine congrArg (gain (n := 512) X D) (funext fun b => Fin.ext ?_)
    match b with
    | 0 => show o + 1 * r.val = o + r.val; omega
    | 1 => show 0 + 1 * (i 1).val = (i 1).val; omega
  rw [add, add, add, add, part 0 (by decide), part 128 (by decide), part 256 (by decide), part 384 (by decide)]
  refine (sum_four f 128 (P i)).trans (congrArg (P i + ·) (Finset.sum_congr rfl fun s _ => ?_))
  exact dif_pos s.isLt

end Rows

end Cert.Proof.NormBwd

end
-- ==== Proof.Dh2.lean ====
/- The gradient of the stream before the squared-ReLU network: for every 512 rows the kernel's four grid points add up a
   product, and the last one takes the gradient of the normalisation and adds to the gradient of its scale. -/
module

public import proofs.«01_k».proof.Defs
public import proofs.«01_k».proof.Proof.NormBwd
public import proofs.«01_k».proof.Proof.Products
public import proofs.«01_k».proof.Proof.KerLoad
public import proofs.«01_k».proof.Proof.Gen.Kernel11Ideal.Value
public import proofs.«01_k».proof.Proof.Gen.Reference11Ideal.Read
public import Idealize.ShloMosaic.Lib.Claim
public import Idealize.ShloMosaic.Adequacy
public import Idealize.ShloMosaic.Init

@[expose] public section

set_option maxRecDepth 16384

noncomputable section

namespace Cert.Proof.Dh2

open Idealize.ShloMosaic Idealize.SL.Sem
open scoped BigOperators

/-- The rows times the transposed matrix, whose 8192 columns lie in four pieces. -/
def prod (a : Cert.Kernel11Ideal.S4096x8192.Idx → EReal) (w : Cert.Kernel11Ideal.S4x2048x2048.Idx → EReal) :
    Cert.Kernel11Ideal.S4096x2048.Idx → EReal := fun i => ∑ k : Fin 8192, a (ix2 (i 0) k)
      * w (ix3 ⟨k.val / 2048, Nat.div_lt_of_lt_mul k.isLt⟩ (i 1) ⟨k.val % 2048, Nat.mod_lt _ (by decide)⟩)

section Kernel

open Cert.Kernel11Ideal Cert.Kernel11Ideal.Gen Cert.Kernel11Ideal.Value

/-- An entry of a block's product. -/
def piece (x : S512x2048.Idx → EReal) (w : S1x2048x2048.Idx → EReal) (i : S512x2048.Idx) : EReal :=
  ∑ k : Fin 2048, x (ix2 (i 0) k) * w (ix3 0 (i 1) k)

/-- A block's product added to what the accumulator held. -/
def acc (P : S512x2048.Idx → EReal) (x : S512x2048.Idx → EReal) (w : S1x2048x2048.Idx → EReal) : S512x2048.Idx → EReal :=
  fun i => P i + ∑ k : Fin 2048, x (ix2 (i 0) k) * w (ix3 0 (i 1) k)

/-- The product of 512 rows with 512 rows of the matrix, added to what the accumulator held, entry by entry. -/
theorem product (x : FVec Ideal S512x2048 .bf16) (P : FVec Ideal S512x512 .f32) (w : FVec Ideal S1x512x2048 .bf16)
    (i : S512x512.Idx) : k0_pay5 (F := Ideal) x P w i = P i + ∑ k : Fin 2048, x (ix2 (i 0) k) * w (ix3 0 (i 1) k) := by
  idx_vars i
  unfold_payloads
  pointwise [word_zero]
  rw [EReal.coe_zero, zero_add]

/-- The same for 256 rows. -/
theorem product' (x : FVec Ideal S256x2048 .bf16) (P : FVec Ideal S256x512 .f32) (w : FVec Ideal S1x512x2048 .bf16)
    (i : S256x512.Idx) : k0_pay9 (F := Ideal) x P w i = P i + ∑ k : Fin 2048, x (ix2 (i 0) k) * w (ix3 0 (i 1) k) := by
  idx_vars i
  unfold_payloads
  pointwise [word_zero]
  rw [EReal.coe_zero, zero_add]

/-- One part of a block: 512 columns, from column `o` on. -/
theorem part (x : FVec Ideal S512x2048 .bf16) (P : FVec Ideal S512x2048 .f32) (w : FVec Ideal S1x2048x2048 .bf16) (o : ℕ)
    (inb : ∀ i, (![0, o] : Fin 2 → ℕ) i + S512x512.size i ≤ S512x2048.size i)
    (inb' : ∀ i, (![0, o, 0] : Fin 3 → ℕ) i + S1x512x2048.size i ≤ S1x2048x2048.size i) (i : S512x512.Idx) :
    k0_pay5 (F := Ideal) x (View.ld (Val := Elt Ideal) P (Rect.unit (s := S512x2048) ![0, o] S512x512.size inb))
        (View.ld (Val := Elt Ideal) w (Rect.unit (s := S1x2048x2048) ![0, o, 0] S1x512x2048.size inb')) i
      = acc P x w ((Rect.unit (s := S512x2048) ![0, o] S512x512.size inb).emb i) := by
  refine (product _ _ _ i).trans (congrArg₂ (· + ·) rfl (Finset.sum_congr rfl fun k _ =>
    congrArg₂ (· * ·) (congrArg x (funext fun b => Fin.ext ?_)) (congrArg w (funext fun b => Fin.ext ?_))))
  · match b with
    | 0 => show (i 0).val = 0 + 1 * (i 0).val; omega
    | 1 => rfl
  · match b with
    | 0 => rfl
    | 1 => rfl
    | 2 => show 0 + 1 * k.val = k.val; omega

/-- One part of half a block: 256 rows, from row `a` on, and 512 columns, from column `o` on. -/
theorem part' (x : FVec Ideal S512x2048 .bf16) (P : FVec Ideal S512x2048 .f32) (w : FVec Ideal S1x2048x2048 .bf16) (a o : ℕ)
    (inx : ∀ i, (![a, 0] : Fin 2 → ℕ) i + S256x2048.size i ≤ S512x2048.size i)
    (inb : ∀ i, (![a, o] : Fin 2 → ℕ) i + S256x512.size i ≤ S512x2048.size i)
    (inb' : ∀ i, (![0, o, 0] : Fin 3 → ℕ) i + S1x512x2048.size i ≤ S1x2048x2048.size i) (i : S256x512.Idx) :
    k0_pay9 (F := Ideal) (View.ld (Val := Elt Ideal) x (Rect.unit (s := S512x2048) ![a, 0] S256x2048.size inx))
        (View.ld (Val := Elt Ideal) P (Rect.unit (s := S512x2048) ![a, o] S256x512.size inb))
        (View.ld (Val := Elt Ideal) w (Rect.unit (s := S1x2048x2048) ![0, o, 0] S1x512x2048.size inb')) i
      = acc P x w ((Rect.unit (s := S512x2048) ![a, o] S256x512.size inb).emb i) := by
  refine (product' _ _ _ i).trans (congrArg₂ (· + ·) rfl (Finset.sum_congr rfl fun k _ =>
    congrArg₂ (· * ·) (congrArg x (funext fun b => Fin.ext ?_)) (congrArg w (funext fun b => Fin.ext ?_))))
  · match b with
    | 0 => rfl
    | 1 => show 0 + 1 * k.val = k.val; omega
  · match b with
    | 0 => rfl
    | 1 => rfl
    | 2 => show 0 + 1 * k.val = k.val; omega

section
variable (m : (ℓ : Loc nD τ sig) → Buf (Elt Ideal) ℓ) (c : Dev nD) (t : Fin cfg0.N)

/-- What the point before left in the accumulator and in the gradient of the scale. -/
abbrev before : S512x2048.Idx → EReal := (outsAt0 (F := Ideal) m c (t.val - 1) (Nat.lt_of_le_of_lt (Nat.sub_le _ _) t.isLt)).2.2
abbrev beforeG : S1x2048.Idx → EReal := (outsAt0 (F := Ideal) m c (t.val - 1) (Nat.lt_of_le_of_lt (Nat.sub_le _ _) t.isLt)).2.1

/-- The first point of a block of rows starts the accumulator. -/
theorem acc_A (h0 : t.val % 4 = 0) (h1 : t.val % 4 ≤ 2) (h2 : ¬t.val % 4 = 3) :
    (outsAt0 (F := Ideal) m c t.val t.isLt).2.2 = acc (k0_pay1 (F := Ideal)) (iblk m c 0 t) (iblk m c 1 t) := by
  rw [outsAt0_A m c t h0 h1 h2]
  dsimp only
  frame_open
  simp (disch := decide) only [↓ View.readCov_skip, ↓ View.readCov_cons_toLoadRect, ↓ View.readCov_fill]
  frame_out
  exact Ker.canon_take 4 _ _ ⟨part _ _ _ 1536 _ _, part _ _ _ 1024 _ _, part _ _ _ 512 _ _, part _ _ _ 0 _ _, trivial⟩
    (View.cover_of_tiledL _ S512x512.size (by sl_kernel_rfl))

/-- The two next points add to it. -/
theorem acc_B (h0 : ¬t.val % 4 = 0) (h1 : t.val % 4 ≤ 2) (h2 : ¬t.val % 4 = 3) :
    (outsAt0 (F := Ideal) m c t.val t.isLt).2.2 = acc (before m c t) (iblk m c 0 t) (iblk m c 1 t) := by
  rw [outsAt0_B m c t h0 h1 h2]
  dsimp only
  frame_open
  simp (disch := decide) only [↓ View.readCov_skip, ↓ View.readCov_cons_toLoadRect, ↓ View.readCov_fill]
  frame_out
  simp only [read_unread_whole]
  exact Products.canon_of_pieces (e := .f32) _ _ ⟨part _ _ _ 1536 _ _, part _ _ _ 1024 _ _, part _ _ _ 512 _ _,
    part _ _ _ 0 _ _, trivial⟩ (View.cover_of_tiledL _ S512x512.size (by sl_kernel_rfl))

/-- The points before the last one of a block of rows keep the gradient of the scale. -/
theorem gain_A (h0 : t.val % 4 = 0) (h1 : t.val % 4 ≤ 2) (h2 : ¬t.val % 4 = 3) :
    (outsAt0 (F := Ideal) m c t.val t.isLt).2.1 = beforeG m c t := by
  rw [outsAt0_A m c t h0 h1 h2]
  rfl
theorem gain_B (h0 : ¬t.val % 4 = 0) (h1 : t.val % 4 ≤ 2) (h2 : ¬t.val % 4 = 3) :
    (outsAt0 (F := Ideal) m c t.val t.isLt).2.1 = beforeG m c t := by
  rw [outsAt0_B m c t h0 h1 h2]
  rfl

/-- The accumulator after the last point of a block of rows. -/
abbrev total : S512x2048.Idx → EReal := acc (before m c t) (iblk m c 0 t) (iblk m c 1 t)

/-- The last point of a block of rows stores the gradient. -/
theorem grad_C (h0 : ¬t.val % 4 = 0) (h1 : ¬t.val % 4 ≤ 2) (h2 : t.val % 4 = 3) (h3 : t.val < 4) :
    (outsAt0 (F := Ideal) m c t.val t.isLt).1
      = NormBwd.grad (n := 512) (iblk m c 2 t) (iblk m c 3 t) (total m c t) (iblk m c 4 t) := by
  rw [outsAt0_C m c t h0 h1 h2 h3]
  dsimp only
  frame_open
  simp (disch := decide) only [↓ View.readCov_skip, ↓ View.readCov_cons_toLoadRect, ↓ View.readCov_fill]
  frame_out
  simp only [read_unread_whole]
  rw [NormBwd.load (e := .f32) 4 (total m c t) (View.whole cc0_scratch0) (Rect.unit ![0, 0] ![128, 2048] inb_S512x2048_S128x2048_0_0),
    NormBwd.load (e := .f32) 4 (total m c t) (View.whole cc0_scratch0) (Rect.unit ![128, 0] ![128, 2048] inb_S512x2048_S128x2048_128_0),
    NormBwd.load (e := .f32) 4 (total m c t) (View.whole cc0_scratch0) (Rect.unit ![256, 0] ![128, 2048] inb_S512x2048_S128x2048_256_0),
    NormBwd.load (e := .f32) 4 (total m c t) (View.whole cc0_scratch0) (Rect.unit ![384, 0] ![128, 2048] inb_S512x2048_S128x2048_384_0)]
  · exact Products.canon_of_pieces (e := .bf16) _ _ ⟨fun i => (NormBwd.grad_pay _ _ _ _ i).trans (NormBwd.grad_ld _ _ _ _ 384 _ i),
      fun i => (NormBwd.grad_pay _ _ _ _ i).trans (NormBwd.grad_ld _ _ _ _ 256 _ i),
      fun i => (NormBwd.grad_pay _ _ _ _ i).trans (NormBwd.grad_ld _ _ _ _ 128 _ i),
      fun i => (NormBwd.grad_pay _ _ _ _ i).trans (NormBwd.grad_ld _ _ _ _ 0 _ i), trivial⟩
      (View.cover_of_tiledL _ S128x2048.size (by sl_kernel_rfl))
  all_goals first
    | exact NormBwd.cover_half (a := 256) (o := 384) (by decide) _ _ _ _ _ _ _ _ _
    | exact NormBwd.cover_half (a := 256) (o := 256) (by decide) _ _ _ _ _ _ _ _ _
    | exact NormBwd.cover_half (a := 0) (o := 128) (by decide) _ _ _ _ _ _ _ _ _
    | exact NormBwd.cover_half (a := 0) (o := 0) (by decide) _ _ _ _ _ _ _ _ _
    | exact ⟨part' _ _ _ 256 1536 _ _ _, part' _ _ _ 256 1024 _ _ _, part' _ _ _ 256 512 _ _ _, part' _ _ _ 256 0 _ _ _, trivial⟩
    | exact ⟨part' _ _ _ 0 1536 _ _ _, part' _ _ _ 0 1024 _ _ _, part' _ _ _ 0 512 _ _ _, part' _ _ _ 0 0 _ _ _, trivial⟩

theorem grad_D (h0 : ¬t.val % 4 = 0) (h1 : ¬t.val % 4 ≤ 2) (h2 : t.val % 4 = 3) (h3 : ¬t.val < 4) :
    (outsAt0 (F := Ideal) m c t.val t.isLt).1
      = NormBwd.grad (n := 512) (iblk m c 2 t) (iblk m c 3 t) (total m c t) (iblk m c 4 t) := by
  rw [outsAt0_D m c t h0 h1 h2 h3]
  dsimp only
  frame_open
  simp (disch := decide) only [↓ View.readCov_skip, ↓ View.readCov_cons_toLoadRect, ↓ View.readCov_fill]
  frame_out
  simp only [read_unread_whole]
  rw [NormBwd.load (e := .f32) 4 (total m c t) (View.whole cc0_scratch0) (Rect.unit ![0, 0] ![128, 2048] inb_S512x2048_S128x2048_0_0),
    NormBwd.load (e := .f32) 4 (total m c t) (View.whole cc0_scratch0) (Rect.unit ![128, 0] ![128, 2048] inb_S512x2048_S128x2048_128_0),
    NormBwd.load (e := .f32) 4 (total m c t) (View.whole cc0_scratch0) (Rect.unit ![256, 0] ![128, 2048] inb_S512x2048_S128x2048_256_0),
    NormBwd.load (e := .f32) 4 (total m c t) (View.whole cc0_scratch0) (Rect.unit ![384, 0] ![128, 2048] inb_S512x2048_S128x2048_384_0)]
  · exact Products.canon_of_pieces (e := .bf16) _ _ ⟨fun i => (NormBwd.grad_pay _ _ _ _ i).trans (NormBwd.grad_ld _ _ _ _ 384 _ i),
      fun i => (NormBwd.grad_pay _ _ _ _ i).trans (NormBwd.grad_ld _ _ _ _ 256 _ i),
      fun i => (NormBwd.grad_pay _ _ _ _ i).trans (NormBwd.grad_ld _ _ _ _ 128 _ i),
      fun i => (NormBwd.grad_pay _ _ _ _ i).trans (NormBwd.grad_ld _ _ _ _ 0 _ i), trivial⟩
      (View.cover_of_tiledL _ S128x2048.size (by sl_kernel_rfl))
  all_goals first
    | exact NormBwd.cover_half (a := 256) (o := 384) (by decide) _ _ _ _ _ _ _ _ _
    | exact NormBwd.cover_half (a := 256) (o := 256) (by decide) _ _ _ _ _ _ _ _ _
    | exact NormBwd.cover_half (a := 0) (o := 128) (by decide) _ _ _ _ _ _ _ _ _
    | exact NormBwd.cover_half (a := 0) (o := 0) (by decide) _ _ _ _ _ _ _ _ _
    | exact ⟨part' _ _ _ 256 1536 _ _ _, part' _ _ _ 256 1024 _ _ _, part' _ _ _ 256 512 _ _ _, part' _ _ _ 256 0 _ _ _, trivial⟩
    | exact ⟨part' _ _ _ 0 1536 _ _ _, part' _ _ _ 0 1024 _ _ _, part' _ _ _ 0 512 _ _ _, part' _ _ _ 0 0 _ _ _, trivial⟩

/-- It adds to the gradient of the scale what the rows give. -/
theorem gain_C (h0 : ¬t.val % 4 = 0) (h1 : ¬t.val % 4 ≤ 2) (h2 : t.val % 4 = 3) (h3 : t.val < 4) :
    (outsAt0 (F := Ideal) m c t.val t.isLt).2.1
      = NormBwd.added (iblk m c 2 t) (total m c t) (k0_pay8 (F := Ideal)) := by
  rw [outsAt0_C m c t h0 h1 h2 h3]
  dsimp only
  frame_open
  simp (disch := decide) only [↓ View.readCov_skip, ↓ View.readCov_cons_toLoadRect, ↓ View.readCov_fill]
  frame_out
  simp only [read_unread_whole]
  rw [NormBwd.load (e := .f32) 4 (total m c t) (View.whole cc0_scratch0) (Rect.unit ![0, 0] ![128, 2048] inb_S512x2048_S128x2048_0_0),
    NormBwd.load (e := .f32) 4 (total m c t) (View.whole cc0_scratch0) (Rect.unit ![128, 0] ![128, 2048] inb_S512x2048_S128x2048_128_0),
    NormBwd.load (e := .f32) 4 (total m c t) (View.whole cc0_scratch0) (Rect.unit ![256, 0] ![128, 2048] inb_S512x2048_S128x2048_256_0),
    NormBwd.load (e := .f32) 4 (total m c t) (View.whole cc0_scratch0) (Rect.unit ![384, 0] ![128, 2048] inb_S512x2048_S128x2048_384_0)]
  · funext i
    exact NormBwd.gain_sum _ _ _ _ _ _ _ i
  all_goals first
    | exact NormBwd.cover_half (a := 256) (o := 384) (by decide) _ _ _ _ _ _ _ _ _
    | exact NormBwd.cover_half (a := 256) (o := 256) (by decide) _ _ _ _ _ _ _ _ _
    | exact NormBwd.cover_half (a := 0) (o := 128) (by decide) _ _ _ _ _ _ _ _ _
    | exact NormBwd.cover_half (a := 0) (o := 0) (by decide) _ _ _ _ _ _ _ _ _
    | exact ⟨part' _ _ _ 256 1536 _ _ _, part' _ _ _ 256 1024 _ _ _, part' _ _ _ 256 512 _ _ _, part' _ _ _ 256 0 _ _ _, trivial⟩
    | exact ⟨part' _ _ _ 0 1536 _ _ _, part' _ _ _ 0 1024 _ _ _, part' _ _ _ 0 512 _ _ _, part' _ _ _ 0 0 _ _ _, trivial⟩

theorem gain_D (h0 : ¬t.val % 4 = 0) (h1 : ¬t.val % 4 ≤ 2) (h2 : t.val % 4 = 3) (h3 : ¬t.val < 4) :
    (outsAt0 (F := Ideal) m c t.val t.isLt).2.1
      = NormBwd.added (iblk m c 2 t) (total m c t) (beforeG m c t) := by
  rw [outsAt0_D m c t h0 h1 h2 h3]
  dsimp only
  frame_open
  simp (disch := decide) only [↓ View.readCov_skip, ↓ View.readCov_cons_toLoadRect, ↓ View.readCov_fill]
  frame_out
  simp only [read_unread_whole]
  rw [NormBwd.load (e := .f32) 4 (total m c t) (View.whole cc0_scratch0) (Rect.unit ![0, 0] ![128, 2048] inb_S512x2048_S128x2048_0_0),
    NormBwd.load (e := .f32) 4 (total m c t) (View.whole cc0_scratch0) (Rect.unit ![128, 0] ![128, 2048] inb_S512x2048_S128x2048_128_0),
    NormBwd.load (e := .f32) 4 (total m c t) (View.whole cc0_scratch0) (Rect.unit ![256, 0] ![128, 2048] inb_S512x2048_S128x2048_256_0),
    NormBwd.load (e := .f32) 4 (total m c t) (View.whole cc0_scratch0) (Rect.unit ![384, 0] ![128, 2048] inb_S512x2048_S128x2048_384_0)]
  · funext i
    exact NormBwd.gain_sum _ _ _ _ _ _ _ i
  all_goals first
    | exact NormBwd.cover_half (a := 256) (o := 384) (by decide) _ _ _ _ _ _ _ _ _
    | exact NormBwd.cover_half (a := 256) (o := 256) (by decide) _ _ _ _ _ _ _ _ _
    | exact NormBwd.cover_half (a := 0) (o := 128) (by decide) _ _ _ _ _ _ _ _ _
    | exact NormBwd.cover_half (a := 0) (o := 0) (by decide) _ _ _ _ _ _ _ _ _
    | exact ⟨part' _ _ _ 256 1536 _ _ _, part' _ _ _ 256 1024 _ _ _, part' _ _ _ 256 512 _ _ _, part' _ _ _ 256 0 _ _ _, trivial⟩
    | exact ⟨part' _ _ _ 0 1536 _ _ _, part' _ _ _ 0 1024 _ _ _, part' _ _ _ 0 512 _ _ _, part' _ _ _ 0 0 _ _ _, trivial⟩

end

section
variable (m : (ℓ : Loc nD τ sig) → Buf (Elt Ideal) ℓ) (c : Dev nD)

theorem idx0 : ∀ t : Fin cfg0.N, win0_0.index t = ![t.val / 4, t.val % 4] := by decide +kernel
theorem idx1 : ∀ t : Fin cfg0.N, win0_1.index t = ![t.val % 4, 0, 0] := by decide +kernel
theorem idx2 : ∀ t : Fin cfg0.N, win0_2.index t = ![t.val / 4, 0] := by decide +kernel
theorem idx3 : ∀ t : Fin cfg0.N, win0_3.index t = ![t.val / 4, 0] := by decide +kernel
theorem idx4 : ∀ t : Fin cfg0.N, win0_4.index t = ![0, 0] := by decide +kernel
theorem idx5 : ∀ t : Fin cfg0.N, win0_5.index t = ![t.val / 4, 0] := by decide +kernel
theorem idx6 : ∀ t : Fin cfg0.N, win0_6.index t = ![0, 0] := by decide +kernel

/-- The arguments as arrays of numbers. -/
def act : S4096x8192.Idx → EReal := m ((c.tc : Thread nD τ).loc main_arg0)
def weight : S4x2048x2048.Idx → EReal := m ((c.tc : Thread nD τ).loc main_arg1)
def resid : S4096x2048.Idx → EReal := m ((c.tc : Thread nD τ).loc main_arg2)
def cot : S4096x2048.Idx → EReal := m ((c.tc : Thread nD τ).loc main_arg3)
def gain : S1x2048.Idx → EReal := m ((c.tc : Thread nD τ).loc main_arg4)

theorem b0 (t : Fin cfg0.N) (i : S512x2048.Idx) (j : S4096x8192.Idx) (h0 : (j 0).val = t.val / 4 * 512 + (i 0).val)
    (h1 : (j 1).val = t.val % 4 * 2048 + (i 1).val) : iblk m c 0 t i = act m c j := by
  show V m c main_arg0 (((cfg0.win 0).blk t).view.emb i) = _
  rw [V_main_arg0]
  refine congrArg (act m c) (funext fun b => Fin.ext ?_)
  match b with
  | 0 => blk_simp [idx0, h0]
  | 1 => blk_simp [idx0, h1]
theorem b1 (t : Fin cfg0.N) (i : S1x2048x2048.Idx) (j : S4x2048x2048.Idx) (h0 : (j 0).val = t.val % 4) (h1 : (j 1).val = (i 1).val)
    (h2 : (j 2).val = (i 2).val) : iblk m c 1 t i = weight m c j := by
  show V m c main_arg1 (((cfg0.win 1).blk t).view.emb i) = _
  rw [V_main_arg1]
  have hi : (i 0).val = 0 := Nat.lt_one_iff.1 (i 0).isLt
  refine congrArg (weight m c) (funext fun b => Fin.ext ?_)
  match b with
  | 0 => blk_simp [idx1, h0, hi]
  | 1 => blk_simp [idx1, h1]
  | 2 => blk_simp [idx1, h2]
theorem b2 (t : Fin cfg0.N) (i : S512x2048.Idx) (j : S4096x2048.Idx) (h0 : (j 0).val = t.val / 4 * 512 + (i 0).val)
    (h1 : (j 1).val = (i 1).val) : iblk m c 2 t i = resid m c j := by
  show V m c main_arg2 (((cfg0.win 2).blk t).view.emb i) = _
  rw [V_main_arg2]
  refine congrArg (resid m c) (funext fun b => Fin.ext ?_)
  match b with
  | 0 => blk_simp [idx2, h0]
  | 1 => blk_simp [idx2, h1]
theorem b3 (t : Fin cfg0.N) (i : S512x2048.Idx) (j : S4096x2048.Idx) (h0 : (j 0).val = t.val / 4 * 512 + (i 0).val)
    (h1 : (j 1).val = (i 1).val) : iblk m c 3 t i = cot m c j := by
  show V m c main_arg3 (((cfg0.win 3).blk t).view.emb i) = _
  rw [V_main_arg3]
  refine congrArg (cot m c) (funext fun b => Fin.ext ?_)
  match b with
  | 0 => blk_simp [idx3, h0]
  | 1 => blk_simp [idx3, h1]
theorem b4 (t : Fin cfg0.N) (i : S1x2048.Idx) : iblk m c 4 t i = gain m c i := by
  show V m c main_arg4 (((cfg0.win 4).blk t).view.emb i) = _
  rw [V_main_arg4]
  refine congrArg (gain m c) (funext fun b => Fin.ext ?_)
  match b with
  | 0 => blk_simp [idx4]
  | 1 => blk_simp [idx4]

/-- The products that make up an entry, numbered along the 8192 columns. -/
def term (i : S4096x2048.Idx) (s : ℕ) : EReal := if h : s < 8192 then act m c (ix2 (i 0) ⟨s, h⟩)
  * weight m c (ix3 ⟨s / 2048, Nat.div_lt_of_lt_mul h⟩ (i 1) ⟨s % 2048, Nat.mod_lt _ (by decide)⟩) else 0

/-- What a point adds to an entry of its accumulator. -/
theorem point (t : Fin cfg0.N) (y : S512x2048.Idx) (i : S4096x2048.Idx) (h0 : (i 0).val = t.val / 4 * 512 + (y 0).val)
    (h1 : (i 1).val = (y 1).val) (n : ℕ) (hn : t.val % 4 * 2048 = n) :
    piece (iblk m c 0 t) (iblk m c 1 t) y
      = ∑ k : Fin 2048, term m c i (n + k.val) := by
  refine Finset.sum_congr rfl fun k _ => ?_
  have hk : k.val < 2048 := k.isLt
  have hs : n + k.val < 8192 := by omega
  have e0 : iblk m c 0 t (ix2 (y 0) k) = act m c (ix2 (i 0) ⟨n + k.val, hs⟩) := b0 m c t _ _ h0 (by
    show n + k.val = t.val % 4 * 2048 + k.val
    omega)
  have e1 : iblk m c 1 t (ix3 0 (y 1) k) = weight m c (ix3 ⟨(n + k.val) / 2048, Nat.div_lt_of_lt_mul hs⟩ (i 1)
      ⟨(n + k.val) % 2048, Nat.mod_lt _ (by decide)⟩) := b1 m c t _ _ (by
    show (n + k.val) / 2048 = t.val % 4
    omega) h1 (by
    show (n + k.val) % 2048 = k.val
    omega)
  have e : term m c i (n + k.val) = _ := dif_pos hs
  exact (congrArg₂ (fun p q : EReal => p * q) e0 e1).trans e.symm

theorem zero_acc (i : S512x2048.Idx) : k0_pay1 (F := Ideal) i = (0 : EReal) := by
  unfold k0_pay1
  pointwise [word_zero]
  rfl
theorem zero_gain (i : S1x2048.Idx) : k0_pay8 (F := Ideal) i = (0 : EReal) := by
  unfold k0_pay8
  pointwise [word_zero]
  rfl

/-- After the last point of a block of rows the accumulator holds the product. -/
theorem total_eq (t : Fin cfg0.N) (h : t.val % 4 = 3) (y : S512x2048.Idx) (i : S4096x2048.Idx)
    (h0 : (i 0).val = t.val / 4 * 512 + (y 0).val) (h1 : (i 1).val = (y 1).val) :
    total m c t y = prod (act m c) (weight m c) i := by
  have ht := t.isLt
  let t1 : Fin cfg0.N := ⟨t.val - 1, Nat.lt_of_le_of_lt (Nat.sub_le _ _) t.isLt⟩
  let t2 : Fin cfg0.N := ⟨t1.val - 1, Nat.lt_of_le_of_lt (Nat.sub_le _ _) t1.isLt⟩
  let t3 : Fin cfg0.N := ⟨t2.val - 1, Nat.lt_of_le_of_lt (Nat.sub_le _ _) t2.isLt⟩
  have v1 : t1.val = t.val - 1 := rfl
  have v2 : t2.val = t.val - 1 - 1 := rfl
  have v3 : t3.val = t.val - 1 - 1 - 1 := rfl
  have e1 := acc_B m c t1 (by omega) (by omega) (by omega)
  have e2 := acc_B m c t2 (by omega) (by omega) (by omega)
  have e3 := acc_A m c t3 (by omega) (by omega) (by omega)
  refine (congrArg₂ (· + ·) ((congrFun e1 y).trans (congrArg₂ (· + ·) ((congrFun e2 y).trans (congrArg₂ (· + ·)
    ((congrFun e3 y).trans (congrArg₂ (· + ·) (zero_acc y) (point m c t3 y i (by omega) h1 0 (by omega))))
    (point m c t2 y i (by omega) h1 2048 (by omega)))) (point m c t1 y i (by omega) h1 (2 * 2048) (by omega))))
    (point m c t y i h0 h1 (3 * 2048) (by omega))).trans ((NormBwd.sum_four (term m c i) 2048 0).trans ?_)
  rw [zero_add]
  exact Finset.sum_congr rfl fun k _ => dif_pos k.isLt

/-- What the rows give to an entry of the gradient of the scale, numbered along the rows. -/
def share (n : Fin 2048) (s : ℕ) : EReal := if h : s < 4096 then
  NormBwd.gain (n := 4096) (resid m c) (prod (act m c) (weight m c)) (ix2 ⟨s, h⟩ n) else 0

theorem share_point (t : Fin cfg0.N) (h : t.val % 4 = 3) (n : ℕ) (hn : t.val / 4 = n) (i : S1x2048.Idx) :
    ∑ r : Fin 512, NormBwd.gain (n := 512) (iblk m c 2 t) (total m c t) (ix2 r (i 1)) = ∑ r : Fin 512, share m c (i 1) (n * 512 + r.val) := by
  refine Finset.sum_congr rfl fun r _ => ?_
  have ht : t.val < 32 := t.isLt
  have hr : r.val < 512 := r.isLt
  have hs : n * 512 + r.val < 4096 := by omega
  have e : n * 512 + r.val = t.val / 4 * 512 + r.val := by rw [hn]
  have e' : share m c (i 1) (n * 512 + r.val) = _ := dif_pos hs
  exact (NormBwd.gain_congr (n := 512) (n' := 4096) (ix2 r (i 1)) (ix2 ⟨n * 512 + r.val, hs⟩ (i 1))
    (b2 m c t (ix2 r (i 1)) (ix2 ⟨n * 512 + r.val, hs⟩ (i 1)) e rfl)
    (fun k => b2 m c t (ix2 r k) (ix2 ⟨n * 512 + r.val, hs⟩ k) e rfl)
    (total_eq m c t h (ix2 r (i 1)) (ix2 ⟨n * 512 + r.val, hs⟩ (i 1)) e rfl)).trans e'.symm

/-- After each block of rows the gradient of the scale holds what the rows so far give. -/
theorem gain_at (i : S1x2048.Idx) : ∀ (n : ℕ) (hn : 4 * n + 3 < cfg0.N), (outsAt0 (F := Ideal) m c (4 * n + 3) hn).2.1 i
    = ∑ b ∈ Finset.range (n + 1), ∑ r : Fin 512, share m c (i 1) (b * 512 + r.val)
  | 0, hn => by
    refine (congrFun (gain_C m c ⟨3, hn⟩ (by decide : ¬3 % 4 = 0) (by decide : ¬3 % 4 ≤ 2) rfl (by decide : 3 < 4)) i).trans ?_
    rw [Finset.sum_range_one]
    exact (congrArg₂ (· + ·) (zero_gain i) (share_point m c ⟨3, hn⟩ (by decide : 3 % 4 = 3) 0 (by decide : 3 / 4 = 0) i)).trans (zero_add _)
  | n + 1, hn => by
    have g1 := gain_B m c ⟨4 * n + 6, by omega⟩ (by show ¬(4 * n + 6) % 4 = 0; omega) (by show (4 * n + 6) % 4 ≤ 2; omega)
      (by show ¬(4 * n + 6) % 4 = 3; omega)
    have g2 := gain_B m c ⟨4 * n + 5, by omega⟩ (by show ¬(4 * n + 5) % 4 = 0; omega) (by show (4 * n + 5) % 4 ≤ 2; omega)
      (by show ¬(4 * n + 5) % 4 = 3; omega)
    have g3 := gain_A m c ⟨4 * n + 4, by omega⟩ (by show (4 * n + 4) % 4 = 0; omega) (by show (4 * n + 4) % 4 ≤ 2; omega)
      (by show ¬(4 * n + 4) % 4 = 3; omega)
    have g4 := gain_D m c ⟨4 * n + 7, hn⟩ (by show ¬(4 * n + 7) % 4 = 0; omega) (by show ¬(4 * n + 7) % 4 ≤ 2; omega)
      (by show (4 * n + 7) % 4 = 3; omega) (by show ¬4 * n + 7 < 4; omega)
    have keep : beforeG m c ⟨4 * n + 7, hn⟩ = (outsAt0 (F := Ideal) m c (4 * n + 3) (by omega)).2.1 := g1.trans (g2.trans g3)
    rw [keep] at g4
    refine (congrFun g4 i).trans ?_
    rw [Finset.sum_range_succ _ (n + 1)]
    exact congrArg₂ (· + ·) (gain_at i n (by omega)) (share_point m c ⟨4 * n + 7, hn⟩ (by show (4 * n + 7) % 4 = 3; omega) (n + 1)
      (by show (4 * n + 7) / 4 = n + 1; omega) i)

/-- The last point of a block of rows stores the gradient of those rows. -/
theorem value (t : Fin cfg0.N) (h : t.val % 4 = 3) (y : S512x2048.Idx) (i : S4096x2048.Idx)
    (h0 : (i 0).val = t.val / 4 * 512 + (y 0).val) (h1 : (i 1).val = (y 1).val) : (outsAt0 (F := Ideal) m c t.val t.isLt).1 y
    = NormBwd.grad (n := 4096) (resid m c) (cot m c) (prod (act m c) (weight m c)) (gain m c) i := by
  have e : (outsAt0 (F := Ideal) m c t.val t.isLt).1
      = NormBwd.grad (n := 512) (iblk m c 2 t) (iblk m c 3 t) (total m c t) (iblk m c 4 t) := by
    by_cases h3 : t.val < 4
    · exact grad_C m c t (by omega) (by omega) h h3
    · exact grad_D m c t (by omega) (by omega) h h3
  refine (congrFun e y).trans (NormBwd.grad_congr y i (Fin.ext h1.symm) (fun k => b2 m c t _ _ h0 rfl) (b3 m c t _ _ h0 h1)
    (fun k => total_eq m c t h _ _ h0 rfl) fun k => b4 m c t _)

theorem fetch5 : ∀ t : Fin cfg0.N, (cfg0.win 5).flush t → t.val % 4 = 3 := by decide +kernel

theorem out5 : (dats m 0 c).arrAt 5 cfg0.N
    = NormBwd.grad (n := 4096) (resid m c) (cot m c) (prod (act m c) (weight m c)) (gain m c) := by
  refine (dats m 0 c).arrAt_eq_of_covers 5 _ (by decide +kernel) fun t hf y => ?_
  blk_simp [idx5]
  rw [after0_5]
  refine value m c t (fetch5 t hf) y _ ?_ ?_ <;> blk_simp [idx5]

/-- The last grid point. -/
def last : Fin grid0.N := ⟨31, by rw [N_0]; decide⟩

/-- Over all blocks of rows the gradient of the scale gets every row's share. -/
theorem slope_at (s : ℕ) (hs : s = 31) (hn : s < cfg0.N) (i : S1x2048.Idx) : (outsAt0 (F := Ideal) m c s hn).2.1 i
    = NormBwd.slope (n := 4096) (resid m c) (prod (act m c) (weight m c)) i := by
  subst hs
  refine ((gain_at m c i 7 hn).trans (NormBwd.sum_blocks (share m c (i 1)) 512 8)).trans ?_
  rw [← Fin.sum_univ_eq_sum_range (share m c (i 1)) (8 * 512)]
  exact Finset.sum_congr rfl fun r _ => dif_pos r.isLt

theorem slope_last : (outsAt0 (F := Ideal) m c last.val last.isLt).2.1 = NormBwd.slope (n := 4096) (resid m c) (prod (act m c) (weight m c)) :=
  funext fun i => slope_at m c last.val rfl last.isLt i

theorem out6 : (dats m 0 c).arrAt 6 cfg0.N = NormBwd.slope (n := 4096) (resid m c) (prod (act m c) (weight m c)) := by
  refine (dats m 0 c).arrAt_eq_of_after_last 6 last (by decide +kernel) _ fun j => ?_
  blk_simp [idx6]
  rw [after0_6, slope_last]

end

/-- What the kernel leaves in its results. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0)
        = NormBwd.grad (n := 4096) (resid m c) (cot m c) (prod (act m c) (weight m c)) (gain m c)
      ∧ r.2.mem ((c.tc : Thread nD τ).loc main_v0_1) = NormBwd.slope (n := 4096) (resid m c) (prod (act m c) (weight m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (out5 m c), (h c).2.1.trans (out6 m c), (h c).2.2⟩)
    (Cert.Kernel11Ideal.Value.run_blocks (F := Ideal) m ρ)

end Kernel

/-! ### The reference -/

section Reference

open Cert.Reference11Ideal Cert.Reference11Ideal.Gen Cert.Reference11Ideal.Read

variable (a : S4096x8192.Idx → EReal) (w : S4x2048x2048.Idx → EReal) (x d : S4096x2048.Idx → EReal) (g : S1x2048.Idx → EReal)

/-- The product with the joined matrix. -/
theorem reference_prod (i : S4096x2048.Idx) : val_main_v23 (F := Ideal) a w i = prod a w i := by
  rw [val_main_v23_apply]
  refine Finset.sum_congr rfl fun k _ => ?_
  rw [val_main_v22_apply, val_main_v2_apply, val_main_v1_apply, val_main_v0_apply]
  have h0 : (i 1).val < 2048 := (i 1).isLt
  have h1 : k.val < 8192 := k.isLt
  refine congrArg₂ (· * ·) (congrArg a (funext fun b => ?_)) (congrArg w (funext fun b => Fin.ext ?_))
  · match b with
    | 0 => rfl
    | 1 => rfl
  · match b with
    | 0 =>
      show ((i 1).val * 8192 + k.val) / 2048 % 4 = k.val / 2048
      omega
    | 1 =>
      show ((i 1).val * 8192 + k.val) / 8192 = (i 1).val
      omega
    | 2 =>
      show ((i 1).val * 8192 + k.val) % 2048 = k.val % 2048
      omega

/-- The mean square of a row, and its reciprocal root. -/
theorem reference_mean (i : S4096x1.Idx) : val_main_v10 (F := Ideal) x i = Norm.meanSq fun k => x (ix2 (i 0) k) := by
  simp only [val_main_v10_apply, val_main_v9_apply, val_main_v8_apply, val_main_v7_apply, val_main_v6_apply,
    val_main_v5_apply, val_main_v4_apply, val_main_cst_apply, val_main_cst_0_apply, val_main_cst_1_apply]
  have e : ∀ k, idx_main_v5 (idx_main_v6 i) k = ix2 (i 0) k := fun k => funext fun b => by
    match b with
    | 0 => rfl
    | 1 => rfl
  simp only [e]
  show Ideal.div (Ideal.ofBits .f32 0x00000000#32 + ∑ k : Fin 2048, x (ix2 (i 0) k) * x (ix2 (i 0) k))
    (Ideal.ofBits .f32 0x45000000#32) + Ideal.ofBits .f32 0x358637BD#32 = _
  rw [word_zero, Norm.word_2048, word_eps, EReal.coe_zero, zero_add]
  rfl
theorem reference_root (i : S4096x1.Idx) : val_main_v11 (F := Ideal) x i = Norm.scale fun k => x (ix2 (i 0) k) := by
  rw [val_main_v11_apply, reference_mean]
  rfl

/-- The scale of a column. -/
theorem reference_gain (i : S4096x2048.Idx) : val_main_v3 (F := Ideal) g (idx_main_v17 (idx_main_v27 i)) = g (ix2 0 (i 1)) := by
  rw [val_main_v3_apply]
  refine congrArg g (funext fun b => Fin.ext ?_)
  match b with
  | 0 => rfl
  | 1 => exact Nat.mod_eq_of_lt (i 1).isLt

theorem reference_slope : val_main_v46 (F := Ideal) a w x = NormBwd.slope (n := 4096) x (prod a w) := by
  funext i
  rw [val_main_v46_apply, val_main_v29_apply, Fin.sum_univ_one, val_main_v26_apply, val_main_v25_apply, val_main_cst_3_apply,
    val_main_cst_4_apply]
  show Ideal.ofBits .f32 0x00000000#32 + (Ideal.ofBits .f32 0x00000000#32 + ∑ k : Fin 4096, _) = _
  rw [word_zero, EReal.coe_zero, zero_add, zero_add]
  refine Finset.sum_congr rfl fun r _ => ?_
  rw [val_main_v24_apply, val_main_v16_apply, val_main_v15_apply, reference_root, reference_prod]
  have e : idx_main_v25 (idx_main_v26 (idx_main_v29 (idx_main_v46 i) 0)) r = ix2 r (i 1) := funext fun b => Fin.ext (by
    have h1 : (i 1).val < 2048 := (i 1).isLt
    match b with
    | 0 => rfl
    | 1 =>
      show (0 * 2048 + (i 1).val) = (i 1).val
      omega)
  rw [e]
  exact mul_comm _ _

theorem reference_grad : val_main_v45 (F := Ideal) a w x d g = NormBwd.grad (n := 4096) x d (prod a w) g := by
  funext i
  simp only [val_main_v45_apply, val_main_v44_apply, val_main_v43_apply, val_main_v42_apply, val_main_v41_apply, val_main_v40_apply,
    val_main_v39_apply, val_main_v38_apply, val_main_v37_apply, val_main_v36_apply, val_main_v35_apply, val_main_v34_apply,
    val_main_v33_apply, val_main_v32_apply, val_main_v31_apply, val_main_v30_apply, val_main_v28_apply, val_main_v27_apply,
    val_main_v21_apply, val_main_v17_apply, val_main_v14_apply, val_main_v13_apply, val_main_v12_apply,
    val_main_cst_2_apply, val_main_cst_5_apply, val_main_cst_6_apply, val_main_cst_7_apply, reference_gain, reference_root,
    reference_mean, reference_prod, Fin.sum_univ_one]
  have e : ∀ k, idx_main_v31 (idx_main_v32 (idx_main_v39 (idx_main_v40 i) 0)) k = ix2 (i 0) k := fun k => funext fun b => Fin.ext (by
    match b with
    | 0 =>
      show (i 0).val * 1 + 0 = (i 0).val
      omega
    | 1 => rfl)
  simp only [e]
  show d i + prod a w i * g (ix2 0 (i 1)) * Norm.scale (fun k => x (ix2 (i 0) k)) + x i * (Ideal.ofBits .f32 0x00000000#32
      + Ideal.div ((Ideal.ofBits .f32 0x00000000#32 + ∑ k : Fin 2048, x (ix2 (i 0) k) * (prod a w (ix2 (i 0) k) * g (ix2 0 k)))
        * (Ideal.ofBits .f32 0xBF000000#32 * Ideal.div (Norm.scale fun k => x (ix2 (i 0) k)) (Norm.meanSq fun k => x (ix2 (i 0) k))))
        (Ideal.ofBits .f32 0x45000000#32))
    + (Ideal.ofBits .f32 0x00000000#32
      + Ideal.div ((Ideal.ofBits .f32 0x00000000#32 + ∑ k : Fin 2048, x (ix2 (i 0) k) * (prod a w (ix2 (i 0) k) * g (ix2 0 k)))
        * (Ideal.ofBits .f32 0xBF000000#32 * Ideal.div (Norm.scale fun k => x (ix2 (i 0) k)) (Norm.meanSq fun k => x (ix2 (i 0) k))))
        (Ideal.ofBits .f32 0x45000000#32)) * x i = _
  rw [word_zero, Norm.word_2048, word_neg_half, EReal.coe_zero, zero_add, zero_add]
  exact NormBwd.grad_read x d (prod a w) g i

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v45) = NormBwd.grad (n := 4096) (m ((c.tc : Thread nD τ).loc main_arg2))
        (m ((c.tc : Thread nD τ).loc main_arg3)) (prod (m ((c.tc : Thread nD τ).loc main_arg0)) (m ((c.tc : Thread nD τ).loc main_arg1)))
        (m ((c.tc : Thread nD τ).loc main_arg4))
      ∧ r.2.mem ((c.tc : Thread nD τ).loc main_v46) = NormBwd.slope (n := 4096) (m ((c.tc : Thread nD τ).loc main_arg2))
        (prod (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1.trans (val_main_v45_eq _ _)).trans (reference_grad _ _ _ _ _),
    ((h c).2.1.trans (val_main_v46_eq _ _ _)).trans (reference_slope _ _ _), (h c).2.2⟩)
    (Cert.Reference11Ideal.Value.run (F := Ideal) m ρ)

/-- The reference declares no semaphore. -/
theorem frame_reference : Cert.quiescent_Reference11Ideal := fun m ρ _ =>
  (θ_run defs _ _).mono (fun r h => ⟨fun c => (h c).2.2, sem_eq_zero_of_no_sems (by decide) r.2⟩) (reference_run m ρ)

end Reference

theorem algebraic : Cert.algebraic_Kernel11Ideal_Reference11Ideal := by
  intro m ρ m' ρ' _ hm
  refine ⟨_, _, run m ρ, (θ_run _ _ _).mono (fun r h c => ⟨(h c).1.trans ?_, (h c).2.1.trans ?_, (h c).2.2⟩) (reference_run m' ρ')⟩
  · rw [(hm c).1, (hm c).2.1, (hm c).2.2.1, (hm c).2.2.2.1, (hm c).2.2.2.2]
    rfl
  · rw [(hm c).1, (hm c).2.1, (hm c).2.2.1]
    rfl

end Cert.Proof.Dh2
end
-- ==== Proof.Dh1.lean ====
/- The gradient of the stream before the mixer: for every 512 rows the kernel's four grid points add up a
   product, and the last one takes the gradient of the normalisation and adds to the gradient of its scale. -/
module

public import proofs.«01_k».proof.Defs
public import proofs.«01_k».proof.Proof.NormBwd
public import proofs.«01_k».proof.Proof.Products
public import proofs.«01_k».proof.Proof.KerLoad
public import proofs.«01_k».proof.Proof.Gen.Kernel12Ideal.Value
public import proofs.«01_k».proof.Proof.Gen.Reference12Ideal.Read
public import Idealize.ShloMosaic.Lib.Claim
public import Idealize.ShloMosaic.Adequacy
public import Idealize.ShloMosaic.Init

@[expose] public section

set_option maxRecDepth 16384

noncomputable section

namespace Cert.Proof.Dh1

open Idealize.ShloMosaic Idealize.SL.Sem
open scoped BigOperators

/-- The rows times the transposed matrix, whose 3072 columns lie in four pieces. -/
def prod (a : Cert.Kernel12Ideal.S4096x3072.Idx → EReal) (w : Cert.Kernel12Ideal.S4x2048x768.Idx → EReal) :
    Cert.Kernel12Ideal.S4096x2048.Idx → EReal := fun i => ∑ k : Fin 3072, a (ix2 (i 0) k)
      * w (ix3 ⟨k.val / 768, Nat.div_lt_of_lt_mul k.isLt⟩ (i 1) ⟨k.val % 768, Nat.mod_lt _ (by decide)⟩)

section Kernel

open Cert.Kernel12Ideal Cert.Kernel12Ideal.Gen Cert.Kernel12Ideal.Value

/-- An entry of a block's product. -/
def piece (x : S512x768.Idx → EReal) (w : S1x2048x768.Idx → EReal) (i : S512x2048.Idx) : EReal :=
  ∑ k : Fin 768, x (ix2 (i 0) k) * w (ix3 0 (i 1) k)

/-- A block's product added to what the accumulator held. -/
def acc (P : S512x2048.Idx → EReal) (x : S512x768.Idx → EReal) (w : S1x2048x768.Idx → EReal) : S512x2048.Idx → EReal :=
  fun i => P i + ∑ k : Fin 768, x (ix2 (i 0) k) * w (ix3 0 (i 1) k)

/-- The product of 512 rows with 512 rows of the matrix, added to what the accumulator held, entry by entry. -/
theorem product (x : FVec Ideal S512x768 .bf16) (P : FVec Ideal S512x512 .f32) (w : FVec Ideal S1x512x768 .bf16)
    (i : S512x512.Idx) : k0_pay5 (F := Ideal) x P w i = P i + ∑ k : Fin 768, x (ix2 (i 0) k) * w (ix3 0 (i 1) k) := by
  idx_vars i
  unfold_payloads
  pointwise [word_zero]
  rw [EReal.coe_zero, zero_add]

/-- The same for 256 rows. -/
theorem product' (x : FVec Ideal S256x768 .bf16) (P : FVec Ideal S256x512 .f32) (w : FVec Ideal S1x512x768 .bf16)
    (i : S256x512.Idx) : k0_pay9 (F := Ideal) x P w i = P i + ∑ k : Fin 768, x (ix2 (i 0) k) * w (ix3 0 (i 1) k) := by
  idx_vars i
  unfold_payloads
  pointwise [word_zero]
  rw [EReal.coe_zero, zero_add]

/-- One part of a block: 512 columns, from column `o` on. -/
theorem part (x : FVec Ideal S512x768 .bf16) (P : FVec Ideal S512x2048 .f32) (w : FVec Ideal S1x2048x768 .bf16) (o : ℕ)
    (inb : ∀ i, (![0, o] : Fin 2 → ℕ) i + S512x512.size i ≤ S512x2048.size i)
    (inb' : ∀ i, (![0, o, 0] : Fin 3 → ℕ) i + S1x512x768.size i ≤ S1x2048x768.size i) (i : S512x512.Idx) :
    k0_pay5 (F := Ideal) x (View.ld (Val := Elt Ideal) P (Rect.unit (s := S512x2048) ![0, o] S512x512.size inb))
        (View.ld (Val := Elt Ideal) w (Rect.unit (s := S1x2048x768) ![0, o, 0] S1x512x768.size inb')) i
      = acc P x w ((Rect.unit (s := S512x2048) ![0, o] S512x512.size inb).emb i) := by
  refine (product _ _ _ i).trans (congrArg₂ (· + ·) rfl (Finset.sum_congr rfl fun k _ =>
    congrArg₂ (· * ·) (congrArg x (funext fun b => Fin.ext ?_)) (congrArg w (funext fun b => Fin.ext ?_))))
  · match b with
    | 0 => show (i 0).val = 0 + 1 * (i 0).val; omega
    | 1 => rfl
  · match b with
    | 0 => rfl
    | 1 => rfl
    | 2 => show 0 + 1 * k.val = k.val; omega

/-- One part of half a block: 256 rows, from row `a` on, and 512 columns, from column `o` on. -/
theorem part' (x : FVec Ideal S512x768 .bf16) (P : FVec Ideal S512x2048 .f32) (w : FVec Ideal S1x2048x768 .bf16) (a o : ℕ)
    (inx : ∀ i, (![a, 0] : Fin 2 → ℕ) i + S256x768.size i ≤ S512x768.size i)
    (inb : ∀ i, (![a, o] : Fin 2 → ℕ) i + S256x512.size i ≤ S512x2048.size i)
    (inb' : ∀ i, (![0, o, 0] : Fin 3 → ℕ) i + S1x512x768.size i ≤ S1x2048x768.size i) (i : S256x512.Idx) :
    k0_pay9 (F := Ideal) (View.ld (Val := Elt Ideal) x (Rect.unit (s := S512x768) ![a, 0] S256x768.size inx))
        (View.ld (Val := Elt Ideal) P (Rect.unit (s := S512x2048) ![a, o] S256x512.size inb))
        (View.ld (Val := Elt Ideal) w (Rect.unit (s := S1x2048x768) ![0, o, 0] S1x512x768.size inb')) i
      = acc P x w ((Rect.unit (s := S512x2048) ![a, o] S256x512.size inb).emb i) := by
  refine (product' _ _ _ i).trans (congrArg₂ (· + ·) rfl (Finset.sum_congr rfl fun k _ =>
    congrArg₂ (· * ·) (congrArg x (funext fun b => Fin.ext ?_)) (congrArg w (funext fun b => Fin.ext ?_))))
  · match b with
    | 0 => rfl
    | 1 => show 0 + 1 * k.val = k.val; omega
  · match b with
    | 0 => rfl
    | 1 => rfl
    | 2 => show 0 + 1 * k.val = k.val; omega

section
variable (m : (ℓ : Loc nD τ sig) → Buf (Elt Ideal) ℓ) (c : Dev nD) (t : Fin cfg0.N)

/-- What the point before left in the accumulator and in the gradient of the scale. -/
abbrev before : S512x2048.Idx → EReal := (outsAt0 (F := Ideal) m c (t.val - 1) (Nat.lt_of_le_of_lt (Nat.sub_le _ _) t.isLt)).2.2
abbrev beforeG : S1x2048.Idx → EReal := (outsAt0 (F := Ideal) m c (t.val - 1) (Nat.lt_of_le_of_lt (Nat.sub_le _ _) t.isLt)).2.1

/-- The first point of a block of rows starts the accumulator. -/
theorem acc_A (h0 : t.val % 4 = 0) (h1 : t.val % 4 ≤ 2) (h2 : ¬t.val % 4 = 3) :
    (outsAt0 (F := Ideal) m c t.val t.isLt).2.2 = acc (k0_pay1 (F := Ideal)) (iblk m c 0 t) (iblk m c 1 t) := by
  rw [outsAt0_A m c t h0 h1 h2]
  dsimp only
  frame_open
  simp (disch := decide) only [↓ View.readCov_skip, ↓ View.readCov_cons_toLoadRect, ↓ View.readCov_fill]
  frame_out
  exact Ker.canon_take 4 _ _ ⟨part _ _ _ 1536 _ _, part _ _ _ 1024 _ _, part _ _ _ 512 _ _, part _ _ _ 0 _ _, trivial⟩
    (View.cover_of_tiledL _ S512x512.size (by sl_kernel_rfl))

/-- The two next points add to it. -/
theorem acc_B (h0 : ¬t.val % 4 = 0) (h1 : t.val % 4 ≤ 2) (h2 : ¬t.val % 4 = 3) :
    (outsAt0 (F := Ideal) m c t.val t.isLt).2.2 = acc (before m c t) (iblk m c 0 t) (iblk m c 1 t) := by
  rw [outsAt0_B m c t h0 h1 h2]
  dsimp only
  frame_open
  simp (disch := decide) only [↓ View.readCov_skip, ↓ View.readCov_cons_toLoadRect, ↓ View.readCov_fill]
  frame_out
  simp only [read_unread_whole]
  exact Products.canon_of_pieces (e := .f32) _ _ ⟨part _ _ _ 1536 _ _, part _ _ _ 1024 _ _, part _ _ _ 512 _ _,
    part _ _ _ 0 _ _, trivial⟩ (View.cover_of_tiledL _ S512x512.size (by sl_kernel_rfl))

/-- The points before the last one of a block of rows keep the gradient of the scale. -/
theorem gain_A (h0 : t.val % 4 = 0) (h1 : t.val % 4 ≤ 2) (h2 : ¬t.val % 4 = 3) :
    (outsAt0 (F := Ideal) m c t.val t.isLt).2.1 = beforeG m c t := by
  rw [outsAt0_A m c t h0 h1 h2]
  rfl
theorem gain_B (h0 : ¬t.val % 4 = 0) (h1 : t.val % 4 ≤ 2) (h2 : ¬t.val % 4 = 3) :
    (outsAt0 (F := Ideal) m c t.val t.isLt).2.1 = beforeG m c t := by
  rw [outsAt0_B m c t h0 h1 h2]
  rfl

/-- The accumulator after the last point of a block of rows. -/
abbrev total : S512x2048.Idx → EReal := acc (before m c t) (iblk m c 0 t) (iblk m c 1 t)

/-- The last point of a block of rows stores the gradient. -/
theorem grad_C (h0 : ¬t.val % 4 = 0) (h1 : ¬t.val % 4 ≤ 2) (h2 : t.val % 4 = 3) (h3 : t.val < 4) :
    (outsAt0 (F := Ideal) m c t.val t.isLt).1
      = NormBwd.grad (n := 512) (iblk m c 2 t) (iblk m c 3 t) (total m c t) (iblk m c 4 t) := by
  rw [outsAt0_C m c t h0 h1 h2 h3]
  dsimp only
  frame_open
  simp (disch := decide) only [↓ View.readCov_skip, ↓ View.readCov_cons_toLoadRect, ↓ View.readCov_fill]
  frame_out
  simp only [read_unread_whole]
  rw [NormBwd.load (e := .f32) 4 (total m c t) (View.whole cc0_scratch0) (Rect.unit ![0, 0] ![128, 2048] inb_S512x2048_S128x2048_0_0),
    NormBwd.load (e := .f32) 4 (total m c t) (View.whole cc0_scratch0) (Rect.unit ![128, 0] ![128, 2048] inb_S512x2048_S128x2048_128_0),
    NormBwd.load (e := .f32) 4 (total m c t) (View.whole cc0_scratch0) (Rect.unit ![256, 0] ![128, 2048] inb_S512x2048_S128x2048_256_0),
    NormBwd.load (e := .f32) 4 (total m c t) (View.whole cc0_scratch0) (Rect.unit ![384, 0] ![128, 2048] inb_S512x2048_S128x2048_384_0)]
  · exact Products.canon_of_pieces (e := .f32) _ _ ⟨fun i => (NormBwd.grad_pay _ _ _ _ i).trans (NormBwd.grad_ld _ _ _ _ 384 _ i),
      fun i => (NormBwd.grad_pay _ _ _ _ i).trans (NormBwd.grad_ld _ _ _ _ 256 _ i),
      fun i => (NormBwd.grad_pay _ _ _ _ i).trans (NormBwd.grad_ld _ _ _ _ 128 _ i),
      fun i => (NormBwd.grad_pay _ _ _ _ i).trans (NormBwd.grad_ld _ _ _ _ 0 _ i), trivial⟩
      (View.cover_of_tiledL _ S128x2048.size (by sl_kernel_rfl))
  all_goals first
    | exact NormBwd.cover_half (a := 256) (o := 384) (by decide) _ _ _ _ _ _ _ _ _
    | exact NormBwd.cover_half (a := 256) (o := 256) (by decide) _ _ _ _ _ _ _ _ _
    | exact NormBwd.cover_half (a := 0) (o := 128) (by decide) _ _ _ _ _ _ _ _ _
    | exact NormBwd.cover_half (a := 0) (o := 0) (by decide) _ _ _ _ _ _ _ _ _
    | exact ⟨part' _ _ _ 256 1536 _ _ _, part' _ _ _ 256 1024 _ _ _, part' _ _ _ 256 512 _ _ _, part' _ _ _ 256 0 _ _ _, trivial⟩
    | exact ⟨part' _ _ _ 0 1536 _ _ _, part' _ _ _ 0 1024 _ _ _, part' _ _ _ 0 512 _ _ _, part' _ _ _ 0 0 _ _ _, trivial⟩

theorem grad_D (h0 : ¬t.val % 4 = 0) (h1 : ¬t.val % 4 ≤ 2) (h2 : t.val % 4 = 3) (h3 : ¬t.val < 4) :
    (outsAt0 (F := Ideal) m c t.val t.isLt).1
      = NormBwd.grad (n := 512) (iblk m c 2 t) (iblk m c 3 t) (total m c t) (iblk m c 4 t) := by
  rw [outsAt0_D m c t h0 h1 h2 h3]
  dsimp only
  frame_open
  simp (disch := decide) only [↓ View.readCov_skip, ↓ View.readCov_cons_toLoadRect, ↓ View.readCov_fill]
  frame_out
  simp only [read_unread_whole]
  rw [NormBwd.load (e := .f32) 4 (total m c t) (View.whole cc0_scratch0) (Rect.unit ![0, 0] ![128, 2048] inb_S512x2048_S128x2048_0_0),
    NormBwd.load (e := .f32) 4 (total m c t) (View.whole cc0_scratch0) (Rect.unit ![128, 0] ![128, 2048] inb_S512x2048_S128x2048_128_0),
    NormBwd.load (e := .f32) 4 (total m c t) (View.whole cc0_scratch0) (Rect.unit ![256, 0] ![128, 2048] inb_S512x2048_S128x2048_256_0),
    NormBwd.load (e := .f32) 4 (total m c t) (View.whole cc0_scratch0) (Rect.unit ![384, 0] ![128, 2048] inb_S512x2048_S128x2048_384_0)]
  · exact Products.canon_of_pieces (e := .f32) _ _ ⟨fun i => (NormBwd.grad_pay _ _ _ _ i).trans (NormBwd.grad_ld _ _ _ _ 384 _ i),
      fun i => (NormBwd.grad_pay _ _ _ _ i).trans (NormBwd.grad_ld _ _ _ _ 256 _ i),
      fun i => (NormBwd.grad_pay _ _ _ _ i).trans (NormBwd.grad_ld _ _ _ _ 128 _ i),
      fun i => (NormBwd.grad_pay _ _ _ _ i).trans (NormBwd.grad_ld _ _ _ _ 0 _ i), trivial⟩
      (View.cover_of_tiledL _ S128x2048.size (by sl_kernel_rfl))
  all_goals first
    | exact NormBwd.cover_half (a := 256) (o := 384) (by decide) _ _ _ _ _ _ _ _ _
    | exact NormBwd.cover_half (a := 256) (o := 256) (by decide) _ _ _ _ _ _ _ _ _
    | exact NormBwd.cover_half (a := 0) (o := 128) (by decide) _ _ _ _ _ _ _ _ _
    | exact NormBwd.cover_half (a := 0) (o := 0) (by decide) _ _ _ _ _ _ _ _ _
    | exact ⟨part' _ _ _ 256 1536 _ _ _, part' _ _ _ 256 1024 _ _ _, part' _ _ _ 256 512 _ _ _, part' _ _ _ 256 0 _ _ _, trivial⟩
    | exact ⟨part' _ _ _ 0 1536 _ _ _, part' _ _ _ 0 1024 _ _ _, part' _ _ _ 0 512 _ _ _, part' _ _ _ 0 0 _ _ _, trivial⟩

/-- It adds to the gradient of the scale what the rows give. -/
theorem gain_C (h0 : ¬t.val % 4 = 0) (h1 : ¬t.val % 4 ≤ 2) (h2 : t.val % 4 = 3) (h3 : t.val < 4) :
    (outsAt0 (F := Ideal) m c t.val t.isLt).2.1
      = NormBwd.added (iblk m c 2 t) (total m c t) (k0_pay8 (F := Ideal)) := by
  rw [outsAt0_C m c t h0 h1 h2 h3]
  dsimp only
  frame_open
  simp (disch := decide) only [↓ View.readCov_skip, ↓ View.readCov_cons_toLoadRect, ↓ View.readCov_fill]
  frame_out
  simp only [read_unread_whole]
  rw [NormBwd.load (e := .f32) 4 (total m c t) (View.whole cc0_scratch0) (Rect.unit ![0, 0] ![128, 2048] inb_S512x2048_S128x2048_0_0),
    NormBwd.load (e := .f32) 4 (total m c t) (View.whole cc0_scratch0) (Rect.unit ![128, 0] ![128, 2048] inb_S512x2048_S128x2048_128_0),
    NormBwd.load (e := .f32) 4 (total m c t) (View.whole cc0_scratch0) (Rect.unit ![256, 0] ![128, 2048] inb_S512x2048_S128x2048_256_0),
    NormBwd.load (e := .f32) 4 (total m c t) (View.whole cc0_scratch0) (Rect.unit ![384, 0] ![128, 2048] inb_S512x2048_S128x2048_384_0)]
  · funext i
    exact NormBwd.gain_sum _ _ _ _ _ _ _ i
  all_goals first
    | exact NormBwd.cover_half (a := 256) (o := 384) (by decide) _ _ _ _ _ _ _ _ _
    | exact NormBwd.cover_half (a := 256) (o := 256) (by decide) _ _ _ _ _ _ _ _ _
    | exact NormBwd.cover_half (a := 0) (o := 128) (by decide) _ _ _ _ _ _ _ _ _
    | exact NormBwd.cover_half (a := 0) (o := 0) (by decide) _ _ _ _ _ _ _ _ _
    | exact ⟨part' _ _ _ 256 1536 _ _ _, part' _ _ _ 256 1024 _ _ _, part' _ _ _ 256 512 _ _ _, part' _ _ _ 256 0 _ _ _, trivial⟩
    | exact ⟨part' _ _ _ 0 1536 _ _ _, part' _ _ _ 0 1024 _ _ _, part' _ _ _ 0 512 _ _ _, part' _ _ _ 0 0 _ _ _, trivial⟩

theorem gain_D (h0 : ¬t.val % 4 = 0) (h1 : ¬t.val % 4 ≤ 2) (h2 : t.val % 4 = 3) (h3 : ¬t.val < 4) :
    (outsAt0 (F := Ideal) m c t.val t.isLt).2.1
      = NormBwd.added (iblk m c 2 t) (total m c t) (beforeG m c t) := by
  rw [outsAt0_D m c t h0 h1 h2 h3]
  dsimp only
  frame_open
  simp (disch := decide) only [↓ View.readCov_skip, ↓ View.readCov_cons_toLoadRect, ↓ View.readCov_fill]
  frame_out
  simp only [read_unread_whole]
  rw [NormBwd.load (e := .f32) 4 (total m c t) (View.whole cc0_scratch0) (Rect.unit ![0, 0] ![128, 2048] inb_S512x2048_S128x2048_0_0),
    NormBwd.load (e := .f32) 4 (total m c t) (View.whole cc0_scratch0) (Rect.unit ![128, 0] ![128, 2048] inb_S512x2048_S128x2048_128_0),
    NormBwd.load (e := .f32) 4 (total m c t) (View.whole cc0_scratch0) (Rect.unit ![256, 0] ![128, 2048] inb_S512x2048_S128x2048_256_0),
    NormBwd.load (e := .f32) 4 (total m c t) (View.whole cc0_scratch0) (Rect.unit ![384, 0] ![128, 2048] inb_S512x2048_S128x2048_384_0)]
  · funext i
    exact NormBwd.gain_sum _ _ _ _ _ _ _ i
  all_goals first
    | exact NormBwd.cover_half (a := 256) (o := 384) (by decide) _ _ _ _ _ _ _ _ _
    | exact NormBwd.cover_half (a := 256) (o := 256) (by decide) _ _ _ _ _ _ _ _ _
    | exact NormBwd.cover_half (a := 0) (o := 128) (by decide) _ _ _ _ _ _ _ _ _
    | exact NormBwd.cover_half (a := 0) (o := 0) (by decide) _ _ _ _ _ _ _ _ _
    | exact ⟨part' _ _ _ 256 1536 _ _ _, part' _ _ _ 256 1024 _ _ _, part' _ _ _ 256 512 _ _ _, part' _ _ _ 256 0 _ _ _, trivial⟩
    | exact ⟨part' _ _ _ 0 1536 _ _ _, part' _ _ _ 0 1024 _ _ _, part' _ _ _ 0 512 _ _ _, part' _ _ _ 0 0 _ _ _, trivial⟩

end

section
variable (m : (ℓ : Loc nD τ sig) → Buf (Elt Ideal) ℓ) (c : Dev nD)

theorem idx0 : ∀ t : Fin cfg0.N, win0_0.index t = ![t.val / 4, t.val % 4] := by decide +kernel
theorem idx1 : ∀ t : Fin cfg0.N, win0_1.index t = ![t.val % 4, 0, 0] := by decide +kernel
theorem idx2 : ∀ t : Fin cfg0.N, win0_2.index t = ![t.val / 4, 0] := by decide +kernel
theorem idx3 : ∀ t : Fin cfg0.N, win0_3.index t = ![t.val / 4, 0] := by decide +kernel
theorem idx4 : ∀ t : Fin cfg0.N, win0_4.index t = ![0, 0] := by decide +kernel
theorem idx5 : ∀ t : Fin cfg0.N, win0_5.index t = ![t.val / 4, 0] := by decide +kernel
theorem idx6 : ∀ t : Fin cfg0.N, win0_6.index t = ![0, 0] := by decide +kernel

/-- The arguments as arrays of numbers. -/
def act : S4096x3072.Idx → EReal := m ((c.tc : Thread nD τ).loc main_arg0)
def weight : S4x2048x768.Idx → EReal := m ((c.tc : Thread nD τ).loc main_arg1)
def resid : S4096x2048.Idx → EReal := m ((c.tc : Thread nD τ).loc main_arg2)
def cot : S4096x2048.Idx → EReal := m ((c.tc : Thread nD τ).loc main_arg3)
def gain : S1x2048.Idx → EReal := m ((c.tc : Thread nD τ).loc main_arg4)

theorem b0 (t : Fin cfg0.N) (i : S512x768.Idx) (j : S4096x3072.Idx) (h0 : (j 0).val = t.val / 4 * 512 + (i 0).val)
    (h1 : (j 1).val = t.val % 4 * 768 + (i 1).val) : iblk m c 0 t i = act m c j := by
  show V m c main_arg0 (((cfg0.win 0).blk t).view.emb i) = _
  rw [V_main_arg0]
  refine congrArg (act m c) (funext fun b => Fin.ext ?_)
  match b with
  | 0 => blk_simp [idx0, h0]
  | 1 => blk_simp [idx0, h1]
theorem b1 (t : Fin cfg0.N) (i : S1x2048x768.Idx) (j : S4x2048x768.Idx) (h0 : (j 0).val = t.val % 4) (h1 : (j 1).val = (i 1).val)
    (h2 : (j 2).val = (i 2).val) : iblk m c 1 t i = weight m c j := by
  show V m c main_arg1 (((cfg0.win 1).blk t).view.emb i) = _
  rw [V_main_arg1]
  have hi : (i 0).val = 0 := Nat.lt_one_iff.1 (i 0).isLt
  refine congrArg (weight m c) (funext fun b => Fin.ext ?_)
  match b with
  | 0 => blk_simp [idx1, h0, hi]
  | 1 => blk_simp [idx1, h1]
  | 2 => blk_simp [idx1, h2]
theorem b2 (t : Fin cfg0.N) (i : S512x2048.Idx) (j : S4096x2048.Idx) (h0 : (j 0).val = t.val / 4 * 512 + (i 0).val)
    (h1 : (j 1).val = (i 1).val) : iblk m c 2 t i = resid m c j := by
  show V m c main_arg2 (((cfg0.win 2).blk t).view.emb i) = _
  rw [V_main_arg2]
  refine congrArg (resid m c) (funext fun b => Fin.ext ?_)
  match b with
  | 0 => blk_simp [idx2, h0]
  | 1 => blk_simp [idx2, h1]
theorem b3 (t : Fin cfg0.N) (i : S512x2048.Idx) (j : S4096x2048.Idx) (h0 : (j 0).val = t.val / 4 * 512 + (i 0).val)
    (h1 : (j 1).val = (i 1).val) : iblk m c 3 t i = cot m c j := by
  show V m c main_arg3 (((cfg0.win 3).blk t).view.emb i) = _
  rw [V_main_arg3]
  refine congrArg (cot m c) (funext fun b => Fin.ext ?_)
  match b with
  | 0 => blk_simp [idx3, h0]
  | 1 => blk_simp [idx3, h1]
theorem b4 (t : Fin cfg0.N) (i : S1x2048.Idx) : iblk m c 4 t i = gain m c i := by
  show V m c main_arg4 (((cfg0.win 4).blk t).view.emb i) = _
  rw [V_main_arg4]
  refine congrArg (gain m c) (funext fun b => Fin.ext ?_)
  match b with
  | 0 => blk_simp [idx4]
  | 1 => blk_simp [idx4]

/-- The products that make up an entry, numbered along the 3072 columns. -/
def term (i : S4096x2048.Idx) (s : ℕ) : EReal := if h : s < 3072 then act m c (ix2 (i 0) ⟨s, h⟩)
  * weight m c (ix3 ⟨s / 768, Nat.div_lt_of_lt_mul h⟩ (i 1) ⟨s % 768, Nat.mod_lt _ (by decide)⟩) else 0

/-- What a point adds to an entry of its accumulator. -/
theorem point (t : Fin cfg0.N) (y : S512x2048.Idx) (i : S4096x2048.Idx) (h0 : (i 0).val = t.val / 4 * 512 + (y 0).val)
    (h1 : (i 1).val = (y 1).val) (n : ℕ) (hn : t.val % 4 * 768 = n) :
    piece (iblk m c 0 t) (iblk m c 1 t) y
      = ∑ k : Fin 768, term m c i (n + k.val) := by
  refine Finset.sum_congr rfl fun k _ => ?_
  have hk : k.val < 768 := k.isLt
  have hs : n + k.val < 3072 := by omega
  have e0 : iblk m c 0 t (ix2 (y 0) k) = act m c (ix2 (i 0) ⟨n + k.val, hs⟩) := b0 m c t _ _ h0 (by
    show n + k.val = t.val % 4 * 768 + k.val
    omega)
  have e1 : iblk m c 1 t (ix3 0 (y 1) k) = weight m c (ix3 ⟨(n + k.val) / 768, Nat.div_lt_of_lt_mul hs⟩ (i 1)
      ⟨(n + k.val) % 768, Nat.mod_lt _ (by decide)⟩) := b1 m c t _ _ (by
    show (n + k.val) / 768 = t.val % 4
    omega) h1 (by
    show (n + k.val) % 768 = k.val
    omega)
  have e : term m c i (n + k.val) = _ := dif_pos hs
  exact (congrArg₂ (fun p q : EReal => p * q) e0 e1).trans e.symm

theorem zero_acc (i : S512x2048.Idx) : k0_pay1 (F := Ideal) i = (0 : EReal) := by
  unfold k0_pay1
  pointwise [word_zero]
  rfl
theorem zero_gain (i : S1x2048.Idx) : k0_pay8 (F := Ideal) i = (0 : EReal) := by
  unfold k0_pay8
  pointwise [word_zero]
  rfl

/-- After the last point of a block of rows the accumulator holds the product. -/
theorem total_eq (t : Fin cfg0.N) (h : t.val % 4 = 3) (y : S512x2048.Idx) (i : S4096x2048.Idx)
    (h0 : (i 0).val = t.val / 4 * 512 + (y 0).val) (h1 : (i 1).val = (y 1).val) :
    total m c t y = prod (act m c) (weight m c) i := by
  have ht := t.isLt
  let t1 : Fin cfg0.N := ⟨t.val - 1, Nat.lt_of_le_of_lt (Nat.sub_le _ _) t.isLt⟩
  let t2 : Fin cfg0.N := ⟨t1.val - 1, Nat.lt_of_le_of_lt (Nat.sub_le _ _) t1.isLt⟩
  let t3 : Fin cfg0.N := ⟨t2.val - 1, Nat.lt_of_le_of_lt (Nat.sub_le _ _) t2.isLt⟩
  have v1 : t1.val = t.val - 1 := rfl
  have v2 : t2.val = t.val - 1 - 1 := rfl
  have v3 : t3.val = t.val - 1 - 1 - 1 := rfl
  have e1 := acc_B m c t1 (by omega) (by omega) (by omega)
  have e2 := acc_B m c t2 (by omega) (by omega) (by omega)
  have e3 := acc_A m c t3 (by omega) (by omega) (by omega)
  refine (congrArg₂ (· + ·) ((congrFun e1 y).trans (congrArg₂ (· + ·) ((congrFun e2 y).trans (congrArg₂ (· + ·)
    ((congrFun e3 y).trans (congrArg₂ (· + ·) (zero_acc y) (point m c t3 y i (by omega) h1 0 (by omega))))
    (point m c t2 y i (by omega) h1 768 (by omega)))) (point m c t1 y i (by omega) h1 (2 * 768) (by omega))))
    (point m c t y i h0 h1 (3 * 768) (by omega))).trans ((NormBwd.sum_four (term m c i) 768 0).trans ?_)
  rw [zero_add]
  exact Finset.sum_congr rfl fun k _ => dif_pos k.isLt

/-- What the rows give to an entry of the gradient of the scale, numbered along the rows. -/
def share (n : Fin 2048) (s : ℕ) : EReal := if h : s < 4096 then
  NormBwd.gain (n := 4096) (resid m c) (prod (act m c) (weight m c)) (ix2 ⟨s, h⟩ n) else 0

theorem share_point (t : Fin cfg0.N) (h : t.val % 4 = 3) (n : ℕ) (hn : t.val / 4 = n) (i : S1x2048.Idx) :
    ∑ r : Fin 512, NormBwd.gain (n := 512) (iblk m c 2 t) (total m c t) (ix2 r (i 1)) = ∑ r : Fin 512, share m c (i 1) (n * 512 + r.val) := by
  refine Finset.sum_congr rfl fun r _ => ?_
  have ht : t.val < 32 := t.isLt
  have hr : r.val < 512 := r.isLt
  have hs : n * 512 + r.val < 4096 := by omega
  have e : n * 512 + r.val = t.val / 4 * 512 + r.val := by rw [hn]
  have e' : share m c (i 1) (n * 512 + r.val) = _ := dif_pos hs
  exact (NormBwd.gain_congr (n := 512) (n' := 4096) (ix2 r (i 1)) (ix2 ⟨n * 512 + r.val, hs⟩ (i 1))
    (b2 m c t (ix2 r (i 1)) (ix2 ⟨n * 512 + r.val, hs⟩ (i 1)) e rfl)
    (fun k => b2 m c t (ix2 r k) (ix2 ⟨n * 512 + r.val, hs⟩ k) e rfl)
    (total_eq m c t h (ix2 r (i 1)) (ix2 ⟨n * 512 + r.val, hs⟩ (i 1)) e rfl)).trans e'.symm

/-- After each block of rows the gradient of the scale holds what the rows so far give. -/
theorem gain_at (i : S1x2048.Idx) : ∀ (n : ℕ) (hn : 4 * n + 3 < cfg0.N), (outsAt0 (F := Ideal) m c (4 * n + 3) hn).2.1 i
    = ∑ b ∈ Finset.range (n + 1), ∑ r : Fin 512, share m c (i 1) (b * 512 + r.val)
  | 0, hn => by
    refine (congrFun (gain_C m c ⟨3, hn⟩ (by decide : ¬3 % 4 = 0) (by decide : ¬3 % 4 ≤ 2) rfl (by decide : 3 < 4)) i).trans ?_
    rw [Finset.sum_range_one]
    exact (congrArg₂ (· + ·) (zero_gain i) (share_point m c ⟨3, hn⟩ (by decide : 3 % 4 = 3) 0 (by decide : 3 / 4 = 0) i)).trans (zero_add _)
  | n + 1, hn => by
    have g1 := gain_B m c ⟨4 * n + 6, by omega⟩ (by show ¬(4 * n + 6) % 4 = 0; omega) (by show (4 * n + 6) % 4 ≤ 2; omega)
      (by show ¬(4 * n + 6) % 4 = 3; omega)
    have g2 := gain_B m c ⟨4 * n + 5, by omega⟩ (by show ¬(4 * n + 5) % 4 = 0; omega) (by show (4 * n + 5) % 4 ≤ 2; omega)
      (by show ¬(4 * n + 5) % 4 = 3; omega)
    have g3 := gain_A m c ⟨4 * n + 4, by omega⟩ (by show (4 * n + 4) % 4 = 0; omega) (by show (4 * n + 4) % 4 ≤ 2; omega)
      (by show ¬(4 * n + 4) % 4 = 3; omega)
    have g4 := gain_D m c ⟨4 * n + 7, hn⟩ (by show ¬(4 * n + 7) % 4 = 0; omega) (by show ¬(4 * n + 7) % 4 ≤ 2; omega)
      (by show (4 * n + 7) % 4 = 3; omega) (by show ¬4 * n + 7 < 4; omega)
    have keep : beforeG m c ⟨4 * n + 7, hn⟩ = (outsAt0 (F := Ideal) m c (4 * n + 3) (by omega)).2.1 := g1.trans (g2.trans g3)
    rw [keep] at g4
    refine (congrFun g4 i).trans ?_
    rw [Finset.sum_range_succ _ (n + 1)]
    exact congrArg₂ (· + ·) (gain_at i n (by omega)) (share_point m c ⟨4 * n + 7, hn⟩ (by show (4 * n + 7) % 4 = 3; omega) (n + 1)
      (by show (4 * n + 7) / 4 = n + 1; omega) i)

/-- The last point of a block of rows stores the gradient of those rows. -/
theorem value (t : Fin cfg0.N) (h : t.val % 4 = 3) (y : S512x2048.Idx) (i : S4096x2048.Idx)
    (h0 : (i 0).val = t.val / 4 * 512 + (y 0).val) (h1 : (i 1).val = (y 1).val) : (outsAt0 (F := Ideal) m c t.val t.isLt).1 y
    = NormBwd.grad (n := 4096) (resid m c) (cot m c) (prod (act m c) (weight m c)) (gain m c) i := by
  have e : (outsAt0 (F := Ideal) m c t.val t.isLt).1
      = NormBwd.grad (n := 512) (iblk m c 2 t) (iblk m c 3 t) (total m c t) (iblk m c 4 t) := by
    by_cases h3 : t.val < 4
    · exact grad_C m c t (by omega) (by omega) h h3
    · exact grad_D m c t (by omega) (by omega) h h3
  refine (congrFun e y).trans (NormBwd.grad_congr y i (Fin.ext h1.symm) (fun k => b2 m c t _ _ h0 rfl) (b3 m c t _ _ h0 h1)
    (fun k => total_eq m c t h _ _ h0 rfl) fun k => b4 m c t _)

theorem fetch5 : ∀ t : Fin cfg0.N, (cfg0.win 5).flush t → t.val % 4 = 3 := by decide +kernel

theorem out5 : (dats m 0 c).arrAt 5 cfg0.N
    = NormBwd.grad (n := 4096) (resid m c) (cot m c) (prod (act m c) (weight m c)) (gain m c) := by
  refine (dats m 0 c).arrAt_eq_of_covers 5 _ (by decide +kernel) fun t hf y => ?_
  blk_simp [idx5]
  rw [after0_5]
  refine value m c t (fetch5 t hf) y _ ?_ ?_ <;> blk_simp [idx5]

/-- The last grid point. -/
def last : Fin grid0.N := ⟨31, by rw [N_0]; decide⟩

/-- Over all blocks of rows the gradient of the scale gets every row's share. -/
theorem slope_at (s : ℕ) (hs : s = 31) (hn : s < cfg0.N) (i : S1x2048.Idx) : (outsAt0 (F := Ideal) m c s hn).2.1 i
    = NormBwd.slope (n := 4096) (resid m c) (prod (act m c) (weight m c)) i := by
  subst hs
  refine ((gain_at m c i 7 hn).trans (NormBwd.sum_blocks (share m c (i 1)) 512 8)).trans ?_
  rw [← Fin.sum_univ_eq_sum_range (share m c (i 1)) (8 * 512)]
  exact Finset.sum_congr rfl fun r _ => dif_pos r.isLt

theorem slope_last : (outsAt0 (F := Ideal) m c last.val last.isLt).2.1 = NormBwd.slope (n := 4096) (resid m c) (prod (act m c) (weight m c)) :=
  funext fun i => slope_at m c last.val rfl last.isLt i

theorem out6 : (dats m 0 c).arrAt 6 cfg0.N = NormBwd.slope (n := 4096) (resid m c) (prod (act m c) (weight m c)) := by
  refine (dats m 0 c).arrAt_eq_of_after_last 6 last (by decide +kernel) _ fun j => ?_
  blk_simp [idx6]
  rw [after0_6, slope_last]

end

/-- What the kernel leaves in its results. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0)
        = NormBwd.grad (n := 4096) (resid m c) (cot m c) (prod (act m c) (weight m c)) (gain m c)
      ∧ r.2.mem ((c.tc : Thread nD τ).loc main_v0_1) = NormBwd.slope (n := 4096) (resid m c) (prod (act m c) (weight m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (out5 m c), (h c).2.1.trans (out6 m c), (h c).2.2⟩)
    (Cert.Kernel12Ideal.Value.run_blocks (F := Ideal) m ρ)

end Kernel

/-! ### The reference -/

section Reference

open Cert.Reference12Ideal Cert.Reference12Ideal.Gen Cert.Reference12Ideal.Read

variable (a : S4096x3072.Idx → EReal) (w : S4x2048x768.Idx → EReal) (x d : S4096x2048.Idx → EReal) (g : S1x2048.Idx → EReal)

/-- The product with the joined matrix. -/
theorem reference_prod (i : S4096x2048.Idx) : val_main_v23 (F := Ideal) a w i = prod a w i := by
  rw [val_main_v23_apply]
  refine Finset.sum_congr rfl fun k _ => ?_
  rw [val_main_v22_apply, val_main_v2_apply, val_main_v1_apply, val_main_v0_apply]
  have h0 : (i 1).val < 2048 := (i 1).isLt
  have h1 : k.val < 3072 := k.isLt
  refine congrArg₂ (· * ·) (congrArg a (funext fun b => ?_)) (congrArg w (funext fun b => Fin.ext ?_))
  · match b with
    | 0 => rfl
    | 1 => rfl
  · match b with
    | 0 =>
      show ((i 1).val * 3072 + k.val) / 768 % 4 = k.val / 768
      omega
    | 1 =>
      show ((i 1).val * 3072 + k.val) / 3072 = (i 1).val
      omega
    | 2 =>
      show ((i 1).val * 3072 + k.val) % 768 = k.val % 768
      omega

/-- The mean square of a row, and its reciprocal root. -/
theorem reference_mean (i : S4096x1.Idx) : val_main_v10 (F := Ideal) x i = Norm.meanSq fun k => x (ix2 (i 0) k) := by
  simp only [val_main_v10_apply, val_main_v9_apply, val_main_v8_apply, val_main_v7_apply, val_main_v6_apply,
    val_main_v5_apply, val_main_v4_apply, val_main_cst_apply, val_main_cst_0_apply, val_main_cst_1_apply]
  have e : ∀ k, idx_main_v5 (idx_main_v6 i) k = ix2 (i 0) k := fun k => funext fun b => by
    match b with
    | 0 => rfl
    | 1 => rfl
  simp only [e]
  show Ideal.div (Ideal.ofBits .f32 0x00000000#32 + ∑ k : Fin 2048, x (ix2 (i 0) k) * x (ix2 (i 0) k))
    (Ideal.ofBits .f32 0x45000000#32) + Ideal.ofBits .f32 0x358637BD#32 = _
  rw [word_zero, Norm.word_2048, word_eps, EReal.coe_zero, zero_add]
  rfl
theorem reference_root (i : S4096x1.Idx) : val_main_v11 (F := Ideal) x i = Norm.scale fun k => x (ix2 (i 0) k) := by
  rw [val_main_v11_apply, reference_mean]
  rfl

/-- The scale of a column. -/
theorem reference_gain (i : S4096x2048.Idx) : val_main_v3 (F := Ideal) g (idx_main_v17 (idx_main_v27 i)) = g (ix2 0 (i 1)) := by
  rw [val_main_v3_apply]
  refine congrArg g (funext fun b => Fin.ext ?_)
  match b with
  | 0 => rfl
  | 1 => exact Nat.mod_eq_of_lt (i 1).isLt

theorem reference_slope : val_main_v45 (F := Ideal) a w x = NormBwd.slope (n := 4096) x (prod a w) := by
  funext i
  rw [val_main_v45_apply, val_main_v29_apply, Fin.sum_univ_one, val_main_v26_apply, val_main_v25_apply, val_main_cst_3_apply,
    val_main_cst_4_apply]
  show Ideal.ofBits .f32 0x00000000#32 + (Ideal.ofBits .f32 0x00000000#32 + ∑ k : Fin 4096, _) = _
  rw [word_zero, EReal.coe_zero, zero_add, zero_add]
  refine Finset.sum_congr rfl fun r _ => ?_
  rw [val_main_v24_apply, val_main_v16_apply, val_main_v15_apply, reference_root, reference_prod]
  have e : idx_main_v25 (idx_main_v26 (idx_main_v29 (idx_main_v45 i) 0)) r = ix2 r (i 1) := funext fun b => Fin.ext (by
    have h1 : (i 1).val < 2048 := (i 1).isLt
    match b with
    | 0 => rfl
    | 1 =>
      show (0 * 2048 + (i 1).val) = (i 1).val
      omega)
  rw [e]
  exact mul_comm _ _

theorem reference_grad : val_main_v44 (F := Ideal) a w x d g = NormBwd.grad (n := 4096) x d (prod a w) g := by
  funext i
  simp only [val_main_v44_apply, val_main_v43_apply, val_main_v42_apply, val_main_v41_apply, val_main_v40_apply,
    val_main_v39_apply, val_main_v38_apply, val_main_v37_apply, val_main_v36_apply, val_main_v35_apply, val_main_v34_apply,
    val_main_v33_apply, val_main_v32_apply, val_main_v31_apply, val_main_v30_apply, val_main_v28_apply, val_main_v27_apply,
    val_main_v21_apply, val_main_v17_apply, val_main_v14_apply, val_main_v13_apply, val_main_v12_apply,
    val_main_cst_2_apply, val_main_cst_5_apply, val_main_cst_6_apply, val_main_cst_7_apply, reference_gain, reference_root,
    reference_mean, reference_prod, Fin.sum_univ_one]
  have e : ∀ k, idx_main_v31 (idx_main_v32 (idx_main_v39 (idx_main_v40 i) 0)) k = ix2 (i 0) k := fun k => funext fun b => Fin.ext (by
    match b with
    | 0 =>
      show (i 0).val * 1 + 0 = (i 0).val
      omega
    | 1 => rfl)
  simp only [e]
  show d i + prod a w i * g (ix2 0 (i 1)) * Norm.scale (fun k => x (ix2 (i 0) k)) + x i * (Ideal.ofBits .f32 0x00000000#32
      + Ideal.div ((Ideal.ofBits .f32 0x00000000#32 + ∑ k : Fin 2048, x (ix2 (i 0) k) * (prod a w (ix2 (i 0) k) * g (ix2 0 k)))
        * (Ideal.ofBits .f32 0xBF000000#32 * Ideal.div (Norm.scale fun k => x (ix2 (i 0) k)) (Norm.meanSq fun k => x (ix2 (i 0) k))))
        (Ideal.ofBits .f32 0x45000000#32))
    + (Ideal.ofBits .f32 0x00000000#32
      + Ideal.div ((Ideal.ofBits .f32 0x00000000#32 + ∑ k : Fin 2048, x (ix2 (i 0) k) * (prod a w (ix2 (i 0) k) * g (ix2 0 k)))
        * (Ideal.ofBits .f32 0xBF000000#32 * Ideal.div (Norm.scale fun k => x (ix2 (i 0) k)) (Norm.meanSq fun k => x (ix2 (i 0) k))))
        (Ideal.ofBits .f32 0x45000000#32)) * x i = _
  rw [word_zero, Norm.word_2048, word_neg_half, EReal.coe_zero, zero_add, zero_add]
  exact NormBwd.grad_read x d (prod a w) g i

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v44) = NormBwd.grad (n := 4096) (m ((c.tc : Thread nD τ).loc main_arg2))
        (m ((c.tc : Thread nD τ).loc main_arg3)) (prod (m ((c.tc : Thread nD τ).loc main_arg0)) (m ((c.tc : Thread nD τ).loc main_arg1)))
        (m ((c.tc : Thread nD τ).loc main_arg4))
      ∧ r.2.mem ((c.tc : Thread nD τ).loc main_v45) = NormBwd.slope (n := 4096) (m ((c.tc : Thread nD τ).loc main_arg2))
        (prod (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1.trans (val_main_v44_eq _ _)).trans (reference_grad _ _ _ _ _),
    ((h c).2.1.trans (val_main_v45_eq _ _ _)).trans (reference_slope _ _ _), (h c).2.2⟩)
    (Cert.Reference12Ideal.Value.run (F := Ideal) m ρ)

/-- The reference declares no semaphore. -/
theorem frame_reference : Cert.quiescent_Reference12Ideal := fun m ρ _ =>
  (θ_run defs _ _).mono (fun r h => ⟨fun c => (h c).2.2, sem_eq_zero_of_no_sems (by decide) r.2⟩) (reference_run m ρ)

end Reference

theorem algebraic : Cert.algebraic_Kernel12Ideal_Reference12Ideal := by
  intro m ρ m' ρ' _ hm
  refine ⟨_, _, run m ρ, (θ_run _ _ _).mono (fun r h c => ⟨(h c).1.trans ?_, (h c).2.1.trans ?_, (h c).2.2⟩) (reference_run m' ρ')⟩
  · rw [(hm c).1, (hm c).2.1, (hm c).2.2.1, (hm c).2.2.2.1, (hm c).2.2.2.2]
    rfl
  · rw [(hm c).1, (hm c).2.1, (hm c).2.2.1]
    rfl

end Cert.Proof.Dh1
end
-- ==== Proof.Down.lean ====
/- The last part of the forward pass and the first of the backward pass: for every 512 rows the kernel's four grid points add up
   the product with the down matrix, and the last one adds the stream, normalises it, compares it with the target and takes
   the gradient, adding to the gradient of the scale and to the squared differences of each column. -/
module

public import proofs.«01_k».proof.Defs
public import proofs.«01_k».proof.Proof.NormBwd
public import proofs.«01_k».proof.Proof.Products
public import proofs.«01_k».proof.Proof.KerLoad
public import proofs.«01_k».proof.Proof.Gen.Kernel13Ideal.Value
public import proofs.«01_k».proof.Proof.Gen.Reference13Ideal.Read
public import Idealize.ShloMosaic.Lib.Claim
public import Idealize.ShloMosaic.Adequacy
public import Idealize.ShloMosaic.Init

@[expose] public section

set_option maxRecDepth 16384

noncomputable section

namespace Cert.Proof.Down

open Idealize.ShloMosaic Idealize.SL.Sem
open scoped BigOperators

theorem word_recip : Ideal.ofBits .f32 0x3A000000#32 = ((1 / 2048 : ℝ) : EReal) := by
  simp [Ideal.ofBits, Ideal.ieee, -EReal.coe_mul]
  norm_num
theorem word_two : Ideal.ofBits .f32 0x40000000#32 = ((2 : ℝ) : EReal) := by
  simp [Ideal.ofBits, Ideal.ieee, -EReal.coe_mul]
  norm_num

/-- The rows times the matrix. -/
def prod (a : Cert.Kernel13Ideal.S4096x8192.Idx → EReal) (w : Cert.Kernel13Ideal.S8192x2048.Idx → EReal) :
    Cert.Kernel13Ideal.S4096x2048.Idx → EReal := fun i => ∑ k : Fin 8192, a (ix2 (i 0) k) * w (ix2 k (i 1))

section Rows

variable {n : ℕ} (X T : (⟨2, ![n, 2048]⟩ : Shape).Idx → EReal) (g : (⟨2, ![1, 2048]⟩ : Shape).Idx → EReal)

/-- The difference of the normalised and scaled rows `X` from the target. -/
def diff : (⟨2, ![n, 2048]⟩ : Shape).Idx → EReal := fun i =>
  X i * Norm.scale (fun k => X (ix2 (i 0) k)) * g (ix2 0 (i 1)) - T i

/-- The gradient of the loss by the normalised and scaled rows. -/
def slant : (⟨2, ![n, 2048]⟩ : Shape).Idx → EReal := fun i => diff X T g i * ((1 / 2048 : ℝ) : EReal)

/-- The gradient of the loss by the rows. -/
def grad : (⟨2, ![n, 2048]⟩ : Shape).Idx → EReal := NormBwd.grad X (fun _ => 0) (slant X T g) g

/-- The gradient of the loss by the scale. -/
def slope : (⟨2, ![1, 2048]⟩ : Shape).Idx → EReal := NormBwd.slope X (slant X T g)

/-- The squared differences, summed over the rows. -/
def loss : (⟨2, ![1, 2048]⟩ : Shape).Idx → EReal := fun i => ∑ r : Fin n, diff X T g (ix2 r (i 1)) * diff X T g (ix2 r (i 1))

end Rows

section Kernel

open Cert.Kernel13Ideal Cert.Kernel13Ideal.Gen Cert.Kernel13Ideal.Value

/-- The stream: what came in and the product. -/
def stream {s : Shape} (R P : s.Idx → EReal) : s.Idx → EReal := fun i => R i + P i

/-- An entry of a block's product. -/
def piece (x : S512x2048.Idx → EReal) (w : S2048x2048.Idx → EReal) (i : S512x2048.Idx) : EReal :=
  ∑ k : Fin 2048, x (ix2 (i 0) k) * w (ix2 k (i 1))

/-- A block's product added to what the accumulator held. -/
def acc (P : S512x2048.Idx → EReal) (x : S512x2048.Idx → EReal) (w : S2048x2048.Idx → EReal) : S512x2048.Idx → EReal :=
  fun i => P i + ∑ k : Fin 2048, x (ix2 (i 0) k) * w (ix2 k (i 1))

/-- The product of 512 rows with 512 columns of the matrix, added to what the accumulator held, entry by entry. -/
theorem product (x : FVec Ideal S512x2048 .bf16) (P : FVec Ideal S512x512 .f32) (w : FVec Ideal S2048x512 .bf16)
    (i : S512x512.Idx) : k0_pay5 (F := Ideal) x P w i = P i + ∑ k : Fin 2048, x (ix2 (i 0) k) * w (ix2 k (i 1)) := by
  idx_vars i
  unfold_payloads
  pointwise [word_zero]
  rw [EReal.coe_zero, zero_add]

/-- The same for 256 rows. -/
theorem product' (x : FVec Ideal S256x2048 .bf16) (P : FVec Ideal S256x512 .f32) (w : FVec Ideal S2048x512 .bf16)
    (i : S256x512.Idx) : k0_pay11 (F := Ideal) x P w i = P i + ∑ k : Fin 2048, x (ix2 (i 0) k) * w (ix2 k (i 1)) := by
  idx_vars i
  unfold_payloads
  pointwise [word_zero]
  rw [EReal.coe_zero, zero_add]

/-- One part of a block: 512 columns, from column `o` on. -/
theorem part (x : FVec Ideal S512x2048 .bf16) (P : FVec Ideal S512x2048 .f32) (w : FVec Ideal S2048x2048 .bf16) (o : ℕ)
    (inb : ∀ i, (![0, o] : Fin 2 → ℕ) i + S512x512.size i ≤ S512x2048.size i)
    (inb' : ∀ i, (![0, o] : Fin 2 → ℕ) i + S2048x512.size i ≤ S2048x2048.size i) (i : S512x512.Idx) :
    k0_pay5 (F := Ideal) x (View.ld (Val := Elt Ideal) P (Rect.unit (s := S512x2048) ![0, o] S512x512.size inb))
        (View.ld (Val := Elt Ideal) w (Rect.unit (s := S2048x2048) ![0, o] S2048x512.size inb')) i
      = acc P x w ((Rect.unit (s := S512x2048) ![0, o] S512x512.size inb).emb i) := by
  refine (product _ _ _ i).trans (congrArg₂ (· + ·) rfl (Finset.sum_congr rfl fun k _ =>
    congrArg₂ (· * ·) (congrArg x (funext fun b => Fin.ext ?_)) (congrArg w (funext fun b => Fin.ext ?_))))
  · match b with
    | 0 => show (i 0).val = 0 + 1 * (i 0).val; omega
    | 1 => rfl
  · match b with
    | 0 => show 0 + 1 * k.val = k.val; omega
    | 1 => rfl

/-- One part of half a block: 256 rows, from row `a` on, and 512 columns, from column `o` on. -/
theorem part' (x : FVec Ideal S512x2048 .bf16) (P : FVec Ideal S512x2048 .f32) (w : FVec Ideal S2048x2048 .bf16) (a o : ℕ)
    (inx : ∀ i, (![a, 0] : Fin 2 → ℕ) i + S256x2048.size i ≤ S512x2048.size i)
    (inb : ∀ i, (![a, o] : Fin 2 → ℕ) i + S256x512.size i ≤ S512x2048.size i)
    (inb' : ∀ i, (![0, o] : Fin 2 → ℕ) i + S2048x512.size i ≤ S2048x2048.size i) (i : S256x512.Idx) :
    k0_pay11 (F := Ideal) (View.ld (Val := Elt Ideal) x (Rect.unit (s := S512x2048) ![a, 0] S256x2048.size inx))
        (View.ld (Val := Elt Ideal) P (Rect.unit (s := S512x2048) ![a, o] S256x512.size inb))
        (View.ld (Val := Elt Ideal) w (Rect.unit (s := S2048x2048) ![0, o] S2048x512.size inb')) i
      = acc P x w ((Rect.unit (s := S512x2048) ![a, o] S256x512.size inb).emb i) := by
  refine (product' _ _ _ i).trans (congrArg₂ (· + ·) rfl (Finset.sum_congr rfl fun k _ =>
    congrArg₂ (· * ·) (congrArg x (funext fun b => Fin.ext ?_)) (congrArg w (funext fun b => Fin.ext ?_))))
  · match b with
    | 0 => rfl
    | 1 => show 0 + 1 * k.val = k.val; omega
  · match b with
    | 0 => show 0 + 1 * k.val = k.val; omega
    | 1 => rfl

/-- The gradient of 128 rows. -/
theorem grad_pay (X P T : FVec Ideal S128x2048 .f32) (g : FVec Ideal S1x2048 .f32) (i : S128x2048.Idx) :
    k0_pay20 (F := Ideal) g X P T i = grad (n := 128) (stream X P) T g i := by
  refine Eq.trans ?_ (zero_add _).symm
  idx_vars i
  unfold_payloads
  pointwise [Norm.word_2048, word_eps, word_recip]
  rfl

/-- What 128 rows give to the gradient of the scale. -/
theorem gain_pay (X P T : FVec Ideal S128x2048 .f32) (g L : FVec Ideal S1x2048 .f32) (i : S1x2048.Idx) :
    k0_pay22 (F := Ideal) (k0_pay17 X P) (k0_pay19 g X P T) L i
      = L i + ∑ r : Fin 128, NormBwd.gain (n := 128) (stream X P) (slant (n := 128) (stream X P) T g) (ix2 r (i 1)) := by
  idx_vars i
  unfold_payloads
  pointwise [Norm.word_2048, word_eps, word_recip]
  rfl

/-- What 128 rows give to the squared differences. -/
theorem loss_pay (X P T : FVec Ideal S128x2048 .f32) (g L : FVec Ideal S1x2048 .f32) (i : S1x2048.Idx) :
    k0_pay23 (F := Ideal) (k0_pay18 g X P T) L i
      = L i + loss (n := 128) (stream X P) T g i := by
  idx_vars i
  unfold_payloads
  pointwise [Norm.word_2048, word_eps, word_recip]
  rfl

/-- The four groups of 128 rows are computed alike. -/
theorem grad_0 (v : FVec Ideal S128x2048 .bf16) : k0_pay21 (F := Ideal) v = v := by
  funext i
  idx_vars i
  unfold_payloads
  pointwise
theorem grad_1 (X P T : FVec Ideal S128x2048 .f32) (g : FVec Ideal S1x2048 .f32) : k0_pay30 (F := Ideal) (k0_pay25 X P) (k0_pay26 X P)
    (k0_pay28 g X P T) (k0_pay29 g) = k0_pay20 g X P T := (grad_0 (k0_pay20 g X P T) :)
theorem grad_2 (X P T : FVec Ideal S128x2048 .f32) (g : FVec Ideal S1x2048 .f32) :
    k0_pay44 (F := Ideal) g (k0_pay38 X P) (k0_pay39 X P) T = k0_pay20 g X P T := (grad_0 (k0_pay20 g X P T) :)
theorem grad_3 (X P T : FVec Ideal S128x2048 .f32) (g : FVec Ideal S1x2048 .f32) :
    k0_pay53 (F := Ideal) g X P T = k0_pay20 g X P T := (grad_0 (k0_pay20 g X P T) :)
theorem gain_1 (X P T : FVec Ideal S128x2048 .f32) (g L : FVec Ideal S1x2048 .f32) :
    k0_pay31 (F := Ideal) (k0_pay26 X P) (k0_pay28 g X P T) L = k0_pay22 (k0_pay17 X P) (k0_pay19 g X P T) L := rfl
theorem gain_2 (X P T : FVec Ideal S128x2048 .f32) (g L : FVec Ideal S1x2048 .f32) :
    k0_pay45 (F := Ideal) g (k0_pay38 X P) (k0_pay39 X P) T L = k0_pay22 (k0_pay17 X P) (k0_pay19 g X P T) L := rfl
theorem gain_3 (X P T : FVec Ideal S128x2048 .f32) (g L : FVec Ideal S1x2048 .f32) :
    k0_pay3 (F := Ideal) (k0_pay50 X P) (k0_pay52 g X P T) L = k0_pay22 (k0_pay17 X P) (k0_pay19 g X P T) L := rfl
theorem loss_1 (X P T : FVec Ideal S128x2048 .f32) (g L : FVec Ideal S1x2048 .f32) :
    k0_pay32 (F := Ideal) (k0_pay27 g X P T) L = k0_pay23 (k0_pay18 g X P T) L := rfl
theorem loss_2 (X P T : FVec Ideal S128x2048 .f32) (g L : FVec Ideal S1x2048 .f32) :
    k0_pay47 (F := Ideal) L (k0_pay46 g (k0_pay38 X P) (k0_pay39 X P) T) = k0_pay23 (k0_pay18 g X P T) L := rfl
theorem loss_3 (X P T : FVec Ideal S128x2048 .f32) (g L : FVec Ideal S1x2048 .f32) :
    k0_pay4 (F := Ideal) (k0_pay51 g X P T) L = k0_pay23 (k0_pay18 g X P T) L := rfl

/-- Rows `o` to `o + 127` of a block. -/
abbrev rows (o : ℕ) (inb : ∀ i, (![o, 0] : Fin 2 → ℕ) i + (![128, 2048] : Fin 2 → ℕ) i ≤ S512x2048.size i) : Rect S512x2048 :=
  Rect.unit (s := S512x2048) ![o, 0] ![128, 2048] inb

/-- These rows of an array. -/
abbrev take (X : S512x2048.Idx → EReal) (o : ℕ) (inb : ∀ i, (![o, 0] : Fin 2 → ℕ) i + (![128, 2048] : Fin 2 → ℕ) i ≤ S512x2048.size i) :
    S128x2048.Idx → EReal := View.ld (Val := Elt Ideal) (e' := .f32) X (rows o inb)

section
variable (R P T : S512x2048.Idx → EReal) (g L : S1x2048.Idx → EReal)

theorem diff_take (o : ℕ) (inb) (i : S128x2048.Idx) :
    diff (n := 128) (stream (take R o inb) (take P o inb)) (take T o inb) g i = diff (n := 512) (stream R P) T g ((rows o inb).emb i) := by
  have e : ∀ k : Fin 2048, (rows o inb).idx (ix2 (i 0) k) = ix2 ((rows o inb).emb i 0) k := fun k => funext fun b => Fin.ext (by
    match b with
    | 0 => rfl
    | 1 => show 0 + 1 * k.val = k.val; omega)
  have e1 : i 1 = (rows o inb).emb i 1 := Fin.ext (by show (i 1).val = 0 + 1 * (i 1).val; omega)
  unfold diff stream take View.ld
  simp only [e]
  rw [e1]
  rfl

theorem slant_take (o : ℕ) (inb) : slant (n := 128) (stream (take R o inb) (take P o inb)) (take T o inb) g
    = take (slant (n := 512) (stream R P) T g) o inb :=
  funext fun i => congrArg (fun p : EReal => p * ((1 / 2048 : ℝ) : EReal)) (diff_take R P T g o inb i)

/-- The gradient of 128 rows is part of the gradient of the block. -/
theorem grad_part (o : ℕ) (inb) (i : S128x2048.Idx) :
    k0_pay20 (F := Ideal) g (take R o inb) (take P o inb) (take T o inb) i = grad (n := 512) (stream R P) T g ((rows o inb).emb i) := by
  refine (grad_pay _ _ _ _ i).trans ?_
  unfold grad
  rw [slant_take]
  exact NormBwd.grad_ld (stream R P) (fun _ => 0) (slant (n := 512) (stream R P) T g) g o inb i

/-- A sum over 512 rows, taken 128 rows at a time. -/
theorem sum_rows (G : S512x2048.Idx → EReal) (p : EReal) (n : Fin 2048) (i0 i1 i2 i3) :
    p + ∑ r : Fin 128, G ((rows 0 i0).emb (ix2 r n)) + ∑ r : Fin 128, G ((rows 128 i1).emb (ix2 r n))
      + ∑ r : Fin 128, G ((rows 256 i2).emb (ix2 r n)) + ∑ r : Fin 128, G ((rows 384 i3).emb (ix2 r n)) = p + ∑ r : Fin 512, G (ix2 r n) := by
  let f : ℕ → EReal := fun s => if h : s < 512 then G (ix2 ⟨s, h⟩ n) else 0
  have part : ∀ (o : ℕ) (ho : o + 128 ≤ 512) (inb), ∑ r : Fin 128, G ((rows o inb).emb (ix2 r n)) = ∑ r : Fin 128, f (o + r.val) :=
    fun o ho inb => Finset.sum_congr rfl fun r _ => by
      have hr : o + r.val < 512 := by have := r.isLt; omega
      show _ = if h : o + r.val < 512 then G (ix2 ⟨o + r.val, h⟩ n) else 0
      rw [dif_pos hr]
      refine congrArg G (funext fun b => Fin.ext ?_)
      match b with
      | 0 => show o + 1 * r.val = o + r.val; omega
      | 1 => show 0 + 1 * n.val = n.val; omega
  rw [part 0 (by decide), part 128 (by decide), part 256 (by decide), part 384 (by decide)]
  exact (NormBwd.sum_four f 128 p).trans (congrArg (p + ·) (Finset.sum_congr rfl fun s _ => dif_pos s.isLt))

/-- The gradient of the scale: what was there and what 512 rows give. -/
theorem gain_sum (i0 i1 i2 i3) (i : S1x2048.Idx) :
    k0_pay22 (F := Ideal) (k0_pay17 (take R 384 i3) (take P 384 i3)) (k0_pay19 g (take R 384 i3) (take P 384 i3) (take T 384 i3))
      (k0_pay22 (F := Ideal) (k0_pay17 (take R 256 i2) (take P 256 i2)) (k0_pay19 g (take R 256 i2) (take P 256 i2) (take T 256 i2))
      (k0_pay22 (F := Ideal) (k0_pay17 (take R 128 i1) (take P 128 i1)) (k0_pay19 g (take R 128 i1) (take P 128 i1) (take T 128 i1))
      (k0_pay22 (F := Ideal) (k0_pay17 (take R 0 i0) (take P 0 i0)) (k0_pay19 g (take R 0 i0) (take P 0 i0) (take T 0 i0)) L))) i
      = L i + slope (n := 512) (stream R P) T g i := by
  have part : ∀ (o : ℕ) (inb), ∑ r : Fin 128, NormBwd.gain (n := 128) (stream (take R o inb) (take P o inb))
      (slant (n := 128) (stream (take R o inb) (take P o inb)) (take T o inb) g) (ix2 r (i 1))
      = ∑ r : Fin 128, NormBwd.gain (n := 512) (stream R P) (slant (n := 512) (stream R P) T g) ((rows o inb).emb (ix2 r (i 1))) :=
    fun o inb => Finset.sum_congr rfl fun r _ => by
      rw [slant_take]
      exact NormBwd.gain_ld (stream R P) (slant (n := 512) (stream R P) T g) o inb (ix2 r (i 1))
  rw [gain_pay, gain_pay, gain_pay, gain_pay, part, part, part, part]
  exact sum_rows _ (L i) (i 1) i0 i1 i2 i3

/-- The squared differences: what was there and what 512 rows give. -/
theorem loss_sum (i0 i1 i2 i3) (i : S1x2048.Idx) :
    k0_pay23 (F := Ideal) (k0_pay18 g (take R 384 i3) (take P 384 i3) (take T 384 i3))
      (k0_pay23 (F := Ideal) (k0_pay18 g (take R 256 i2) (take P 256 i2) (take T 256 i2))
      (k0_pay23 (F := Ideal) (k0_pay18 g (take R 128 i1) (take P 128 i1) (take T 128 i1))
      (k0_pay23 (F := Ideal) (k0_pay18 g (take R 0 i0) (take P 0 i0) (take T 0 i0)) L))) i
      = L i + loss (n := 512) (stream R P) T g i := by
  have part : ∀ (o : ℕ) (inb), loss (n := 128) (stream (take R o inb) (take P o inb)) (take T o inb) g i
      = ∑ r : Fin 128, (fun j => diff (n := 512) (stream R P) T g j * diff (n := 512) (stream R P) T g j) ((rows o inb).emb (ix2 r (i 1))) :=
    fun o inb => Finset.sum_congr rfl fun r _ => congrArg (fun p : EReal => p * p) (diff_take R P T g o inb (ix2 r (i 1)))
  rw [loss_pay, loss_pay, loss_pay, loss_pay, part, part, part, part]
  exact sum_rows (fun j => diff (n := 512) (stream R P) T g j * diff (n := 512) (stream R P) T g j) (L i) (i 1) i0 i1 i2 i3

end

section
variable (m : (ℓ : Loc nD τ sig) → Buf (Elt Ideal) ℓ) (c : Dev nD) (t : Fin cfg0.N)

/-- What the point before left in the accumulator, in the gradient of the scale and in the squared differences. -/
abbrev before : S512x2048.Idx → EReal := (outsAt0 (F := Ideal) m c (t.val - 1) (Nat.lt_of_le_of_lt (Nat.sub_le _ _) t.isLt)).2.2.2
abbrev beforeG : S1x2048.Idx → EReal := (outsAt0 (F := Ideal) m c (t.val - 1) (Nat.lt_of_le_of_lt (Nat.sub_le _ _) t.isLt)).2.1
abbrev beforeL : S1x2048.Idx → EReal := (outsAt0 (F := Ideal) m c (t.val - 1) (Nat.lt_of_le_of_lt (Nat.sub_le _ _) t.isLt)).2.2.1

/-- The first point of a block of rows starts the accumulator. -/
theorem acc_A (h0 : t.val % 4 = 0) (h1 : t.val % 4 ≤ 2) (h2 : ¬t.val % 4 = 3) :
    (outsAt0 (F := Ideal) m c t.val t.isLt).2.2.2 = acc (k0_pay1 (F := Ideal)) (iblk m c 0 t) (iblk m c 1 t) := by
  rw [outsAt0_A m c t h0 h1 h2]
  dsimp only
  frame_open
  simp (disch := decide) only [↓ View.readCov_skip, ↓ View.readCov_cons_toLoadRect, ↓ View.readCov_fill]
  frame_out
  exact Ker.canon_take 4 _ _ ⟨part _ _ _ 1536 _ _, part _ _ _ 1024 _ _, part _ _ _ 512 _ _, part _ _ _ 0 _ _, trivial⟩
    (View.cover_of_tiledL _ S512x512.size (by sl_kernel_rfl))

/-- The two next points add to it. -/
theorem acc_B (h0 : ¬t.val % 4 = 0) (h1 : t.val % 4 ≤ 2) (h2 : ¬t.val % 4 = 3) :
    (outsAt0 (F := Ideal) m c t.val t.isLt).2.2.2 = acc (before m c t) (iblk m c 0 t) (iblk m c 1 t) := by
  rw [outsAt0_B m c t h0 h1 h2]
  dsimp only
  frame_open
  simp (disch := decide) only [↓ View.readCov_skip, ↓ View.readCov_cons_toLoadRect, ↓ View.readCov_fill]
  frame_out
  simp only [read_unread_whole]
  exact Products.canon_of_pieces (e := .f32) _ _ ⟨part _ _ _ 1536 _ _, part _ _ _ 1024 _ _, part _ _ _ 512 _ _,
    part _ _ _ 0 _ _, trivial⟩ (View.cover_of_tiledL _ S512x512.size (by sl_kernel_rfl))

/-- The points before the last one of a block of rows keep the gradient of the scale and the squared differences. -/
theorem keep_A (h0 : t.val % 4 = 0) (h1 : t.val % 4 ≤ 2) (h2 : ¬t.val % 4 = 3) :
    (outsAt0 (F := Ideal) m c t.val t.isLt).2.1 = beforeG m c t ∧ (outsAt0 (F := Ideal) m c t.val t.isLt).2.2.1 = beforeL m c t := by
  rw [outsAt0_A m c t h0 h1 h2]
  exact ⟨rfl, rfl⟩
theorem keep_B (h0 : ¬t.val % 4 = 0) (h1 : t.val % 4 ≤ 2) (h2 : ¬t.val % 4 = 3) :
    (outsAt0 (F := Ideal) m c t.val t.isLt).2.1 = beforeG m c t ∧ (outsAt0 (F := Ideal) m c t.val t.isLt).2.2.1 = beforeL m c t := by
  rw [outsAt0_B m c t h0 h1 h2]
  exact ⟨rfl, rfl⟩

/-- The accumulator after the last point of a block of rows. -/
abbrev total : S512x2048.Idx → EReal := acc (before m c t) (iblk m c 0 t) (iblk m c 1 t)

/-- The last point of a block of rows stores the gradient, and adds to the gradient of the scale and to the squared differences. -/
theorem last_C (h0 : ¬t.val % 4 = 0) (h1 : ¬t.val % 4 ≤ 2) (h2 : t.val % 4 = 3) (h3 : t.val < 4) :
    (outsAt0 (F := Ideal) m c t.val t.isLt).1 = grad (n := 512) (stream (iblk m c 2 t) (total m c t)) (iblk m c 3 t) (iblk m c 4 t)
    ∧ (∀ i, (outsAt0 (F := Ideal) m c t.val t.isLt).2.1 i
      = (k0_pay9 (F := Ideal)) i + slope (n := 512) (stream (iblk m c 2 t) (total m c t)) (iblk m c 3 t) (iblk m c 4 t) i)
    ∧ ∀ i, (outsAt0 (F := Ideal) m c t.val t.isLt).2.2.1 i
      = (k0_pay10 (F := Ideal)) i + loss (n := 512) (stream (iblk m c 2 t) (total m c t)) (iblk m c 3 t) (iblk m c 4 t) i := by
  rw [outsAt0_C m c t h0 h1 h2 h3]
  dsimp only
  frame_open
  simp (disch := decide) only [↓ View.readCov_skip, ↓ View.readCov_cons_toLoadRect, ↓ View.readCov_fill]
  frame_out
  simp only [read_unread_whole]
  rw [NormBwd.load (e := .f32) 4 (total m c t) (View.whole cc0_scratch0) (Rect.unit ![0, 0] ![128, 2048] inb_S512x2048_S128x2048_0_0),
    NormBwd.load (e := .f32) 4 (total m c t) (View.whole cc0_scratch0) (Rect.unit ![128, 0] ![128, 2048] inb_S512x2048_S128x2048_128_0),
    NormBwd.load (e := .f32) 4 (total m c t) (View.whole cc0_scratch0) (Rect.unit ![256, 0] ![128, 2048] inb_S512x2048_S128x2048_256_0),
    NormBwd.load (e := .f32) 4 (total m c t) (View.whole cc0_scratch0) (Rect.unit ![384, 0] ![128, 2048] inb_S512x2048_S128x2048_384_0)]
  · rw [grad_0, grad_1, grad_2, grad_3, gain_1, gain_2, gain_3, loss_1, loss_2, loss_3]
    refine ⟨?_, fun i => ?_, fun i => ?_⟩
    · exact Products.canon_of_pieces (e := .bf16) _ _ ⟨grad_part (iblk m c 2 t) (total m c t) (iblk m c 3 t) (iblk m c 4 t) 384 _,
        grad_part (iblk m c 2 t) (total m c t) (iblk m c 3 t) (iblk m c 4 t) 256 _,
        grad_part (iblk m c 2 t) (total m c t) (iblk m c 3 t) (iblk m c 4 t) 128 _,
        grad_part (iblk m c 2 t) (total m c t) (iblk m c 3 t) (iblk m c 4 t) 0 _, trivial⟩
        (View.cover_of_tiledL _ S128x2048.size (by sl_kernel_rfl))
    · exact gain_sum (iblk m c 2 t) (total m c t) (iblk m c 3 t) (iblk m c 4 t) (k0_pay9 (F := Ideal)) _ _ _ _ i
    · exact loss_sum (iblk m c 2 t) (total m c t) (iblk m c 3 t) (iblk m c 4 t) (k0_pay10 (F := Ideal)) _ _ _ _ i
  all_goals first
    | exact NormBwd.cover_half (a := 256) (o := 384) (by decide) _ _ _ _ _ _ _ _ _
    | exact NormBwd.cover_half (a := 256) (o := 256) (by decide) _ _ _ _ _ _ _ _ _
    | exact NormBwd.cover_half (a := 0) (o := 128) (by decide) _ _ _ _ _ _ _ _ _
    | exact NormBwd.cover_half (a := 0) (o := 0) (by decide) _ _ _ _ _ _ _ _ _
    | exact ⟨part' _ _ _ 256 1536 _ _ _, part' _ _ _ 256 1024 _ _ _, part' _ _ _ 256 512 _ _ _, part' _ _ _ 256 0 _ _ _, trivial⟩
    | exact ⟨part' _ _ _ 0 1536 _ _ _, part' _ _ _ 0 1024 _ _ _, part' _ _ _ 0 512 _ _ _, part' _ _ _ 0 0 _ _ _, trivial⟩

theorem last_D (h0 : ¬t.val % 4 = 0) (h1 : ¬t.val % 4 ≤ 2) (h2 : t.val % 4 = 3) (h3 : ¬t.val < 4) :
    (outsAt0 (F := Ideal) m c t.val t.isLt).1 = grad (n := 512) (stream (iblk m c 2 t) (total m c t)) (iblk m c 3 t) (iblk m c 4 t)
    ∧ (∀ i, (outsAt0 (F := Ideal) m c t.val t.isLt).2.1 i
      = (beforeG m c t) i + slope (n := 512) (stream (iblk m c 2 t) (total m c t)) (iblk m c 3 t) (iblk m c 4 t) i)
    ∧ ∀ i, (outsAt0 (F := Ideal) m c t.val t.isLt).2.2.1 i
      = (beforeL m c t) i + loss (n := 512) (stream (iblk m c 2 t) (total m c t)) (iblk m c 3 t) (iblk m c 4 t) i := by
  rw [outsAt0_D m c t h0 h1 h2 h3]
  dsimp only
  frame_open
  simp (disch := decide) only [↓ View.readCov_skip, ↓ View.readCov_cons_toLoadRect, ↓ View.readCov_fill]
  frame_out
  simp only [read_unread_whole]
  rw [NormBwd.load (e := .f32) 4 (total m c t) (View.whole cc0_scratch0) (Rect.unit ![0, 0] ![128, 2048] inb_S512x2048_S128x2048_0_0),
    NormBwd.load (e := .f32) 4 (total m c t) (View.whole cc0_scratch0) (Rect.unit ![128, 0] ![128, 2048] inb_S512x2048_S128x2048_128_0),
    NormBwd.load (e := .f32) 4 (total m c t) (View.whole cc0_scratch0) (Rect.unit ![256, 0] ![128, 2048] inb_S512x2048_S128x2048_256_0),
    NormBwd.load (e := .f32) 4 (total m c t) (View.whole cc0_scratch0) (Rect.unit ![384, 0] ![128, 2048] inb_S512x2048_S128x2048_384_0)]
  · rw [grad_0, grad_1, grad_2, grad_3, gain_1, gain_2, gain_3, loss_1, loss_2, loss_3]
    refine ⟨?_, fun i => ?_, fun i => ?_⟩
    · exact Products.canon_of_pieces (e := .bf16) _ _ ⟨grad_part (iblk m c 2 t) (total m c t) (iblk m c 3 t) (iblk m c 4 t) 384 _,
        grad_part (iblk m c 2 t) (total m c t) (iblk m c 3 t) (iblk m c 4 t) 256 _,
        grad_part (iblk m c 2 t) (total m c t) (iblk m c 3 t) (iblk m c 4 t) 128 _,
        grad_part (iblk m c 2 t) (total m c t) (iblk m c 3 t) (iblk m c 4 t) 0 _, trivial⟩
        (View.cover_of_tiledL _ S128x2048.size (by sl_kernel_rfl))
    · exact gain_sum (iblk m c 2 t) (total m c t) (iblk m c 3 t) (iblk m c 4 t) (beforeG m c t) _ _ _ _ i
    · exact loss_sum (iblk m c 2 t) (total m c t) (iblk m c 3 t) (iblk m c 4 t) (beforeL m c t) _ _ _ _ i
  all_goals first
    | exact NormBwd.cover_half (a := 256) (o := 384) (by decide) _ _ _ _ _ _ _ _ _
    | exact NormBwd.cover_half (a := 256) (o := 256) (by decide) _ _ _ _ _ _ _ _ _
    | exact NormBwd.cover_half (a := 0) (o := 128) (by decide) _ _ _ _ _ _ _ _ _
    | exact NormBwd.cover_half (a := 0) (o := 0) (by decide) _ _ _ _ _ _ _ _ _
    | exact ⟨part' _ _ _ 256 1536 _ _ _, part' _ _ _ 256 1024 _ _ _, part' _ _ _ 256 512 _ _ _, part' _ _ _ 256 0 _ _ _, trivial⟩
    | exact ⟨part' _ _ _ 0 1536 _ _ _, part' _ _ _ 0 1024 _ _ _, part' _ _ _ 0 512 _ _ _, part' _ _ _ 0 0 _ _ _, trivial⟩

end

section
variable (m : (ℓ : Loc nD τ sig) → Buf (Elt Ideal) ℓ) (c : Dev nD)

theorem idx0 : ∀ t : Fin cfg0.N, win0_0.index t = ![t.val / 4, t.val % 4] := by decide +kernel
theorem idx1 : ∀ t : Fin cfg0.N, win0_1.index t = ![t.val % 4, 0] := by decide +kernel
theorem idx2 : ∀ t : Fin cfg0.N, win0_2.index t = ![t.val / 4, 0] := by decide +kernel
theorem idx3 : ∀ t : Fin cfg0.N, win0_3.index t = ![t.val / 4, 0] := by decide +kernel
theorem idx4 : ∀ t : Fin cfg0.N, win0_4.index t = ![0, 0] := by decide +kernel
theorem idx5 : ∀ t : Fin cfg0.N, win0_5.index t = ![t.val / 4, 0] := by decide +kernel
theorem idx6 : ∀ t : Fin cfg0.N, win0_6.index t = ![0, 0] := by decide +kernel
theorem idx7 : ∀ t : Fin cfg0.N, win0_7.index t = ![0, 0] := by decide +kernel

/-- The arguments as arrays of numbers. -/
def act : S4096x8192.Idx → EReal := m ((c.tc : Thread nD τ).loc main_arg0)
def weight : S8192x2048.Idx → EReal := m ((c.tc : Thread nD τ).loc main_arg1)
def resid : S4096x2048.Idx → EReal := m ((c.tc : Thread nD τ).loc main_arg2)
def target : S4096x2048.Idx → EReal := m ((c.tc : Thread nD τ).loc main_arg3)
def gain : S1x2048.Idx → EReal := m ((c.tc : Thread nD τ).loc main_arg4)

theorem b0 (t : Fin cfg0.N) (i : S512x2048.Idx) (j : S4096x8192.Idx) (h0 : (j 0).val = t.val / 4 * 512 + (i 0).val)
    (h1 : (j 1).val = t.val % 4 * 2048 + (i 1).val) : iblk m c 0 t i = act m c j := by
  show V m c main_arg0 (((cfg0.win 0).blk t).view.emb i) = _
  rw [V_main_arg0]
  refine congrArg (act m c) (funext fun b => Fin.ext ?_)
  match b with
  | 0 => blk_simp [idx0, h0]
  | 1 => blk_simp [idx0, h1]
theorem b1 (t : Fin cfg0.N) (i : S2048x2048.Idx) (j : S8192x2048.Idx) (h0 : (j 0).val = t.val % 4 * 2048 + (i 0).val)
    (h1 : (j 1).val = (i 1).val) : iblk m c 1 t i = weight m c j := by
  show V m c main_arg1 (((cfg0.win 1).blk t).view.emb i) = _
  rw [V_main_arg1]
  refine congrArg (weight m c) (funext fun b => Fin.ext ?_)
  match b with
  | 0 => blk_simp [idx1, h0]
  | 1 => blk_simp [idx1, h1]
theorem b2 (t : Fin cfg0.N) (i : S512x2048.Idx) (j : S4096x2048.Idx) (h0 : (j 0).val = t.val / 4 * 512 + (i 0).val)
    (h1 : (j 1).val = (i 1).val) : iblk m c 2 t i = resid m c j := by
  show V m c main_arg2 (((cfg0.win 2).blk t).view.emb i) = _
  rw [V_main_arg2]
  refine congrArg (resid m c) (funext fun b => Fin.ext ?_)
  match b with
  | 0 => blk_simp [idx2, h0]
  | 1 => blk_simp [idx2, h1]
theorem b3 (t : Fin cfg0.N) (i : S512x2048.Idx) (j : S4096x2048.Idx) (h0 : (j 0).val = t.val / 4 * 512 + (i 0).val)
    (h1 : (j 1).val = (i 1).val) : iblk m c 3 t i = target m c j := by
  show V m c main_arg3 (((cfg0.win 3).blk t).view.emb i) = _
  rw [V_main_arg3]
  refine congrArg (target m c) (funext fun b => Fin.ext ?_)
  match b with
  | 0 => blk_simp [idx3, h0]
  | 1 => blk_simp [idx3, h1]
theorem b4 (t : Fin cfg0.N) : (iblk m c 4 t : S1x2048.Idx → EReal) = gain m c := by
  funext i
  show V m c main_arg4 (((cfg0.win 4).blk t).view.emb i) = _
  rw [V_main_arg4]
  refine congrArg (gain m c) (funext fun b => Fin.ext ?_)
  match b with
  | 0 => blk_simp [idx4]
  | 1 => blk_simp [idx4]

/-- The products that make up an entry, numbered along the 8192 columns. -/
def term (i : S4096x2048.Idx) (s : ℕ) : EReal := if h : s < 8192 then act m c (ix2 (i 0) ⟨s, h⟩) * weight m c (ix2 ⟨s, h⟩ (i 1)) else 0

/-- What a point adds to an entry of its accumulator. -/
theorem point (t : Fin cfg0.N) (y : S512x2048.Idx) (i : S4096x2048.Idx) (h0 : (i 0).val = t.val / 4 * 512 + (y 0).val)
    (h1 : (i 1).val = (y 1).val) (n : ℕ) (hn : t.val % 4 * 2048 = n) :
    piece (iblk m c 0 t) (iblk m c 1 t) y = ∑ k : Fin 2048, term m c i (n + k.val) := by
  refine Finset.sum_congr rfl fun k _ => ?_
  have hk : k.val < 2048 := k.isLt
  have hs : n + k.val < 8192 := by omega
  have e0 : iblk m c 0 t (ix2 (y 0) k) = act m c (ix2 (i 0) ⟨n + k.val, hs⟩) := b0 m c t _ _ h0 (by
    show n + k.val = t.val % 4 * 2048 + k.val
    omega)
  have e1 : iblk m c 1 t (ix2 k (y 1)) = weight m c (ix2 ⟨n + k.val, hs⟩ (i 1)) := b1 m c t _ _ (by
    show n + k.val = t.val % 4 * 2048 + k.val
    omega) h1
  have e : term m c i (n + k.val) = _ := dif_pos hs
  exact (congrArg₂ (fun p q : EReal => p * q) e0 e1).trans e.symm

theorem zero_acc (i : S512x2048.Idx) : k0_pay1 (F := Ideal) i = (0 : EReal) := by
  unfold k0_pay1
  pointwise [word_zero]
  rfl
theorem zero_gain (i : S1x2048.Idx) : k0_pay9 (F := Ideal) i = (0 : EReal) := by
  unfold k0_pay9
  pointwise [word_zero]
  rfl
theorem zero_loss (i : S1x2048.Idx) : k0_pay10 (F := Ideal) i = (0 : EReal) := zero_gain i

/-- After the last point of a block of rows the accumulator holds the product. -/
theorem total_eq (t : Fin cfg0.N) (h : t.val % 4 = 3) (y : S512x2048.Idx) (i : S4096x2048.Idx)
    (h0 : (i 0).val = t.val / 4 * 512 + (y 0).val) (h1 : (i 1).val = (y 1).val) :
    total m c t y = prod (act m c) (weight m c) i := by
  have ht := t.isLt
  let t1 : Fin cfg0.N := ⟨t.val - 1, Nat.lt_of_le_of_lt (Nat.sub_le _ _) t.isLt⟩
  let t2 : Fin cfg0.N := ⟨t1.val - 1, Nat.lt_of_le_of_lt (Nat.sub_le _ _) t1.isLt⟩
  let t3 : Fin cfg0.N := ⟨t2.val - 1, Nat.lt_of_le_of_lt (Nat.sub_le _ _) t2.isLt⟩
  have v1 : t1.val = t.val - 1 := rfl
  have v2 : t2.val = t.val - 1 - 1 := rfl
  have v3 : t3.val = t.val - 1 - 1 - 1 := rfl
  have e1 := acc_B m c t1 (by omega) (by omega) (by omega)
  have e2 := acc_B m c t2 (by omega) (by omega) (by omega)
  have e3 := acc_A m c t3 (by omega) (by omega) (by omega)
  refine (congrArg₂ (· + ·) ((congrFun e1 y).trans (congrArg₂ (· + ·) ((congrFun e2 y).trans (congrArg₂ (· + ·)
    ((congrFun e3 y).trans (congrArg₂ (· + ·) (zero_acc y) (point m c t3 y i (by omega) h1 0 (by omega))))
    (point m c t2 y i (by omega) h1 2048 (by omega)))) (point m c t1 y i (by omega) h1 (2 * 2048) (by omega))))
    (point m c t y i h0 h1 (3 * 2048) (by omega))).trans ((NormBwd.sum_four (term m c i) 2048 0).trans ?_)
  rw [zero_add]
  exact Finset.sum_congr rfl fun k _ => dif_pos k.isLt

/-- The stream after the network. -/
abbrev after : S4096x2048.Idx → EReal := stream (resid m c) (prod (act m c) (weight m c))

theorem stream_eq (t : Fin cfg0.N) (h : t.val % 4 = 3) (y : S512x2048.Idx) (i : S4096x2048.Idx)
    (h0 : (i 0).val = t.val / 4 * 512 + (y 0).val) (h1 : (i 1).val = (y 1).val) :
    stream (iblk m c 2 t) (total m c t) y = after m c i :=
  congrArg₂ (fun p q : EReal => p + q) (b2 m c t y i h0 h1) (total_eq m c t h y i h0 h1)

theorem diff_eq (t : Fin cfg0.N) (h : t.val % 4 = 3) (y : S512x2048.Idx) (i : S4096x2048.Idx)
    (h0 : (i 0).val = t.val / 4 * 512 + (y 0).val) (h1 : (i 1).val = (y 1).val) :
    diff (n := 512) (stream (iblk m c 2 t) (total m c t)) (iblk m c 3 t) (iblk m c 4 t) y
      = diff (n := 4096) (after m c) (target m c) (gain m c) i := by
  have e1 : y 1 = i 1 := Fin.ext h1.symm
  have eX : (fun k => stream (iblk m c 2 t) (total m c t) (ix2 (y 0) k)) = fun k => after m c (ix2 (i 0) k) :=
    funext fun k => stream_eq m c t h (ix2 (y 0) k) (ix2 (i 0) k) h0 rfl
  have eg : (iblk m c 4 t : S1x2048.Idx → EReal) (ix2 0 (y 1)) = gain m c (ix2 0 (i 1)) := by rw [b4, e1]
  exact congrArg₂ (fun p q : EReal => p - q) (congrArg₂ (fun p q : EReal => p * q) (congrArg₂ (fun p q : EReal => p * q)
    (stream_eq m c t h y i h0 h1) (congrArg Norm.scale eX)) eg) (b3 m c t y i h0 h1)

theorem slant_eq (t : Fin cfg0.N) (h : t.val % 4 = 3) (y : S512x2048.Idx) (i : S4096x2048.Idx)
    (h0 : (i 0).val = t.val / 4 * 512 + (y 0).val) (h1 : (i 1).val = (y 1).val) :
    slant (n := 512) (stream (iblk m c 2 t) (total m c t)) (iblk m c 3 t) (iblk m c 4 t) y
      = slant (n := 4096) (after m c) (target m c) (gain m c) i :=
  congrArg (fun p : EReal => p * ((1 / 2048 : ℝ) : EReal)) (diff_eq m c t h y i h0 h1)

/-- What the rows give to an entry of the gradient of the scale and of the squared differences, numbered along the rows. -/
def shareG (n : Fin 2048) (s : ℕ) : EReal := if h : s < 4096 then
  NormBwd.gain (n := 4096) (after m c) (slant (n := 4096) (after m c) (target m c) (gain m c)) (ix2 ⟨s, h⟩ n) else 0
def shareL (n : Fin 2048) (s : ℕ) : EReal := if h : s < 4096 then
  diff (n := 4096) (after m c) (target m c) (gain m c) (ix2 ⟨s, h⟩ n) * diff (n := 4096) (after m c) (target m c) (gain m c) (ix2 ⟨s, h⟩ n)
  else 0

theorem shareG_point (t : Fin cfg0.N) (h : t.val % 4 = 3) (n : ℕ) (hn : t.val / 4 = n) (i : S1x2048.Idx) :
    slope (n := 512) (stream (iblk m c 2 t) (total m c t)) (iblk m c 3 t) (iblk m c 4 t) i
      = ∑ r : Fin 512, shareG m c (i 1) (n * 512 + r.val) := by
  unfold slope NormBwd.slope
  refine Finset.sum_congr rfl fun r _ => ?_
  have ht : t.val < 32 := t.isLt
  have hr : r.val < 512 := r.isLt
  have hs : n * 512 + r.val < 4096 := by omega
  have e : n * 512 + r.val = t.val / 4 * 512 + r.val := by rw [hn]
  have e' : shareG m c (i 1) (n * 512 + r.val) = _ := dif_pos hs
  exact (NormBwd.gain_congr (n := 512) (n' := 4096) (ix2 r (i 1)) (ix2 ⟨n * 512 + r.val, hs⟩ (i 1))
    (stream_eq m c t h (ix2 r (i 1)) (ix2 ⟨n * 512 + r.val, hs⟩ (i 1)) e rfl)
    (fun k => stream_eq m c t h (ix2 r k) (ix2 ⟨n * 512 + r.val, hs⟩ k) e rfl)
    (slant_eq m c t h (ix2 r (i 1)) (ix2 ⟨n * 512 + r.val, hs⟩ (i 1)) e rfl)).trans e'.symm
theorem shareL_point (t : Fin cfg0.N) (h : t.val % 4 = 3) (n : ℕ) (hn : t.val / 4 = n) (i : S1x2048.Idx) :
    loss (n := 512) (stream (iblk m c 2 t) (total m c t)) (iblk m c 3 t) (iblk m c 4 t) i
      = ∑ r : Fin 512, shareL m c (i 1) (n * 512 + r.val) := by
  refine Finset.sum_congr rfl fun r _ => ?_
  have ht : t.val < 32 := t.isLt
  have hr : r.val < 512 := r.isLt
  have hs : n * 512 + r.val < 4096 := by omega
  have e : n * 512 + r.val = t.val / 4 * 512 + r.val := by rw [hn]
  have e' : shareL m c (i 1) (n * 512 + r.val) = _ := dif_pos hs
  exact (congrArg (fun p : EReal => p * p)
    (diff_eq m c t h (ix2 r (i 1)) (ix2 ⟨n * 512 + r.val, hs⟩ (i 1)) e rfl)).trans e'.symm

/-- After each block of rows both sums hold what the rows so far give. -/
theorem sums_at (i : S1x2048.Idx) : ∀ (n : ℕ) (hn : 4 * n + 3 < cfg0.N),
    (outsAt0 (F := Ideal) m c (4 * n + 3) hn).2.1 i = ∑ b ∈ Finset.range (n + 1), ∑ r : Fin 512, shareG m c (i 1) (b * 512 + r.val)
    ∧ (outsAt0 (F := Ideal) m c (4 * n + 3) hn).2.2.1 i = ∑ b ∈ Finset.range (n + 1), ∑ r : Fin 512, shareL m c (i 1) (b * 512 + r.val)
  | 0, hn => by
    have g := (last_C m c ⟨3, hn⟩ (by decide : ¬3 % 4 = 0) (by decide : ¬3 % 4 ≤ 2) rfl (by decide : 3 < 4)).2
    rw [Finset.sum_range_one, Finset.sum_range_one]
    exact ⟨(g.1 i).trans ((congrArg₂ (fun p q : EReal => p + q) (zero_gain i)
        (shareG_point m c ⟨3, hn⟩ (by decide : 3 % 4 = 3) 0 (by decide : 3 / 4 = 0) i)).trans (zero_add _)),
      (g.2 i).trans ((congrArg₂ (fun p q : EReal => p + q) (zero_loss i)
        (shareL_point m c ⟨3, hn⟩ (by decide : 3 % 4 = 3) 0 (by decide : 3 / 4 = 0) i)).trans (zero_add _))⟩
  | n + 1, hn => by
    have g1 := keep_B m c ⟨4 * n + 6, by omega⟩ (by show ¬(4 * n + 6) % 4 = 0; omega) (by show (4 * n + 6) % 4 ≤ 2; omega)
      (by show ¬(4 * n + 6) % 4 = 3; omega)
    have g2 := keep_B m c ⟨4 * n + 5, by omega⟩ (by show ¬(4 * n + 5) % 4 = 0; omega) (by show (4 * n + 5) % 4 ≤ 2; omega)
      (by show ¬(4 * n + 5) % 4 = 3; omega)
    have g3 := keep_A m c ⟨4 * n + 4, by omega⟩ (by show (4 * n + 4) % 4 = 0; omega) (by show (4 * n + 4) % 4 ≤ 2; omega)
      (by show ¬(4 * n + 4) % 4 = 3; omega)
    have g4 := (last_D m c ⟨4 * n + 7, hn⟩ (by show ¬(4 * n + 7) % 4 = 0; omega) (by show ¬(4 * n + 7) % 4 ≤ 2; omega)
      (by show (4 * n + 7) % 4 = 3; omega) (by show ¬4 * n + 7 < 4; omega)).2
    have keepG : beforeG m c ⟨4 * n + 7, hn⟩ = (outsAt0 (F := Ideal) m c (4 * n + 3) (by omega)).2.1 := g1.1.trans (g2.1.trans g3.1)
    have keepL : beforeL m c ⟨4 * n + 7, hn⟩ = (outsAt0 (F := Ideal) m c (4 * n + 3) (by omega)).2.2.1 := g1.2.trans (g2.2.trans g3.2)
    rw [keepG, keepL] at g4
    rw [Finset.sum_range_succ _ (n + 1), Finset.sum_range_succ _ (n + 1)]
    exact ⟨(g4.1 i).trans (congrArg₂ (fun p q : EReal => p + q) (sums_at i n (by omega)).1
        (shareG_point m c ⟨4 * n + 7, hn⟩ (by show (4 * n + 7) % 4 = 3; omega) (n + 1) (by show (4 * n + 7) / 4 = n + 1; omega) i)),
      (g4.2 i).trans (congrArg₂ (fun p q : EReal => p + q) (sums_at i n (by omega)).2
        (shareL_point m c ⟨4 * n + 7, hn⟩ (by show (4 * n + 7) % 4 = 3; omega) (n + 1) (by show (4 * n + 7) / 4 = n + 1; omega) i))⟩

/-- The last point of a block of rows stores the gradient of those rows. -/
theorem value (t : Fin cfg0.N) (h : t.val % 4 = 3) (y : S512x2048.Idx) (i : S4096x2048.Idx)
    (h0 : (i 0).val = t.val / 4 * 512 + (y 0).val) (h1 : (i 1).val = (y 1).val) :
    (outsAt0 (F := Ideal) m c t.val t.isLt).1 y = grad (n := 4096) (after m c) (target m c) (gain m c) i := by
  have e : (outsAt0 (F := Ideal) m c t.val t.isLt).1
      = grad (n := 512) (stream (iblk m c 2 t) (total m c t)) (iblk m c 3 t) (iblk m c 4 t) := by
    by_cases h3 : t.val < 4
    · exact (last_C m c t (by omega) (by omega) h h3).1
    · exact (last_D m c t (by omega) (by omega) h h3).1
  exact (congrFun e y).trans (NormBwd.grad_congr y i (Fin.ext h1.symm) (fun k => stream_eq m c t h _ _ h0 rfl) rfl
    (fun k => slant_eq m c t h _ _ h0 rfl) fun k => congrFun (b4 m c t) _)

theorem fetch5 : ∀ t : Fin cfg0.N, (cfg0.win 5).flush t → t.val % 4 = 3 := by decide +kernel

theorem out5 : (dats m 0 c).arrAt 5 cfg0.N = grad (n := 4096) (after m c) (target m c) (gain m c) := by
  refine (dats m 0 c).arrAt_eq_of_covers 5 _ (by decide +kernel) fun t hf y => ?_
  blk_simp [idx5]
  rw [after0_5]
  refine value m c t (fetch5 t hf) y _ ?_ ?_ <;> blk_simp [idx5]

/-- The last grid point. -/
def last : Fin grid0.N := ⟨31, by rw [N_0]; decide⟩

/-- Over all blocks of rows both sums get every row's share. -/
theorem sums_end (s : ℕ) (hs : s = 31) (hn : s < cfg0.N) (i : S1x2048.Idx) :
    (outsAt0 (F := Ideal) m c s hn).2.1 i = slope (n := 4096) (after m c) (target m c) (gain m c) i
    ∧ (outsAt0 (F := Ideal) m c s hn).2.2.1 i = loss (n := 4096) (after m c) (target m c) (gain m c) i := by
  subst hs
  have g := sums_at m c i 7 hn
  refine ⟨(g.1.trans (NormBwd.sum_blocks (shareG m c (i 1)) 512 8)).trans ?_, (g.2.trans (NormBwd.sum_blocks (shareL m c (i 1)) 512 8)).trans ?_⟩
  · rw [← Fin.sum_univ_eq_sum_range (shareG m c (i 1)) (8 * 512)]
    unfold slope NormBwd.slope
    exact Finset.sum_congr rfl fun r _ => dif_pos r.isLt
  · rw [← Fin.sum_univ_eq_sum_range (shareL m c (i 1)) (8 * 512)]
    exact Finset.sum_congr rfl fun r _ => dif_pos r.isLt

theorem slope_last : (outsAt0 (F := Ideal) m c last.val last.isLt).2.1 = slope (n := 4096) (after m c) (target m c) (gain m c) :=
  funext fun i => (sums_end m c last.val rfl last.isLt i).1
theorem loss_last : (outsAt0 (F := Ideal) m c last.val last.isLt).2.2.1 = loss (n := 4096) (after m c) (target m c) (gain m c) :=
  funext fun i => (sums_end m c last.val rfl last.isLt i).2

theorem out6 : (dats m 0 c).arrAt 6 cfg0.N = slope (n := 4096) (after m c) (target m c) (gain m c) := by
  refine (dats m 0 c).arrAt_eq_of_after_last 6 last (by decide +kernel) _ fun j => ?_
  blk_simp [idx6]
  rw [after0_6, slope_last]
theorem out7 : (dats m 0 c).arrAt 7 cfg0.N = loss (n := 4096) (after m c) (target m c) (gain m c) := by
  refine (dats m 0 c).arrAt_eq_of_after_last 7 last (by decide +kernel) _ fun j => ?_
  blk_simp [idx7]
  rw [after0_7, loss_last]

end

/-- What the kernel leaves in its results. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = grad (n := 4096) (after m c) (target m c) (gain m c)
      ∧ r.2.mem ((c.tc : Thread nD τ).loc main_v0_1) = slope (n := 4096) (after m c) (target m c) (gain m c)
      ∧ r.2.mem ((c.tc : Thread nD τ).loc main_v0_2) = loss (n := 4096) (after m c) (target m c) (gain m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (out5 m c), (h c).2.1.trans (out6 m c), (h c).2.2.1.trans (out7 m c), (h c).2.2.2⟩)
    (Cert.Kernel13Ideal.Value.run_blocks (F := Ideal) m ρ)

end Kernel

/-! ### The reference -/

section Reference

open Cert.Reference13Ideal Cert.Reference13Ideal.Gen Cert.Reference13Ideal.Read

variable (a : S4096x8192.Idx → EReal) (w : S8192x2048.Idx → EReal) (x t : S4096x2048.Idx → EReal) (g : S1x2048.Idx → EReal)

/-- The stream. -/
theorem reference_stream (i : S4096x2048.Idx) : val_main_v3 (F := Ideal) a w x i = stream x (prod a w) i := by
  rw [val_main_v3_apply, val_main_v2_apply]
  simp only [val_main_v0_apply, val_main_v1_apply]
  refine congrArg (fun p : EReal => x i + p) (Finset.sum_congr rfl fun k _ =>
    congrArg₂ (fun p q : EReal => p * q) (congrArg a (funext fun b => ?_)) (congrArg w (funext fun b => ?_)))
  · match b with
    | 0 => rfl
    | 1 => rfl
  · match b with
    | 0 => rfl
    | 1 => rfl

/-- The mean square of a row, and its reciprocal root. -/
theorem reference_mean (i : S4096x1.Idx) : val_main_v11 (F := Ideal) a w x i = Norm.meanSq fun k => stream x (prod a w) (ix2 (i 0) k) := by
  simp only [val_main_v11_apply, val_main_v10_apply, val_main_v9_apply, val_main_v8_apply, val_main_v7_apply, val_main_v6_apply,
    val_main_v5_apply, val_main_cst_apply, val_main_cst_0_apply, val_main_cst_1_apply, reference_stream]
  have e : ∀ k, idx_main_v6 (idx_main_v7 i) k = ix2 (i 0) k := fun k => funext fun b => by
    match b with
    | 0 => rfl
    | 1 => rfl
  simp only [e]
  show Ideal.div (Ideal.ofBits .f32 0x00000000#32 + ∑ k : Fin 2048, stream x (prod a w) (ix2 (i 0) k) * stream x (prod a w) (ix2 (i 0) k))
    (Ideal.ofBits .f32 0x45000000#32) + Ideal.ofBits .f32 0x358637BD#32 = _
  rw [word_zero, Norm.word_2048, word_eps, EReal.coe_zero, zero_add]
  rfl
theorem reference_root (i : S4096x1.Idx) : val_main_v12 (F := Ideal) a w x i = Norm.scale fun k => stream x (prod a w) (ix2 (i 0) k) := by
  rw [val_main_v12_apply, reference_mean]
  rfl

/-- The scale of a column. -/
theorem reference_gain (i : S4096x2048.Idx) : val_main_v4 (F := Ideal) g (idx_main_v18 (idx_main_v19 i)) = g (ix2 0 (i 1)) := by
  rw [val_main_v4_apply]
  refine congrArg g (funext fun b => Fin.ext ?_)
  match b with
  | 0 => rfl
  | 1 => exact Nat.mod_eq_of_lt (i 1).isLt

/-- The difference from the target, and the gradient by the normalised and scaled rows. -/
theorem reference_diff (i : S4096x2048.Idx) : val_main_v21 (F := Ideal) a w x t g i = diff (n := 4096) (stream x (prod a w)) t g i := by
  simp only [val_main_v21_apply, val_main_v20_apply, val_main_v19_apply, val_main_v18_apply, val_main_v17_apply, val_main_v16_apply,
    reference_gain, reference_root, reference_stream]
  rfl
theorem reference_slant (i : S4096x2048.Idx) : val_main_v35 (F := Ideal) a w x t g i = slant (n := 4096) (stream x (prod a w)) t g i := by
  simp only [val_main_v35_apply, val_main_v34_apply, val_main_v33_apply, val_main_v32_apply, val_main_v31_apply, val_main_v30_apply,
    val_main_v24_apply, val_main_v23_apply, val_main_cst_3_apply, val_main_cst_8_apply, val_main_cst_9_apply, val_main_cst_10_apply,
    reference_diff]
  show Ideal.div (Ideal.ofBits .f32 0x3F000000#32 * Ideal.ofBits .f32 0x3F800000#32) (Ideal.ofBits .f32 0x45000000#32)
    * (Ideal.ofBits .f32 0x40000000#32 * diff (n := 4096) (stream x (prod a w)) t g i) = _
  rw [word_half, word_one, Norm.word_2048, word_two, ← EReal.coe_mul, lift_div _ (by norm_num), ← mul_assoc, ← EReal.coe_mul, mul_comm]
  refine congrArg (fun p : ℝ => diff (n := 4096) (stream x (prod a w)) t g i * (p : EReal)) ?_
  norm_num

theorem reference_slope : val_main_v72 (F := Ideal) a w x t g = slope (n := 4096) (stream x (prod a w)) t g := by
  funext i
  rw [val_main_v72_apply, val_main_v41_apply, Fin.sum_univ_one, val_main_v38_apply, val_main_v37_apply, val_main_cst_11_apply,
    val_main_cst_12_apply]
  show Ideal.ofBits .f32 0x00000000#32 + (Ideal.ofBits .f32 0x00000000#32 + ∑ k : Fin 4096, _) = _
  rw [word_zero, EReal.coe_zero, zero_add, zero_add]
  unfold slope NormBwd.slope
  refine Finset.sum_congr rfl fun r _ => ?_
  rw [val_main_v36_apply, val_main_v17_apply, val_main_v16_apply, reference_root, reference_stream, reference_slant]
  have e : idx_main_v37 (idx_main_v38 (idx_main_v41 (idx_main_v72 i) 0)) r = ix2 r (i 1) := funext fun b => Fin.ext (by
    have h1 : (i 1).val < 2048 := (i 1).isLt
    match b with
    | 0 => rfl
    | 1 =>
      show (0 * 2048 + (i 1).val) = (i 1).val
      omega)
  rw [e]
  exact mul_comm _ _

/-- The forward pass computes the difference again. -/
theorem reference_again : val_main_v69 (F := Ideal) a w x t g = val_main_v21 a w x t g := rfl

theorem reference_loss : val_main_v74 (F := Ideal) a w x t g = loss (n := 4096) (stream x (prod a w)) t g := by
  funext i
  rw [val_main_v74_apply, val_main_v73_apply, val_main_cst_19_apply]
  show Ideal.ofBits .f32 0x00000000#32 + ∑ k : Fin 4096, _ = _
  rw [word_zero, EReal.coe_zero, zero_add]
  refine Finset.sum_congr rfl fun r _ => ?_
  rw [val_main_v70_apply, reference_again, reference_diff]
  have e : idx_main_v73 (idx_main_v74 i) r = ix2 r (i 1) := funext fun b => by
    match b with
    | 0 => rfl
    | 1 => rfl
  rw [e]
  rfl

theorem reference_grad : val_main_v71 (F := Ideal) a w x t g = grad (n := 4096) (stream x (prod a w)) t g := by
  funext i
  simp only [val_main_v71_apply, val_main_v55_apply, val_main_v54_apply, val_main_v53_apply, val_main_v52_apply, val_main_v51_apply,
    val_main_v50_apply, val_main_v49_apply, val_main_v48_apply, val_main_v47_apply, val_main_v46_apply, val_main_v45_apply,
    val_main_v44_apply, val_main_v43_apply, val_main_v42_apply, val_main_v40_apply, val_main_v39_apply, val_main_v18_apply,
    val_main_v15_apply, val_main_v14_apply, val_main_v13_apply, val_main_cst_2_apply, val_main_cst_13_apply, val_main_cst_14_apply,
    val_main_cst_15_apply, reference_gain, reference_root, reference_mean, reference_stream, reference_slant, Fin.sum_univ_one]
  have e : ∀ k, idx_main_v43 (idx_main_v44 (idx_main_v50 (idx_main_v51 i) 0)) k = ix2 (i 0) k := fun k => funext fun b => Fin.ext (by
    match b with
    | 0 =>
      show (i 0).val * 1 + 0 = (i 0).val
      omega
    | 1 => rfl)
  simp only [e]
  show slant (n := 4096) (stream x (prod a w)) t g i * g (ix2 0 (i 1)) * Norm.scale (fun k => stream x (prod a w) (ix2 (i 0) k))
    + stream x (prod a w) i * (Ideal.ofBits .f32 0x00000000#32
      + Ideal.div ((Ideal.ofBits .f32 0x00000000#32 + ∑ k : Fin 2048, stream x (prod a w) (ix2 (i 0) k)
          * (slant (n := 4096) (stream x (prod a w)) t g (ix2 (i 0) k) * g (ix2 0 k)))
        * (Ideal.ofBits .f32 0xBF000000#32 * Ideal.div (Norm.scale fun k => stream x (prod a w) (ix2 (i 0) k))
          (Norm.meanSq fun k => stream x (prod a w) (ix2 (i 0) k)))) (Ideal.ofBits .f32 0x45000000#32))
    + (Ideal.ofBits .f32 0x00000000#32
      + Ideal.div ((Ideal.ofBits .f32 0x00000000#32 + ∑ k : Fin 2048, stream x (prod a w) (ix2 (i 0) k)
          * (slant (n := 4096) (stream x (prod a w)) t g (ix2 (i 0) k) * g (ix2 0 k)))
        * (Ideal.ofBits .f32 0xBF000000#32 * Ideal.div (Norm.scale fun k => stream x (prod a w) (ix2 (i 0) k))
          (Norm.meanSq fun k => stream x (prod a w) (ix2 (i 0) k)))) (Ideal.ofBits .f32 0x45000000#32))
      * stream x (prod a w) i = _
  rw [word_zero, Norm.word_2048, word_neg_half, EReal.coe_zero, zero_add, zero_add]
  exact (congrArg₂ (fun p q : EReal => p + q) (congrArg₂ (fun p q : EReal => p + q) (zero_add _).symm rfl) rfl).trans
    (NormBwd.grad_read (stream x (prod a w)) (fun _ => 0) (slant (n := 4096) (stream x (prod a w)) t g) g i)

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v71) = grad (n := 4096) (stream (m ((c.tc : Thread nD τ).loc main_arg2))
        (prod (m ((c.tc : Thread nD τ).loc main_arg0)) (m ((c.tc : Thread nD τ).loc main_arg1)))) (m ((c.tc : Thread nD τ).loc main_arg3)) (m ((c.tc : Thread nD τ).loc main_arg4))
      ∧ r.2.mem ((c.tc : Thread nD τ).loc main_v72) = slope (n := 4096) (stream (m ((c.tc : Thread nD τ).loc main_arg2))
        (prod (m ((c.tc : Thread nD τ).loc main_arg0)) (m ((c.tc : Thread nD τ).loc main_arg1)))) (m ((c.tc : Thread nD τ).loc main_arg3)) (m ((c.tc : Thread nD τ).loc main_arg4))
      ∧ r.2.mem ((c.tc : Thread nD τ).loc main_v74) = loss (n := 4096) (stream (m ((c.tc : Thread nD τ).loc main_arg2))
        (prod (m ((c.tc : Thread nD τ).loc main_arg0)) (m ((c.tc : Thread nD τ).loc main_arg1)))) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1.trans (val_main_v71_eq _ _)).trans (reference_grad _ _ _ _ _),
    ((h c).2.1.trans (val_main_v72_eq _ _ _ _ _)).trans (reference_slope _ _ _ _ _),
    ((h c).2.2.1.trans (val_main_v74_eq _ _ _ _ _)).trans (reference_loss _ _ _ _ _), (h c).2.2.2⟩)
    (Cert.Reference13Ideal.Value.run (F := Ideal) m ρ)

/-- The reference declares no semaphore. -/
theorem frame_reference : Cert.quiescent_Reference13Ideal := fun m ρ _ =>
  (θ_run defs _ _).mono (fun r h => ⟨fun c => (h c).2.2.2, sem_eq_zero_of_no_sems (by decide) r.2⟩) (reference_run m ρ)

end Reference

theorem algebraic : Cert.algebraic_Kernel13Ideal_Reference13Ideal := by
  intro m ρ m' ρ' _ hm
  refine ⟨_, _, _, run m ρ, (θ_run _ _ _).mono (fun r h c => ⟨(h c).1.trans ?_, (h c).2.1.trans ?_, (h c).2.2.1.trans ?_, (h c).2.2.2⟩)
    (reference_run m' ρ')⟩
  all_goals
    rw [(hm c).1, (hm c).2.1, (hm c).2.2.1, (hm c).2.2.2.1, (hm c).2.2.2.2]
    rfl

end Cert.Proof.Down
end
-- ==== Proof.MixKer.lean ====
/- One chunk of the forward mixer's gating half, 128 rows of one head, and one group of its pooling half: the values its body
   stores, as functions of the blocks it loads, and each of them read as a formula of Model.lean. -/
module

public import proofs.«01_k».proof.Proof.KerLoad
public import proofs.«01_k».proof.Proof.KerPool
public import proofs.«01_k».proof.Proof.Gen.Kernel14Ideal

@[expose] public section

set_option maxRecDepth 16384

noncomputable section

namespace Cert.Proof

/-- The forward mixer's result: the gated mixed rows, then the scaled pooled products. -/
def Args.mix (X : Args) (s j : ℕ) : ℝ := if j < 1024 then X.U s j * X.MX s j else X.YP s (j - 1024) * X.sc (j - 1024)

end Cert.Proof

namespace Cert.Proof.Mix

open Idealize.ShloMosaic Cert.Kernel14Ideal Cert.Kernel14Ideal.Gen
open Cert.Proof.Ker (Is M B)
open scoped BigOperators

theorem named_c : (Named.named (F := Ideal) (φ := .f32) κ "gelu_c" 0x3D372713#32 : EReal) = ((8943 / 200000 : ℝ) : EReal) := rfl

/-- Gelu, the cubic term multiplied from the left. -/
def geluF (x : M) : M :=
  mulf (mulf (broadcast S128x128 (Scalar.ofBits .f32 0x3F000000#32)) x)
    (addf (broadcast S128x128 (Scalar.ofBits .f32 0x3F800000#32))
      (tanh (mulf (broadcast S128x128 (Scalar.ofBits .f32 0x3F4C422A#32))
        (addf x (mulf (mulf (mulf (broadcast S128x128 (Named.named κ "gelu_c" 0x3D372713#32)) x) x) x)))))
def rF (v : M) : FVec Ideal S128x1 .f32 :=
  rsqrt (addf (divf (shapeCast S128x1 (multiReduction .add [1] S128 (mulf v v) 0x00000000#32 reduces_S128x128_S128 (.inl rfl) rfl)
    shapeCasts_S128_S128x1) (broadcast S128x1 (Scalar.ofBits .f32 0x43000000#32)))
    (broadcast S128x1 (Scalar.ofBits .f32 0x358637BD#32)))
def vhF (xv : M) (g : FVec Ideal S1x128 .f32) : B :=
  truncf .bf16 (mulf (mulf (geluF xv) (broadcastTo S128x128 (rF (geluF xv)) broadcasts_S128x1_S128x128))
    (broadcastTo S128x128 g broadcasts_S1x128_S128x128)) bitsLt_bf16_f32
/-- The gating half's store: one chunk of `u` times the mixed rows. -/
def gateF (w : B) (xu xv : M) (g : FVec Ideal S1x128 .f32) (b : M) : B :=
  shapeCast S128x128 (truncf .bf16 (mulf (geluF xu)
    (addf (matmul dot_S128x128_S128x128_S128x128_1_0_0_1_n_n none w (vhF xv g) (constant S128x128 .f32 0x00000000#32)) b))
    bitsLt_bf16_f32) shapeCasts_S128x128_S128x128
/-- The pooling half's rows with the 16 before them; the rows and the rows rolled by `k`, added; the pooled rows. -/
def extF (c : BitVec 1) (zh : Ker.P16) (z : Ker.P5) : Ker.P528 :=
  concatenate S528x256 0 [⟨S16x256, Scalar.select c zh (broadcast S16x256 (Scalar.ofBits .f32 0x00000000#32))⟩, ⟨S512x256, z⟩]
    concatenates_S16x256_S512x256_S528x256_d0
def rollF (k : BitVec 32) (x : Ker.P528) : Ker.P528 := addf x (dynamicRotate 0 k none x rotates_S528x256_d0)
def poF (s : Ker.P528) (a w : BitVec 32) (z : Ker.P5) : Ker.P5B :=
  truncf .bf16 (subf (mulf (extractStridedSlice S512x256 ![16, 0] s slices_S528x256_o16_0_S512x256)
    (broadcastTo S512x256 (divf (broadcast S512x1 (Scalar.ofBits .f32 0x3F800000#32)) (sitofp .f32 (minsi
      (addi (addi (broadcast S512x1 (Scalar.muli a 512#32)) (iota .tc S512x1 32 [0] iota_S512x1_d0_w32)) (broadcast S512x1 1#32))
      (broadcast S512x1 w)))) broadcasts_S512x1_S512x256)) z) bitsLt_bf16_f32
def ypF (pb : Ker.P5B) (wp : Ker.Q) : Ker.P5 :=
  matmul dot_S512x256_S256x256_S512x256_1_0_0_1_n_n none pb wp (constant S512x256 .f32 0x00000000#32)
/-- The pooling half's store: one group's products, scaled. -/
def poolF (pb : Ker.P5B) (wp : Ker.Q) (sc : Ker.R1) : Ker.P5B :=
  shapeCast S512x256 (truncf .bf16 (mulf (ypF pb wp) (broadcastTo S512x256 sc broadcasts_S1x256_S512x256)) bitsLt_bf16_f32)
    shapeCasts_S512x256_S512x256

theorem ext_eq : extF = Ker.extB := rfl
theorem roll_eq : rollF = Ker.roll := rfl
theorem po_eq : poF = Ker.poE := rfl
theorem yp_eq : ypF = Ker.ypE := rfl

theorem gelu_is {x : M} {f : S128x128.Idx → ℝ} (h : Is x f) : Is (geluF x) (fun i => gel (f i)) := fun i => by
  pointwise [geluF, gel, th]
  simp only [named_c, h i, Ideal.tanh_def, Ideal.mulf_def, Ideal.addf_def, Ideal.ofBits_def, word_k, word_half, word_one,
    lift_one, lift_mul, lift_add, Ideal.tanh_coe]
  simp only [mul_assoc]

section
variable {X : Args} {n h : ℕ} {xu xv b : M} {w : B} {g : FVec Ideal S1x128 .f32}

theorem vh_is (hv : Is xv fun i => X.p (n * 128 + (i 0).val) (1024 + (h * 128 + (i 1).val)))
    (hg : Is g fun i => X.g (h * 128 + (i 1).val)) :
    Is (vhF xv g) fun i => X.VH (n * 128 + (i 0).val) (h * 128 + (i 1).val) := fun i => by
  have hV : Is (geluF xv) fun i => X.V (n * 128 + (i 0).val) (h * 128 + (i 1).val) := gelu_is hv
  have hR : Is (rF (geluF xv)) fun i => X.R (n * 128 + (i 0).val) h := Ker.r_is hV
  idx_vars i
  pointwise [vhF]
  simp only [hV _, hR _, hg _]
  simp only [Ideal.mulf_def, Ideal.truncf_def, lift_mul, Args.VH, Args.VN, ix2, Ker.head_of i1.isLt]

theorem gate_is (hw : Is w fun i => X.W h (i 0).val (i 1).val)
    (hu : Is xu fun i => X.p (n * 128 + (i 0).val) (h * 128 + (i 1).val))
    (hv : Is xv fun i => X.p (n * 128 + (i 0).val) (1024 + (h * 128 + (i 1).val)))
    (hg : Is g fun i => X.g (h * 128 + (i 1).val)) (hb : Is b fun i => X.b h (i 0).val) :
    Is (gateF w xu xv g b) fun i => X.U (n * 128 + (i 0).val) (h * 128 + (i 1).val)
      * X.MX (n * 128 + (i 0).val) (h * 128 + (i 1).val) := fun i => by
  have hU : Is (geluF xu) fun i => X.U (n * 128 + (i 0).val) (h * 128 + (i 1).val) := gelu_is hu
  idx_vars i
  pointwise [gateF]
  simp only [hw _, hU _, vh_is hv hg _, hb _, Ideal.addf_def, Ideal.mulf_def, Ideal.truncf_def, lift_mul, lift_sum, lift_add,
    Args.MX, ix2, Ker.head_of i1.isLt, Ker.chunk_of i0.isLt, Ker.row_of i0.isLt]

end

theorem pool_is {X : Args} {t g : ℕ} {pb : Ker.P5B} {wp : Ker.Q} {sc : Ker.R1}
    (hp : Is pb fun i => X.PO (t * 512 + (i 0).val) (g * 256 + (i 1).val))
    (hw : Is wp fun i => X.wp g (i 0).val (i 1).val) (hs : Is sc fun i => X.sc (g * 256 + (i 1).val)) :
    Is (poolF pb wp sc) fun i => X.YP (t * 512 + (i 0).val) (g * 256 + (i 1).val) * X.sc (g * 256 + (i 1).val) := fun i => by
  have hY := Ker.yp_is hp hw
  rw [← yp_eq] at hY
  idx_vars i
  pointwise [poolF]
  simp only [hY _, hs _, Ideal.mulf_def, Ideal.truncf_def, lift_mul]
  rfl

section
variable {X : Args} {t g : ℕ} {a : BitVec 32} {c : BitVec 1} {zh : Ker.P16} {z z' : Ker.P5}

theorem po1 (ht : t < 8) (ha : a = BitVec.ofNat 32 t) (hc : c = 1#1 ↔ 0 < t)
    (hh : Is zh fun i => X.Z ((32 * t - 1) * 16 + (i 0).val) (g * 256 + (i 1).val))
    (hz : Is z fun i => X.Z (t * 512 + (i 0).val) (g * 256 + (i 1).val))
    (hz' : Is z' fun i => X.Z (t * 512 + (i 0).val) (g * 256 + (i 1).val)) (hg : win g = 2 := by decide) :
    Is (poF (rollF 1#32 (extF c zh z)) a 2#32 z')
      fun i => X.PO (t * 512 + (i 0).val) (g * 256 + (i 1).val) := by
  rw [po_eq, roll_eq, ext_eq]
  exact Ker.po1 ht ha hc hh hz hz' hg
theorem po2 (ht : t < 8) (ha : a = BitVec.ofNat 32 t) (hc : c = 1#1 ↔ 0 < t)
    (hh : Is zh fun i => X.Z ((32 * t - 1) * 16 + (i 0).val) (g * 256 + (i 1).val))
    (hz : Is z fun i => X.Z (t * 512 + (i 0).val) (g * 256 + (i 1).val))
    (hz' : Is z' fun i => X.Z (t * 512 + (i 0).val) (g * 256 + (i 1).val)) (hg : win g = 4 := by decide) :
    Is (poF (rollF 2#32 (rollF 1#32 (extF c zh z))) a 4#32 z')
      fun i => X.PO (t * 512 + (i 0).val) (g * 256 + (i 1).val) := by
  rw [po_eq, roll_eq, ext_eq]
  exact Ker.po2 ht ha hc hh hz hz' hg
theorem po3 (ht : t < 8) (ha : a = BitVec.ofNat 32 t) (hc : c = 1#1 ↔ 0 < t)
    (hh : Is zh fun i => X.Z ((32 * t - 1) * 16 + (i 0).val) (g * 256 + (i 1).val))
    (hz : Is z fun i => X.Z (t * 512 + (i 0).val) (g * 256 + (i 1).val))
    (hz' : Is z' fun i => X.Z (t * 512 + (i 0).val) (g * 256 + (i 1).val)) (hg : win g = 8 := by decide) :
    Is (poF (rollF 4#32 (rollF 2#32 (rollF 1#32 (extF c zh z)))) a 8#32 z')
      fun i => X.PO (t * 512 + (i 0).val) (g * 256 + (i 1).val) := by
  rw [po_eq, roll_eq, ext_eq]
  exact Ker.po3 ht ha hc hh hz hz' hg
theorem po4 (ht : t < 8) (ha : a = BitVec.ofNat 32 t) (hc : c = 1#1 ↔ 0 < t)
    (hh : Is zh fun i => X.Z ((32 * t - 1) * 16 + (i 0).val) (g * 256 + (i 1).val))
    (hz : Is z fun i => X.Z (t * 512 + (i 0).val) (g * 256 + (i 1).val))
    (hz' : Is z' fun i => X.Z (t * 512 + (i 0).val) (g * 256 + (i 1).val)) (hg : win g = 16 := by decide) :
    Is (poF (rollF 8#32 (rollF 4#32 (rollF 2#32 (rollF 1#32 (extF c zh z))))) a 16#32 z')
      fun i => X.PO (t * 512 + (i 0).val) (g * 256 + (i 1).val) := by
  rw [po_eq, roll_eq, ext_eq]
  exact Ker.po4 ht ha hc hh hz hz' hg

end

/-! ### Where a store's values lie in the result -/

section
variable {X : Args} {t a o n h : ℕ}

theorem gate_at (x : (⟨2, ![128, 128]⟩ : Shape).Idx) (hn : n = 4 * t + a / 128 := by rfl) (ho : o = h * 128 := by decide)
    (ha : a % 128 = 0 := by decide) (hl : h < 8 := by decide)
    (inb : ∀ i : Fin 2, (![a, o] : Fin 2 → ℕ) i + (![128, 128] : Fin 2 → ℕ) i ≤ S512x2048.size i := by decide) :
    X.U (n * 128 + (x 0).val) (h * 128 + (x 1).val) * X.MX (n * 128 + (x 0).val) (h * 128 + (x 1).val)
      = X.mix (t * 512 + ((Rect.unit (s := S512x2048) ![a, o] ![128, 128] inb).emb x 0).val)
          ((Rect.unit (s := S512x2048) ![a, o] ![128, 128] inb).emb x 1).val := by
  have h1 : (x 1).val < 128 := (x 1).isLt
  have e0 : t * 512 + (a + (x 0).val) = n * 128 + (x 0).val := by omega
  have e1 : o + (x 1).val = h * 128 + (x 1).val := by omega
  simp only [Ker.unit_val, Matrix.cons_val]
  rw [e0, e1]
  unfold Args.mix
  rw [if_pos (by omega)]

theorem pool_at (x : (⟨2, ![512, 256]⟩ : Shape).Idx) (ho : o = 1024 + h * 256 := by decide)
    (inb : ∀ i : Fin 2, (![0, o] : Fin 2 → ℕ) i + (![512, 256] : Fin 2 → ℕ) i ≤ S512x2048.size i := by decide) :
    X.YP (t * 512 + (x 0).val) (h * 256 + (x 1).val) * X.sc (h * 256 + (x 1).val)
      = X.mix (t * 512 + ((Rect.unit (s := S512x2048) ![0, o] ![512, 256] inb).emb x 0).val)
          ((Rect.unit (s := S512x2048) ![0, o] ![512, 256] inb).emb x 1).val := by
  have e1 : o + (x 1).val - 1024 = h * 256 + (x 1).val := by omega
  simp only [Ker.unit_val, Matrix.cons_val, Nat.zero_add]
  unfold Args.mix
  rw [if_neg (by omega), e1]

end

end Cert.Proof.Mix

end
-- ==== Proof.MixRef.lean ====
/- The forward mixer's reference. Its two halves are computed by the operations of the first program's reference, which
   differentiates this very function; so the formulas read there hold here. -/
module

public import proofs.«01_k».proof.Proof.MixKer
public import proofs.«01_k».proof.Proof.RefGate
public import proofs.«01_k».proof.Proof.RefPool
public import proofs.«01_k».proof.Proof.Gen.Reference14Ideal.Read

@[expose] public section

set_option maxRecDepth 16384
set_option maxHeartbeats 1000000

noncomputable section

namespace Cert.Proof.Mix

open Idealize.ShloMosaic Cert.Reference14Ideal Cert.Reference14Ideal.Read
open scoped BigOperators

theorem same_u (x0 : (⟨S4096x3072, .f32⟩ : BufTy).Contents (Elt Ideal)) :
    val_main_v15 (F := Ideal) x0 = Cert.ReferenceIdeal.Read.val_main_v24 (F := Ideal) x0 := rfl
theorem same_mx (x0 : (⟨S4096x3072, .f32⟩ : BufTy).Contents (Elt Ideal)) (x1 : (⟨S8x128x128, .f32⟩ : BufTy).Contents (Elt Ideal))
    (x2 : (⟨S8x128, .f32⟩ : BufTy).Contents (Elt Ideal)) (x3 : (⟨S1x1024, .f32⟩ : BufTy).Contents (Elt Ideal)) :
    val_main_v61 (F := Ideal) x0 x1 x2 x3 = Cert.ReferenceIdeal.Read.val_main_v81 (F := Ideal) x0 x1 x2 x3 := rfl
theorem same_yp (x0 : (⟨S4096x3072, .f32⟩ : BufTy).Contents (Elt Ideal)) (x4 : (⟨S4x256x256, .f32⟩ : BufTy).Contents (Elt Ideal)) :
    val_main_v149 (F := Ideal) x0 x4 = Cert.ReferenceIdeal.Read.val_main_v174 (F := Ideal) x0 x4 := rfl

section
variable {X : Args} {x0 : (⟨S4096x3072, .f32⟩ : BufTy).Contents (Elt Ideal)} {x1 : (⟨S8x128x128, .f32⟩ : BufTy).Contents (Elt Ideal)}
  {x2 : (⟨S8x128, .f32⟩ : BufTy).Contents (Elt Ideal)} {x3 x5 : (⟨S1x1024, .f32⟩ : BufTy).Contents (Elt Ideal)}
  {x4 : (⟨S4x256x256, .f32⟩ : BufTy).Contents (Elt Ideal)}

/-- The reference's result. -/
theorem value (h0 : ∀ i, x0 i = ((X.p (i 0).val (i 1).val : ℝ) : EReal))
    (h1 : ∀ i, x1 i = ((X.w (i 0).val (i 1).val (i 2).val : ℝ) : EReal))
    (h2 : ∀ i, x2 i = ((X.b (i 0).val (i 1).val : ℝ) : EReal)) (h3 : ∀ i, x3 i = ((X.g (i 1).val : ℝ) : EReal))
    (h4 : ∀ i, x4 i = ((X.wp (i 0).val (i 1).val (i 2).val : ℝ) : EReal))
    (h5 : ∀ i, x5 i = ((X.sc (i 1).val : ℝ) : EReal)) :
    val_main_v154 (F := Ideal) x0 x1 x2 x3 x4 x5 = fun i : S4096x2048.Idx => ((X.mix (i 0).val (i 1).val : ℝ) : EReal) := by
  funext i
  rw [val_main_v154_apply, Ideal.truncf_def]
  refine (concatenate_pair_apply 1 (val_main_v62 (F := Ideal) x0 x1 x2 x3) (val_main_v152 (F := Ideal) x0 x4 x5) _ i).trans ?_
  unfold Args.mix
  by_cases hlt : (i 1).val < 1024
  · refine (dif_pos hlt).trans ?_
    rw [if_pos hlt, val_main_v62_apply, same_u, same_mx, Ref.v24 h0, Ref.v81 h0 h3 h1 h2, Ideal.mulf_def, lift_mul]
    rfl
  · have hp : ∀ k : S4096x1024.Idx, val_main_v152 (F := Ideal) x0 x4 x5 k
        = ((X.YP (k 0).val (k 1).val * X.sc (k 1).val : ℝ) : EReal) := fun k => by
      have h1 : (k 1).val < 1024 := (k 1).isLt
      rw [val_main_v152_apply, same_yp, Ref.v174 h0 h4, val_main_v151_apply, val_main_v150_apply, val_main_v63_apply,
        h5, Ideal.mulf_def, lift_mul]
      show ((X.YP (k 0).val (k 1).val * X.sc ((k 1).val % 1024) : ℝ) : EReal) = _
      rw [Nat.mod_eq_of_lt h1]
    rw [if_neg hlt]
    exact (dif_neg hlt).trans (hp _)

end

end Cert.Proof.Mix

end
-- ==== Proof.MixRun.lean ====
/- The forward mixer's launch read as a whole: what one grid point stores, the blocks it loads, and the array after the last
   point. Then the claims of the program. -/
module

public import proofs.«01_k».proof.Defs
public import proofs.«01_k».proof.Proof.MixKer
public import proofs.«01_k».proof.Proof.MixRef
public import proofs.«01_k».proof.Proof.Algebraic
public import proofs.«01_k».proof.Proof.KerRun
public import proofs.«01_k».proof.Proof.Gen.Kernel14Ideal.Value
public import proofs.«01_k».proof.Proof.Gen.Reference14Ideal.Run
public import proofs.«01_k».proof.Proof.Gen.Pre_finite_forward
public import Idealize.ShloMosaic.Lib.Pipeline.ValueKit
public import Idealize.ShloMosaic.Lib.Claim

@[expose] public section

set_option maxRecDepth 16384
set_option maxHeartbeats 4000000

noncomputable section

namespace Cert.Proof.Mix

open Idealize.ShloMosaic Idealize.SL.Sem
open Cert.Proof.Ker (Is Blk)
open scoped BigOperators

section Kernel

open Cert.Kernel14Ideal Cert.Kernel14Ideal.Gen

/-! ### The words of a grid point: its number, and whether rows come before it -/

theorem lt8 (t : Fin cfg0.N) : t.val < 8 := Nat.lt_of_lt_of_eq t.isLt N_0
theorem coord_eq (t : Fin cfg0.N) : (grid0.coords t 0).val = t.val := by
  have ht := lt8 t
  have e0 : (grid0.coords t 0).val = t.val / 1 % 8 := Pipeline.Grid.coords_val t 0 (by decide) rfl
  omega
theorem num (t : Fin cfg0.N) : BitVec.ofNat 32 (grid0.coords t 0).val = BitVec.ofNat 32 t.val := by rw [coord_eq]
theorem first (t : Fin cfg0.N) : Scalar.cmpi .sgt (BitVec.ofNat 32 (grid0.coords t 0).val) 0#32 = 1#1 ↔ 0 < t.val := by
  have ht := lt8 t
  simp only [coord_eq]
  word_cmp

section
variable {X : Args} {t : ℕ} {y0 y1 y2 : FVec Ideal S512x1024 .f32} {y3 : FVec Ideal S16x1024 .f32}
  {y4 y5 : FVec Ideal S512x1024 .bf16} {y6 : FVec Ideal S16x1024 .bf16} {y7 y8 : FVec Ideal S8x128x128 .bf16}
  {y9 : FVec Ideal S8x128x128 .f32} {y10 : FVec Ideal S1x1024 .f32} {y11 : FVec Ideal S4x256x256 .bf16}
  {y12 : FVec Ideal S1x1024 .f32} (H : Blk X t y0 y1 y2 y3 y4 y5 y6 y7 y8 y9 y10 y11 y12) {a b h : ℕ}
include H

/-! Loads of the pooling half through the staging buffer that holds the block. -/

theorem lz' {M : Memref sig .tc .vmem S512x1024 .f32} (hM : M.IsWhole) (inb) (hb : b % 256 = 0 := by decide) :
    Is (s := S512x256) (View.ld (Val := Elt Ideal) (e' := .f32) (View.read (Elt Ideal) M.view (hM.unread y2))
      (Rect.unit ![0, b] ![512, 256] inb)) fun i => X.Z (t * 512 + (i 0).val) (b / 256 * 256 + (i 1).val) := by
  rw [hM.read_unread]; exact H.lz inb hb
theorem lzh' {M : Memref sig .tc .vmem S16x1024 .f32} (hM : M.IsWhole) (inb) (hb : b % 256 = 0 := by decide) :
    Is (s := S16x256) (View.ld (Val := Elt Ideal) (e' := .f32) (View.read (Elt Ideal) M.view (hM.unread y3))
      (Rect.unit ![0, b] ![16, 256] inb)) fun i => X.Z ((32 * t - 1) * 16 + (i 0).val) (b / 256 * 256 + (i 1).val) := by
  rw [hM.read_unread]; exact H.lzh inb hb

end

section
variable (m : (ℓ : Loc nD τ sig) → Buf (Elt Ideal) ℓ) {X : Args} (c : Dev nD) (t : Fin cfg0.N)
  {y4 y5 : FVec Ideal S512x1024 .bf16} {y6 : FVec Ideal S16x1024 .bf16} {y8 : FVec Ideal S8x128x128 .bf16}
  (H : Blk X t.val (iblk m c 0 t) (iblk m c 1 t) (iblk m c 2 t) (iblk m c 3 t) y4 y5 y6 (iblk m c 4 t) y8 (iblk m c 5 t)
    (iblk m c 6 t) (iblk m c 7 t) (iblk m c 8 t))
include H

/-- Every point stores its own 512 rows. -/
theorem rows : Is (s := S512x2048) (outsAt0 m c t) fun i => X.mix (t.val * 512 + (i 0).val) (i 1).val := by
  unfold outsAt0
  dsimp only
  frame_open
  frame_out
  unfold_payloads
  simp only [Memref.IsWhole.read_unread]
  refine Ker.Is.canonB 36 ?_ ?_
  · refine ⟨Ker.Is.of (pool_is (po4 (lt8 t) (num t) (first t) (lzh' H _ _) (lz' H _ _) (H.lz _)) (H.lp _) (H.ls _))
      fun x => pool_at x, ?_⟩
    refine ⟨Ker.Is.of (pool_is (po3 (lt8 t) (num t) (first t) (lzh' H _ _) (lz' H _ _) (H.lz _)) (H.lp _) (H.ls _))
      fun x => pool_at x, ?_⟩
    refine ⟨Ker.Is.of (pool_is (po2 (lt8 t) (num t) (first t) (lzh' H _ _) (lz' H _ _) (H.lz _)) (H.lp _) (H.ls _))
      fun x => pool_at x, ?_⟩
    refine ⟨Ker.Is.of (pool_is (po1 (lt8 t) (num t) (first t) (H.lzh _) (H.lz _) (H.lz _)) (H.lp _) (H.ls _))
      fun x => pool_at x, ?_⟩
    iterate 32 refine ⟨Ker.Is.of (gate_is (H.lw _) (H.lu _) (H.lv _) (H.lg _) (H.lb _)) fun x => gate_at x, ?_⟩
    trivial
  · exact View.cover_of_tiledBy _ ![128, 128] (by sl_kernel_rfl)

end

/-! ### Which block a window shows at a point -/

theorem idx0 : ∀ t : Fin cfg0.N, win0_0.index t = ![t.val, 0] := by decide +kernel
theorem idx1 : ∀ t : Fin cfg0.N, win0_1.index t = ![t.val, 1] := by decide +kernel
theorem idx2 : ∀ t : Fin cfg0.N, win0_2.index t = ![t.val, 2] := by decide +kernel
theorem idx3 : ∀ t : Fin cfg0.N, win0_3.index t = ![32 * t.val - 1, 2] := by decide +kernel
theorem idx4 : ∀ t : Fin cfg0.N, win0_4.index t = ![0, 0, 0] := by decide +kernel
theorem idx5 : ∀ t : Fin cfg0.N, win0_5.index t = ![0, 0, 0] := by decide +kernel
theorem idx6 : ∀ t : Fin cfg0.N, win0_6.index t = ![0, 0] := by decide +kernel
theorem idx7 : ∀ t : Fin cfg0.N, win0_7.index t = ![0, 0, 0] := by decide +kernel
theorem idx8 : ∀ t : Fin cfg0.N, win0_8.index t = ![0, 0] := by decide +kernel
theorem idx9 : ∀ t : Fin cfg0.N, win0_9.index t = ![t.val, 0] := by decide +kernel

section
variable (m : (ℓ : Loc nD τ sig) → Buf (Elt Ideal) ℓ) {X : Args} (c : Dev nD)

/-- The arguments on device `c` are the real numbers of `X`. -/
structure Holds (X : Args) : Prop where
  a0 : ∀ i, m ((c.tc : Thread nD τ).loc main_arg0) i = ((X.p (i 0).val (i 1).val : ℝ) : EReal)
  a1 : ∀ i, m ((c.tc : Thread nD τ).loc main_arg1) i = ((X.w (i 0).val (i 1).val (i 2).val : ℝ) : EReal)
  a2 : ∀ i, m ((c.tc : Thread nD τ).loc main_arg2) i = ((X.b (i 0).val (i 1).val : ℝ) : EReal)
  a3 : ∀ i, m ((c.tc : Thread nD τ).loc main_arg3) i = ((X.g (i 1).val : ℝ) : EReal)
  a4 : ∀ i, m ((c.tc : Thread nD τ).loc main_arg4) i = ((X.wp (i 0).val (i 1).val (i 2).val : ℝ) : EReal)
  a5 : ∀ i, m ((c.tc : Thread nD τ).loc main_arg5) i = ((X.sc (i 1).val : ℝ) : EReal)

variable {m c} (K : Holds m c X)
include K

/-! ### What the host prepares -/

theorem v4_is : Is (s := S8x128x128) (V m c main_v4) fun i => X.W (i 0).val (i 1).val (i 2).val := fun i => by
  idx_vars i
  simp only [V, hostOps0, hostOps0_1, hostOps0_2, hostOps0_3, hostOps0_4, List.flatten_cons, List.flatten_nil, List.append_nil,
    List.cons_append, List.nil_append]
  entry_read
  simp only [StableHlo.TRef.ofBuf_toBuf]
  simp -implicitDefEqProofs only [StableHlo.TRef.toBuf, StableHlo.TRef.ofBuf, cast_eq]
  pointwise
  exact Ker.masked i1 i2 (K.a1 _)
theorem v6_is : Is (s := S8x128x128) (V m c main_v6) fun i => X.b (i 0).val (i 1).val := fun i => by
  idx_vars i
  simp only [V, hostOps0, hostOps0_1, hostOps0_2, hostOps0_3, hostOps0_4, List.flatten_cons, List.flatten_nil, List.append_nil,
    List.cons_append, List.nil_append]
  entry_read
  pointwise
  exact K.a2 _
theorem v7_is : Is (s := S4x256x256) (V m c main_v7) fun i => X.wp (i 0).val (i 1).val (i 2).val := fun i => by
  idx_vars i
  simp only [V, hostOps0, hostOps0_1, hostOps0_2, hostOps0_3, hostOps0_4, List.flatten_cons, List.flatten_nil, List.append_nil,
    List.cons_append, List.nil_append]
  entry_read
  pointwise
  exact K.a4 _

/-! ### The blocks -/

theorem b0 (t : Fin cfg0.N) : Is (s := S512x1024) (iblk m c 0 t) fun i => X.p (t.val * 512 + (i 0).val) (i 1).val := fun i => by
  show V m c main_arg0 (((cfg0.win 0).blk t).view.emb i) = _
  rw [V_main_arg0, K.a0]
  blk_simp [idx0]
  try simp only [Nat.zero_mul, Nat.zero_add, Nat.one_mul, Args.Z]
theorem b1 (t : Fin cfg0.N) : Is (s := S512x1024) (iblk m c 1 t) fun i => X.p (t.val * 512 + (i 0).val) (1024 + (i 1).val) := fun i => by
  show V m c main_arg0 (((cfg0.win 1).blk t).view.emb i) = _
  rw [V_main_arg0, K.a0]
  blk_simp [idx1]
  try simp only [Nat.zero_mul, Nat.zero_add, Nat.one_mul, Args.Z]
theorem b2 (t : Fin cfg0.N) : Is (s := S512x1024) (iblk m c 2 t) fun i => X.Z (t.val * 512 + (i 0).val) (i 1).val := fun i => by
  show V m c main_arg0 (((cfg0.win 2).blk t).view.emb i) = _
  rw [V_main_arg0, K.a0]
  blk_simp [idx2]
  try simp only [Nat.zero_mul, Nat.zero_add, Nat.one_mul, Args.Z]
theorem b3 (t : Fin cfg0.N) : Is (s := S16x1024) (iblk m c 3 t) fun i => X.Z ((32 * t.val - 1) * 16 + (i 0).val) (i 1).val := fun i => by
  show V m c main_arg0 (((cfg0.win 3).blk t).view.emb i) = _
  rw [V_main_arg0, K.a0]
  blk_simp [idx3]
  try simp only [Nat.zero_mul, Nat.zero_add, Nat.one_mul, Args.Z]
theorem b4 (t : Fin cfg0.N) : Is (s := S8x128x128) (iblk m c 4 t) fun i => X.W (i 0).val (i 1).val (i 2).val := fun i => by
  show V m c main_v4 (((cfg0.win 4).blk t).view.emb i) = _
  refine (v4_is K _).trans ?_
  blk_simp [idx4]
  try simp only [Nat.zero_mul, Nat.zero_add, Nat.one_mul, Args.Z]
theorem b5 (t : Fin cfg0.N) : Is (s := S8x128x128) (iblk m c 5 t) fun i => X.b (i 0).val (i 1).val := fun i => by
  show V m c main_v6 (((cfg0.win 5).blk t).view.emb i) = _
  refine (v6_is K _).trans ?_
  blk_simp [idx5]
  try simp only [Nat.zero_mul, Nat.zero_add, Nat.one_mul, Args.Z]
theorem b6 (t : Fin cfg0.N) : Is (s := S1x1024) (iblk m c 6 t) fun i => X.g (i 1).val := fun i => by
  show V m c main_arg3 (((cfg0.win 6).blk t).view.emb i) = _
  rw [V_main_arg3, K.a3]
  blk_simp [idx6]
  try simp only [Nat.zero_mul, Nat.zero_add, Nat.one_mul, Args.Z]
theorem b7 (t : Fin cfg0.N) : Is (s := S4x256x256) (iblk m c 7 t) fun i => X.wp (i 0).val (i 1).val (i 2).val := fun i => by
  show V m c main_v7 (((cfg0.win 7).blk t).view.emb i) = _
  refine (v7_is K _).trans ?_
  blk_simp [idx7]
  try simp only [Nat.zero_mul, Nat.zero_add, Nat.one_mul, Args.Z]
theorem b8 (t : Fin cfg0.N) : Is (s := S1x1024) (iblk m c 8 t) fun i => X.sc (i 1).val := fun i => by
  show V m c main_arg5 (((cfg0.win 8).blk t).view.emb i) = _
  rw [V_main_arg5, K.a5]
  blk_simp [idx8]
  try simp only [Nat.zero_mul, Nat.zero_add, Nat.one_mul, Args.Z]

/-- The loaded blocks are what one point's formulas read; the blocks this kernel does not load are taken as the formulas say. -/
theorem blocks (t : Fin cfg0.N) : Blk X t.val (iblk m c 0 t) (iblk m c 1 t) (iblk m c 2 t) (iblk m c 3 t)
    (fun i => ((X.c (t.val * 512 + (i 0).val) (i 1).val : ℝ) : EReal))
    (fun i => ((X.DB (t.val * 512 + (i 0).val) (i 1).val : ℝ) : EReal))
    (fun i => ((X.DB (min (32 * (t.val + 1)) 255 * 16 + (i 0).val) (i 1).val : ℝ) : EReal)) (iblk m c 4 t)
    (fun i => ((X.W (i 0).val (i 2).val (i 1).val : ℝ) : EReal)) (iblk m c 5 t) (iblk m c 6 t) (iblk m c 7 t) (iblk m c 8 t) :=
  ⟨b0 K t, b1 K t, b2 K t, b3 K t, fun _ => rfl, fun _ => rfl, fun _ => rfl, b4 K t, fun _ => rfl, b5 K t, b6 K t, b7 K t, b8 K t⟩

theorem out9 :
    (dats m 0 c).arrAt 9 cfg0.N = fun i : S4096x2048.Idx => ((X.mix (i 0).val (i 1).val : ℝ) : EReal) := by
  refine (dats m 0 c).arrAt_eq_of_covers 9 _ (by decide +kernel) fun t hf y => ?_
  blk_simp [idx9]
  rw [after0_9, rows m c t (blocks K t)]

end

/-- What the kernel leaves in its result, on arguments that are real numbers. -/
theorem run (m : (ℓ : Loc nD τ sig) → Buf (Elt Ideal) ℓ) (ρ : Dev nD → PrngReg) {X : Dev nD → Args} (K : ∀ c, Holds m c (X c)) :
    θ_run (defs (F := Ideal)) (onTc (τ := τ) (main (F := Ideal))) ⟨m, fun _ => 0, ρ⟩ (fun r => ∀ c : Dev nD,
      (r.2.mem ((c.tc : Thread nD τ).loc main_v8) = fun i : S4096x2048.Idx => (((X c).mix (i 0).val (i 1).val : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (out9 (K c)), (h c).2⟩) (Cert.Kernel14Ideal.Value.run_blocks m ρ)

/-- The arguments on a device, as real numbers. -/
def args (m : (ℓ : Loc nD τ sig) → Buf (Elt Ideal) ℓ) (c : Dev nD) : Args where
  p := nat2 (a := 4096) (b := 3072) (m ((c.tc : Thread nD τ).loc main_arg0))
  c := fun _ _ => 0
  w := nat3 (a := 8) (b := 128) (c := 128) (m ((c.tc : Thread nD τ).loc main_arg1))
  b := nat2 (a := 8) (b := 128) (m ((c.tc : Thread nD τ).loc main_arg2))
  g := nat2 (a := 1) (b := 1024) (m ((c.tc : Thread nD τ).loc main_arg3)) 0
  wp := nat3 (a := 4) (b := 256) (c := 256) (m ((c.tc : Thread nD τ).loc main_arg4))
  sc := nat2 (a := 1) (b := 1024) (m ((c.tc : Thread nD τ).loc main_arg5)) 0

/-- Under the precondition every argument is the array of real numbers `args` reads off it. -/
theorem holds {m} (h : Cert.Pre_Kernel14Ideal_finite_forward m) (c : Dev nD) : Holds m c (args m c) where
  a0 i := nat2_at (fun i => real_of_lt (congrFun (h c).1 i)) i
  a1 i := nat3_at (fun i => real_of_lt (congrFun (h c).2.1 i)) i
  a2 i := nat2_at (fun i => real_of_lt (congrFun (h c).2.2.1 i)) i
  a3 i := by
    have e : (i 0).val = 0 := Nat.lt_one_iff.mp (i 0).isLt
    have := nat2_at (fun i => real_of_lt (congrFun (h c).2.2.2.1 i)) i
    rwa [e] at this
  a4 i := nat3_at (fun i => real_of_lt (congrFun (h c).2.2.2.2.1 i)) i
  a5 i := by
    have e : (i 0).val = 0 := Nat.lt_one_iff.mp (i 0).isLt
    have := nat2_at (fun i => real_of_lt (congrFun (h c).2.2.2.2.2 i)) i
    rwa [e] at this

end Kernel

section Reference

open Cert.Reference14Ideal Cert.Reference14Ideal.Read

/-- The arguments of the reference on a device are the real numbers of `X`. -/
structure Given (m : (ℓ : Loc nD τ sig) → Buf (Elt Ideal) ℓ) (c : Dev nD) (X : Args) : Prop where
  a0 : ∀ i, m ((c.tc : Thread nD τ).loc main_arg0) i = ((X.p (i 0).val (i 1).val : ℝ) : EReal)
  a1 : ∀ i, m ((c.tc : Thread nD τ).loc main_arg1) i = ((X.w (i 0).val (i 1).val (i 2).val : ℝ) : EReal)
  a2 : ∀ i, m ((c.tc : Thread nD τ).loc main_arg2) i = ((X.b (i 0).val (i 1).val : ℝ) : EReal)
  a3 : ∀ i, m ((c.tc : Thread nD τ).loc main_arg3) i = ((X.g (i 1).val : ℝ) : EReal)
  a4 : ∀ i, m ((c.tc : Thread nD τ).loc main_arg4) i = ((X.wp (i 0).val (i 1).val (i 2).val : ℝ) : EReal)
  a5 : ∀ i, m ((c.tc : Thread nD τ).loc main_arg5) i = ((X.sc (i 1).val : ℝ) : EReal)

theorem reference_run (m : (ℓ : Loc nD τ sig) → Buf (Elt Ideal) ℓ) (ρ : Dev nD → PrngReg) {X : Dev nD → Args}
    (K : ∀ c, Given m c (X c)) :
    θ_run (defs (F := Ideal)) (onTc (τ := τ) (main (F := Ideal))) ⟨m, fun _ => 0, ρ⟩ fun r => ∀ c : Dev nD,
      r.2.mem ((c.tc : Thread nD τ).loc main_v154) = (fun i : S4096x2048.Idx => (((X c).mix (i 0).val (i 1).val : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).1.trans (val_main_v154_eq _)).trans (value (K c).a0 (K c).a1 (K c).a2 (K c).a3 (K c).a4 (K c).a5), (h c).2⟩)
    (Cert.Reference14Ideal.Value.run (F := Ideal) m ρ)

/-- The reference declares no semaphore. -/
theorem frame_reference : Cert.quiescent_Reference14Ideal := fun m ρ _ =>
  (θ_run defs _ _).mono (fun r h => ⟨fun c => (h c).2, sem_eq_zero_of_no_sems (by decide) r.2⟩)
    (Cert.Reference14Ideal.Value.run (F := Ideal) m ρ)

end Reference

/-- The named constant denotes the number of the table. -/
theorem named : Cert.preserves_Kernel14_Kernel14Ideal :=
  IdealRules.named_const.statement Cert.Kernel14Ideal.κ "gelu_c" .f32 0x3D372713#32 ((8943 / 200000 : ℝ) : EReal) rfl

theorem algebraic : Cert.algebraic_Kernel14Ideal_Reference14Ideal_pre_finite_forward := by
  intro m ρ m' ρ' hp hm
  have K := holds hp
  refine ⟨_, run m ρ K, reference_run m' ρ' (X := args m) fun c => ?_⟩
  obtain ⟨e0, e1, e2, e3, e4, e5⟩ := hm c
  exact ⟨fun i => (congrFun e0 i).trans ((K c).a0 i), fun i => (congrFun e1 i).trans ((K c).a1 i),
    fun i => (congrFun e2 i).trans ((K c).a2 i), fun i => (congrFun e3 i).trans ((K c).a3 i),
    fun i => (congrFun e4 i).trans ((K c).a4 i), fun i => (congrFun e5 i).trans ((K c).a5 i)⟩

end Cert.Proof.Mix

end
-- ==== Proof.Norm1.lean ====
/- The first normalisation: the kernel's eight grid points each divide 512 rows of the stream by the root of their mean
   square and scale them. -/
module

public import proofs.«01_k».proof.Defs
public import proofs.«01_k».proof.Proof.Norm
public import proofs.«01_k».proof.Proof.Products
public import proofs.«01_k».proof.Proof.Gen.Kernel15Ideal.Value
public import proofs.«01_k».proof.Proof.Gen.Reference15Ideal.Read
public import Idealize.ShloMosaic.Lib.Claim
public import Idealize.ShloMosaic.Lib.Pipeline.ValueKit
public import Idealize.ShloMosaic.Adequacy
public import Idealize.ShloMosaic.Init

@[expose] public section

set_option maxRecDepth 16384

noncomputable section

namespace Cert.Proof.Norm1

open Idealize.ShloMosaic Idealize.SL.Sem
open scoped BigOperators

section Kernel

open Cert.Kernel15Ideal Cert.Kernel15Ideal.Gen

/-- The rows of the stream, each divided by the root of its mean square, and scaled. -/
def normed (x : S4096x2048.Idx → EReal) (g : S1x2048.Idx → EReal) : S4096x2048.Idx → EReal := fun i =>
  x i * Norm.scale (fun k => x (ix2 (i 0) k)) * g (ix2 0 (i 1))

/-- A block of 512 rows of the same. -/
def rows (x : S512x2048.Idx → EReal) (g : S1x2048.Idx → EReal) : S512x2048.Idx → EReal := fun i =>
  x i * Norm.scale (fun k => x (ix2 (i 0) k)) * g (ix2 0 (i 1))

/-- The normalisation of a block, entry by entry. -/
theorem norm (x : FVec Ideal S512x2048 .f32) (g : FVec Ideal S1x2048 .f32) (i : S512x2048.Idx) :
    k0_pay1 (F := Ideal) x g i = rows x g i := by
  idx_vars i
  unfold k0_pay1
  pointwise [Norm.word_2048, word_eps]
  rfl

/-- What the one store of a point leaves in its block. -/
theorem block (x : FVec Ideal S512x2048 .f32) (g : FVec Ideal S1x2048 .f32) : out0_2 (F := Ideal) x g = rows x g := by
  have e : ∀ i, k0_pay1 (F := Ideal) (View.ld (Val := Elt Ideal) x r0_0) (View.ld (Val := Elt Ideal) g r0_1) i
      = rows x g (r0_0.emb i) := fun i => by
    refine (norm _ _ i).trans (congrArg₂ (· * ·) (congrArg₂ (· * ·) rfl (congrArg Norm.scale (funext fun k =>
      congrArg x (funext fun b => Fin.ext ?_)))) (congrArg g (funext fun b => Fin.ext ?_)))
    · match b with
      | 0 => rfl
      | 1 => show 0 + 1 * k.val = k.val; omega
    · match b with
      | 0 => rfl
      | 1 => rfl
  exact Products.canon_of_pieces (e := .bf16) (rows x g) _ ⟨e, trivial⟩ (cover0_2 _)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel

section
variable (m : (ℓ : Loc nD τ sig) → Buf (Elt Ideal) ℓ) (c : Dev nD)

/-- The arguments as arrays of numbers. -/
def stream : S4096x2048.Idx → EReal := m ((c.tc : Thread nD τ).loc main_arg0)
def gain : S1x2048.Idx → EReal := m ((c.tc : Thread nD τ).loc main_arg1)

theorem b0 (t : Fin cfg0.N) (i : S512x2048.Idx) (j : S4096x2048.Idx) (h0 : (j 0).val = t.val * 512 + (i 0).val)
    (h1 : (j 1).val = (i 1).val) : iblk m c 0 t i = stream m c j := by
  show V m c main_arg0 (((cfg0.win 0).blk t).view.emb i) = _
  rw [V_main_arg0]
  refine congrArg (stream m c) (funext fun b => Fin.ext ?_)
  match b with
  | 0 => blk_simp [idx0, h0]
  | 1 => blk_simp [idx0, h1]
theorem b1 (t : Fin cfg0.N) (i : S1x2048.Idx) : iblk m c 1 t i = gain m c i := by
  show V m c main_arg1 (((cfg0.win 1).blk t).view.emb i) = _
  rw [V_main_arg1]
  refine congrArg (gain m c) (funext fun b => Fin.ext ?_)
  match b with
  | 0 => blk_simp [idx1]
  | 1 => blk_simp [idx1]

/-- A point's block lies in the result where its window says. -/
theorem value (t : Fin cfg0.N) (y : S512x2048.Idx) (i : S4096x2048.Idx) (h0 : (i 0).val = t.val * 512 + (y 0).val)
    (h1 : (i 1).val = (y 1).val) :
    out0_2 (F := Ideal) (iblk m c 0 t) (iblk m c 1 t) y = normed (stream m c) (gain m c) i := by
  refine (congrFun (block (iblk m c 0 t) (iblk m c 1 t)) y).trans (congrArg₂ (· * ·) (congrArg₂ (· * ·) (b0 m c t y i h0 h1)
    (congrArg Norm.scale (funext fun k => b0 m c t _ _ h0 rfl))) ((b1 m c t _).trans
      (congrArg (gain m c) (funext fun b => Fin.ext ?_))))
  match b with
  | 0 => rfl
  | 1 => exact h1.symm

theorem out2 : (dats m 0 c).arrAt 2 cfg0.N = normed (stream m c) (gain m c) := by
  refine (dats m 0 c).arrAt_eq_of_covers 2 _ (by decide +kernel) fun t hf y => ?_
  blk_simp [idx2]
  rw [after0_2]
  refine value m c t y _ ?_ ?_ <;> blk_simp [idx2]

end

/-- What the kernel leaves in its result. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = normed (stream m c) (gain m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out2 m c), (h c).2⟩) (Cert.Kernel15Ideal.Value.run_blocks (F := Ideal) m ρ)

end Kernel

/-! ### The reference -/

section Reference

open Cert.Reference15Ideal Cert.Reference15Ideal.Gen Cert.Reference15Ideal.Read

theorem reference (x : S4096x2048.Idx → EReal) (g : S1x2048.Idx → EReal) : val_main_v14 (F := Ideal) x g = normed x g := by
  funext i
  simp only [val_main_v14_apply, val_main_v13_apply, val_main_v12_apply, val_main_v11_apply, val_main_v10_apply,
    val_main_v9_apply, val_main_v8_apply, val_main_v7_apply, val_main_v6_apply, val_main_v5_apply, val_main_v4_apply,
    val_main_v3_apply, val_main_v2_apply, val_main_v1_apply, val_main_v0_apply, val_main_cst_apply, val_main_cst_0_apply,
    val_main_cst_1_apply]
  have e : ∀ k, idx_main_v2 (idx_main_v3 (idx_main_v9 i)) k = ix2 (i 0) k := fun k => funext fun b => by
    match b with
    | 0 => rfl
    | 1 => rfl
  simp only [e]
  show x i * Ideal.rsqrt (Ideal.div (Ideal.ofBits .f32 0x00000000#32 + ∑ k : Fin 2048, x (ix2 (i 0) k) * x (ix2 (i 0) k))
    (Ideal.ofBits .f32 0x45000000#32) + Ideal.ofBits .f32 0x358637BD#32) * g _ = _
  rw [word_zero, Norm.word_2048, word_eps, EReal.coe_zero, zero_add]
  refine congrArg (_ * g ·) (funext fun b => Fin.ext ?_)
  match b with
  | 0 => rfl
  | 1 => exact Nat.mod_eq_of_lt (i 1).isLt

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = normed (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1.trans (val_main_v14_eq _ _)).trans (reference _ _), (h c).2⟩)
    (Cert.Reference15Ideal.Value.run (F := Ideal) m ρ)

/-- The reference declares no semaphore. -/
theorem frame_reference : Cert.quiescent_Reference15Ideal := fun m ρ _ =>
  (θ_run defs _ _).mono (fun r h => ⟨fun c => (h c).2, sem_eq_zero_of_no_sems (by decide) r.2⟩) (reference_run m ρ)

end Reference

theorem algebraic : Cert.algebraic_Kernel15Ideal_Reference15Ideal := by
  intro m ρ m' ρ' _ hm
  refine ⟨_, run m ρ, (θ_run _ _ _).mono (fun r h c => ⟨(h c).1.trans ?_, (h c).2⟩) (reference_run m' ρ')⟩
  rw [(hm c).1, (hm c).2]
  rfl

end Cert.Proof.Norm1

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_inputs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Pre_finite_forward
public import proofs.«01_k».proof.Proof.Algebraic
public import proofs.«01_k».proof.Proof.DwDown
public import proofs.«01_k».proof.Proof.DwUp
public import proofs.«01_k».proof.Proof.DwOut
public import proofs.«01_k».proof.Proof.DwIn
public import proofs.«01_k».proof.Proof.Dact
public import proofs.«01_k».proof.Proof.Up
public import proofs.«01_k».proof.Proof.Inproj
public import proofs.«01_k».proof.Proof.Dmixed
public import proofs.«01_k».proof.Proof.Outproj
public import proofs.«01_k».proof.Proof.Dh2
public import proofs.«01_k».proof.Proof.Dh1
public import proofs.«01_k».proof.Proof.Down
public import proofs.«01_k».proof.Proof.MixRun
public import proofs.«01_k».proof.Proof.Norm1
public import Idealize.ShloMosaic.Adequacy
public import Idealize.ShloMosaic.Init

@[expose] public section

noncomputable section

namespace Cert.Proof

open Idealize.ShloMosaic Idealize.SL.Sem

/-- The reference is a straight-line host program and declares no semaphore. -/
theorem frame_reference : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

/-- The two named constants denote the numbers of the table. -/
theorem named : Cert.preserves_Kernel_KernelIdeal :=
  ⟨IdealRules.named_const.statement Cert.KernelIdeal.κ "gelu_c" .f32 0x3D372713#32 ((8943 / 200000 : ℝ) : EReal) rfl,
    IdealRules.named_const.statement Cert.KernelIdeal.κ "gelu_3c" .f32 0x3E095D4F#32 ((26829 / 200000 : ℝ) : EReal) rfl⟩

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Pre_finite_inputs.Gen.facts, Cert.Pre_finite_forward.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Kernel2.Gen.frame m ρ, fun m ρ _ => Cert.Kernel2Ideal.Gen.frame m ρ, DwDown.frame_reference,
    fun m ρ _ => Cert.Kernel3.Gen.frame m ρ, fun m ρ _ => Cert.Kernel3Ideal.Gen.frame m ρ, DwUp.frame_reference,
    fun m ρ _ => Cert.Kernel4.Gen.frame m ρ, fun m ρ _ => Cert.Kernel4Ideal.Gen.frame m ρ, DwOut.frame_reference,
    fun m ρ _ => Cert.Kernel5.Gen.frame m ρ, fun m ρ _ => Cert.Kernel5Ideal.Gen.frame m ρ, DwIn.frame_reference,
    fun m ρ _ => Cert.Kernel6.Gen.frame m ρ, fun m ρ _ => Cert.Kernel6Ideal.Gen.frame m ρ, Dact.frame_reference,
    fun m ρ _ => Cert.Kernel7.Gen.frame m ρ, fun m ρ _ => Cert.Kernel7Ideal.Gen.frame m ρ, Up.frame_reference,
    fun m ρ _ => Cert.Kernel8.Gen.frame m ρ, fun m ρ _ => Cert.Kernel8Ideal.Gen.frame m ρ, Inproj.frame_reference,
    fun m ρ _ => Cert.Kernel9.Gen.frame m ρ, fun m ρ _ => Cert.Kernel9Ideal.Gen.frame m ρ, Dmixed.frame_reference,
    fun m ρ _ => Cert.Kernel10.Gen.frame m ρ, fun m ρ _ => Cert.Kernel10Ideal.Gen.frame m ρ, Outproj.frame_reference,
    fun m ρ _ => Cert.Kernel11.Gen.frame m ρ, fun m ρ _ => Cert.Kernel11Ideal.Gen.frame m ρ, Dh2.frame_reference,
    fun m ρ _ => Cert.Kernel12.Gen.frame m ρ, fun m ρ _ => Cert.Kernel12Ideal.Gen.frame m ρ, Dh1.frame_reference,
    fun m ρ _ => Cert.Kernel13.Gen.frame m ρ, fun m ρ _ => Cert.Kernel13Ideal.Gen.frame m ρ, Down.frame_reference,
    fun m ρ _ => Cert.Kernel14.Gen.frame m ρ, fun m ρ _ => Cert.Kernel14Ideal.Gen.frame m ρ,
    fun m ρ _ => Cert.Kernel14Ideal.Gen.frame m ρ, Mix.frame_reference, fun m ρ _ => Mix.frame_reference m ρ trivial,
    fun m ρ _ => Cert.Kernel15.Gen.frame m ρ, fun m ρ _ => Cert.Kernel15Ideal.Gen.frame m ρ, Norm1.frame_reference,
    named, algebraic, trivial, DwDown.algebraic, trivial, DwUp.algebraic, trivial, DwOut.algebraic, trivial, DwIn.algebraic,
    trivial, Dact.algebraic, trivial, Up.algebraic, trivial, Inproj.algebraic, trivial, Dmixed.algebraic,
    trivial, Outproj.algebraic, trivial, Dh2.algebraic, trivial, Dh1.algebraic, trivial, Down.algebraic,
    Mix.named, Mix.algebraic, trivial, Norm1.algebraic⟩

end Cert.Proof

end
